-- ==== Defs.lean ====
def Pre_Kernel [hPre_covers : Cert.Pre_covers.Facts] (m : (ℓ : Loc Cert.Kernel.nD Cert.Kernel.τ Cert.Kernel.sig) → Buf (Elt Bits) ℓ) : Prop :=
  ∀ c : Dev Cert.Kernel.nD,
    (Cert.Pre_covers.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_covers : Cert.Pre_covers.Facts] (m : (ℓ : Loc Cert.KernelIdeal.nD Cert.KernelIdeal.τ Cert.KernelIdeal.sig) → Buf (Elt Ideal) ℓ) : Prop :=
  ∀ c : Dev Cert.KernelIdeal.nD,
    (Cert.Pre_covers.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_covers [hPre_covers : Cert.Pre_covers.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_covers.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def quiescent_Kernel [hKernel : Cert.Kernel.Facts] [hPre_covers : Cert.Pre_covers.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] [hPre_covers : Cert.Pre_covers.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_ReferenceIdeal_pre_covers [hReferenceIdeal : Cert.ReferenceIdeal.Facts] [hPre_covers : Cert.Pre_covers.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_covers m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_covers : Cert.Pre_covers.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v66)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v66) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v4) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_covers : Cert.Pre_covers.Facts),
    quiescent_Kernel (hKernel := hKernel) (hPre_covers := hPre_covers)
    ∧ quiescent_KernelIdeal (hKernelIdeal := hKernelIdeal) (hPre_covers := hPre_covers)
    ∧ quiescent_ReferenceIdeal (hReferenceIdeal := hReferenceIdeal)
    ∧ quiescent_ReferenceIdeal_pre_covers (hReferenceIdeal := hReferenceIdeal) (hPre_covers := hPre_covers)
    ∧ preserves_Kernel_KernelIdeal
    ∧ algebraic_KernelIdeal_ReferenceIdeal (hKernelIdeal := hKernelIdeal) (hReferenceIdeal := hReferenceIdeal) (hPre_covers := hPre_covers)
-- ==== Pre_covers.lean ====
abbrev S24576x2048 : Shape := ⟨2, ![24576, 2048]⟩
abbrev S32 : Shape := ⟨1, ![32]⟩
abbrev S32x2048x1408 : Shape := ⟨3, ![32, 2048, 1408]⟩
abbrev S32x16x11 : Shape := ⟨3, ![32, 16, 11]⟩
abbrev S_ : Shape := ⟨0, ![]⟩

class Facts : Prop where
  bcast_S_S32 : S_.BroadcastsInDim S32 (![] : Fin 0 → Fin S32.rank)
  reducesTo_S32_S_d0 : S32.ReducesTo [0] S_
  h_S_ : 0 < S_.numel

variable [Facts]

def fn {F : FTy → Type} [FloatOps F] (main_arg0 : FVec F S24576x2048 .bf16) (main_arg1 : IVec S32 32) (main_arg2 : FVec F S32x2048x1408 .fp8e4m3) (main_arg3 : FVec F S32x16x11 .f32) (main_arg4 : FVec F S32x2048x1408 .fp8e4m3) (main_arg5 : FVec F S32x16x11 .f32) : IVec S_ 1 :=
  let main_c : IVec S_ 32 := constantI S_ 32 0#32
  let main_v0 : IVec S32 32 := broadcastInDim S32 ![] bcast_S_S32 main_c
  let main_v1 : IVec S32 1 := cmpi .sge main_arg1 main_v0
  let main_c_0 : IVec S_ 32 := constantI S_ 32 24576#32
  let main_v2 : IVec S32 32 := broadcastInDim S32 ![] bcast_S_S32 main_c_0
  let main_v3 : IVec S32 1 := cmpi .sle main_arg1 main_v2
  let main_v4 : IVec S32 1 := andi main_v1 main_v3
  let main_c_1 : IVec S_ 1 := constantI S_ 1 1#1
  let main_v5 : IVec S_ 1 := (fun x v => Host.reduce IntOp.andi x v reducesTo_S32_S_d0 h_S_) main_v4 main_c_1
  let main_c_2 : IVec S_ 32 := constantI S_ 32 0#32
  let main_v6 : IVec S_ 32 := (fun x v => Host.reduce IntOp.addi x v reducesTo_S32_S_d0 h_S_) main_arg1 main_c_2
  let main_c_3 : IVec S_ 32 := constantI S_ 32 24576#32
  let main_v7 : IVec S_ 1 := cmpi .eq main_v6 main_c_3
  let main_v8 : IVec S_ 1 := andi main_v5 main_v7
  main_v8
-- ==== Kernel.lean ====
abbrev S24576x2048 : Shape := ⟨2, ![24576, 2048]⟩
abbrev S32 : Shape := ⟨1, ![32]⟩
abbrev S32x2048x1408 : Shape := ⟨3, ![32, 2048, 1408]⟩
abbrev S32x16x11 : Shape := ⟨3, ![32, 16, 11]⟩
abbrev S_ : Shape := ⟨0, ![]⟩
abbrev S1 : Shape := ⟨1, ![1]⟩
abbrev S127 : Shape := ⟨1, ![127]⟩
abbrev S127x1 : Shape := ⟨2, ![127, 1]⟩
abbrev S1x32 : Shape := ⟨2, ![1, 32]⟩
abbrev S127x32 : Shape := ⟨2, ![127, 32]⟩
abbrev S24576x1408 : Shape := ⟨2, ![24576, 1408]⟩
abbrev S256x2048 : Shape := ⟨2, ![256, 2048]⟩
abbrev S1x2048x1408 : Shape := ⟨3, ![1, 2048, 1408]⟩
abbrev S256x1408 : Shape := ⟨2, ![256, 1408]⟩
abbrev S2048x256 : Shape := ⟨2, ![2048, 256]⟩
abbrev S256x128 : Shape := ⟨2, ![256, 128]⟩
abbrev S256 : Shape := ⟨1, ![256]⟩
abbrev S256x1 : Shape := ⟨2, ![256, 1]⟩
abbrev S1x255 : Shape := ⟨2, ![1, 255]⟩
abbrev S256x255 : Shape := ⟨2, ![256, 255]⟩
abbrev S1x1x1 : Shape := ⟨3, ![1, 1, 1]⟩
abbrev S128x128 : Shape := ⟨2, ![128, 128]⟩
abbrev S1x128x128 : Shape := ⟨3, ![1, 128, 128]⟩
abbrev S256x256 : Shape := ⟨2, ![256, 256]⟩

abbrev nBuf : Space → Nat
  | .hbm => 141
  | .vmem => 10
  | .smem => 7
  | _ => 0

abbrev hbmTy0_0 (i : Nat) : BufTy := match i % 128 with
  | 0 => ⟨S24576x2048, .bf16⟩
  | 1 => ⟨S32, .i32⟩
  | 2 => ⟨S32x2048x1408, .fp8e4m3⟩
  | 3 => ⟨S32x16x11, .f32⟩
  | 4 => ⟨S32x2048x1408, .fp8e4m3⟩
  | 5 => ⟨S32x16x11, .f32⟩
  | 6 => ⟨S_, .i32⟩
  | 7 => ⟨S_, .i32⟩
  | 8 => ⟨S32, .i32⟩
  | 9 => ⟨S32, .i32⟩
  | 10 => ⟨S_, .i32⟩
  | 11 => ⟨S32, .i32⟩
  | 12 => ⟨S32, .i1⟩
  | 13 => ⟨S_, .i32⟩
  | 14 => ⟨S32, .i32⟩
  | 15 => ⟨S32, .i32⟩
  | 16 => ⟨S_, .i32⟩
  | 17 => ⟨S_, .i32⟩
  | 18 => ⟨S32, .i32⟩
  | 19 => ⟨S32, .i32⟩
  | 20 => ⟨S32, .i32⟩
  | 21 => ⟨S_, .i32⟩
  | 22 => ⟨S32, .i32⟩
  | 23 => ⟨S32, .i1⟩
  | 24 => ⟨S32, .i32⟩
  | 25 => ⟨S32, .i32⟩
  | 26 => ⟨S_, .i32⟩
  | 27 => ⟨S32, .i32⟩
  | 28 => ⟨S32, .i1⟩
  | 29 => ⟨S32, .i1⟩
  | 30 => ⟨S_, .i32⟩
  | 31 => ⟨S32, .i32⟩
  | 32 => ⟨S32, .i32⟩
  | 33 => ⟨S32, .i32⟩
  | 34 => ⟨S_, .i32⟩
  | 35 => ⟨S_, .i32⟩
  | 36 => ⟨S32, .i32⟩
  | 37 => ⟨S32, .i32⟩
  | 38 => ⟨S32, .i32⟩
  | 39 => ⟨S_, .i32⟩
  | 40 => ⟨S32, .i32⟩
  | 41 => ⟨S32, .i1⟩
  | 42 => ⟨S32, .i32⟩
  | 43 => ⟨S32, .i32⟩
  | 44 => ⟨S_, .i32⟩
  | 45 => ⟨S32, .i32⟩
  | 46 => ⟨S32, .i1⟩
  | 47 => ⟨S32, .i1⟩
  | 48 => ⟨S_, .i32⟩
  | 49 => ⟨S32, .i32⟩
  | 50 => ⟨S32, .i32⟩
  | 51 => ⟨S32, .i32⟩
  | 52 => ⟨S32, .i32⟩
  | 53 => ⟨S_, .i32⟩
  | 54 => ⟨S32, .i32⟩
  | 55 => ⟨S32, .i32⟩
  | 56 => ⟨S_, .i32⟩
  | 57 => ⟨S_, .i32⟩
  | 58 => ⟨S32, .i32⟩
  | 59 => ⟨S32, .i32⟩
  | 60 => ⟨S_, .i32⟩
  | 61 => ⟨S_, .i32⟩
  | 62 => ⟨S32, .i32⟩
  | 63 => ⟨S1, .i32⟩
  | 64 => ⟨S_, .i32⟩
  | 65 => ⟨S127, .i32⟩
  | 66 => ⟨S_, .i32⟩
  | 67 => ⟨S_, .i32⟩
  | 68 => ⟨S127, .i32⟩
  | 69 => ⟨S127, .i32⟩
  | 70 => ⟨S127x1, .i32⟩
  | 71 => ⟨S1x32, .i32⟩
  | 72 => ⟨S127x32, .i32⟩
  | 73 => ⟨S127x32, .i32⟩
  | 74 => ⟨S127x32, .i1⟩
  | 75 => ⟨S127x32, .i32⟩
  | 76 => ⟨S_, .i32⟩
  | 77 => ⟨S_, .i32⟩
  | 78 => ⟨S127, .i32⟩
  | 79 => ⟨S127, .i1⟩
  | 80 => ⟨S_, .i32⟩
  | 81 => ⟨S127, .i32⟩
  | 82 => ⟨S127, .i32⟩
  | 83 => ⟨S127, .i32⟩
  | 84 => ⟨S127x1, .i32⟩
  | 85 => ⟨S127, .i32⟩
  | 86 => ⟨S_, .i32⟩
  | 87 => ⟨S_, .i32⟩
  | 88 => ⟨S127, .i32⟩
  | 89 => ⟨S127, .i32⟩
  | 90 => ⟨S127, .i32⟩
  | 91 => ⟨S_, .i32⟩
  | 92 => ⟨S127, .i32⟩
  | 93 => ⟨S127, .i1⟩
  | 94 => ⟨S127, .i32⟩
  | 95 => ⟨S127, .i32⟩
  | 96 => ⟨S_, .i32⟩
  | 97 => ⟨S127, .i32⟩
  | 98 => ⟨S127, .i1⟩
  | 99 => ⟨S127, .i1⟩
  | 100 => ⟨S_, .i32⟩
  | 101 => ⟨S127, .i32⟩
  | 102 => ⟨S127, .i32⟩
  | 103 => ⟨S127, .i32⟩
  | 104 => ⟨S127, .i32⟩
  | 105 => ⟨S_, .i32⟩
  | 106 => ⟨S127, .i32⟩
  | 107 => ⟨S127, .i1⟩
  | 108 => ⟨S_, .i32⟩
  | 109 => ⟨S127, .i32⟩
  | 110 => ⟨S127, .i32⟩
  | 111 => ⟨S127, .i32⟩
  | 112 => ⟨S127x1, .i32⟩
  | 113 => ⟨S127, .i32⟩
  | 114 => ⟨S_, .i32⟩
  | 115 => ⟨S127, .i32⟩
  | 116 => ⟨S127, .i1⟩
  | 117 => ⟨S_, .i32⟩
  | 118 => ⟨S127, .i32⟩
  | 119 => ⟨S127, .i32⟩
  | 120 => ⟨S127, .i32⟩
  | 121 => ⟨S127x1, .i32⟩
  | 122 => ⟨S127, .i32⟩
  | 123 => ⟨S127, .i32⟩
  | 124 => ⟨S_, .i32⟩
  | 125 => ⟨S127, .i32⟩
  | 126 => ⟨S127, .i1⟩
  | 127 => ⟨S_, .i32⟩
  | _ => ⟨S24576x2048, .bf16⟩

abbrev hbmTy0_1 (i : Nat) : BufTy := match i % 128 with
  | 0 => ⟨S127, .i32⟩
  | 1 => ⟨S127, .i32⟩
  | 2 => ⟨S127, .i32⟩
  | 3 => ⟨S127x1, .i32⟩
  | 4 => ⟨S_, .i32⟩
  | 5 => ⟨S127, .i32⟩
  | 6 => ⟨S127, .i1⟩
  | 7 => ⟨S_, .i32⟩
  | 8 => ⟨S127, .i32⟩
  | 9 => ⟨S127, .i32⟩
  | 10 => ⟨S127, .i32⟩
  | 11 => ⟨S127x1, .i32⟩
  | 12 => ⟨S24576x1408, .bf16⟩
  | _ => ⟨S24576x2048, .bf16⟩

abbrev hbmTy (i : Nat) : BufTy := match i / 128 with
  | 0 => hbmTy0_0 i
  | 1 => hbmTy0_1 i
  | _ => ⟨S24576x2048, .bf16⟩

abbrev bufTy : (tb : Table) → Fin (tcTables nBuf tb) → BufTy
  | .hbm, ⟨i, _⟩ => hbmTy i
  | .local _ .vmem, ⟨0, _⟩ => ⟨S256x2048, .bf16⟩
  | .local _ .vmem, ⟨1, _⟩ => ⟨S256x2048, .bf16⟩
  | .local _ .vmem, ⟨2, _⟩ => ⟨S1x2048x1408, .fp8e4m3⟩
  | .local _ .vmem, ⟨3, _⟩ => ⟨S1x2048x1408, .fp8e4m3⟩
  | .local _ .vmem, ⟨4, _⟩ => ⟨S1x2048x1408, .fp8e4m3⟩
  | .local _ .vmem, ⟨5, _⟩ => ⟨S1x2048x1408, .fp8e4m3⟩
  | .local _ .vmem, ⟨6, _⟩ => ⟨S256x1408, .bf16⟩
  | .local _ .vmem, ⟨7, _⟩ => ⟨S256x1408, .bf16⟩
  | .local _ .vmem, ⟨8, _⟩ => ⟨S256x2048, .bf16⟩
  | .local _ .vmem, ⟨9, _⟩ => ⟨S2048x256, .bf16⟩
  | .local _ .smem, ⟨0, _⟩ => ⟨S127, .i32⟩
  | .local _ .smem, ⟨1, _⟩ => ⟨S127, .i32⟩
  | .local _ .smem, ⟨2, _⟩ => ⟨S127, .i32⟩
  | .local _ .smem, ⟨3, _⟩ => ⟨S127, .i32⟩
  | .local _ .smem, ⟨4, _⟩ => ⟨S1, .i32⟩
  | .local _ .smem, ⟨5, _⟩ => ⟨S32x16x11, .f32⟩
  | .local _ .smem, ⟨6, _⟩ => ⟨S32x16x11, .f32⟩
  | _, _ => ⟨S24576x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .smem, ⟨5, _⟩ => true
  | .smem, ⟨6, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_call0_call0_c : Ref sig .tc := ⟨.hbm, 6, rfl⟩
abbrev main_call0_call0_v0 : Ref sig .tc := ⟨.hbm, 7, rfl⟩
abbrev main_v0 : Ref sig .tc := ⟨.hbm, 8, rfl⟩
abbrev main_v1 : Ref sig .tc := ⟨.hbm, 9, rfl⟩
abbrev main_c : Ref sig .tc := ⟨.hbm, 10, rfl⟩
abbrev main_v2 : Ref sig .tc := ⟨.hbm, 11, rfl⟩
abbrev main_v3 : Ref sig .tc := ⟨.hbm, 12, rfl⟩
abbrev main_c_0 : Ref sig .tc := ⟨.hbm, 13, rfl⟩
abbrev main_v4 : Ref sig .tc := ⟨.hbm, 14, rfl⟩
abbrev main_v5 : Ref sig .tc := ⟨.hbm, 15, rfl⟩
abbrev main_c_1 : Ref sig .tc := ⟨.hbm, 16, rfl⟩
abbrev main_call1_v0 : Ref sig .tc := ⟨.hbm, 17, rfl⟩
abbrev main_call1_v1 : Ref sig .tc := ⟨.hbm, 18, rfl⟩
abbrev main_call1_v2 : Ref sig .tc := ⟨.hbm, 19, rfl⟩
abbrev main_call1_v3 : Ref sig .tc := ⟨.hbm, 20, rfl⟩
abbrev main_call1_v4 : Ref sig .tc := ⟨.hbm, 21, rfl⟩
abbrev main_call1_v5 : Ref sig .tc := ⟨.hbm, 22, rfl⟩
abbrev main_call1_v6 : Ref sig .tc := ⟨.hbm, 23, rfl⟩
abbrev main_call1_v7 : Ref sig .tc := ⟨.hbm, 24, rfl⟩
abbrev main_call1_v8 : Ref sig .tc := ⟨.hbm, 25, rfl⟩
abbrev main_call1_c : Ref sig .tc := ⟨.hbm, 26, rfl⟩
abbrev main_call1_v9 : Ref sig .tc := ⟨.hbm, 27, rfl⟩
abbrev main_call1_v10 : Ref sig .tc := ⟨.hbm, 28, rfl⟩
abbrev main_call1_v11 : Ref sig .tc := ⟨.hbm, 29, rfl⟩
abbrev main_call1_c_0 : Ref sig .tc := ⟨.hbm, 30, rfl⟩
abbrev main_call1_v12 : Ref sig .tc := ⟨.hbm, 31, rfl⟩
abbrev main_call1_v13 : Ref sig .tc := ⟨.hbm, 32, rfl⟩
abbrev main_v6 : Ref sig .tc := ⟨.hbm, 33, rfl⟩
abbrev main_c_2 : Ref sig .tc := ⟨.hbm, 34, rfl⟩
abbrev main_call2_v0 : Ref sig .tc := ⟨.hbm, 35, rfl⟩
abbrev main_call2_v1 : Ref sig .tc := ⟨.hbm, 36, rfl⟩
abbrev main_call2_v2 : Ref sig .tc := ⟨.hbm, 37, rfl⟩
abbrev main_call2_v3 : Ref sig .tc := ⟨.hbm, 38, rfl⟩
abbrev main_call2_v4 : Ref sig .tc := ⟨.hbm, 39, rfl⟩
abbrev main_call2_v5 : Ref sig .tc := ⟨.hbm, 40, rfl⟩
abbrev main_call2_v6 : Ref sig .tc := ⟨.hbm, 41, rfl⟩
abbrev main_call2_v7 : Ref sig .tc := ⟨.hbm, 42, rfl⟩
abbrev main_call2_v8 : Ref sig .tc := ⟨.hbm, 43, rfl⟩
abbrev main_call2_c : Ref sig .tc := ⟨.hbm, 44, rfl⟩
abbrev main_call2_v9 : Ref sig .tc := ⟨.hbm, 45, rfl⟩
abbrev main_call2_v10 : Ref sig .tc := ⟨.hbm, 46, rfl⟩
abbrev main_call2_v11 : Ref sig .tc := ⟨.hbm, 47, rfl⟩
abbrev main_call2_c_0 : Ref sig .tc := ⟨.hbm, 48, rfl⟩
abbrev main_call2_v12 : Ref sig .tc := ⟨.hbm, 49, rfl⟩
abbrev main_call2_v13 : Ref sig .tc := ⟨.hbm, 50, rfl⟩
abbrev main_v7 : Ref sig .tc := ⟨.hbm, 51, rfl⟩
abbrev main_v8 : Ref sig .tc := ⟨.hbm, 52, rfl⟩
abbrev main_c_3 : Ref sig .tc := ⟨.hbm, 53, rfl⟩
abbrev main_v9 : Ref sig .tc := ⟨.hbm, 54, rfl⟩
abbrev main_v10 : Ref sig .tc := ⟨.hbm, 55, rfl⟩
abbrev main_c_4 : Ref sig .tc := ⟨.hbm, 56, rfl⟩
abbrev main_call3_v0 : Ref sig .tc := ⟨.hbm, 57, rfl⟩
abbrev main_call3_v1 : Ref sig .tc := ⟨.hbm, 58, rfl⟩
abbrev main_v11 : Ref sig .tc := ⟨.hbm, 59, rfl⟩
abbrev main_call4_call0_c : Ref sig .tc := ⟨.hbm, 60, rfl⟩
abbrev main_call4_call0_v0 : Ref sig .tc := ⟨.hbm, 61, rfl⟩
abbrev main_v12 : Ref sig .tc := ⟨.hbm, 62, rfl⟩
abbrev main_v13 : Ref sig .tc := ⟨.hbm, 63, rfl⟩
abbrev main_v14 : Ref sig .tc := ⟨.hbm, 64, rfl⟩
abbrev main_v15 : Ref sig .tc := ⟨.hbm, 65, rfl⟩
abbrev main_c_5 : Ref sig .tc := ⟨.hbm, 66, rfl⟩
abbrev main_v16 : Ref sig .tc := ⟨.hbm, 67, rfl⟩
abbrev main_v17 : Ref sig .tc := ⟨.hbm, 68, rfl⟩
abbrev main_v18 : Ref sig .tc := ⟨.hbm, 69, rfl⟩
abbrev main_v19 : Ref sig .tc := ⟨.hbm, 70, rfl⟩
abbrev main_v20 : Ref sig .tc := ⟨.hbm, 71, rfl⟩
abbrev main_v21 : Ref sig .tc := ⟨.hbm, 72, rfl⟩
abbrev main_v22 : Ref sig .tc := ⟨.hbm, 73, rfl⟩
abbrev main_v23 : Ref sig .tc := ⟨.hbm, 74, rfl⟩
abbrev main_v24 : Ref sig .tc := ⟨.hbm, 75, rfl⟩
abbrev main_c_6 : Ref sig .tc := ⟨.hbm, 76, rfl⟩
abbrev main_c_7 : Ref sig .tc := ⟨.hbm, 77, rfl⟩
abbrev main_v26 : Ref sig .tc := ⟨.hbm, 78, rfl⟩
abbrev main_v27 : Ref sig .tc := ⟨.hbm, 79, rfl⟩
abbrev main_c_8 : Ref sig .tc := ⟨.hbm, 80, rfl⟩
abbrev main_v28 : Ref sig .tc := ⟨.hbm, 81, rfl⟩
abbrev main_v29 : Ref sig .tc := ⟨.hbm, 82, rfl⟩
abbrev main_v30 : Ref sig .tc := ⟨.hbm, 83, rfl⟩
abbrev main_v31 : Ref sig .tc := ⟨.hbm, 84, rfl⟩
abbrev main_v32 : Ref sig .tc := ⟨.hbm, 85, rfl⟩
abbrev main_c_9 : Ref sig .tc := ⟨.hbm, 86, rfl⟩
abbrev main_call5_v0 : Ref sig .tc := ⟨.hbm, 87, rfl⟩
abbrev main_call5_v1 : Ref sig .tc := ⟨.hbm, 88, rfl⟩
abbrev main_call5_v2 : Ref sig .tc := ⟨.hbm, 89, rfl⟩
abbrev main_call5_v3 : Ref sig .tc := ⟨.hbm, 90, rfl⟩
abbrev main_call5_v4 : Ref sig .tc := ⟨.hbm, 91, rfl⟩
abbrev main_call5_v5 : Ref sig .tc := ⟨.hbm, 92, rfl⟩
abbrev main_call5_v6 : Ref sig .tc := ⟨.hbm, 93, rfl⟩
abbrev main_call5_v7 : Ref sig .tc := ⟨.hbm, 94, rfl⟩
abbrev main_call5_v8 : Ref sig .tc := ⟨.hbm, 95, rfl⟩
abbrev main_call5_c : Ref sig .tc := ⟨.hbm, 96, rfl⟩
abbrev main_call5_v9 : Ref sig .tc := ⟨.hbm, 97, rfl⟩
abbrev main_call5_v10 : Ref sig .tc := ⟨.hbm, 98, rfl⟩
abbrev main_call5_v11 : Ref sig .tc := ⟨.hbm, 99, rfl⟩
abbrev main_call5_c_0 : Ref sig .tc := ⟨.hbm, 100, rfl⟩
abbrev main_call5_v12 : Ref sig .tc := ⟨.hbm, 101, rfl⟩
abbrev main_call5_v13 : Ref sig .tc := ⟨.hbm, 102, rfl⟩
abbrev main_v33 : Ref sig .tc := ⟨.hbm, 103, rfl⟩
abbrev main_v34 : Ref sig .tc := ⟨.hbm, 104, rfl⟩
abbrev main_c_10 : Ref sig .tc := ⟨.hbm, 105, rfl⟩
abbrev main_v35 : Ref sig .tc := ⟨.hbm, 106, rfl⟩
abbrev main_v36 : Ref sig .tc := ⟨.hbm, 107, rfl⟩
abbrev main_c_11 : Ref sig .tc := ⟨.hbm, 108, rfl⟩
abbrev main_v37 : Ref sig .tc := ⟨.hbm, 109, rfl⟩
abbrev main_v38 : Ref sig .tc := ⟨.hbm, 110, rfl⟩
abbrev main_v39 : Ref sig .tc := ⟨.hbm, 111, rfl⟩
abbrev main_v40 : Ref sig .tc := ⟨.hbm, 112, rfl⟩
abbrev main_v41 : Ref sig .tc := ⟨.hbm, 113, rfl⟩
abbrev main_c_12 : Ref sig .tc := ⟨.hbm, 114, rfl⟩
abbrev main_v42 : Ref sig .tc := ⟨.hbm, 115, rfl⟩
abbrev main_v43 : Ref sig .tc := ⟨.hbm, 116, rfl⟩
abbrev main_c_13 : Ref sig .tc := ⟨.hbm, 117, rfl⟩
abbrev main_v44 : Ref sig .tc := ⟨.hbm, 118, rfl⟩
abbrev main_v45 : Ref sig .tc := ⟨.hbm, 119, rfl⟩
abbrev main_v46 : Ref sig .tc := ⟨.hbm, 120, rfl⟩
abbrev main_v47 : Ref sig .tc := ⟨.hbm, 121, rfl⟩
abbrev main_v48 : Ref sig .tc := ⟨.hbm, 122, rfl⟩
abbrev main_v49 : Ref sig .tc := ⟨.hbm, 123, rfl⟩
abbrev main_c_14 : Ref sig .tc := ⟨.hbm, 124, rfl⟩
abbrev main_v51 : Ref sig .tc := ⟨.hbm, 125, rfl⟩
abbrev main_v52 : Ref sig .tc := ⟨.hbm, 126, rfl⟩
abbrev main_c_15 : Ref sig .tc := ⟨.hbm, 127, rfl⟩
abbrev main_v53 : Ref sig .tc := ⟨.hbm, 128, rfl⟩
abbrev main_v54 : Ref sig .tc := ⟨.hbm, 129, rfl⟩
abbrev main_v55 : Ref sig .tc := ⟨.hbm, 130, rfl⟩
abbrev main_v56 : Ref sig .tc := ⟨.hbm, 131, rfl⟩
abbrev main_c_16 : Ref sig .tc := ⟨.hbm, 132, rfl⟩
abbrev main_v58 : Ref sig .tc := ⟨.hbm, 133, rfl⟩
abbrev main_v59 : Ref sig .tc := ⟨.hbm, 134, rfl⟩
abbrev main_c_17 : Ref sig .tc := ⟨.hbm, 135, rfl⟩
abbrev main_v60 : Ref sig .tc := ⟨.hbm, 136, rfl⟩
abbrev main_v61 : Ref sig .tc := ⟨.hbm, 137, rfl⟩
abbrev main_v62 : Ref sig .tc := ⟨.hbm, 138, rfl⟩
abbrev main_v63 : Ref sig .tc := ⟨.hbm, 139, rfl⟩
abbrev main_v66 : Ref sig .tc := ⟨.hbm, 140, rfl⟩
abbrev main_v25 : Ref sig .tc := ⟨.smem, 0, rfl⟩
abbrev main_v50 : Ref sig .tc := ⟨.smem, 1, rfl⟩
abbrev main_v57 : Ref sig .tc := ⟨.smem, 2, rfl⟩
abbrev main_v64 : Ref sig .tc := ⟨.smem, 3, rfl⟩
abbrev main_v65 : Ref sig .tc := ⟨.smem, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg5_0 : Ref sig .tc := ⟨.vmem, 6, rfl⟩
abbrev cc0_stg5_1 : Ref sig .tc := ⟨.vmem, 7, rfl⟩
abbrev cc0_scratch0 : Ref sig .tc := ⟨.vmem, 8, rfl⟩
abbrev cc0_scratch1 : Ref sig .tc := ⟨.vmem, 9, rfl⟩
abbrev cc0_stg3_0 : Ref sig .tc := ⟨.smem, 5, rfl⟩
abbrev cc0_stg4_0 : Ref sig .tc := ⟨.smem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![127], ![false]⟩

abbrev pre0 : Pipeline.Prefetch sig := ⟨5, ![main_v25.idx, main_v50.idx, main_v57.idx, main_v64.idx, main_v65.idx], fun | 0 => main_v25.names | 1 => main_v50.names | 2 => main_v57.names | 3 => main_v64.names | 4 => main_v65.names | ⟨_ + 5, h⟩ => absurd h (Nat.not_lt.2 (Nat.le_add_left _ _)), fun | 0 => rfl | 1 => rfl | 2 => rfl | 3 => rfl | 4 => rfl | ⟨_ + 5, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def k0_off2 (i : grid0.Coords) : Fin 1 → Nat :=
  let arg0 : BitVec 32 := BitVec.ofNat 32 (i 0).val
  let v4 : Index := Scalar.indexCast arg0
  ![v4.toNat]
def k0_off3 (v5 : BitVec 32) : Fin 3 → Nat :=
  let v677 : Index := Scalar.indexCast v5
  let c0_204 : Index := 0#32
  let c0_205 : Index := 0#32
  ![v677.toNat, 0, 0]
def k0_cond1 (i : grid0.Coords) (v0 : BitVec 32) : BitVec 1 :=
  let arg0 : BitVec 32 := BitVec.ofNat 32 (i 0).val
  let v1 : BitVec 1 := Scalar.cmpi .slt arg0 v0
  let v2 : BitVec 32 := Scalar.extui v1
  let c0_i32 : BitVec 32 := 0#32
  let v3 : BitVec 1 := Scalar.cmpi .ne v2 c0_i32
  v3

def k0_off4 (v5 : BitVec 32) : Fin 3 → Nat :=
  let v699 : Index := Scalar.indexCast v5
  let c1 : Index := 1#32
  let c0_218 : Index := 0#32
  ![v699.toNat, 1, 0]
def k0_off5 (v5 : BitVec 32) : Fin 3 → Nat :=
  let v721 : Index := Scalar.indexCast v5
  let c2 : Index := 2#32
  let c0_231 : Index := 0#32
  ![v721.toNat, 2, 0]
def k0_off6 (v5 : BitVec 32) : Fin 3 → Nat :=
  let v743 : Index := Scalar.indexCast v5
  let c3 : Index := 3#32
  let c0_244 : Index := 0#32
  ![v743.toNat, 3, 0]
def k0_off7 (v5 : BitVec 32) : Fin 3 → Nat :=
  let v765 : Index := Scalar.indexCast v5
  let c4 : Index := 4#32
  let c0_257 : Index := 0#32
  ![v765.toNat, 4, 0]
def k0_off8 (v5 : BitVec 32) : Fin 3 → Nat :=
  let v787 : Index := Scalar.indexCast v5
  let c5 : Index := 5#32
  let c0_270 : Index := 0#32
  ![v787.toNat, 5, 0]
def k0_off9 (v5 : BitVec 32) : Fin 3 → Nat :=
  let v809 : Index := Scalar.indexCast v5
  let c6 : Index := 6#32
  let c0_283 : Index := 0#32
  ![v809.toNat, 6, 0]
def k0_off10 (v5 : BitVec 32) : Fin 3 → Nat :=
  let v831 : Index := Scalar.indexCast v5
  let c7 : Index := 7#32
  let c0_296 : Index := 0#32
  ![v831.toNat, 7, 0]
def k0_off11 (v5 : BitVec 32) : Fin 3 → Nat :=
  let v853 : Index := Scalar.indexCast v5
  let c8 : Index := 8#32
  let c0_309 : Index := 0#32
  ![v853.toNat, 8, 0]
def k0_off12 (v5 : BitVec 32) : Fin 3 → Nat :=
  let v875 : Index := Scalar.indexCast v5
  let c9 : Index := 9#32
  let c0_322 : Index := 0#32
  ![v875.toNat, 9, 0]
def k0_off13 (v5 : BitVec 32) : Fin 3 → Nat :=
  let v897 : Index := Scalar.indexCast v5
  let c10 : Index := 10#32
  let c0_335 : Index := 0#32
  ![v897.toNat, 10, 0]
def k0_off14 (v5 : BitVec 32) : Fin 3 → Nat :=
  let v919 : Index := Scalar.indexCast v5
  let c11 : Index := 11#32
  let c0_348 : Index := 0#32
  ![v919.toNat, 11, 0]
def k0_off15 (v5 : BitVec 32) : Fin 3 → Nat :=
  let v941 : Index := Scalar.indexCast v5
  let c12 : Index := 12#32
  let c0_361 : Index := 0#32
  ![v941.toNat, 12, 0]
def k0_off16 (v5 : BitVec 32) : Fin 3 → Nat :=
  let v963 : Index := Scalar.indexCast v5
  let c13 : Index := 13#32
  let c0_374 : Index := 0#32
  ![v963.toNat, 13, 0]
def k0_off17 (v5 : BitVec 32) : Fin 3 → Nat :=
  let v985 : Index := Scalar.indexCast v5
  let c14 : Index := 14#32
  let c0_387 : Index := 0#32
  ![v985.toNat, 14, 0]
def k0_off18 (v5 : BitVec 32) : Fin 3 → Nat :=
  let v1007 : Index := Scalar.indexCast v5
  let c15 : Index := 15#32
  let c0_400 : Index := 0#32
  ![v1007.toNat, 15, 0]
def k0_off19 (v5 : BitVec 32) : Fin 3 → Nat :=
  let v1042 : Index := Scalar.indexCast v5
  let c0_422 : Index := 0#32
  let c1_423 : Index := 1#32
  ![v1042.toNat, 0, 1]
def k0_off20 (v5 : BitVec 32) : Fin 3 → Nat :=
  let v1064 : Index := Scalar.indexCast v5
  let c1_436 : Index := 1#32
  let c1_437 : Index := 1#32
  ![v1064.toNat, 1, 1]
def k0_off21 (v5 : BitVec 32) : Fin 3 → Nat :=
  let v1086 : Index := Scalar.indexCast v5
  let c2_450 : Index := 2#32
  let c1_451 : Index := 1#32
  ![v1086.toNat, 2, 1]
def k0_off22 (v5 : BitVec 32) : Fin 3 → Nat :=
  let v1108 : Index := Scalar.indexCast v5
  let c3_464 : Index := 3#32
  let c1_465 : Index := 1#32
  ![v1108.toNat, 3, 1]
def k0_off23 (v5 : BitVec 32) : Fin 3 → Nat :=
  let v1130 : Index := Scalar.indexCast v5
  let c4_478 : Index := 4#32
  let c1_479 : Index := 1#32
  ![v1130.toNat, 4, 1]
def k0_off24 (v5 : BitVec 32) : Fin 3 → Nat :=
  let v1152 : Index := Scalar.indexCast v5
  let c5_492 : Index := 5#32
  let c1_493 : Index := 1#32
  ![v1152.toNat, 5, 1]
def k0_off25 (v5 : BitVec 32) : Fin 3 → Nat :=
  let v1174 : Index := Scalar.indexCast v5
  let c6_506 : Index := 6#32
  let c1_507 : Index := 1#32
  ![v1174.toNat, 6, 1]
def k0_off26 (v5 : BitVec 32) : Fin 3 → Nat :=
  let v1196 : Index := Scalar.indexCast v5
  let c7_520 : Index := 7#32
  let c1_521 : Index := 1#32
  ![v1196.toNat, 7, 1]
def k0_off27 (v5 : BitVec 32) : Fin 3 → Nat :=
  let v1218 : Index := Scalar.indexCast v5
  let c8_534 : Index := 8#32
  let c1_535 : Index := 1#32
  ![v1218.toNat, 8, 1]
def k0_off28 (v5 : BitVec 32) : Fin 3 → Nat :=
  let v1240 : Index := Scalar.indexCast v5
  let c9_548 : Index := 9#32
  let c1_549 : Index := 1#32
  ![v1240.toNat, 9, 1]
def k0_off29 (v5 : BitVec 32) : Fin 3 → Nat :=
  let v1262 : Index := Scalar.indexCast v5
  let c10_562 : Index := 10#32
  let c1_563 : Index := 1#32
  ![v1262.toNat, 10, 1]
def k0_off30 (v5 : BitVec 32) : Fin 3 → Nat :=
  let v1284 : Index := Scalar.indexCast v5
  let c11_576 : Index := 11#32
  let c1_577 : Index := 1#32
  ![v1284.toNat, 11, 1]
def k0_off31 (v5 : BitVec 32) : Fin 3 → Nat :=
  let v1306 : Index := Scalar.indexCast v5
  let c12_590 : Index := 12#32
  let c1_591 : Index := 1#32
  ![v1306.toNat, 12, 1]
def k0_off32 (v5 : BitVec 32) : Fin 3 → Nat :=
  let v1328 : Index := Scalar.indexCast v5
  let c13_604 : Index := 13#32
  let c1_605 : Index := 1#32
  ![v1328.toNat, 13, 1]
def k0_off33 (v5 : BitVec 32) : Fin 3 → Nat :=
  let v1350 : Index := Scalar.indexCast v5
  let c14_618 : Index := 14#32
  let c1_619 : Index := 1#32
  ![v1350.toNat, 14, 1]
def k0_off34 (v5 : BitVec 32) : Fin 3 → Nat :=
  let v1372 : Index := Scalar.indexCast v5
  let c15_632 : Index := 15#32
  let c1_633 : Index := 1#32
  ![v1372.toNat, 15, 1]
def k0_off35 (v5 : BitVec 32) : Fin 3 → Nat :=
  let v1407 : Index := Scalar.indexCast v5
  let c0_655 : Index := 0#32
  let c2_656 : Index := 2#32
  ![v1407.toNat, 0, 2]
def k0_off36 (v5 : BitVec 32) : Fin 3 → Nat :=
  let v1429 : Index := Scalar.indexCast v5
  let c1_669 : Index := 1#32
  let c2_670 : Index := 2#32
  ![v1429.toNat, 1, 2]
def k0_off37 (v5 : BitVec 32) : Fin 3 → Nat :=
  let v1451 : Index := Scalar.indexCast v5
  let c2_683 : Index := 2#32
  let c2_684 : Index := 2#32
  ![v1451.toNat, 2, 2]
def k0_off38 (v5 : BitVec 32) : Fin 3 → Nat :=
  let v1473 : Index := Scalar.indexCast v5
  let c3_697 : Index := 3#32
  let c2_698 : Index := 2#32
  ![v1473.toNat, 3, 2]
def k0_off39 (v5 : BitVec 32) : Fin 3 → Nat :=
  let v1495 : Index := Scalar.indexCast v5
  let c4_711 : Index := 4#32
  let c2_712 : Index := 2#32
  ![v1495.toNat, 4, 2]
def k0_off40 (v5 : BitVec 32) : Fin 3 → Nat :=
  let v1517 : Index := Scalar.indexCast v5
  let c5_725 : Index := 5#32
  let c2_726 : Index := 2#32
  ![v1517.toNat, 5, 2]
def k0_off41 (v5 : BitVec 32) : Fin 3 → Nat :=
  let v1539 : Index := Scalar.indexCast v5
  let c6_739 : Index := 6#32
  let c2_740 : Index := 2#32
  ![v1539.toNat, 6, 2]
def k0_off42 (v5 : BitVec 32) : Fin 3 → Nat :=
  let v1561 : Index := Scalar.indexCast v5
  let c7_753 : Index := 7#32
  let c2_754 : Index := 2#32
  ![v1561.toNat, 7, 2]
def k0_off43 (v5 : BitVec 32) : Fin 3 → Nat :=
  let v1583 : Index := Scalar.indexCast v5
  let c8_767 : Index := 8#32
  let c2_768 : Index := 2#32
  ![v1583.toNat, 8, 2]
def k0_off44 (v5 : BitVec 32) : Fin 3 → Nat :=
  let v1605 : Index := Scalar.indexCast v5
  let c9_781 : Index := 9#32
  let c2_782 : Index := 2#32
  ![v1605.toNat, 9, 2]
def k0_off45 (v5 : BitVec 32) : Fin 3 → Nat :=
  let v1627 : Index := Scalar.indexCast v5
  let c10_795 : Index := 10#32
  let c2_796 : Index := 2#32
  ![v1627.toNat, 10, 2]
def k0_off46 (v5 : BitVec 32) : Fin 3 → Nat :=
  let v1649 : Index := Scalar.indexCast v5
  let c11_809 : Index := 11#32
  let c2_810 : Index := 2#32
  ![v1649.toNat, 11, 2]
def k0_off47 (v5 : BitVec 32) : Fin 3 → Nat :=
  let v1671 : Index := Scalar.indexCast v5
  let c12_823 : Index := 12#32
  let c2_824 : Index := 2#32
  ![v1671.toNat, 12, 2]
def k0_off48 (v5 : BitVec 32) : Fin 3 → Nat :=
  let v1693 : Index := Scalar.indexCast v5
  let c13_837 : Index := 13#32
  let c2_838 : Index := 2#32
  ![v1693.toNat, 13, 2]
def k0_off49 (v5 : BitVec 32) : Fin 3 → Nat :=
  let v1715 : Index := Scalar.indexCast v5
  let c14_851 : Index := 14#32
  let c2_852 : Index := 2#32
  ![v1715.toNat, 14, 2]
def k0_off50 (v5 : BitVec 32) : Fin 3 → Nat :=
  let v1737 : Index := Scalar.indexCast v5
  let c15_865 : Index := 15#32
  let c2_866 : Index := 2#32
  ![v1737.toNat, 15, 2]
def k0_off51 (v5 : BitVec 32) : Fin 3 → Nat :=
  let v1772 : Index := Scalar.indexCast v5
  let c0_888 : Index := 0#32
  let c3_889 : Index := 3#32
  ![v1772.toNat, 0, 3]
def k0_off52 (v5 : BitVec 32) : Fin 3 → Nat :=
  let v1794 : Index := Scalar.indexCast v5
  let c1_902 : Index := 1#32
  let c3_903 : Index := 3#32
  ![v1794.toNat, 1, 3]
def k0_off53 (v5 : BitVec 32) : Fin 3 → Nat :=
  let v1816 : Index := Scalar.indexCast v5
  let c2_916 : Index := 2#32
  let c3_917 : Index := 3#32
  ![v1816.toNat, 2, 3]
def k0_off54 (v5 : BitVec 32) : Fin 3 → Nat :=
  let v1838 : Index := Scalar.indexCast v5
  let c3_930 : Index := 3#32
  let c3_931 : Index := 3#32
  ![v1838.toNat, 3, 3]
def k0_off55 (v5 : BitVec 32) : Fin 3 → Nat :=
  let v1860 : Index := Scalar.indexCast v5
  let c4_944 : Index := 4#32
  let c3_945 : Index := 3#32
  ![v1860.toNat, 4, 3]
def k0_off56 (v5 : BitVec 32) : Fin 3 → Nat :=
  let v1882 : Index := Scalar.indexCast v5
  let c5_958 : Index := 5#32
  let c3_959 : Index := 3#32
  ![v1882.toNat, 5, 3]
def k0_off57 (v5 : BitVec 32) : Fin 3 → Nat :=
  let v1904 : Index := Scalar.indexCast v5
  let c6_972 : Index := 6#32
  let c3_973 : Index := 3#32
  ![v1904.toNat, 6, 3]
def k0_off58 (v5 : BitVec 32) : Fin 3 → Nat :=
  let v1926 : Index := Scalar.indexCast v5
  let c7_986 : Index := 7#32
  let c3_987 : Index := 3#32
  ![v1926.toNat, 7, 3]
def k0_off59 (v5 : BitVec 32) : Fin 3 → Nat :=
  let v1948 : Index := Scalar.indexCast v5
  let c8_1000 : Index := 8#32
  let c3_1001 : Index := 3#32
  ![v1948.toNat, 8, 3]
def k0_off60 (v5 : BitVec 32) : Fin 3 → Nat :=
  let v1970 : Index := Scalar.indexCast v5
  let c9_1014 : Index := 9#32
  let c3_1015 : Index := 3#32
  ![v1970.toNat, 9, 3]
def k0_off61 (v5 : BitVec 32) : Fin 3 → Nat :=
  let v1992 : Index := Scalar.indexCast v5
  let c10_1028 : Index := 10#32
  let c3_1029 : Index := 3#32
  ![v1992.toNat, 10, 3]
def k0_off62 (v5 : BitVec 32) : Fin 3 → Nat :=
  let v2014 : Index := Scalar.indexCast v5
  let c11_1042 : Index := 11#32
  let c3_1043 : Index := 3#32
  ![v2014.toNat, 11, 3]
def k0_off63 (v5 : BitVec 32) : Fin 3 → Nat :=
  let v2036 : Index := Scalar.indexCast v5
  let c12_1056 : Index := 12#32
  let c3_1057 : Index := 3#32
  ![v2036.toNat, 12, 3]
def k0_off64 (v5 : BitVec 32) : Fin 3 → Nat :=
  let v2058 : Index := Scalar.indexCast v5
  let c13_1070 : Index := 13#32
  let c3_1071 : Index := 3#32
  ![v2058.toNat, 13, 3]
def k0_off65 (v5 : BitVec 32) : Fin 3 → Nat :=
  let v2080 : Index := Scalar.indexCast v5
  let c14_1084 : Index := 14#32
  let c3_1085 : Index := 3#32
  ![v2080.toNat, 14, 3]
def k0_off66 (v5 : BitVec 32) : Fin 3 → Nat :=
  let v2102 : Index := Scalar.indexCast v5
  let c15_1098 : Index := 15#32
  let c3_1099 : Index := 3#32
  ![v2102.toNat, 15, 3]
def k0_off67 (v5 : BitVec 32) : Fin 3 → Nat :=
  let v2137 : Index := Scalar.indexCast v5
  let c0_1121 : Index := 0#32
  let c4_1122 : Index := 4#32
  ![v2137.toNat, 0, 4]
def k0_off68 (v5 : BitVec 32) : Fin 3 → Nat :=
  let v2159 : Index := Scalar.indexCast v5
  let c1_1135 : Index := 1#32
  let c4_1136 : Index := 4#32
  ![v2159.toNat, 1, 4]
def k0_off69 (v5 : BitVec 32) : Fin 3 → Nat :=
  let v2181 : Index := Scalar.indexCast v5
  let c2_1149 : Index := 2#32
  let c4_1150 : Index := 4#32
  ![v2181.toNat, 2, 4]
def k0_off70 (v5 : BitVec 32) : Fin 3 → Nat :=
  let v2203 : Index := Scalar.indexCast v5
  let c3_1163 : Index := 3#32
  let c4_1164 : Index := 4#32
  ![v2203.toNat, 3, 4]
def k0_off71 (v5 : BitVec 32) : Fin 3 → Nat :=
  let v2225 : Index := Scalar.indexCast v5
  let c4_1177 : Index := 4#32
  let c4_1178 : Index := 4#32
  ![v2225.toNat, 4, 4]
def k0_off72 (v5 : BitVec 32) : Fin 3 → Nat :=
  let v2247 : Index := Scalar.indexCast v5
  let c5_1191 : Index := 5#32
  let c4_1192 : Index := 4#32
  ![v2247.toNat, 5, 4]
def k0_off73 (v5 : BitVec 32) : Fin 3 → Nat :=
  let v2269 : Index := Scalar.indexCast v5
  let c6_1205 : Index := 6#32
  let c4_1206 : Index := 4#32
  ![v2269.toNat, 6, 4]
def k0_off74 (v5 : BitVec 32) : Fin 3 → Nat :=
  let v2291 : Index := Scalar.indexCast v5
  let c7_1219 : Index := 7#32
  let c4_1220 : Index := 4#32
  ![v2291.toNat, 7, 4]
def k0_off75 (v5 : BitVec 32) : Fin 3 → Nat :=
  let v2313 : Index := Scalar.indexCast v5
  let c8_1233 : Index := 8#32
  let c4_1234 : Index := 4#32
  ![v2313.toNat, 8, 4]
def k0_off76 (v5 : BitVec 32) : Fin 3 → Nat :=
  let v2335 : Index := Scalar.indexCast v5
  let c9_1247 : Index := 9#32
  let c4_1248 : Index := 4#32
  ![v2335.toNat, 9, 4]
def k0_off77 (v5 : BitVec 32) : Fin 3 → Nat :=
  let v2357 : Index := Scalar.indexCast v5
  let c10_1261 : Index := 10#32
  let c4_1262 : Index := 4#32
  ![v2357.toNat, 10, 4]
def k0_off78 (v5 : BitVec 32) : Fin 3 → Nat :=
  let v2379 : Index := Scalar.indexCast v5
  let c11_1275 : Index := 11#32
  let c4_1276 : Index := 4#32
  ![v2379.toNat, 11, 4]
def k0_off79 (v5 : BitVec 32) : Fin 3 → Nat :=
  let v2401 : Index := Scalar.indexCast v5
  let c12_1289 : Index := 12#32
  let c4_1290 : Index := 4#32
  ![v2401.toNat, 12, 4]
def k0_off80 (v5 : BitVec 32) : Fin 3 → Nat :=
  let v2423 : Index := Scalar.indexCast v5
  let c13_1303 : Index := 13#32
  let c4_1304 : Index := 4#32
  ![v2423.toNat, 13, 4]
def k0_off81 (v5 : BitVec 32) : Fin 3 → Nat :=
  let v2445 : Index := Scalar.indexCast v5
  let c14_1317 : Index := 14#32
  let c4_1318 : Index := 4#32
  ![v2445.toNat, 14, 4]
def k0_off82 (v5 : BitVec 32) : Fin 3 → Nat :=
  let v2467 : Index := Scalar.indexCast v5
  let c15_1331 : Index := 15#32
  let c4_1332 : Index := 4#32
  ![v2467.toNat, 15, 4]
def k0_off83 (v5 : BitVec 32) : Fin 3 → Nat :=
  let v2502 : Index := Scalar.indexCast v5
  let c0_1354 : Index := 0#32
  let c5_1355 : Index := 5#32
  ![v2502.toNat, 0, 5]
def k0_off84 (v5 : BitVec 32) : Fin 3 → Nat :=
  let v2524 : Index := Scalar.indexCast v5
  let c1_1368 : Index := 1#32
  let c5_1369 : Index := 5#32
  ![v2524.toNat, 1, 5]
def k0_off85 (v5 : BitVec 32) : Fin 3 → Nat :=
  let v2546 : Index := Scalar.indexCast v5
  let c2_1382 : Index := 2#32
  let c5_1383 : Index := 5#32
  ![v2546.toNat, 2, 5]
def k0_off86 (v5 : BitVec 32) : Fin 3 → Nat :=
  let v2568 : Index := Scalar.indexCast v5
  let c3_1396 : Index := 3#32
  let c5_1397 : Index := 5#32
  ![v2568.toNat, 3, 5]
def k0_off87 (v5 : BitVec 32) : Fin 3 → Nat :=
  let v2590 : Index := Scalar.indexCast v5
  let c4_1410 : Index := 4#32
  let c5_1411 : Index := 5#32
  ![v2590.toNat, 4, 5]
def k0_off88 (v5 : BitVec 32) : Fin 3 → Nat :=
  let v2612 : Index := Scalar.indexCast v5
  let c5_1424 : Index := 5#32
  let c5_1425 : Index := 5#32
  ![v2612.toNat, 5, 5]
def k0_off89 (v5 : BitVec 32) : Fin 3 → Nat :=
  let v2634 : Index := Scalar.indexCast v5
  let c6_1438 : Index := 6#32
  let c5_1439 : Index := 5#32
  ![v2634.toNat, 6, 5]
def k0_off90 (v5 : BitVec 32) : Fin 3 → Nat :=
  let v2656 : Index := Scalar.indexCast v5
  let c7_1452 : Index := 7#32
  let c5_1453 : Index := 5#32
  ![v2656.toNat, 7, 5]
def k0_off91 (v5 : BitVec 32) : Fin 3 → Nat :=
  let v2678 : Index := Scalar.indexCast v5
  let c8_1466 : Index := 8#32
  let c5_1467 : Index := 5#32
  ![v2678.toNat, 8, 5]
def k0_off92 (v5 : BitVec 32) : Fin 3 → Nat :=
  let v2700 : Index := Scalar.indexCast v5
  let c9_1480 : Index := 9#32
  let c5_1481 : Index := 5#32
  ![v2700.toNat, 9, 5]
def k0_off93 (v5 : BitVec 32) : Fin 3 → Nat :=
  let v2722 : Index := Scalar.indexCast v5
  let c10_1494 : Index := 10#32
  let c5_1495 : Index := 5#32
  ![v2722.toNat, 10, 5]
def k0_off94 (v5 : BitVec 32) : Fin 3 → Nat :=
  let v2744 : Index := Scalar.indexCast v5
  let c11_1508 : Index := 11#32
  let c5_1509 : Index := 5#32
  ![v2744.toNat, 11, 5]
def k0_off95 (v5 : BitVec 32) : Fin 3 → Nat :=
  let v2766 : Index := Scalar.indexCast v5
  let c12_1522 : Index := 12#32
  let c5_1523 : Index := 5#32
  ![v2766.toNat, 12, 5]
def k0_off96 (v5 : BitVec 32) : Fin 3 → Nat :=
  let v2788 : Index := Scalar.indexCast v5
  let c13_1536 : Index := 13#32
  let c5_1537 : Index := 5#32
  ![v2788.toNat, 13, 5]
def k0_off97 (v5 : BitVec 32) : Fin 3 → Nat :=
  let v2810 : Index := Scalar.indexCast v5
  let c14_1550 : Index := 14#32
  let c5_1551 : Index := 5#32
  ![v2810.toNat, 14, 5]
def k0_off98 (v5 : BitVec 32) : Fin 3 → Nat :=
  let v2832 : Index := Scalar.indexCast v5
  let c15_1564 : Index := 15#32
  let c5_1565 : Index := 5#32
  ![v2832.toNat, 15, 5]
def k0_off99 (v5 : BitVec 32) : Fin 3 → Nat :=
  let v2867 : Index := Scalar.indexCast v5
  let c0_1587 : Index := 0#32
  let c6_1588 : Index := 6#32
  ![v2867.toNat, 0, 6]
def k0_off100 (v5 : BitVec 32) : Fin 3 → Nat :=
  let v2889 : Index := Scalar.indexCast v5
  let c1_1601 : Index := 1#32
  let c6_1602 : Index := 6#32
  ![v2889.toNat, 1, 6]
def k0_off101 (v5 : BitVec 32) : Fin 3 → Nat :=
  let v2911 : Index := Scalar.indexCast v5
  let c2_1615 : Index := 2#32
  let c6_1616 : Index := 6#32
  ![v2911.toNat, 2, 6]
def k0_off102 (v5 : BitVec 32) : Fin 3 → Nat :=
  let v2933 : Index := Scalar.indexCast v5
  let c3_1629 : Index := 3#32
  let c6_1630 : Index := 6#32
  ![v2933.toNat, 3, 6]
def k0_off103 (v5 : BitVec 32) : Fin 3 → Nat :=
  let v2955 : Index := Scalar.indexCast v5
  let c4_1643 : Index := 4#32
  let c6_1644 : Index := 6#32
  ![v2955.toNat, 4, 6]
def k0_off104 (v5 : BitVec 32) : Fin 3 → Nat :=
  let v2977 : Index := Scalar.indexCast v5
  let c5_1657 : Index := 5#32
  let c6_1658 : Index := 6#32
  ![v2977.toNat, 5, 6]
def k0_off105 (v5 : BitVec 32) : Fin 3 → Nat :=
  let v2999 : Index := Scalar.indexCast v5
  let c6_1671 : Index := 6#32
  let c6_1672 : Index := 6#32
  ![v2999.toNat, 6, 6]
def k0_off106 (v5 : BitVec 32) : Fin 3 → Nat :=
  let v3021 : Index := Scalar.indexCast v5
  let c7_1685 : Index := 7#32
  let c6_1686 : Index := 6#32
  ![v3021.toNat, 7, 6]
def k0_off107 (v5 : BitVec 32) : Fin 3 → Nat :=
  let v3043 : Index := Scalar.indexCast v5
  let c8_1699 : Index := 8#32
  let c6_1700 : Index := 6#32
  ![v3043.toNat, 8, 6]
def k0_off108 (v5 : BitVec 32) : Fin 3 → Nat :=
  let v3065 : Index := Scalar.indexCast v5
  let c9_1713 : Index := 9#32
  let c6_1714 : Index := 6#32
  ![v3065.toNat, 9, 6]
def k0_off109 (v5 : BitVec 32) : Fin 3 → Nat :=
  let v3087 : Index := Scalar.indexCast v5
  let c10_1727 : Index := 10#32
  let c6_1728 : Index := 6#32
  ![v3087.toNat, 10, 6]
def k0_off110 (v5 : BitVec 32) : Fin 3 → Nat :=
  let v3109 : Index := Scalar.indexCast v5
  let c11_1741 : Index := 11#32
  let c6_1742 : Index := 6#32
  ![v3109.toNat, 11, 6]
def k0_off111 (v5 : BitVec 32) : Fin 3 → Nat :=
  let v3131 : Index := Scalar.indexCast v5
  let c12_1755 : Index := 12#32
  let c6_1756 : Index := 6#32
  ![v3131.toNat, 12, 6]
def k0_off112 (v5 : BitVec 32) : Fin 3 → Nat :=
  let v3153 : Index := Scalar.indexCast v5
  let c13_1769 : Index := 13#32
  let c6_1770 : Index := 6#32
  ![v3153.toNat, 13, 6]
def k0_off113 (v5 : BitVec 32) : Fin 3 → Nat :=
  let v3175 : Index := Scalar.indexCast v5
  let c14_1783 : Index := 14#32
  let c6_1784 : Index := 6#32
  ![v3175.toNat, 14, 6]
def k0_off114 (v5 : BitVec 32) : Fin 3 → Nat :=
  let v3197 : Index := Scalar.indexCast v5
  let c15_1797 : Index := 15#32
  let c6_1798 : Index := 6#32
  ![v3197.toNat, 15, 6]
def k0_off115 (v5 : BitVec 32) : Fin 3 → Nat :=
  let v3232 : Index := Scalar.indexCast v5
  let c0_1820 : Index := 0#32
  let c7_1821 : Index := 7#32
  ![v3232.toNat, 0, 7]
def k0_off116 (v5 : BitVec 32) : Fin 3 → Nat :=
  let v3254 : Index := Scalar.indexCast v5
  let c1_1834 : Index := 1#32
  let c7_1835 : Index := 7#32
  ![v3254.toNat, 1, 7]
def k0_off117 (v5 : BitVec 32) : Fin 3 → Nat :=
  let v3276 : Index := Scalar.indexCast v5
  let c2_1848 : Index := 2#32
  let c7_1849 : Index := 7#32
  ![v3276.toNat, 2, 7]
def k0_off118 (v5 : BitVec 32) : Fin 3 → Nat :=
  let v3298 : Index := Scalar.indexCast v5
  let c3_1862 : Index := 3#32
  let c7_1863 : Index := 7#32
  ![v3298.toNat, 3, 7]
def k0_off119 (v5 : BitVec 32) : Fin 3 → Nat :=
  let v3320 : Index := Scalar.indexCast v5
  let c4_1876 : Index := 4#32
  let c7_1877 : Index := 7#32
  ![v3320.toNat, 4, 7]
def k0_off120 (v5 : BitVec 32) : Fin 3 → Nat :=
  let v3342 : Index := Scalar.indexCast v5
  let c5_1890 : Index := 5#32
  let c7_1891 : Index := 7#32
  ![v3342.toNat, 5, 7]
def k0_off121 (v5 : BitVec 32) : Fin 3 → Nat :=
  let v3364 : Index := Scalar.indexCast v5
  let c6_1904 : Index := 6#32
  let c7_1905 : Index := 7#32
  ![v3364.toNat, 6, 7]
def k0_off122 (v5 : BitVec 32) : Fin 3 → Nat :=
  let v3386 : Index := Scalar.indexCast v5
  let c7_1918 : Index := 7#32
  let c7_1919 : Index := 7#32
  ![v3386.toNat, 7, 7]
def k0_off123 (v5 : BitVec 32) : Fin 3 → Nat :=
  let v3408 : Index := Scalar.indexCast v5
  let c8_1932 : Index := 8#32
  let c7_1933 : Index := 7#32
  ![v3408.toNat, 8, 7]
def k0_off124 (v5 : BitVec 32) : Fin 3 → Nat :=
  let v3430 : Index := Scalar.indexCast v5
  let c9_1946 : Index := 9#32
  let c7_1947 : Index := 7#32
  ![v3430.toNat, 9, 7]
def k0_off125 (v5 : BitVec 32) : Fin 3 → Nat :=
  let v3452 : Index := Scalar.indexCast v5
  let c10_1960 : Index := 10#32
  let c7_1961 : Index := 7#32
  ![v3452.toNat, 10, 7]
def k0_off126 (v5 : BitVec 32) : Fin 3 → Nat :=
  let v3474 : Index := Scalar.indexCast v5
  let c11_1974 : Index := 11#32
  let c7_1975 : Index := 7#32
  ![v3474.toNat, 11, 7]
def k0_off127 (v5 : BitVec 32) : Fin 3 → Nat :=
  let v3496 : Index := Scalar.indexCast v5
  let c12_1988 : Index := 12#32
  let c7_1989 : Index := 7#32
  ![v3496.toNat, 12, 7]
def k0_off128 (v5 : BitVec 32) : Fin 3 → Nat :=
  let v3518 : Index := Scalar.indexCast v5
  let c13_2002 : Index := 13#32
  let c7_2003 : Index := 7#32
  ![v3518.toNat, 13, 7]
def k0_off129 (v5 : BitVec 32) : Fin 3 → Nat :=
  let v3540 : Index := Scalar.indexCast v5
  let c14_2016 : Index := 14#32
  let c7_2017 : Index := 7#32
  ![v3540.toNat, 14, 7]
def k0_off130 (v5 : BitVec 32) : Fin 3 → Nat :=
  let v3562 : Index := Scalar.indexCast v5
  let c15_2030 : Index := 15#32
  let c7_2031 : Index := 7#32
  ![v3562.toNat, 15, 7]
def k0_off131 (v5 : BitVec 32) : Fin 3 → Nat :=
  let v3597 : Index := Scalar.indexCast v5
  let c0_2053 : Index := 0#32
  let c8_2054 : Index := 8#32
  ![v3597.toNat, 0, 8]
def k0_off132 (v5 : BitVec 32) : Fin 3 → Nat :=
  let v3619 : Index := Scalar.indexCast v5
  let c1_2067 : Index := 1#32
  let c8_2068 : Index := 8#32
  ![v3619.toNat, 1, 8]
def k0_off133 (v5 : BitVec 32) : Fin 3 → Nat :=
  let v3641 : Index := Scalar.indexCast v5
  let c2_2081 : Index := 2#32
  let c8_2082 : Index := 8#32
  ![v3641.toNat, 2, 8]
def k0_off134 (v5 : BitVec 32) : Fin 3 → Nat :=
  let v3663 : Index := Scalar.indexCast v5
  let c3_2095 : Index := 3#32
  let c8_2096 : Index := 8#32
  ![v3663.toNat, 3, 8]
def k0_off135 (v5 : BitVec 32) : Fin 3 → Nat :=
  let v3685 : Index := Scalar.indexCast v5
  let c4_2109 : Index := 4#32
  let c8_2110 : Index := 8#32
  ![v3685.toNat, 4, 8]
def k0_off136 (v5 : BitVec 32) : Fin 3 → Nat :=
  let v3707 : Index := Scalar.indexCast v5
  let c5_2123 : Index := 5#32
  let c8_2124 : Index := 8#32
  ![v3707.toNat, 5, 8]
def k0_off137 (v5 : BitVec 32) : Fin 3 → Nat :=
  let v3729 : Index := Scalar.indexCast v5
  let c6_2137 : Index := 6#32
  let c8_2138 : Index := 8#32
  ![v3729.toNat, 6, 8]
def k0_off138 (v5 : BitVec 32) : Fin 3 → Nat :=
  let v3751 : Index := Scalar.indexCast v5
  let c7_2151 : Index := 7#32
  let c8_2152 : Index := 8#32
  ![v3751.toNat, 7, 8]
def k0_off139 (v5 : BitVec 32) : Fin 3 → Nat :=
  let v3773 : Index := Scalar.indexCast v5
  let c8_2165 : Index := 8#32
  let c8_2166 : Index := 8#32
  ![v3773.toNat, 8, 8]
def k0_off140 (v5 : BitVec 32) : Fin 3 → Nat :=
  let v3795 : Index := Scalar.indexCast v5
  let c9_2179 : Index := 9#32
  let c8_2180 : Index := 8#32
  ![v3795.toNat, 9, 8]
def k0_off141 (v5 : BitVec 32) : Fin 3 → Nat :=
  let v3817 : Index := Scalar.indexCast v5
  let c10_2193 : Index := 10#32
  let c8_2194 : Index := 8#32
  ![v3817.toNat, 10, 8]
def k0_off142 (v5 : BitVec 32) : Fin 3 → Nat :=
  let v3839 : Index := Scalar.indexCast v5
  let c11_2207 : Index := 11#32
  let c8_2208 : Index := 8#32
  ![v3839.toNat, 11, 8]
def k0_off143 (v5 : BitVec 32) : Fin 3 → Nat :=
  let v3861 : Index := Scalar.indexCast v5
  let c12_2221 : Index := 12#32
  let c8_2222 : Index := 8#32
  ![v3861.toNat, 12, 8]
def k0_off144 (v5 : BitVec 32) : Fin 3 → Nat :=
  let v3883 : Index := Scalar.indexCast v5
  let c13_2235 : Index := 13#32
  let c8_2236 : Index := 8#32
  ![v3883.toNat, 13, 8]
def k0_off145 (v5 : BitVec 32) : Fin 3 → Nat :=
  let v3905 : Index := Scalar.indexCast v5
  let c14_2249 : Index := 14#32
  let c8_2250 : Index := 8#32
  ![v3905.toNat, 14, 8]
def k0_off146 (v5 : BitVec 32) : Fin 3 → Nat :=
  let v3927 : Index := Scalar.indexCast v5
  let c15_2263 : Index := 15#32
  let c8_2264 : Index := 8#32
  ![v3927.toNat, 15, 8]
def k0_off147 (v5 : BitVec 32) : Fin 3 → Nat :=
  let v3962 : Index := Scalar.indexCast v5
  let c0_2286 : Index := 0#32
  let c9_2287 : Index := 9#32
  ![v3962.toNat, 0, 9]
def k0_off148 (v5 : BitVec 32) : Fin 3 → Nat :=
  let v3984 : Index := Scalar.indexCast v5
  let c1_2300 : Index := 1#32
  let c9_2301 : Index := 9#32
  ![v3984.toNat, 1, 9]
def k0_off149 (v5 : BitVec 32) : Fin 3 → Nat :=
  let v4006 : Index := Scalar.indexCast v5
  let c2_2314 : Index := 2#32
  let c9_2315 : Index := 9#32
  ![v4006.toNat, 2, 9]
def k0_off150 (v5 : BitVec 32) : Fin 3 → Nat :=
  let v4028 : Index := Scalar.indexCast v5
  let c3_2328 : Index := 3#32
  let c9_2329 : Index := 9#32
  ![v4028.toNat, 3, 9]
def k0_off151 (v5 : BitVec 32) : Fin 3 → Nat :=
  let v4050 : Index := Scalar.indexCast v5
  let c4_2342 : Index := 4#32
  let c9_2343 : Index := 9#32
  ![v4050.toNat, 4, 9]
def k0_off152 (v5 : BitVec 32) : Fin 3 → Nat :=
  let v4072 : Index := Scalar.indexCast v5
  let c5_2356 : Index := 5#32
  let c9_2357 : Index := 9#32
  ![v4072.toNat, 5, 9]
def k0_off153 (v5 : BitVec 32) : Fin 3 → Nat :=
  let v4094 : Index := Scalar.indexCast v5
  let c6_2370 : Index := 6#32
  let c9_2371 : Index := 9#32
  ![v4094.toNat, 6, 9]
def k0_off154 (v5 : BitVec 32) : Fin 3 → Nat :=
  let v4116 : Index := Scalar.indexCast v5
  let c7_2384 : Index := 7#32
  let c9_2385 : Index := 9#32
  ![v4116.toNat, 7, 9]
def k0_off155 (v5 : BitVec 32) : Fin 3 → Nat :=
  let v4138 : Index := Scalar.indexCast v5
  let c8_2398 : Index := 8#32
  let c9_2399 : Index := 9#32
  ![v4138.toNat, 8, 9]
def k0_off156 (v5 : BitVec 32) : Fin 3 → Nat :=
  let v4160 : Index := Scalar.indexCast v5
  let c9_2412 : Index := 9#32
  let c9_2413 : Index := 9#32
  ![v4160.toNat, 9, 9]
def k0_off157 (v5 : BitVec 32) : Fin 3 → Nat :=
  let v4182 : Index := Scalar.indexCast v5
  let c10_2426 : Index := 10#32
  let c9_2427 : Index := 9#32
  ![v4182.toNat, 10, 9]
def k0_off158 (v5 : BitVec 32) : Fin 3 → Nat :=
  let v4204 : Index := Scalar.indexCast v5
  let c11_2440 : Index := 11#32
  let c9_2441 : Index := 9#32
  ![v4204.toNat, 11, 9]
def k0_off159 (v5 : BitVec 32) : Fin 3 → Nat :=
  let v4226 : Index := Scalar.indexCast v5
  let c12_2454 : Index := 12#32
  let c9_2455 : Index := 9#32
  ![v4226.toNat, 12, 9]
def k0_off160 (v5 : BitVec 32) : Fin 3 → Nat :=
  let v4248 : Index := Scalar.indexCast v5
  let c13_2468 : Index := 13#32
  let c9_2469 : Index := 9#32
  ![v4248.toNat, 13, 9]
def k0_off161 (v5 : BitVec 32) : Fin 3 → Nat :=
  let v4270 : Index := Scalar.indexCast v5
  let c14_2482 : Index := 14#32
  let c9_2483 : Index := 9#32
  ![v4270.toNat, 14, 9]
def k0_off162 (v5 : BitVec 32) : Fin 3 → Nat :=
  let v4292 : Index := Scalar.indexCast v5
  let c15_2496 : Index := 15#32
  let c9_2497 : Index := 9#32
  ![v4292.toNat, 15, 9]
def k0_off163 (v5 : BitVec 32) : Fin 3 → Nat :=
  let v4327 : Index := Scalar.indexCast v5
  let c0_2519 : Index := 0#32
  let c10_2520 : Index := 10#32
  ![v4327.toNat, 0, 10]
def k0_off164 (v5 : BitVec 32) : Fin 3 → Nat :=
  let v4349 : Index := Scalar.indexCast v5
  let c1_2533 : Index := 1#32
  let c10_2534 : Index := 10#32
  ![v4349.toNat, 1, 10]
def k0_off165 (v5 : BitVec 32) : Fin 3 → Nat :=
  let v4371 : Index := Scalar.indexCast v5
  let c2_2547 : Index := 2#32
  let c10_2548 : Index := 10#32
  ![v4371.toNat, 2, 10]
def k0_off166 (v5 : BitVec 32) : Fin 3 → Nat :=
  let v4393 : Index := Scalar.indexCast v5
  let c3_2561 : Index := 3#32
  let c10_2562 : Index := 10#32
  ![v4393.toNat, 3, 10]
def k0_off167 (v5 : BitVec 32) : Fin 3 → Nat :=
  let v4415 : Index := Scalar.indexCast v5
  let c4_2575 : Index := 4#32
  let c10_2576 : Index := 10#32
  ![v4415.toNat, 4, 10]
def k0_off168 (v5 : BitVec 32) : Fin 3 → Nat :=
  let v4437 : Index := Scalar.indexCast v5
  let c5_2589 : Index := 5#32
  let c10_2590 : Index := 10#32
  ![v4437.toNat, 5, 10]
def k0_off169 (v5 : BitVec 32) : Fin 3 → Nat :=
  let v4459 : Index := Scalar.indexCast v5
  let c6_2603 : Index := 6#32
  let c10_2604 : Index := 10#32
  ![v4459.toNat, 6, 10]
def k0_off170 (v5 : BitVec 32) : Fin 3 → Nat :=
  let v4481 : Index := Scalar.indexCast v5
  let c7_2617 : Index := 7#32
  let c10_2618 : Index := 10#32
  ![v4481.toNat, 7, 10]
def k0_off171 (v5 : BitVec 32) : Fin 3 → Nat :=
  let v4503 : Index := Scalar.indexCast v5
  let c8_2631 : Index := 8#32
  let c10_2632 : Index := 10#32
  ![v4503.toNat, 8, 10]
def k0_off172 (v5 : BitVec 32) : Fin 3 → Nat :=
  let v4525 : Index := Scalar.indexCast v5
  let c9_2645 : Index := 9#32
  let c10_2646 : Index := 10#32
  ![v4525.toNat, 9, 10]
def k0_off173 (v5 : BitVec 32) : Fin 3 → Nat :=
  let v4547 : Index := Scalar.indexCast v5
  let c10_2659 : Index := 10#32
  let c10_2660 : Index := 10#32
  ![v4547.toNat, 10, 10]
def k0_off174 (v5 : BitVec 32) : Fin 3 → Nat :=
  let v4569 : Index := Scalar.indexCast v5
  let c11_2673 : Index := 11#32
  let c10_2674 : Index := 10#32
  ![v4569.toNat, 11, 10]
def k0_off175 (v5 : BitVec 32) : Fin 3 → Nat :=
  let v4591 : Index := Scalar.indexCast v5
  let c12_2687 : Index := 12#32
  let c10_2688 : Index := 10#32
  ![v4591.toNat, 12, 10]
def k0_off176 (v5 : BitVec 32) : Fin 3 → Nat :=
  let v4613 : Index := Scalar.indexCast v5
  let c13_2701 : Index := 13#32
  let c10_2702 : Index := 10#32
  ![v4613.toNat, 13, 10]
def k0_off177 (v5 : BitVec 32) : Fin 3 → Nat :=
  let v4635 : Index := Scalar.indexCast v5
  let c14_2715 : Index := 14#32
  let c10_2716 : Index := 10#32
  ![v4635.toNat, 14, 10]
def k0_off178 (v5 : BitVec 32) : Fin 3 → Nat :=
  let v4657 : Index := Scalar.indexCast v5
  let c15_2729 : Index := 15#32
  let c10_2730 : Index := 10#32
  ![v4657.toNat, 15, 10]

def k0_chk1_0 (i : grid0.Coords) (v0 : BitVec 32) (v5 : BitVec 32) : Prop :=
  (∀ (k0_h1 : k0_cond1 i v0 = 1#1), ∀ a, (k0_off3 v5) a + S1x1x1.size a ≤ S32x16x11.size a) ∧
  (∀ (k0_h1 : k0_cond1 i v0 = 1#1), ∀ a, (k0_off4 v5) a + S1x1x1.size a ≤ S32x16x11.size a) ∧
  (∀ (k0_h1 : k0_cond1 i v0 = 1#1), ∀ a, (k0_off5 v5) a + S1x1x1.size a ≤ S32x16x11.size a) ∧
  (∀ (k0_h1 : k0_cond1 i v0 = 1#1), ∀ a, (k0_off6 v5) a + S1x1x1.size a ≤ S32x16x11.size a) ∧
  (∀ (k0_h1 : k0_cond1 i v0 = 1#1), ∀ a, (k0_off7 v5) a + S1x1x1.size a ≤ S32x16x11.size a) ∧
  (∀ (k0_h1 : k0_cond1 i v0 = 1#1), ∀ a, (k0_off8 v5) a + S1x1x1.size a ≤ S32x16x11.size a) ∧
  (∀ (k0_h1 : k0_cond1 i v0 = 1#1), ∀ a, (k0_off9 v5) a + S1x1x1.size a ≤ S32x16x11.size a) ∧
  (∀ (k0_h1 : k0_cond1 i v0 = 1#1), ∀ a, (k0_off10 v5) a + S1x1x1.size a ≤ S32x16x11.size a) ∧
  (∀ (k0_h1 : k0_cond1 i v0 = 1#1), ∀ a, (k0_off11 v5) a + S1x1x1.size a ≤ S32x16x11.size a) ∧
  (∀ (k0_h1 : k0_cond1 i v0 = 1#1), ∀ a, (k0_off12 v5) a + S1x1x1.size a ≤ S32x16x11.size a) ∧
  (∀ (k0_h1 : k0_cond1 i v0 = 1#1), ∀ a, (k0_off13 v5) a + S1x1x1.size a ≤ S32x16x11.size a) ∧
  (∀ (k0_h1 : k0_cond1 i v0 = 1#1), ∀ a, (k0_off14 v5) a + S1x1x1.size a ≤ S32x16x11.size a) ∧
  (∀ (k0_h1 : k0_cond1 i v0 = 1#1), ∀ a, (k0_off15 v5) a + S1x1x1.size a ≤ S32x16x11.size a) ∧
  (∀ (k0_h1 : k0_cond1 i v0 = 1#1), ∀ a, (k0_off16 v5) a + S1x1x1.size a ≤ S32x16x11.size a) ∧
  (∀ (k0_h1 : k0_cond1 i v0 = 1#1), ∀ a, (k0_off17 v5) a + S1x1x1.size a ≤ S32x16x11.size a) ∧
  (∀ (k0_h1 : k0_cond1 i v0 = 1#1), ∀ a, (k0_off18 v5) a + S1x1x1.size a ≤ S32x16x11.size a) ∧
  (∀ (k0_h1 : k0_cond1 i v0 = 1#1), ∀ a, (k0_off19 v5) a + S1x1x1.size a ≤ S32x16x11.size a) ∧
  (∀ (k0_h1 : k0_cond1 i v0 = 1#1), ∀ a, (k0_off20 v5) a + S1x1x1.size a ≤ S32x16x11.size a) ∧
  (∀ (k0_h1 : k0_cond1 i v0 = 1#1), ∀ a, (k0_off21 v5) a + S1x1x1.size a ≤ S32x16x11.size a) ∧
  (∀ (k0_h1 : k0_cond1 i v0 = 1#1), ∀ a, (k0_off22 v5) a + S1x1x1.size a ≤ S32x16x11.size a) ∧
  (∀ (k0_h1 : k0_cond1 i v0 = 1#1), ∀ a, (k0_off23 v5) a + S1x1x1.size a ≤ S32x16x11.size a) ∧
  (∀ (k0_h1 : k0_cond1 i v0 = 1#1), ∀ a, (k0_off24 v5) a + S1x1x1.size a ≤ S32x16x11.size a) ∧
  (∀ (k0_h1 : k0_cond1 i v0 = 1#1), ∀ a, (k0_off25 v5) a + S1x1x1.size a ≤ S32x16x11.size a) ∧
  (∀ (k0_h1 : k0_cond1 i v0 = 1#1), ∀ a, (k0_off26 v5) a + S1x1x1.size a ≤ S32x16x11.size a) ∧
  (∀ (k0_h1 : k0_cond1 i v0 = 1#1), ∀ a, (k0_off27 v5) a + S1x1x1.size a ≤ S32x16x11.size a) ∧
  (∀ (k0_h1 : k0_cond1 i v0 = 1#1), ∀ a, (k0_off28 v5) a + S1x1x1.size a ≤ S32x16x11.size a) ∧
  (∀ (k0_h1 : k0_cond1 i v0 = 1#1), ∀ a, (k0_off29 v5) a + S1x1x1.size a ≤ S32x16x11.size a) ∧
  (∀ (k0_h1 : k0_cond1 i v0 = 1#1), ∀ a, (k0_off30 v5) a + S1x1x1.size a ≤ S32x16x11.size a) ∧
  (∀ (k0_h1 : k0_cond1 i v0 = 1#1), ∀ a, (k0_off31 v5) a + S1x1x1.size a ≤ S32x16x11.size a) ∧
  (∀ (k0_h1 : k0_cond1 i v0 = 1#1), ∀ a, (k0_off32 v5) a + S1x1x1.size a ≤ S32x16x11.size a) ∧
  (∀ (k0_h1 : k0_cond1 i v0 = 1#1), ∀ a, (k0_off33 v5) a + S1x1x1.size a ≤ S32x16x11.size a) ∧
  (∀ (k0_h1 : k0_cond1 i v0 = 1#1), ∀ a, (k0_off34 v5) a + S1x1x1.size a ≤ S32x16x11.size a)
def k0_chk1_1 (i : grid0.Coords) (v0 : BitVec 32) (v5 : BitVec 32) : Prop :=
  (∀ (k0_h1 : k0_cond1 i v0 = 1#1), ∀ a, (k0_off35 v5) a + S1x1x1.size a ≤ S32x16x11.size a) ∧
  (∀ (k0_h1 : k0_cond1 i v0 = 1#1), ∀ a, (k0_off36 v5) a + S1x1x1.size a ≤ S32x16x11.size a) ∧
  (∀ (k0_h1 : k0_cond1 i v0 = 1#1), ∀ a, (k0_off37 v5) a + S1x1x1.size a ≤ S32x16x11.size a) ∧
  (∀ (k0_h1 : k0_cond1 i v0 = 1#1), ∀ a, (k0_off38 v5) a + S1x1x1.size a ≤ S32x16x11.size a) ∧
  (∀ (k0_h1 : k0_cond1 i v0 = 1#1), ∀ a, (k0_off39 v5) a + S1x1x1.size a ≤ S32x16x11.size a) ∧
  (∀ (k0_h1 : k0_cond1 i v0 = 1#1), ∀ a, (k0_off40 v5) a + S1x1x1.size a ≤ S32x16x11.size a) ∧
  (∀ (k0_h1 : k0_cond1 i v0 = 1#1), ∀ a, (k0_off41 v5) a + S1x1x1.size a ≤ S32x16x11.size a) ∧
  (∀ (k0_h1 : k0_cond1 i v0 = 1#1), ∀ a, (k0_off42 v5) a + S1x1x1.size a ≤ S32x16x11.size a) ∧
  (∀ (k0_h1 : k0_cond1 i v0 = 1#1), ∀ a, (k0_off43 v5) a + S1x1x1.size a ≤ S32x16x11.size a) ∧
  (∀ (k0_h1 : k0_cond1 i v0 = 1#1), ∀ a, (k0_off44 v5) a + S1x1x1.size a ≤ S32x16x11.size a) ∧
  (∀ (k0_h1 : k0_cond1 i v0 = 1#1), ∀ a, (k0_off45 v5) a + S1x1x1.size a ≤ S32x16x11.size a) ∧
  (∀ (k0_h1 : k0_cond1 i v0 = 1#1), ∀ a, (k0_off46 v5) a + S1x1x1.size a ≤ S32x16x11.size a) ∧
  (∀ (k0_h1 : k0_cond1 i v0 = 1#1), ∀ a, (k0_off47 v5) a + S1x1x1.size a ≤ S32x16x11.size a) ∧
  (∀ (k0_h1 : k0_cond1 i v0 = 1#1), ∀ a, (k0_off48 v5) a + S1x1x1.size a ≤ S32x16x11.size a) ∧
  (∀ (k0_h1 : k0_cond1 i v0 = 1#1), ∀ a, (k0_off49 v5) a + S1x1x1.size a ≤ S32x16x11.size a) ∧
  (∀ (k0_h1 : k0_cond1 i v0 = 1#1), ∀ a, (k0_off50 v5) a + S1x1x1.size a ≤ S32x16x11.size a) ∧
  (∀ (k0_h1 : k0_cond1 i v0 = 1#1), ∀ a, (k0_off51 v5) a + S1x1x1.size a ≤ S32x16x11.size a) ∧
  (∀ (k0_h1 : k0_cond1 i v0 = 1#1), ∀ a, (k0_off52 v5) a + S1x1x1.size a ≤ S32x16x11.size a) ∧
  (∀ (k0_h1 : k0_cond1 i v0 = 1#1), ∀ a, (k0_off53 v5) a + S1x1x1.size a ≤ S32x16x11.size a) ∧
  (∀ (k0_h1 : k0_cond1 i v0 = 1#1), ∀ a, (k0_off54 v5) a + S1x1x1.size a ≤ S32x16x11.size a) ∧
  (∀ (k0_h1 : k0_cond1 i v0 = 1#1), ∀ a, (k0_off55 v5) a + S1x1x1.size a ≤ S32x16x11.size a) ∧
  (∀ (k0_h1 : k0_cond1 i v0 = 1#1), ∀ a, (k0_off56 v5) a + S1x1x1.size a ≤ S32x16x11.size a) ∧
  (∀ (k0_h1 : k0_cond1 i v0 = 1#1), ∀ a, (k0_off57 v5) a + S1x1x1.size a ≤ S32x16x11.size a) ∧
  (∀ (k0_h1 : k0_cond1 i v0 = 1#1), ∀ a, (k0_off58 v5) a + S1x1x1.size a ≤ S32x16x11.size a) ∧
  (∀ (k0_h1 : k0_cond1 i v0 = 1#1), ∀ a, (k0_off59 v5) a + S1x1x1.size a ≤ S32x16x11.size a) ∧
  (∀ (k0_h1 : k0_cond1 i v0 = 1#1), ∀ a, (k0_off60 v5) a + S1x1x1.size a ≤ S32x16x11.size a) ∧
  (∀ (k0_h1 : k0_cond1 i v0 = 1#1), ∀ a, (k0_off61 v5) a + S1x1x1.size a ≤ S32x16x11.size a) ∧
  (∀ (k0_h1 : k0_cond1 i v0 = 1#1), ∀ a, (k0_off62 v5) a + S1x1x1.size a ≤ S32x16x11.size a) ∧
  (∀ (k0_h1 : k0_cond1 i v0 = 1#1), ∀ a, (k0_off63 v5) a + S1x1x1.size a ≤ S32x16x11.size a) ∧
  (∀ (k0_h1 : k0_cond1 i v0 = 1#1), ∀ a, (k0_off64 v5) a + S1x1x1.size a ≤ S32x16x11.size a) ∧
  (∀ (k0_h1 : k0_cond1 i v0 = 1#1), ∀ a, (k0_off65 v5) a + S1x1x1.size a ≤ S32x16x11.size a) ∧
  (∀ (k0_h1 : k0_cond1 i v0 = 1#1), ∀ a, (k0_off66 v5) a + S1x1x1.size a ≤ S32x16x11.size a)
def k0_chk1_2 (i : grid0.Coords) (v0 : BitVec 32) (v5 : BitVec 32) : Prop :=
  (∀ (k0_h1 : k0_cond1 i v0 = 1#1), ∀ a, (k0_off67 v5) a + S1x1x1.size a ≤ S32x16x11.size a) ∧
  (∀ (k0_h1 : k0_cond1 i v0 = 1#1), ∀ a, (k0_off68 v5) a + S1x1x1.size a ≤ S32x16x11.size a) ∧
  (∀ (k0_h1 : k0_cond1 i v0 = 1#1), ∀ a, (k0_off69 v5) a + S1x1x1.size a ≤ S32x16x11.size a) ∧
  (∀ (k0_h1 : k0_cond1 i v0 = 1#1), ∀ a, (k0_off70 v5) a + S1x1x1.size a ≤ S32x16x11.size a) ∧
  (∀ (k0_h1 : k0_cond1 i v0 = 1#1), ∀ a, (k0_off71 v5) a + S1x1x1.size a ≤ S32x16x11.size a) ∧
  (∀ (k0_h1 : k0_cond1 i v0 = 1#1), ∀ a, (k0_off72 v5) a + S1x1x1.size a ≤ S32x16x11.size a) ∧
  (∀ (k0_h1 : k0_cond1 i v0 = 1#1), ∀ a, (k0_off73 v5) a + S1x1x1.size a ≤ S32x16x11.size a) ∧
  (∀ (k0_h1 : k0_cond1 i v0 = 1#1), ∀ a, (k0_off74 v5) a + S1x1x1.size a ≤ S32x16x11.size a) ∧
  (∀ (k0_h1 : k0_cond1 i v0 = 1#1), ∀ a, (k0_off75 v5) a + S1x1x1.size a ≤ S32x16x11.size a) ∧
  (∀ (k0_h1 : k0_cond1 i v0 = 1#1), ∀ a, (k0_off76 v5) a + S1x1x1.size a ≤ S32x16x11.size a) ∧
  (∀ (k0_h1 : k0_cond1 i v0 = 1#1), ∀ a, (k0_off77 v5) a + S1x1x1.size a ≤ S32x16x11.size a) ∧
  (∀ (k0_h1 : k0_cond1 i v0 = 1#1), ∀ a, (k0_off78 v5) a + S1x1x1.size a ≤ S32x16x11.size a) ∧
  (∀ (k0_h1 : k0_cond1 i v0 = 1#1), ∀ a, (k0_off79 v5) a + S1x1x1.size a ≤ S32x16x11.size a) ∧
  (∀ (k0_h1 : k0_cond1 i v0 = 1#1), ∀ a, (k0_off80 v5) a + S1x1x1.size a ≤ S32x16x11.size a) ∧
  (∀ (k0_h1 : k0_cond1 i v0 = 1#1), ∀ a, (k0_off81 v5) a + S1x1x1.size a ≤ S32x16x11.size a) ∧
  (∀ (k0_h1 : k0_cond1 i v0 = 1#1), ∀ a, (k0_off82 v5) a + S1x1x1.size a ≤ S32x16x11.size a) ∧
  (∀ (k0_h1 : k0_cond1 i v0 = 1#1), ∀ a, (k0_off83 v5) a + S1x1x1.size a ≤ S32x16x11.size a) ∧
  (∀ (k0_h1 : k0_cond1 i v0 = 1#1), ∀ a, (k0_off84 v5) a + S1x1x1.size a ≤ S32x16x11.size a) ∧
  (∀ (k0_h1 : k0_cond1 i v0 = 1#1), ∀ a, (k0_off85 v5) a + S1x1x1.size a ≤ S32x16x11.size a) ∧
  (∀ (k0_h1 : k0_cond1 i v0 = 1#1), ∀ a, (k0_off86 v5) a + S1x1x1.size a ≤ S32x16x11.size a) ∧
  (∀ (k0_h1 : k0_cond1 i v0 = 1#1), ∀ a, (k0_off87 v5) a + S1x1x1.size a ≤ S32x16x11.size a) ∧
  (∀ (k0_h1 : k0_cond1 i v0 = 1#1), ∀ a, (k0_off88 v5) a + S1x1x1.size a ≤ S32x16x11.size a) ∧
  (∀ (k0_h1 : k0_cond1 i v0 = 1#1), ∀ a, (k0_off89 v5) a + S1x1x1.size a ≤ S32x16x11.size a) ∧
  (∀ (k0_h1 : k0_cond1 i v0 = 1#1), ∀ a, (k0_off90 v5) a + S1x1x1.size a ≤ S32x16x11.size a) ∧
  (∀ (k0_h1 : k0_cond1 i v0 = 1#1), ∀ a, (k0_off91 v5) a + S1x1x1.size a ≤ S32x16x11.size a) ∧
  (∀ (k0_h1 : k0_cond1 i v0 = 1#1), ∀ a, (k0_off92 v5) a + S1x1x1.size a ≤ S32x16x11.size a) ∧
  (∀ (k0_h1 : k0_cond1 i v0 = 1#1), ∀ a, (k0_off93 v5) a + S1x1x1.size a ≤ S32x16x11.size a) ∧
  (∀ (k0_h1 : k0_cond1 i v0 = 1#1), ∀ a, (k0_off94 v5) a + S1x1x1.size a ≤ S32x16x11.size a) ∧
  (∀ (k0_h1 : k0_cond1 i v0 = 1#1), ∀ a, (k0_off95 v5) a + S1x1x1.size a ≤ S32x16x11.size a) ∧
  (∀ (k0_h1 : k0_cond1 i v0 = 1#1), ∀ a, (k0_off96 v5) a + S1x1x1.size a ≤ S32x16x11.size a) ∧
  (∀ (k0_h1 : k0_cond1 i v0 = 1#1), ∀ a, (k0_off97 v5) a + S1x1x1.size a ≤ S32x16x11.size a) ∧
  (∀ (k0_h1 : k0_cond1 i v0 = 1#1), ∀ a, (k0_off98 v5) a + S1x1x1.size a ≤ S32x16x11.size a)
def k0_chk1_3 (i : grid0.Coords) (v0 : BitVec 32) (v5 : BitVec 32) : Prop :=
  (∀ (k0_h1 : k0_cond1 i v0 = 1#1), ∀ a, (k0_off99 v5) a + S1x1x1.size a ≤ S32x16x11.size a) ∧
  (∀ (k0_h1 : k0_cond1 i v0 = 1#1), ∀ a, (k0_off100 v5) a + S1x1x1.size a ≤ S32x16x11.size a) ∧
  (∀ (k0_h1 : k0_cond1 i v0 = 1#1), ∀ a, (k0_off101 v5) a + S1x1x1.size a ≤ S32x16x11.size a) ∧
  (∀ (k0_h1 : k0_cond1 i v0 = 1#1), ∀ a, (k0_off102 v5) a + S1x1x1.size a ≤ S32x16x11.size a) ∧
  (∀ (k0_h1 : k0_cond1 i v0 = 1#1), ∀ a, (k0_off103 v5) a + S1x1x1.size a ≤ S32x16x11.size a) ∧
  (∀ (k0_h1 : k0_cond1 i v0 = 1#1), ∀ a, (k0_off104 v5) a + S1x1x1.size a ≤ S32x16x11.size a) ∧
  (∀ (k0_h1 : k0_cond1 i v0 = 1#1), ∀ a, (k0_off105 v5) a + S1x1x1.size a ≤ S32x16x11.size a) ∧
  (∀ (k0_h1 : k0_cond1 i v0 = 1#1), ∀ a, (k0_off106 v5) a + S1x1x1.size a ≤ S32x16x11.size a) ∧
  (∀ (k0_h1 : k0_cond1 i v0 = 1#1), ∀ a, (k0_off107 v5) a + S1x1x1.size a ≤ S32x16x11.size a) ∧
  (∀ (k0_h1 : k0_cond1 i v0 = 1#1), ∀ a, (k0_off108 v5) a + S1x1x1.size a ≤ S32x16x11.size a) ∧
  (∀ (k0_h1 : k0_cond1 i v0 = 1#1), ∀ a, (k0_off109 v5) a + S1x1x1.size a ≤ S32x16x11.size a) ∧
  (∀ (k0_h1 : k0_cond1 i v0 = 1#1), ∀ a, (k0_off110 v5) a + S1x1x1.size a ≤ S32x16x11.size a) ∧
  (∀ (k0_h1 : k0_cond1 i v0 = 1#1), ∀ a, (k0_off111 v5) a + S1x1x1.size a ≤ S32x16x11.size a) ∧
  (∀ (k0_h1 : k0_cond1 i v0 = 1#1), ∀ a, (k0_off112 v5) a + S1x1x1.size a ≤ S32x16x11.size a) ∧
  (∀ (k0_h1 : k0_cond1 i v0 = 1#1), ∀ a, (k0_off113 v5) a + S1x1x1.size a ≤ S32x16x11.size a) ∧
  (∀ (k0_h1 : k0_cond1 i v0 = 1#1), ∀ a, (k0_off114 v5) a + S1x1x1.size a ≤ S32x16x11.size a) ∧
  (∀ (k0_h1 : k0_cond1 i v0 = 1#1), ∀ a, (k0_off115 v5) a + S1x1x1.size a ≤ S32x16x11.size a) ∧
  (∀ (k0_h1 : k0_cond1 i v0 = 1#1), ∀ a, (k0_off116 v5) a + S1x1x1.size a ≤ S32x16x11.size a) ∧
  (∀ (k0_h1 : k0_cond1 i v0 = 1#1), ∀ a, (k0_off117 v5) a + S1x1x1.size a ≤ S32x16x11.size a) ∧
  (∀ (k0_h1 : k0_cond1 i v0 = 1#1), ∀ a, (k0_off118 v5) a + S1x1x1.size a ≤ S32x16x11.size a) ∧
  (∀ (k0_h1 : k0_cond1 i v0 = 1#1), ∀ a, (k0_off119 v5) a + S1x1x1.size a ≤ S32x16x11.size a) ∧
  (∀ (k0_h1 : k0_cond1 i v0 = 1#1), ∀ a, (k0_off120 v5) a + S1x1x1.size a ≤ S32x16x11.size a) ∧
  (∀ (k0_h1 : k0_cond1 i v0 = 1#1), ∀ a, (k0_off121 v5) a + S1x1x1.size a ≤ S32x16x11.size a) ∧
  (∀ (k0_h1 : k0_cond1 i v0 = 1#1), ∀ a, (k0_off122 v5) a + S1x1x1.size a ≤ S32x16x11.size a) ∧
  (∀ (k0_h1 : k0_cond1 i v0 = 1#1), ∀ a, (k0_off123 v5) a + S1x1x1.size a ≤ S32x16x11.size a) ∧
  (∀ (k0_h1 : k0_cond1 i v0 = 1#1), ∀ a, (k0_off124 v5) a + S1x1x1.size a ≤ S32x16x11.size a) ∧
  (∀ (k0_h1 : k0_cond1 i v0 = 1#1), ∀ a, (k0_off125 v5) a + S1x1x1.size a ≤ S32x16x11.size a) ∧
  (∀ (k0_h1 : k0_cond1 i v0 = 1#1), ∀ a, (k0_off126 v5) a + S1x1x1.size a ≤ S32x16x11.size a) ∧
  (∀ (k0_h1 : k0_cond1 i v0 = 1#1), ∀ a, (k0_off127 v5) a + S1x1x1.size a ≤ S32x16x11.size a) ∧
  (∀ (k0_h1 : k0_cond1 i v0 = 1#1), ∀ a, (k0_off128 v5) a + S1x1x1.size a ≤ S32x16x11.size a) ∧
  (∀ (k0_h1 : k0_cond1 i v0 = 1#1), ∀ a, (k0_off129 v5) a + S1x1x1.size a ≤ S32x16x11.size a) ∧
  (∀ (k0_h1 : k0_cond1 i v0 = 1#1), ∀ a, (k0_off130 v5) a + S1x1x1.size a ≤ S32x16x11.size a)
def k0_chk1_4 (i : grid0.Coords) (v0 : BitVec 32) (v5 : BitVec 32) : Prop :=
  (∀ (k0_h1 : k0_cond1 i v0 = 1#1), ∀ a, (k0_off131 v5) a + S1x1x1.size a ≤ S32x16x11.size a) ∧
  (∀ (k0_h1 : k0_cond1 i v0 = 1#1), ∀ a, (k0_off132 v5) a + S1x1x1.size a ≤ S32x16x11.size a) ∧
  (∀ (k0_h1 : k0_cond1 i v0 = 1#1), ∀ a, (k0_off133 v5) a + S1x1x1.size a ≤ S32x16x11.size a) ∧
  (∀ (k0_h1 : k0_cond1 i v0 = 1#1), ∀ a, (k0_off134 v5) a + S1x1x1.size a ≤ S32x16x11.size a) ∧
  (∀ (k0_h1 : k0_cond1 i v0 = 1#1), ∀ a, (k0_off135 v5) a + S1x1x1.size a ≤ S32x16x11.size a) ∧
  (∀ (k0_h1 : k0_cond1 i v0 = 1#1), ∀ a, (k0_off136 v5) a + S1x1x1.size a ≤ S32x16x11.size a) ∧
  (∀ (k0_h1 : k0_cond1 i v0 = 1#1), ∀ a, (k0_off137 v5) a + S1x1x1.size a ≤ S32x16x11.size a) ∧
  (∀ (k0_h1 : k0_cond1 i v0 = 1#1), ∀ a, (k0_off138 v5) a + S1x1x1.size a ≤ S32x16x11.size a) ∧
  (∀ (k0_h1 : k0_cond1 i v0 = 1#1), ∀ a, (k0_off139 v5) a + S1x1x1.size a ≤ S32x16x11.size a) ∧
  (∀ (k0_h1 : k0_cond1 i v0 = 1#1), ∀ a, (k0_off140 v5) a + S1x1x1.size a ≤ S32x16x11.size a) ∧
  (∀ (k0_h1 : k0_cond1 i v0 = 1#1), ∀ a, (k0_off141 v5) a + S1x1x1.size a ≤ S32x16x11.size a) ∧
  (∀ (k0_h1 : k0_cond1 i v0 = 1#1), ∀ a, (k0_off142 v5) a + S1x1x1.size a ≤ S32x16x11.size a) ∧
  (∀ (k0_h1 : k0_cond1 i v0 = 1#1), ∀ a, (k0_off143 v5) a + S1x1x1.size a ≤ S32x16x11.size a) ∧
  (∀ (k0_h1 : k0_cond1 i v0 = 1#1), ∀ a, (k0_off144 v5) a + S1x1x1.size a ≤ S32x16x11.size a) ∧
  (∀ (k0_h1 : k0_cond1 i v0 = 1#1), ∀ a, (k0_off145 v5) a + S1x1x1.size a ≤ S32x16x11.size a) ∧
  (∀ (k0_h1 : k0_cond1 i v0 = 1#1), ∀ a, (k0_off146 v5) a + S1x1x1.size a ≤ S32x16x11.size a) ∧
  (∀ (k0_h1 : k0_cond1 i v0 = 1#1), ∀ a, (k0_off147 v5) a + S1x1x1.size a ≤ S32x16x11.size a) ∧
  (∀ (k0_h1 : k0_cond1 i v0 = 1#1), ∀ a, (k0_off148 v5) a + S1x1x1.size a ≤ S32x16x11.size a) ∧
  (∀ (k0_h1 : k0_cond1 i v0 = 1#1), ∀ a, (k0_off149 v5) a + S1x1x1.size a ≤ S32x16x11.size a) ∧
  (∀ (k0_h1 : k0_cond1 i v0 = 1#1), ∀ a, (k0_off150 v5) a + S1x1x1.size a ≤ S32x16x11.size a) ∧
  (∀ (k0_h1 : k0_cond1 i v0 = 1#1), ∀ a, (k0_off151 v5) a + S1x1x1.size a ≤ S32x16x11.size a) ∧
  (∀ (k0_h1 : k0_cond1 i v0 = 1#1), ∀ a, (k0_off152 v5) a + S1x1x1.size a ≤ S32x16x11.size a) ∧
  (∀ (k0_h1 : k0_cond1 i v0 = 1#1), ∀ a, (k0_off153 v5) a + S1x1x1.size a ≤ S32x16x11.size a) ∧
  (∀ (k0_h1 : k0_cond1 i v0 = 1#1), ∀ a, (k0_off154 v5) a + S1x1x1.size a ≤ S32x16x11.size a) ∧
  (∀ (k0_h1 : k0_cond1 i v0 = 1#1), ∀ a, (k0_off155 v5) a + S1x1x1.size a ≤ S32x16x11.size a) ∧
  (∀ (k0_h1 : k0_cond1 i v0 = 1#1), ∀ a, (k0_off156 v5) a + S1x1x1.size a ≤ S32x16x11.size a) ∧
  (∀ (k0_h1 : k0_cond1 i v0 = 1#1), ∀ a, (k0_off157 v5) a + S1x1x1.size a ≤ S32x16x11.size a) ∧
  (∀ (k0_h1 : k0_cond1 i v0 = 1#1), ∀ a, (k0_off158 v5) a + S1x1x1.size a ≤ S32x16x11.size a) ∧
  (∀ (k0_h1 : k0_cond1 i v0 = 1#1), ∀ a, (k0_off159 v5) a + S1x1x1.size a ≤ S32x16x11.size a) ∧
  (∀ (k0_h1 : k0_cond1 i v0 = 1#1), ∀ a, (k0_off160 v5) a + S1x1x1.size a ≤ S32x16x11.size a) ∧
  (∀ (k0_h1 : k0_cond1 i v0 = 1#1), ∀ a, (k0_off161 v5) a + S1x1x1.size a ≤ S32x16x11.size a) ∧
  (∀ (k0_h1 : k0_cond1 i v0 = 1#1), ∀ a, (k0_off162 v5) a + S1x1x1.size a ≤ S32x16x11.size a)
def k0_chk1_5 (i : grid0.Coords) (v0 : BitVec 32) (v5 : BitVec 32) : Prop :=
  (∀ (k0_h1 : k0_cond1 i v0 = 1#1), ∀ a, (k0_off163 v5) a + S1x1x1.size a ≤ S32x16x11.size a) ∧
  (∀ (k0_h1 : k0_cond1 i v0 = 1#1), ∀ a, (k0_off164 v5) a + S1x1x1.size a ≤ S32x16x11.size a) ∧
  (∀ (k0_h1 : k0_cond1 i v0 = 1#1), ∀ a, (k0_off165 v5) a + S1x1x1.size a ≤ S32x16x11.size a) ∧
  (∀ (k0_h1 : k0_cond1 i v0 = 1#1), ∀ a, (k0_off166 v5) a + S1x1x1.size a ≤ S32x16x11.size a) ∧
  (∀ (k0_h1 : k0_cond1 i v0 = 1#1), ∀ a, (k0_off167 v5) a + S1x1x1.size a ≤ S32x16x11.size a) ∧
  (∀ (k0_h1 : k0_cond1 i v0 = 1#1), ∀ a, (k0_off168 v5) a + S1x1x1.size a ≤ S32x16x11.size a) ∧
  (∀ (k0_h1 : k0_cond1 i v0 = 1#1), ∀ a, (k0_off169 v5) a + S1x1x1.size a ≤ S32x16x11.size a) ∧
  (∀ (k0_h1 : k0_cond1 i v0 = 1#1), ∀ a, (k0_off170 v5) a + S1x1x1.size a ≤ S32x16x11.size a) ∧
  (∀ (k0_h1 : k0_cond1 i v0 = 1#1), ∀ a, (k0_off171 v5) a + S1x1x1.size a ≤ S32x16x11.size a) ∧
  (∀ (k0_h1 : k0_cond1 i v0 = 1#1), ∀ a, (k0_off172 v5) a + S1x1x1.size a ≤ S32x16x11.size a) ∧
  (∀ (k0_h1 : k0_cond1 i v0 = 1#1), ∀ a, (k0_off173 v5) a + S1x1x1.size a ≤ S32x16x11.size a) ∧
  (∀ (k0_h1 : k0_cond1 i v0 = 1#1), ∀ a, (k0_off174 v5) a + S1x1x1.size a ≤ S32x16x11.size a) ∧
  (∀ (k0_h1 : k0_cond1 i v0 = 1#1), ∀ a, (k0_off175 v5) a + S1x1x1.size a ≤ S32x16x11.size a) ∧
  (∀ (k0_h1 : k0_cond1 i v0 = 1#1), ∀ a, (k0_off176 v5) a + S1x1x1.size a ≤ S32x16x11.size a) ∧
  (∀ (k0_h1 : k0_cond1 i v0 = 1#1), ∀ a, (k0_off177 v5) a + S1x1x1.size a ≤ S32x16x11.size a) ∧
  (∀ (k0_h1 : k0_cond1 i v0 = 1#1), ∀ a, (k0_off178 v5) a + S1x1x1.size a ≤ S32x16x11.size a)
def k0_chk1 (i : grid0.Coords) (v0 : BitVec 32) (v5 : BitVec 32) : Prop :=
  k0_chk1_0 i v0 v5 ∧
  k0_chk1_1 i v0 v5 ∧
  k0_chk1_2 i v0 v5 ∧
  k0_chk1_3 i v0 v5 ∧
  k0_chk1_4 i v0 v5 ∧
  k0_chk1_5 i v0 v5
theorem k0_off3_inb : ∀ (i : grid0.Coords) (v0 : BitVec 32) (v5 : BitVec 32) (k0_hw1 : k0_chk1 i v0 v5), ∀ (k0_h1 : k0_cond1 i v0 = 1#1), ∀ a, (k0_off3 v5) a + S1x1x1.size a ≤ S32x16x11.size a := fun i v0 v5 k0_hw1 k0_h1 => k0_hw1.1.1 k0_h1
theorem k0_off4_inb : ∀ (i : grid0.Coords) (v0 : BitVec 32) (v5 : BitVec 32) (k0_hw1 : k0_chk1 i v0 v5), ∀ (k0_h1 : k0_cond1 i v0 = 1#1), ∀ a, (k0_off4 v5) a + S1x1x1.size a ≤ S32x16x11.size a := fun i v0 v5 k0_hw1 k0_h1 => k0_hw1.1.2.1 k0_h1
theorem k0_off5_inb : ∀ (i : grid0.Coords) (v0 : BitVec 32) (v5 : BitVec 32) (k0_hw1 : k0_chk1 i v0 v5), ∀ (k0_h1 : k0_cond1 i v0 = 1#1), ∀ a, (k0_off5 v5) a + S1x1x1.size a ≤ S32x16x11.size a := fun i v0 v5 k0_hw1 k0_h1 => k0_hw1.1.2.2.1 k0_h1
theorem k0_off6_inb : ∀ (i : grid0.Coords) (v0 : BitVec 32) (v5 : BitVec 32) (k0_hw1 : k0_chk1 i v0 v5), ∀ (k0_h1 : k0_cond1 i v0 = 1#1), ∀ a, (k0_off6 v5) a + S1x1x1.size a ≤ S32x16x11.size a := fun i v0 v5 k0_hw1 k0_h1 => k0_hw1.1.2.2.2.1 k0_h1
theorem k0_off7_inb : ∀ (i : grid0.Coords) (v0 : BitVec 32) (v5 : BitVec 32) (k0_hw1 : k0_chk1 i v0 v5), ∀ (k0_h1 : k0_cond1 i v0 = 1#1), ∀ a, (k0_off7 v5) a + S1x1x1.size a ≤ S32x16x11.size a := fun i v0 v5 k0_hw1 k0_h1 => k0_hw1.1.2.2.2.2.1 k0_h1
theorem k0_off8_inb : ∀ (i : grid0.Coords) (v0 : BitVec 32) (v5 : BitVec 32) (k0_hw1 : k0_chk1 i v0 v5), ∀ (k0_h1 : k0_cond1 i v0 = 1#1), ∀ a, (k0_off8 v5) a + S1x1x1.size a ≤ S32x16x11.size a := fun i v0 v5 k0_hw1 k0_h1 => k0_hw1.1.2.2.2.2.2.1 k0_h1
theorem k0_off9_inb : ∀ (i : grid0.Coords) (v0 : BitVec 32) (v5 : BitVec 32) (k0_hw1 : k0_chk1 i v0 v5), ∀ (k0_h1 : k0_cond1 i v0 = 1#1), ∀ a, (k0_off9 v5) a + S1x1x1.size a ≤ S32x16x11.size a := fun i v0 v5 k0_hw1 k0_h1 => k0_hw1.1.2.2.2.2.2.2.1 k0_h1
theorem k0_off10_inb : ∀ (i : grid0.Coords) (v0 : BitVec 32) (v5 : BitVec 32) (k0_hw1 : k0_chk1 i v0 v5), ∀ (k0_h1 : k0_cond1 i v0 = 1#1), ∀ a, (k0_off10 v5) a + S1x1x1.size a ≤ S32x16x11.size a := fun i v0 v5 k0_hw1 k0_h1 => k0_hw1.1.2.2.2.2.2.2.2.1 k0_h1
theorem k0_off11_inb : ∀ (i : grid0.Coords) (v0 : BitVec 32) (v5 : BitVec 32) (k0_hw1 : k0_chk1 i v0 v5), ∀ (k0_h1 : k0_cond1 i v0 = 1#1), ∀ a, (k0_off11 v5) a + S1x1x1.size a ≤ S32x16x11.size a := fun i v0 v5 k0_hw1 k0_h1 => k0_hw1.1.2.2.2.2.2.2.2.2.1 k0_h1
theorem k0_off12_inb : ∀ (i : grid0.Coords) (v0 : BitVec 32) (v5 : BitVec 32) (k0_hw1 : k0_chk1 i v0 v5), ∀ (k0_h1 : k0_cond1 i v0 = 1#1), ∀ a, (k0_off12 v5) a + S1x1x1.size a ≤ S32x16x11.size a := fun i v0 v5 k0_hw1 k0_h1 => k0_hw1.1.2.2.2.2.2.2.2.2.2.1 k0_h1
theorem k0_off13_inb : ∀ (i : grid0.Coords) (v0 : BitVec 32) (v5 : BitVec 32) (k0_hw1 : k0_chk1 i v0 v5), ∀ (k0_h1 : k0_cond1 i v0 = 1#1), ∀ a, (k0_off13 v5) a + S1x1x1.size a ≤ S32x16x11.size a := fun i v0 v5 k0_hw1 k0_h1 => k0_hw1.1.2.2.2.2.2.2.2.2.2.2.1 k0_h1
theorem k0_off14_inb : ∀ (i : grid0.Coords) (v0 : BitVec 32) (v5 : BitVec 32) (k0_hw1 : k0_chk1 i v0 v5), ∀ (k0_h1 : k0_cond1 i v0 = 1#1), ∀ a, (k0_off14 v5) a + S1x1x1.size a ≤ S32x16x11.size a := fun i v0 v5 k0_hw1 k0_h1 => k0_hw1.1.2.2.2.2.2.2.2.2.2.2.2.1 k0_h1
theorem k0_off15_inb : ∀ (i : grid0.Coords) (v0 : BitVec 32) (v5 : BitVec 32) (k0_hw1 : k0_chk1 i v0 v5), ∀ (k0_h1 : k0_cond1 i v0 = 1#1), ∀ a, (k0_off15 v5) a + S1x1x1.size a ≤ S32x16x11.size a := fun i v0 v5 k0_hw1 k0_h1 => k0_hw1.1.2.2.2.2.2.2.2.2.2.2.2.2.1 k0_h1
theorem k0_off16_inb : ∀ (i : grid0.Coords) (v0 : BitVec 32) (v5 : BitVec 32) (k0_hw1 : k0_chk1 i v0 v5), ∀ (k0_h1 : k0_cond1 i v0 = 1#1), ∀ a, (k0_off16 v5) a + S1x1x1.size a ≤ S32x16x11.size a := fun i v0 v5 k0_hw1 k0_h1 => k0_hw1.1.2.2.2.2.2.2.2.2.2.2.2.2.2.1 k0_h1
theorem k0_off17_inb : ∀ (i : grid0.Coords) (v0 : BitVec 32) (v5 : BitVec 32) (k0_hw1 : k0_chk1 i v0 v5), ∀ (k0_h1 : k0_cond1 i v0 = 1#1), ∀ a, (k0_off17 v5) a + S1x1x1.size a ≤ S32x16x11.size a := fun i v0 v5 k0_hw1 k0_h1 => k0_hw1.1.2.2.2.2.2.2.2.2.2.2.2.2.2.2.1 k0_h1
theorem k0_off18_inb : ∀ (i : grid0.Coords) (v0 : BitVec 32) (v5 : BitVec 32) (k0_hw1 : k0_chk1 i v0 v5), ∀ (k0_h1 : k0_cond1 i v0 = 1#1), ∀ a, (k0_off18 v5) a + S1x1x1.size a ≤ S32x16x11.size a := fun i v0 v5 k0_hw1 k0_h1 => k0_hw1.1.2.2.2.2.2.2.2.2.2.2.2.2.2.2.2.1 k0_h1
theorem k0_off19_inb : ∀ (i : grid0.Coords) (v0 : BitVec 32) (v5 : BitVec 32) (k0_hw1 : k0_chk1 i v0 v5), ∀ (k0_h1 : k0_cond1 i v0 = 1#1), ∀ a, (k0_off19 v5) a + S1x1x1.size a ≤ S32x16x11.size a := fun i v0 v5 k0_hw1 k0_h1 => k0_hw1.1.2.2.2.2.2.2.2.2.2.2.2.2.2.2.2.2.1 k0_h1
theorem k0_off20_inb : ∀ (i : grid0.Coords) (v0 : BitVec 32) (v5 : BitVec 32) (k0_hw1 : k0_chk1 i v0 v5), ∀ (k0_h1 : k0_cond1 i v0 = 1#1), ∀ a, (k0_off20 v5) a + S1x1x1.size a ≤ S32x16x11.size a := fun i v0 v5 k0_hw1 k0_h1 => k0_hw1.1.2.2.2.2.2.2.2.2.2.2.2.2.2.2.2.2.2.1 k0_h1
theorem k0_off21_inb : ∀ (i : grid0.Coords) (v0 : BitVec 32) (v5 : BitVec 32) (k0_hw1 : k0_chk1 i v0 v5), ∀ (k0_h1 : k0_cond1 i v0 = 1#1), ∀ a, (k0_off21 v5) a + S1x1x1.size a ≤ S32x16x11.size a := fun i v0 v5 k0_hw1 k0_h1 => k0_hw1.1.2.2.2.2.2.2.2.2.2.2.2.2.2.2.2.2.2.2.1 k0_h1
theorem k0_off22_inb : ∀ (i : grid0.Coords) (v0 : BitVec 32) (v5 : BitVec 32) (k0_hw1 : k0_chk1 i v0 v5), ∀ (k0_h1 : k0_cond1 i v0 = 1#1), ∀ a, (k0_off22 v5) a + S1x1x1.size a ≤ S32x16x11.size a := fun i v0 v5 k0_hw1 k0_h1 => k0_hw1.1.2.2.2.2.2.2.2.2.2.2.2.2.2.2.2.2.2.2.2.1 k0_h1
theorem k0_off23_inb : ∀ (i : grid0.Coords) (v0 : BitVec 32) (v5 : BitVec 32) (k0_hw1 : k0_chk1 i v0 v5), ∀ (k0_h1 : k0_cond1 i v0 = 1#1), ∀ a, (k0_off23 v5) a + S1x1x1.size a ≤ S32x16x11.size a := fun i v0 v5 k0_hw1 k0_h1 => k0_hw1.1.2.2.2.2.2.2.2.2.2.2.2.2.2.2.2.2.2.2.2.2.1 k0_h1
theorem k0_off24_inb : ∀ (i : grid0.Coords) (v0 : BitVec 32) (v5 : BitVec 32) (k0_hw1 : k0_chk1 i v0 v5), ∀ (k0_h1 : k0_cond1 i v0 = 1#1), ∀ a, (k0_off24 v5) a + S1x1x1.size a ≤ S32x16x11.size a := fun i v0 v5 k0_hw1 k0_h1 => k0_hw1.1.2.2.2.2.2.2.2.2.2.2.2.2.2.2.2.2.2.2.2.2.2.1 k0_h1
theorem k0_off25_inb : ∀ (i : grid0.Coords) (v0 : BitVec 32) (v5 : BitVec 32) (k0_hw1 : k0_chk1 i v0 v5), ∀ (k0_h1 : k0_cond1 i v0 = 1#1), ∀ a, (k0_off25 v5) a + S1x1x1.size a ≤ S32x16x11.size a := fun i v0 v5 k0_hw1 k0_h1 => k0_hw1.1.2.2.2.2.2.2.2.2.2.2.2.2.2.2.2.2.2.2.2.2.2.2.1 k0_h1
theorem k0_off26_inb : ∀ (i : grid0.Coords) (v0 : BitVec 32) (v5 : BitVec 32) (k0_hw1 : k0_chk1 i v0 v5), ∀ (k0_h1 : k0_cond1 i v0 = 1#1), ∀ a, (k0_off26 v5) a + S1x1x1.size a ≤ S32x16x11.size a := fun i v0 v5 k0_hw1 k0_h1 => k0_hw1.1.2.2.2.2.2.2.2.2.2.2.2.2.2.2.2.2.2.2.2.2.2.2.2.1 k0_h1
theorem k0_off27_inb : ∀ (i : grid0.Coords) (v0 : BitVec 32) (v5 : BitVec 32) (k0_hw1 : k0_chk1 i v0 v5), ∀ (k0_h1 : k0_cond1 i v0 = 1#1), ∀ a, (k0_off27 v5) a + S1x1x1.size a ≤ S32x16x11.size a := fun i v0 v5 k0_hw1 k0_h1 => k0_hw1.1.2.2.2.2.2.2.2.2.2.2.2.2.2.2.2.2.2.2.2.2.2.2.2.2.1 k0_h1
theorem k0_off28_inb : ∀ (i : grid0.Coords) (v0 : BitVec 32) (v5 : BitVec 32) (k0_hw1 : k0_chk1 i v0 v5), ∀ (k0_h1 : k0_cond1 i v0 = 1#1), ∀ a, (k0_off28 v5) a + S1x1x1.size a ≤ S32x16x11.size a := fun i v0 v5 k0_hw1 k0_h1 => k0_hw1.1.2.2.2.2.2.2.2.2.2.2.2.2.2.2.2.2.2.2.2.2.2.2.2.2.2.1 k0_h1
theorem k0_off29_inb : ∀ (i : grid0.Coords) (v0 : BitVec 32) (v5 : BitVec 32) (k0_hw1 : k0_chk1 i v0 v5), ∀ (k0_h1 : k0_cond1 i v0 = 1#1), ∀ a, (k0_off29 v5) a + S1x1x1.size a ≤ S32x16x11.size a := fun i v0 v5 k0_hw1 k0_h1 => k0_hw1.1.2.2.2.2.2.2.2.2.2.2.2.2.2.2.2.2.2.2.2.2.2.2.2.2.2.2.1 k0_h1
theorem k0_off30_inb : ∀ (i : grid0.Coords) (v0 : BitVec 32) (v5 : BitVec 32) (k0_hw1 : k0_chk1 i v0 v5), ∀ (k0_h1 : k0_cond1 i v0 = 1#1), ∀ a, (k0_off30 v5) a + S1x1x1.size a ≤ S32x16x11.size a := fun i v0 v5 k0_hw1 k0_h1 => k0_hw1.1.2.2.2.2.2.2.2.2.2.2.2.2.2.2.2.2.2.2.2.2.2.2.2.2.2.2.2.1 k0_h1
theorem k0_off31_inb : ∀ (i : grid0.Coords) (v0 : BitVec 32) (v5 : BitVec 32) (k0_hw1 : k0_chk1 i v0 v5), ∀ (k0_h1 : k0_cond1 i v0 = 1#1), ∀ a, (k0_off31 v5) a + S1x1x1.size a ≤ S32x16x11.size a := fun i v0 v5 k0_hw1 k0_h1 => k0_hw1.1.2.2.2.2.2.2.2.2.2.2.2.2.2.2.2.2.2.2.2.2.2.2.2.2.2.2.2.2.1 k0_h1
theorem k0_off32_inb : ∀ (i : grid0.Coords) (v0 : BitVec 32) (v5 : BitVec 32) (k0_hw1 : k0_chk1 i v0 v5), ∀ (k0_h1 : k0_cond1 i v0 = 1#1), ∀ a, (k0_off32 v5) a + S1x1x1.size a ≤ S32x16x11.size a := fun i v0 v5 k0_hw1 k0_h1 => k0_hw1.1.2.2.2.2.2.2.2.2.2.2.2.2.2.2.2.2.2.2.2.2.2.2.2.2.2.2.2.2.2.1 k0_h1
theorem k0_off33_inb : ∀ (i : grid0.Coords) (v0 : BitVec 32) (v5 : BitVec 32) (k0_hw1 : k0_chk1 i v0 v5), ∀ (k0_h1 : k0_cond1 i v0 = 1#1), ∀ a, (k0_off33 v5) a + S1x1x1.size a ≤ S32x16x11.size a := fun i v0 v5 k0_hw1 k0_h1 => k0_hw1.1.2.2.2.2.2.2.2.2.2.2.2.2.2.2.2.2.2.2.2.2.2.2.2.2.2.2.2.2.2.2.1 k0_h1
theorem k0_off34_inb : ∀ (i : grid0.Coords) (v0 : BitVec 32) (v5 : BitVec 32) (k0_hw1 : k0_chk1 i v0 v5), ∀ (k0_h1 : k0_cond1 i v0 = 1#1), ∀ a, (k0_off34 v5) a + S1x1x1.size a ≤ S32x16x11.size a := fun i v0 v5 k0_hw1 k0_h1 => k0_hw1.1.2.2.2.2.2.2.2.2.2.2.2.2.2.2.2.2.2.2.2.2.2.2.2.2.2.2.2.2.2.2.2 k0_h1
theorem k0_off35_inb : ∀ (i : grid0.Coords) (v0 : BitVec 32) (v5 : BitVec 32) (k0_hw1 : k0_chk1 i v0 v5), ∀ (k0_h1 : k0_cond1 i v0 = 1#1), ∀ a, (k0_off35 v5) a + S1x1x1.size a ≤ S32x16x11.size a := fun i v0 v5 k0_hw1 k0_h1 => k0_hw1.2.1.1 k0_h1
theorem k0_off36_inb : ∀ (i : grid0.Coords) (v0 : BitVec 32) (v5 : BitVec 32) (k0_hw1 : k0_chk1 i v0 v5), ∀ (k0_h1 : k0_cond1 i v0 = 1#1), ∀ a, (k0_off36 v5) a + S1x1x1.size a ≤ S32x16x11.size a := fun i v0 v5 k0_hw1 k0_h1 => k0_hw1.2.1.2.1 k0_h1
theorem k0_off37_inb : ∀ (i : grid0.Coords) (v0 : BitVec 32) (v5 : BitVec 32) (k0_hw1 : k0_chk1 i v0 v5), ∀ (k0_h1 : k0_cond1 i v0 = 1#1), ∀ a, (k0_off37 v5) a + S1x1x1.size a ≤ S32x16x11.size a := fun i v0 v5 k0_hw1 k0_h1 => k0_hw1.2.1.2.2.1 k0_h1
theorem k0_off38_inb : ∀ (i : grid0.Coords) (v0 : BitVec 32) (v5 : BitVec 32) (k0_hw1 : k0_chk1 i v0 v5), ∀ (k0_h1 : k0_cond1 i v0 = 1#1), ∀ a, (k0_off38 v5) a + S1x1x1.size a ≤ S32x16x11.size a := fun i v0 v5 k0_hw1 k0_h1 => k0_hw1.2.1.2.2.2.1 k0_h1
theorem k0_off39_inb : ∀ (i : grid0.Coords) (v0 : BitVec 32) (v5 : BitVec 32) (k0_hw1 : k0_chk1 i v0 v5), ∀ (k0_h1 : k0_cond1 i v0 = 1#1), ∀ a, (k0_off39 v5) a + S1x1x1.size a ≤ S32x16x11.size a := fun i v0 v5 k0_hw1 k0_h1 => k0_hw1.2.1.2.2.2.2.1 k0_h1
theorem k0_off40_inb : ∀ (i : grid0.Coords) (v0 : BitVec 32) (v5 : BitVec 32) (k0_hw1 : k0_chk1 i v0 v5), ∀ (k0_h1 : k0_cond1 i v0 = 1#1), ∀ a, (k0_off40 v5) a + S1x1x1.size a ≤ S32x16x11.size a := fun i v0 v5 k0_hw1 k0_h1 => k0_hw1.2.1.2.2.2.2.2.1 k0_h1
theorem k0_off41_inb : ∀ (i : grid0.Coords) (v0 : BitVec 32) (v5 : BitVec 32) (k0_hw1 : k0_chk1 i v0 v5), ∀ (k0_h1 : k0_cond1 i v0 = 1#1), ∀ a, (k0_off41 v5) a + S1x1x1.size a ≤ S32x16x11.size a := fun i v0 v5 k0_hw1 k0_h1 => k0_hw1.2.1.2.2.2.2.2.2.1 k0_h1
theorem k0_off42_inb : ∀ (i : grid0.Coords) (v0 : BitVec 32) (v5 : BitVec 32) (k0_hw1 : k0_chk1 i v0 v5), ∀ (k0_h1 : k0_cond1 i v0 = 1#1), ∀ a, (k0_off42 v5) a + S1x1x1.size a ≤ S32x16x11.size a := fun i v0 v5 k0_hw1 k0_h1 => k0_hw1.2.1.2.2.2.2.2.2.2.1 k0_h1
theorem k0_off43_inb : ∀ (i : grid0.Coords) (v0 : BitVec 32) (v5 : BitVec 32) (k0_hw1 : k0_chk1 i v0 v5), ∀ (k0_h1 : k0_cond1 i v0 = 1#1), ∀ a, (k0_off43 v5) a + S1x1x1.size a ≤ S32x16x11.size a := fun i v0 v5 k0_hw1 k0_h1 => k0_hw1.2.1.2.2.2.2.2.2.2.2.1 k0_h1
theorem k0_off44_inb : ∀ (i : grid0.Coords) (v0 : BitVec 32) (v5 : BitVec 32) (k0_hw1 : k0_chk1 i v0 v5), ∀ (k0_h1 : k0_cond1 i v0 = 1#1), ∀ a, (k0_off44 v5) a + S1x1x1.size a ≤ S32x16x11.size a := fun i v0 v5 k0_hw1 k0_h1 => k0_hw1.2.1.2.2.2.2.2.2.2.2.2.1 k0_h1
theorem k0_off45_inb : ∀ (i : grid0.Coords) (v0 : BitVec 32) (v5 : BitVec 32) (k0_hw1 : k0_chk1 i v0 v5), ∀ (k0_h1 : k0_cond1 i v0 = 1#1), ∀ a, (k0_off45 v5) a + S1x1x1.size a ≤ S32x16x11.size a := fun i v0 v5 k0_hw1 k0_h1 => k0_hw1.2.1.2.2.2.2.2.2.2.2.2.2.1 k0_h1
theorem k0_off46_inb : ∀ (i : grid0.Coords) (v0 : BitVec 32) (v5 : BitVec 32) (k0_hw1 : k0_chk1 i v0 v5), ∀ (k0_h1 : k0_cond1 i v0 = 1#1), ∀ a, (k0_off46 v5) a + S1x1x1.size a ≤ S32x16x11.size a := fun i v0 v5 k0_hw1 k0_h1 => k0_hw1.2.1.2.2.2.2.2.2.2.2.2.2.2.1 k0_h1
theorem k0_off47_inb : ∀ (i : grid0.Coords) (v0 : BitVec 32) (v5 : BitVec 32) (k0_hw1 : k0_chk1 i v0 v5), ∀ (k0_h1 : k0_cond1 i v0 = 1#1), ∀ a, (k0_off47 v5) a + S1x1x1.size a ≤ S32x16x11.size a := fun i v0 v5 k0_hw1 k0_h1 => k0_hw1.2.1.2.2.2.2.2.2.2.2.2.2.2.2.1 k0_h1
theorem k0_off48_inb : ∀ (i : grid0.Coords) (v0 : BitVec 32) (v5 : BitVec 32) (k0_hw1 : k0_chk1 i v0 v5), ∀ (k0_h1 : k0_cond1 i v0 = 1#1), ∀ a, (k0_off48 v5) a + S1x1x1.size a ≤ S32x16x11.size a := fun i v0 v5 k0_hw1 k0_h1 => k0_hw1.2.1.2.2.2.2.2.2.2.2.2.2.2.2.2.1 k0_h1
theorem k0_off49_inb : ∀ (i : grid0.Coords) (v0 : BitVec 32) (v5 : BitVec 32) (k0_hw1 : k0_chk1 i v0 v5), ∀ (k0_h1 : k0_cond1 i v0 = 1#1), ∀ a, (k0_off49 v5) a + S1x1x1.size a ≤ S32x16x11.size a := fun i v0 v5 k0_hw1 k0_h1 => k0_hw1.2.1.2.2.2.2.2.2.2.2.2.2.2.2.2.2.1 k0_h1
theorem k0_off50_inb : ∀ (i : grid0.Coords) (v0 : BitVec 32) (v5 : BitVec 32) (k0_hw1 : k0_chk1 i v0 v5), ∀ (k0_h1 : k0_cond1 i v0 = 1#1), ∀ a, (k0_off50 v5) a + S1x1x1.size a ≤ S32x16x11.size a := fun i v0 v5 k0_hw1 k0_h1 => k0_hw1.2.1.2.2.2.2.2.2.2.2.2.2.2.2.2.2.2.1 k0_h1
theorem k0_off51_inb : ∀ (i : grid0.Coords) (v0 : BitVec 32) (v5 : BitVec 32) (k0_hw1 : k0_chk1 i v0 v5), ∀ (k0_h1 : k0_cond1 i v0 = 1#1), ∀ a, (k0_off51 v5) a + S1x1x1.size a ≤ S32x16x11.size a := fun i v0 v5 k0_hw1 k0_h1 => k0_hw1.2.1.2.2.2.2.2.2.2.2.2.2.2.2.2.2.2.2.1 k0_h1
theorem k0_off52_inb : ∀ (i : grid0.Coords) (v0 : BitVec 32) (v5 : BitVec 32) (k0_hw1 : k0_chk1 i v0 v5), ∀ (k0_h1 : k0_cond1 i v0 = 1#1), ∀ a, (k0_off52 v5) a + S1x1x1.size a ≤ S32x16x11.size a := fun i v0 v5 k0_hw1 k0_h1 => k0_hw1.2.1.2.2.2.2.2.2.2.2.2.2.2.2.2.2.2.2.2.1 k0_h1
theorem k0_off53_inb : ∀ (i : grid0.Coords) (v0 : BitVec 32) (v5 : BitVec 32) (k0_hw1 : k0_chk1 i v0 v5), ∀ (k0_h1 : k0_cond1 i v0 = 1#1), ∀ a, (k0_off53 v5) a + S1x1x1.size a ≤ S32x16x11.size a := fun i v0 v5 k0_hw1 k0_h1 => k0_hw1.2.1.2.2.2.2.2.2.2.2.2.2.2.2.2.2.2.2.2.2.1 k0_h1
theorem k0_off54_inb : ∀ (i : grid0.Coords) (v0 : BitVec 32) (v5 : BitVec 32) (k0_hw1 : k0_chk1 i v0 v5), ∀ (k0_h1 : k0_cond1 i v0 = 1#1), ∀ a, (k0_off54 v5) a + S1x1x1.size a ≤ S32x16x11.size a := fun i v0 v5 k0_hw1 k0_h1 => k0_hw1.2.1.2.2.2.2.2.2.2.2.2.2.2.2.2.2.2.2.2.2.2.1 k0_h1
theorem k0_off55_inb : ∀ (i : grid0.Coords) (v0 : BitVec 32) (v5 : BitVec 32) (k0_hw1 : k0_chk1 i v0 v5), ∀ (k0_h1 : k0_cond1 i v0 = 1#1), ∀ a, (k0_off55 v5) a + S1x1x1.size a ≤ S32x16x11.size a := fun i v0 v5 k0_hw1 k0_h1 => k0_hw1.2.1.2.2.2.2.2.2.2.2.2.2.2.2.2.2.2.2.2.2.2.2.1 k0_h1
theorem k0_off56_inb : ∀ (i : grid0.Coords) (v0 : BitVec 32) (v5 : BitVec 32) (k0_hw1 : k0_chk1 i v0 v5), ∀ (k0_h1 : k0_cond1 i v0 = 1#1), ∀ a, (k0_off56 v5) a + S1x1x1.size a ≤ S32x16x11.size a := fun i v0 v5 k0_hw1 k0_h1 => k0_hw1.2.1.2.2.2.2.2.2.2.2.2.2.2.2.2.2.2.2.2.2.2.2.2.1 k0_h1
theorem k0_off57_inb : ∀ (i : grid0.Coords) (v0 : BitVec 32) (v5 : BitVec 32) (k0_hw1 : k0_chk1 i v0 v5), ∀ (k0_h1 : k0_cond1 i v0 = 1#1), ∀ a, (k0_off57 v5) a + S1x1x1.size a ≤ S32x16x11.size a := fun i v0 v5 k0_hw1 k0_h1 => k0_hw1.2.1.2.2.2.2.2.2.2.2.2.2.2.2.2.2.2.2.2.2.2.2.2.2.1 k0_h1
theorem k0_off58_inb : ∀ (i : grid0.Coords) (v0 : BitVec 32) (v5 : BitVec 32) (k0_hw1 : k0_chk1 i v0 v5), ∀ (k0_h1 : k0_cond1 i v0 = 1#1), ∀ a, (k0_off58 v5) a + S1x1x1.size a ≤ S32x16x11.size a := fun i v0 v5 k0_hw1 k0_h1 => k0_hw1.2.1.2.2.2.2.2.2.2.2.2.2.2.2.2.2.2.2.2.2.2.2.2.2.2.1 k0_h1
theorem k0_off59_inb : ∀ (i : grid0.Coords) (v0 : BitVec 32) (v5 : BitVec 32) (k0_hw1 : k0_chk1 i v0 v5), ∀ (k0_h1 : k0_cond1 i v0 = 1#1), ∀ a, (k0_off59 v5) a + S1x1x1.size a ≤ S32x16x11.size a := fun i v0 v5 k0_hw1 k0_h1 => k0_hw1.2.1.2.2.2.2.2.2.2.2.2.2.2.2.2.2.2.2.2.2.2.2.2.2.2.2.1 k0_h1
theorem k0_off60_inb : ∀ (i : grid0.Coords) (v0 : BitVec 32) (v5 : BitVec 32) (k0_hw1 : k0_chk1 i v0 v5), ∀ (k0_h1 : k0_cond1 i v0 = 1#1), ∀ a, (k0_off60 v5) a + S1x1x1.size a ≤ S32x16x11.size a := fun i v0 v5 k0_hw1 k0_h1 => k0_hw1.2.1.2.2.2.2.2.2.2.2.2.2.2.2.2.2.2.2.2.2.2.2.2.2.2.2.2.1 k0_h1
theorem k0_off61_inb : ∀ (i : grid0.Coords) (v0 : BitVec 32) (v5 : BitVec 32) (k0_hw1 : k0_chk1 i v0 v5), ∀ (k0_h1 : k0_cond1 i v0 = 1#1), ∀ a, (k0_off61 v5) a + S1x1x1.size a ≤ S32x16x11.size a := fun i v0 v5 k0_hw1 k0_h1 => k0_hw1.2.1.2.2.2.2.2.2.2.2.2.2.2.2.2.2.2.2.2.2.2.2.2.2.2.2.2.2.1 k0_h1
theorem k0_off62_inb : ∀ (i : grid0.Coords) (v0 : BitVec 32) (v5 : BitVec 32) (k0_hw1 : k0_chk1 i v0 v5), ∀ (k0_h1 : k0_cond1 i v0 = 1#1), ∀ a, (k0_off62 v5) a + S1x1x1.size a ≤ S32x16x11.size a := fun i v0 v5 k0_hw1 k0_h1 => k0_hw1.2.1.2.2.2.2.2.2.2.2.2.2.2.2.2.2.2.2.2.2.2.2.2.2.2.2.2.2.2.1 k0_h1
theorem k0_off63_inb : ∀ (i : grid0.Coords) (v0 : BitVec 32) (v5 : BitVec 32) (k0_hw1 : k0_chk1 i v0 v5), ∀ (k0_h1 : k0_cond1 i v0 = 1#1), ∀ a, (k0_off63 v5) a + S1x1x1.size a ≤ S32x16x11.size a := fun i v0 v5 k0_hw1 k0_h1 => k0_hw1.2.1.2.2.2.2.2.2.2.2.2.2.2.2.2.2.2.2.2.2.2.2.2.2.2.2.2.2.2.2.1 k0_h1
theorem k0_off64_inb : ∀ (i : grid0.Coords) (v0 : BitVec 32) (v5 : BitVec 32) (k0_hw1 : k0_chk1 i v0 v5), ∀ (k0_h1 : k0_cond1 i v0 = 1#1), ∀ a, (k0_off64 v5) a + S1x1x1.size a ≤ S32x16x11.size a := fun i v0 v5 k0_hw1 k0_h1 => k0_hw1.2.1.2.2.2.2.2.2.2.2.2.2.2.2.2.2.2.2.2.2.2.2.2.2.2.2.2.2.2.2.2.1 k0_h1
theorem k0_off65_inb : ∀ (i : grid0.Coords) (v0 : BitVec 32) (v5 : BitVec 32) (k0_hw1 : k0_chk1 i v0 v5), ∀ (k0_h1 : k0_cond1 i v0 = 1#1), ∀ a, (k0_off65 v5) a + S1x1x1.size a ≤ S32x16x11.size a := fun i v0 v5 k0_hw1 k0_h1 => k0_hw1.2.1.2.2.2.2.2.2.2.2.2.2.2.2.2.2.2.2.2.2.2.2.2.2.2.2.2.2.2.2.2.2.1 k0_h1
theorem k0_off66_inb : ∀ (i : grid0.Coords) (v0 : BitVec 32) (v5 : BitVec 32) (k0_hw1 : k0_chk1 i v0 v5), ∀ (k0_h1 : k0_cond1 i v0 = 1#1), ∀ a, (k0_off66 v5) a + S1x1x1.size a ≤ S32x16x11.size a := fun i v0 v5 k0_hw1 k0_h1 => k0_hw1.2.1.2.2.2.2.2.2.2.2.2.2.2.2.2.2.2.2.2.2.2.2.2.2.2.2.2.2.2.2.2.2.2 k0_h1
theorem k0_off67_inb : ∀ (i : grid0.Coords) (v0 : BitVec 32) (v5 : BitVec 32) (k0_hw1 : k0_chk1 i v0 v5), ∀ (k0_h1 : k0_cond1 i v0 = 1#1), ∀ a, (k0_off67 v5) a + S1x1x1.size a ≤ S32x16x11.size a := fun i v0 v5 k0_hw1 k0_h1 => k0_hw1.2.2.1.1 k0_h1
theorem k0_off68_inb : ∀ (i : grid0.Coords) (v0 : BitVec 32) (v5 : BitVec 32) (k0_hw1 : k0_chk1 i v0 v5), ∀ (k0_h1 : k0_cond1 i v0 = 1#1), ∀ a, (k0_off68 v5) a + S1x1x1.size a ≤ S32x16x11.size a := fun i v0 v5 k0_hw1 k0_h1 => k0_hw1.2.2.1.2.1 k0_h1
theorem k0_off69_inb : ∀ (i : grid0.Coords) (v0 : BitVec 32) (v5 : BitVec 32) (k0_hw1 : k0_chk1 i v0 v5), ∀ (k0_h1 : k0_cond1 i v0 = 1#1), ∀ a, (k0_off69 v5) a + S1x1x1.size a ≤ S32x16x11.size a := fun i v0 v5 k0_hw1 k0_h1 => k0_hw1.2.2.1.2.2.1 k0_h1
theorem k0_off70_inb : ∀ (i : grid0.Coords) (v0 : BitVec 32) (v5 : BitVec 32) (k0_hw1 : k0_chk1 i v0 v5), ∀ (k0_h1 : k0_cond1 i v0 = 1#1), ∀ a, (k0_off70 v5) a + S1x1x1.size a ≤ S32x16x11.size a := fun i v0 v5 k0_hw1 k0_h1 => k0_hw1.2.2.1.2.2.2.1 k0_h1
theorem k0_off71_inb : ∀ (i : grid0.Coords) (v0 : BitVec 32) (v5 : BitVec 32) (k0_hw1 : k0_chk1 i v0 v5), ∀ (k0_h1 : k0_cond1 i v0 = 1#1), ∀ a, (k0_off71 v5) a + S1x1x1.size a ≤ S32x16x11.size a := fun i v0 v5 k0_hw1 k0_h1 => k0_hw1.2.2.1.2.2.2.2.1 k0_h1
theorem k0_off72_inb : ∀ (i : grid0.Coords) (v0 : BitVec 32) (v5 : BitVec 32) (k0_hw1 : k0_chk1 i v0 v5), ∀ (k0_h1 : k0_cond1 i v0 = 1#1), ∀ a, (k0_off72 v5) a + S1x1x1.size a ≤ S32x16x11.size a := fun i v0 v5 k0_hw1 k0_h1 => k0_hw1.2.2.1.2.2.2.2.2.1 k0_h1
theorem k0_off73_inb : ∀ (i : grid0.Coords) (v0 : BitVec 32) (v5 : BitVec 32) (k0_hw1 : k0_chk1 i v0 v5), ∀ (k0_h1 : k0_cond1 i v0 = 1#1), ∀ a, (k0_off73 v5) a + S1x1x1.size a ≤ S32x16x11.size a := fun i v0 v5 k0_hw1 k0_h1 => k0_hw1.2.2.1.2.2.2.2.2.2.1 k0_h1
theorem k0_off74_inb : ∀ (i : grid0.Coords) (v0 : BitVec 32) (v5 : BitVec 32) (k0_hw1 : k0_chk1 i v0 v5), ∀ (k0_h1 : k0_cond1 i v0 = 1#1), ∀ a, (k0_off74 v5) a + S1x1x1.size a ≤ S32x16x11.size a := fun i v0 v5 k0_hw1 k0_h1 => k0_hw1.2.2.1.2.2.2.2.2.2.2.1 k0_h1
theorem k0_off75_inb : ∀ (i : grid0.Coords) (v0 : BitVec 32) (v5 : BitVec 32) (k0_hw1 : k0_chk1 i v0 v5), ∀ (k0_h1 : k0_cond1 i v0 = 1#1), ∀ a, (k0_off75 v5) a + S1x1x1.size a ≤ S32x16x11.size a := fun i v0 v5 k0_hw1 k0_h1 => k0_hw1.2.2.1.2.2.2.2.2.2.2.2.1 k0_h1
theorem k0_off76_inb : ∀ (i : grid0.Coords) (v0 : BitVec 32) (v5 : BitVec 32) (k0_hw1 : k0_chk1 i v0 v5), ∀ (k0_h1 : k0_cond1 i v0 = 1#1), ∀ a, (k0_off76 v5) a + S1x1x1.size a ≤ S32x16x11.size a := fun i v0 v5 k0_hw1 k0_h1 => k0_hw1.2.2.1.2.2.2.2.2.2.2.2.2.1 k0_h1
theorem k0_off77_inb : ∀ (i : grid0.Coords) (v0 : BitVec 32) (v5 : BitVec 32) (k0_hw1 : k0_chk1 i v0 v5), ∀ (k0_h1 : k0_cond1 i v0 = 1#1), ∀ a, (k0_off77 v5) a + S1x1x1.size a ≤ S32x16x11.size a := fun i v0 v5 k0_hw1 k0_h1 => k0_hw1.2.2.1.2.2.2.2.2.2.2.2.2.2.1 k0_h1
theorem k0_off78_inb : ∀ (i : grid0.Coords) (v0 : BitVec 32) (v5 : BitVec 32) (k0_hw1 : k0_chk1 i v0 v5), ∀ (k0_h1 : k0_cond1 i v0 = 1#1), ∀ a, (k0_off78 v5) a + S1x1x1.size a ≤ S32x16x11.size a := fun i v0 v5 k0_hw1 k0_h1 => k0_hw1.2.2.1.2.2.2.2.2.2.2.2.2.2.2.1 k0_h1
theorem k0_off79_inb : ∀ (i : grid0.Coords) (v0 : BitVec 32) (v5 : BitVec 32) (k0_hw1 : k0_chk1 i v0 v5), ∀ (k0_h1 : k0_cond1 i v0 = 1#1), ∀ a, (k0_off79 v5) a + S1x1x1.size a ≤ S32x16x11.size a := fun i v0 v5 k0_hw1 k0_h1 => k0_hw1.2.2.1.2.2.2.2.2.2.2.2.2.2.2.2.1 k0_h1
theorem k0_off80_inb : ∀ (i : grid0.Coords) (v0 : BitVec 32) (v5 : BitVec 32) (k0_hw1 : k0_chk1 i v0 v5), ∀ (k0_h1 : k0_cond1 i v0 = 1#1), ∀ a, (k0_off80 v5) a + S1x1x1.size a ≤ S32x16x11.size a := fun i v0 v5 k0_hw1 k0_h1 => k0_hw1.2.2.1.2.2.2.2.2.2.2.2.2.2.2.2.2.1 k0_h1
theorem k0_off81_inb : ∀ (i : grid0.Coords) (v0 : BitVec 32) (v5 : BitVec 32) (k0_hw1 : k0_chk1 i v0 v5), ∀ (k0_h1 : k0_cond1 i v0 = 1#1), ∀ a, (k0_off81 v5) a + S1x1x1.size a ≤ S32x16x11.size a := fun i v0 v5 k0_hw1 k0_h1 => k0_hw1.2.2.1.2.2.2.2.2.2.2.2.2.2.2.2.2.2.1 k0_h1
theorem k0_off82_inb : ∀ (i : grid0.Coords) (v0 : BitVec 32) (v5 : BitVec 32) (k0_hw1 : k0_chk1 i v0 v5), ∀ (k0_h1 : k0_cond1 i v0 = 1#1), ∀ a, (k0_off82 v5) a + S1x1x1.size a ≤ S32x16x11.size a := fun i v0 v5 k0_hw1 k0_h1 => k0_hw1.2.2.1.2.2.2.2.2.2.2.2.2.2.2.2.2.2.2.1 k0_h1
theorem k0_off83_inb : ∀ (i : grid0.Coords) (v0 : BitVec 32) (v5 : BitVec 32) (k0_hw1 : k0_chk1 i v0 v5), ∀ (k0_h1 : k0_cond1 i v0 = 1#1), ∀ a, (k0_off83 v5) a + S1x1x1.size a ≤ S32x16x11.size a := fun i v0 v5 k0_hw1 k0_h1 => k0_hw1.2.2.1.2.2.2.2.2.2.2.2.2.2.2.2.2.2.2.2.1 k0_h1
theorem k0_off84_inb : ∀ (i : grid0.Coords) (v0 : BitVec 32) (v5 : BitVec 32) (k0_hw1 : k0_chk1 i v0 v5), ∀ (k0_h1 : k0_cond1 i v0 = 1#1), ∀ a, (k0_off84 v5) a + S1x1x1.size a ≤ S32x16x11.size a := fun i v0 v5 k0_hw1 k0_h1 => k0_hw1.2.2.1.2.2.2.2.2.2.2.2.2.2.2.2.2.2.2.2.2.1 k0_h1
theorem k0_off85_inb : ∀ (i : grid0.Coords) (v0 : BitVec 32) (v5 : BitVec 32) (k0_hw1 : k0_chk1 i v0 v5), ∀ (k0_h1 : k0_cond1 i v0 = 1#1), ∀ a, (k0_off85 v5) a + S1x1x1.size a ≤ S32x16x11.size a := fun i v0 v5 k0_hw1 k0_h1 => k0_hw1.2.2.1.2.2.2.2.2.2.2.2.2.2.2.2.2.2.2.2.2.2.1 k0_h1
theorem k0_off86_inb : ∀ (i : grid0.Coords) (v0 : BitVec 32) (v5 : BitVec 32) (k0_hw1 : k0_chk1 i v0 v5), ∀ (k0_h1 : k0_cond1 i v0 = 1#1), ∀ a, (k0_off86 v5) a + S1x1x1.size a ≤ S32x16x11.size a := fun i v0 v5 k0_hw1 k0_h1 => k0_hw1.2.2.1.2.2.2.2.2.2.2.2.2.2.2.2.2.2.2.2.2.2.2.1 k0_h1
theorem k0_off87_inb : ∀ (i : grid0.Coords) (v0 : BitVec 32) (v5 : BitVec 32) (k0_hw1 : k0_chk1 i v0 v5), ∀ (k0_h1 : k0_cond1 i v0 = 1#1), ∀ a, (k0_off87 v5) a + S1x1x1.size a ≤ S32x16x11.size a := fun i v0 v5 k0_hw1 k0_h1 => k0_hw1.2.2.1.2.2.2.2.2.2.2.2.2.2.2.2.2.2.2.2.2.2.2.2.1 k0_h1
theorem k0_off88_inb : ∀ (i : grid0.Coords) (v0 : BitVec 32) (v5 : BitVec 32) (k0_hw1 : k0_chk1 i v0 v5), ∀ (k0_h1 : k0_cond1 i v0 = 1#1), ∀ a, (k0_off88 v5) a + S1x1x1.size a ≤ S32x16x11.size a := fun i v0 v5 k0_hw1 k0_h1 => k0_hw1.2.2.1.2.2.2.2.2.2.2.2.2.2.2.2.2.2.2.2.2.2.2.2.2.1 k0_h1
theorem k0_off89_inb : ∀ (i : grid0.Coords) (v0 : BitVec 32) (v5 : BitVec 32) (k0_hw1 : k0_chk1 i v0 v5), ∀ (k0_h1 : k0_cond1 i v0 = 1#1), ∀ a, (k0_off89 v5) a + S1x1x1.size a ≤ S32x16x11.size a := fun i v0 v5 k0_hw1 k0_h1 => k0_hw1.2.2.1.2.2.2.2.2.2.2.2.2.2.2.2.2.2.2.2.2.2.2.2.2.2.1 k0_h1
theorem k0_off90_inb : ∀ (i : grid0.Coords) (v0 : BitVec 32) (v5 : BitVec 32) (k0_hw1 : k0_chk1 i v0 v5), ∀ (k0_h1 : k0_cond1 i v0 = 1#1), ∀ a, (k0_off90 v5) a + S1x1x1.size a ≤ S32x16x11.size a := fun i v0 v5 k0_hw1 k0_h1 => k0_hw1.2.2.1.2.2.2.2.2.2.2.2.2.2.2.2.2.2.2.2.2.2.2.2.2.2.2.1 k0_h1
theorem k0_off91_inb : ∀ (i : grid0.Coords) (v0 : BitVec 32) (v5 : BitVec 32) (k0_hw1 : k0_chk1 i v0 v5), ∀ (k0_h1 : k0_cond1 i v0 = 1#1), ∀ a, (k0_off91 v5) a + S1x1x1.size a ≤ S32x16x11.size a := fun i v0 v5 k0_hw1 k0_h1 => k0_hw1.2.2.1.2.2.2.2.2.2.2.2.2.2.2.2.2.2.2.2.2.2.2.2.2.2.2.2.1 k0_h1
theorem k0_off92_inb : ∀ (i : grid0.Coords) (v0 : BitVec 32) (v5 : BitVec 32) (k0_hw1 : k0_chk1 i v0 v5), ∀ (k0_h1 : k0_cond1 i v0 = 1#1), ∀ a, (k0_off92 v5) a + S1x1x1.size a ≤ S32x16x11.size a := fun i v0 v5 k0_hw1 k0_h1 => k0_hw1.2.2.1.2.2.2.2.2.2.2.2.2.2.2.2.2.2.2.2.2.2.2.2.2.2.2.2.2.1 k0_h1
theorem k0_off93_inb : ∀ (i : grid0.Coords) (v0 : BitVec 32) (v5 : BitVec 32) (k0_hw1 : k0_chk1 i v0 v5), ∀ (k0_h1 : k0_cond1 i v0 = 1#1), ∀ a, (k0_off93 v5) a + S1x1x1.size a ≤ S32x16x11.size a := fun i v0 v5 k0_hw1 k0_h1 => k0_hw1.2.2.1.2.2.2.2.2.2.2.2.2.2.2.2.2.2.2.2.2.2.2.2.2.2.2.2.2.2.1 k0_h1
theorem k0_off94_inb : ∀ (i : grid0.Coords) (v0 : BitVec 32) (v5 : BitVec 32) (k0_hw1 : k0_chk1 i v0 v5), ∀ (k0_h1 : k0_cond1 i v0 = 1#1), ∀ a, (k0_off94 v5) a + S1x1x1.size a ≤ S32x16x11.size a := fun i v0 v5 k0_hw1 k0_h1 => k0_hw1.2.2.1.2.2.2.2.2.2.2.2.2.2.2.2.2.2.2.2.2.2.2.2.2.2.2.2.2.2.2.1 k0_h1
theorem k0_off95_inb : ∀ (i : grid0.Coords) (v0 : BitVec 32) (v5 : BitVec 32) (k0_hw1 : k0_chk1 i v0 v5), ∀ (k0_h1 : k0_cond1 i v0 = 1#1), ∀ a, (k0_off95 v5) a + S1x1x1.size a ≤ S32x16x11.size a := fun i v0 v5 k0_hw1 k0_h1 => k0_hw1.2.2.1.2.2.2.2.2.2.2.2.2.2.2.2.2.2.2.2.2.2.2.2.2.2.2.2.2.2.2.2.1 k0_h1
theorem k0_off96_inb : ∀ (i : grid0.Coords) (v0 : BitVec 32) (v5 : BitVec 32) (k0_hw1 : k0_chk1 i v0 v5), ∀ (k0_h1 : k0_cond1 i v0 = 1#1), ∀ a, (k0_off96 v5) a + S1x1x1.size a ≤ S32x16x11.size a := fun i v0 v5 k0_hw1 k0_h1 => k0_hw1.2.2.1.2.2.2.2.2.2.2.2.2.2.2.2.2.2.2.2.2.2.2.2.2.2.2.2.2.2.2.2.2.1 k0_h1
theorem k0_off97_inb : ∀ (i : grid0.Coords) (v0 : BitVec 32) (v5 : BitVec 32) (k0_hw1 : k0_chk1 i v0 v5), ∀ (k0_h1 : k0_cond1 i v0 = 1#1), ∀ a, (k0_off97 v5) a + S1x1x1.size a ≤ S32x16x11.size a := fun i v0 v5 k0_hw1 k0_h1 => k0_hw1.2.2.1.2.2.2.2.2.2.2.2.2.2.2.2.2.2.2.2.2.2.2.2.2.2.2.2.2.2.2.2.2.2.1 k0_h1
theorem k0_off98_inb : ∀ (i : grid0.Coords) (v0 : BitVec 32) (v5 : BitVec 32) (k0_hw1 : k0_chk1 i v0 v5), ∀ (k0_h1 : k0_cond1 i v0 = 1#1), ∀ a, (k0_off98 v5) a + S1x1x1.size a ≤ S32x16x11.size a := fun i v0 v5 k0_hw1 k0_h1 => k0_hw1.2.2.1.2.2.2.2.2.2.2.2.2.2.2.2.2.2.2.2.2.2.2.2.2.2.2.2.2.2.2.2.2.2.2 k0_h1
theorem k0_off99_inb : ∀ (i : grid0.Coords) (v0 : BitVec 32) (v5 : BitVec 32) (k0_hw1 : k0_chk1 i v0 v5), ∀ (k0_h1 : k0_cond1 i v0 = 1#1), ∀ a, (k0_off99 v5) a + S1x1x1.size a ≤ S32x16x11.size a := fun i v0 v5 k0_hw1 k0_h1 => k0_hw1.2.2.2.1.1 k0_h1
theorem k0_off100_inb : ∀ (i : grid0.Coords) (v0 : BitVec 32) (v5 : BitVec 32) (k0_hw1 : k0_chk1 i v0 v5), ∀ (k0_h1 : k0_cond1 i v0 = 1#1), ∀ a, (k0_off100 v5) a + S1x1x1.size a ≤ S32x16x11.size a := fun i v0 v5 k0_hw1 k0_h1 => k0_hw1.2.2.2.1.2.1 k0_h1
theorem k0_off101_inb : ∀ (i : grid0.Coords) (v0 : BitVec 32) (v5 : BitVec 32) (k0_hw1 : k0_chk1 i v0 v5), ∀ (k0_h1 : k0_cond1 i v0 = 1#1), ∀ a, (k0_off101 v5) a + S1x1x1.size a ≤ S32x16x11.size a := fun i v0 v5 k0_hw1 k0_h1 => k0_hw1.2.2.2.1.2.2.1 k0_h1
theorem k0_off102_inb : ∀ (i : grid0.Coords) (v0 : BitVec 32) (v5 : BitVec 32) (k0_hw1 : k0_chk1 i v0 v5), ∀ (k0_h1 : k0_cond1 i v0 = 1#1), ∀ a, (k0_off102 v5) a + S1x1x1.size a ≤ S32x16x11.size a := fun i v0 v5 k0_hw1 k0_h1 => k0_hw1.2.2.2.1.2.2.2.1 k0_h1
theorem k0_off103_inb : ∀ (i : grid0.Coords) (v0 : BitVec 32) (v5 : BitVec 32) (k0_hw1 : k0_chk1 i v0 v5), ∀ (k0_h1 : k0_cond1 i v0 = 1#1), ∀ a, (k0_off103 v5) a + S1x1x1.size a ≤ S32x16x11.size a := fun i v0 v5 k0_hw1 k0_h1 => k0_hw1.2.2.2.1.2.2.2.2.1 k0_h1
theorem k0_off104_inb : ∀ (i : grid0.Coords) (v0 : BitVec 32) (v5 : BitVec 32) (k0_hw1 : k0_chk1 i v0 v5), ∀ (k0_h1 : k0_cond1 i v0 = 1#1), ∀ a, (k0_off104 v5) a + S1x1x1.size a ≤ S32x16x11.size a := fun i v0 v5 k0_hw1 k0_h1 => k0_hw1.2.2.2.1.2.2.2.2.2.1 k0_h1
theorem k0_off105_inb : ∀ (i : grid0.Coords) (v0 : BitVec 32) (v5 : BitVec 32) (k0_hw1 : k0_chk1 i v0 v5), ∀ (k0_h1 : k0_cond1 i v0 = 1#1), ∀ a, (k0_off105 v5) a + S1x1x1.size a ≤ S32x16x11.size a := fun i v0 v5 k0_hw1 k0_h1 => k0_hw1.2.2.2.1.2.2.2.2.2.2.1 k0_h1
theorem k0_off106_inb : ∀ (i : grid0.Coords) (v0 : BitVec 32) (v5 : BitVec 32) (k0_hw1 : k0_chk1 i v0 v5), ∀ (k0_h1 : k0_cond1 i v0 = 1#1), ∀ a, (k0_off106 v5) a + S1x1x1.size a ≤ S32x16x11.size a := fun i v0 v5 k0_hw1 k0_h1 => k0_hw1.2.2.2.1.2.2.2.2.2.2.2.1 k0_h1
theorem k0_off107_inb : ∀ (i : grid0.Coords) (v0 : BitVec 32) (v5 : BitVec 32) (k0_hw1 : k0_chk1 i v0 v5), ∀ (k0_h1 : k0_cond1 i v0 = 1#1), ∀ a, (k0_off107 v5) a + S1x1x1.size a ≤ S32x16x11.size a := fun i v0 v5 k0_hw1 k0_h1 => k0_hw1.2.2.2.1.2.2.2.2.2.2.2.2.1 k0_h1
theorem k0_off108_inb : ∀ (i : grid0.Coords) (v0 : BitVec 32) (v5 : BitVec 32) (k0_hw1 : k0_chk1 i v0 v5), ∀ (k0_h1 : k0_cond1 i v0 = 1#1), ∀ a, (k0_off108 v5) a + S1x1x1.size a ≤ S32x16x11.size a := fun i v0 v5 k0_hw1 k0_h1 => k0_hw1.2.2.2.1.2.2.2.2.2.2.2.2.2.1 k0_h1
theorem k0_off109_inb : ∀ (i : grid0.Coords) (v0 : BitVec 32) (v5 : BitVec 32) (k0_hw1 : k0_chk1 i v0 v5), ∀ (k0_h1 : k0_cond1 i v0 = 1#1), ∀ a, (k0_off109 v5) a + S1x1x1.size a ≤ S32x16x11.size a := fun i v0 v5 k0_hw1 k0_h1 => k0_hw1.2.2.2.1.2.2.2.2.2.2.2.2.2.2.1 k0_h1
theorem k0_off110_inb : ∀ (i : grid0.Coords) (v0 : BitVec 32) (v5 : BitVec 32) (k0_hw1 : k0_chk1 i v0 v5), ∀ (k0_h1 : k0_cond1 i v0 = 1#1), ∀ a, (k0_off110 v5) a + S1x1x1.size a ≤ S32x16x11.size a := fun i v0 v5 k0_hw1 k0_h1 => k0_hw1.2.2.2.1.2.2.2.2.2.2.2.2.2.2.2.1 k0_h1
theorem k0_off111_inb : ∀ (i : grid0.Coords) (v0 : BitVec 32) (v5 : BitVec 32) (k0_hw1 : k0_chk1 i v0 v5), ∀ (k0_h1 : k0_cond1 i v0 = 1#1), ∀ a, (k0_off111 v5) a + S1x1x1.size a ≤ S32x16x11.size a := fun i v0 v5 k0_hw1 k0_h1 => k0_hw1.2.2.2.1.2.2.2.2.2.2.2.2.2.2.2.2.1 k0_h1
theorem k0_off112_inb : ∀ (i : grid0.Coords) (v0 : BitVec 32) (v5 : BitVec 32) (k0_hw1 : k0_chk1 i v0 v5), ∀ (k0_h1 : k0_cond1 i v0 = 1#1), ∀ a, (k0_off112 v5) a + S1x1x1.size a ≤ S32x16x11.size a := fun i v0 v5 k0_hw1 k0_h1 => k0_hw1.2.2.2.1.2.2.2.2.2.2.2.2.2.2.2.2.2.1 k0_h1
theorem k0_off113_inb : ∀ (i : grid0.Coords) (v0 : BitVec 32) (v5 : BitVec 32) (k0_hw1 : k0_chk1 i v0 v5), ∀ (k0_h1 : k0_cond1 i v0 = 1#1), ∀ a, (k0_off113 v5) a + S1x1x1.size a ≤ S32x16x11.size a := fun i v0 v5 k0_hw1 k0_h1 => k0_hw1.2.2.2.1.2.2.2.2.2.2.2.2.2.2.2.2.2.2.1 k0_h1
theorem k0_off114_inb : ∀ (i : grid0.Coords) (v0 : BitVec 32) (v5 : BitVec 32) (k0_hw1 : k0_chk1 i v0 v5), ∀ (k0_h1 : k0_cond1 i v0 = 1#1), ∀ a, (k0_off114 v5) a + S1x1x1.size a ≤ S32x16x11.size a := fun i v0 v5 k0_hw1 k0_h1 => k0_hw1.2.2.2.1.2.2.2.2.2.2.2.2.2.2.2.2.2.2.2.1 k0_h1
theorem k0_off115_inb : ∀ (i : grid0.Coords) (v0 : BitVec 32) (v5 : BitVec 32) (k0_hw1 : k0_chk1 i v0 v5), ∀ (k0_h1 : k0_cond1 i v0 = 1#1), ∀ a, (k0_off115 v5) a + S1x1x1.size a ≤ S32x16x11.size a := fun i v0 v5 k0_hw1 k0_h1 => k0_hw1.2.2.2.1.2.2.2.2.2.2.2.2.2.2.2.2.2.2.2.2.1 k0_h1
theorem k0_off116_inb : ∀ (i : grid0.Coords) (v0 : BitVec 32) (v5 : BitVec 32) (k0_hw1 : k0_chk1 i v0 v5), ∀ (k0_h1 : k0_cond1 i v0 = 1#1), ∀ a, (k0_off116 v5) a + S1x1x1.size a ≤ S32x16x11.size a := fun i v0 v5 k0_hw1 k0_h1 => k0_hw1.2.2.2.1.2.2.2.2.2.2.2.2.2.2.2.2.2.2.2.2.2.1 k0_h1
theorem k0_off117_inb : ∀ (i : grid0.Coords) (v0 : BitVec 32) (v5 : BitVec 32) (k0_hw1 : k0_chk1 i v0 v5), ∀ (k0_h1 : k0_cond1 i v0 = 1#1), ∀ a, (k0_off117 v5) a + S1x1x1.size a ≤ S32x16x11.size a := fun i v0 v5 k0_hw1 k0_h1 => k0_hw1.2.2.2.1.2.2.2.2.2.2.2.2.2.2.2.2.2.2.2.2.2.2.1 k0_h1
theorem k0_off118_inb : ∀ (i : grid0.Coords) (v0 : BitVec 32) (v5 : BitVec 32) (k0_hw1 : k0_chk1 i v0 v5), ∀ (k0_h1 : k0_cond1 i v0 = 1#1), ∀ a, (k0_off118 v5) a + S1x1x1.size a ≤ S32x16x11.size a := fun i v0 v5 k0_hw1 k0_h1 => k0_hw1.2.2.2.1.2.2.2.2.2.2.2.2.2.2.2.2.2.2.2.2.2.2.2.1 k0_h1
theorem k0_off119_inb : ∀ (i : grid0.Coords) (v0 : BitVec 32) (v5 : BitVec 32) (k0_hw1 : k0_chk1 i v0 v5), ∀ (k0_h1 : k0_cond1 i v0 = 1#1), ∀ a, (k0_off119 v5) a + S1x1x1.size a ≤ S32x16x11.size a := fun i v0 v5 k0_hw1 k0_h1 => k0_hw1.2.2.2.1.2.2.2.2.2.2.2.2.2.2.2.2.2.2.2.2.2.2.2.2.1 k0_h1
theorem k0_off120_inb : ∀ (i : grid0.Coords) (v0 : BitVec 32) (v5 : BitVec 32) (k0_hw1 : k0_chk1 i v0 v5), ∀ (k0_h1 : k0_cond1 i v0 = 1#1), ∀ a, (k0_off120 v5) a + S1x1x1.size a ≤ S32x16x11.size a := fun i v0 v5 k0_hw1 k0_h1 => k0_hw1.2.2.2.1.2.2.2.2.2.2.2.2.2.2.2.2.2.2.2.2.2.2.2.2.2.1 k0_h1
theorem k0_off121_inb : ∀ (i : grid0.Coords) (v0 : BitVec 32) (v5 : BitVec 32) (k0_hw1 : k0_chk1 i v0 v5), ∀ (k0_h1 : k0_cond1 i v0 = 1#1), ∀ a, (k0_off121 v5) a + S1x1x1.size a ≤ S32x16x11.size a := fun i v0 v5 k0_hw1 k0_h1 => k0_hw1.2.2.2.1.2.2.2.2.2.2.2.2.2.2.2.2.2.2.2.2.2.2.2.2.2.2.1 k0_h1
theorem k0_off122_inb : ∀ (i : grid0.Coords) (v0 : BitVec 32) (v5 : BitVec 32) (k0_hw1 : k0_chk1 i v0 v5), ∀ (k0_h1 : k0_cond1 i v0 = 1#1), ∀ a, (k0_off122 v5) a + S1x1x1.size a ≤ S32x16x11.size a := fun i v0 v5 k0_hw1 k0_h1 => k0_hw1.2.2.2.1.2.2.2.2.2.2.2.2.2.2.2.2.2.2.2.2.2.2.2.2.2.2.2.1 k0_h1
theorem k0_off123_inb : ∀ (i : grid0.Coords) (v0 : BitVec 32) (v5 : BitVec 32) (k0_hw1 : k0_chk1 i v0 v5), ∀ (k0_h1 : k0_cond1 i v0 = 1#1), ∀ a, (k0_off123 v5) a + S1x1x1.size a ≤ S32x16x11.size a := fun i v0 v5 k0_hw1 k0_h1 => k0_hw1.2.2.2.1.2.2.2.2.2.2.2.2.2.2.2.2.2.2.2.2.2.2.2.2.2.2.2.2.1 k0_h1
theorem k0_off124_inb : ∀ (i : grid0.Coords) (v0 : BitVec 32) (v5 : BitVec 32) (k0_hw1 : k0_chk1 i v0 v5), ∀ (k0_h1 : k0_cond1 i v0 = 1#1), ∀ a, (k0_off124 v5) a + S1x1x1.size a ≤ S32x16x11.size a := fun i v0 v5 k0_hw1 k0_h1 => k0_hw1.2.2.2.1.2.2.2.2.2.2.2.2.2.2.2.2.2.2.2.2.2.2.2.2.2.2.2.2.2.1 k0_h1
theorem k0_off125_inb : ∀ (i : grid0.Coords) (v0 : BitVec 32) (v5 : BitVec 32) (k0_hw1 : k0_chk1 i v0 v5), ∀ (k0_h1 : k0_cond1 i v0 = 1#1), ∀ a, (k0_off125 v5) a + S1x1x1.size a ≤ S32x16x11.size a := fun i v0 v5 k0_hw1 k0_h1 => k0_hw1.2.2.2.1.2.2.2.2.2.2.2.2.2.2.2.2.2.2.2.2.2.2.2.2.2.2.2.2.2.2.1 k0_h1
theorem k0_off126_inb : ∀ (i : grid0.Coords) (v0 : BitVec 32) (v5 : BitVec 32) (k0_hw1 : k0_chk1 i v0 v5), ∀ (k0_h1 : k0_cond1 i v0 = 1#1), ∀ a, (k0_off126 v5) a + S1x1x1.size a ≤ S32x16x11.size a := fun i v0 v5 k0_hw1 k0_h1 => k0_hw1.2.2.2.1.2.2.2.2.2.2.2.2.2.2.2.2.2.2.2.2.2.2.2.2.2.2.2.2.2.2.2.1 k0_h1
theorem k0_off127_inb : ∀ (i : grid0.Coords) (v0 : BitVec 32) (v5 : BitVec 32) (k0_hw1 : k0_chk1 i v0 v5), ∀ (k0_h1 : k0_cond1 i v0 = 1#1), ∀ a, (k0_off127 v5) a + S1x1x1.size a ≤ S32x16x11.size a := fun i v0 v5 k0_hw1 k0_h1 => k0_hw1.2.2.2.1.2.2.2.2.2.2.2.2.2.2.2.2.2.2.2.2.2.2.2.2.2.2.2.2.2.2.2.2.1 k0_h1
theorem k0_off128_inb : ∀ (i : grid0.Coords) (v0 : BitVec 32) (v5 : BitVec 32) (k0_hw1 : k0_chk1 i v0 v5), ∀ (k0_h1 : k0_cond1 i v0 = 1#1), ∀ a, (k0_off128 v5) a + S1x1x1.size a ≤ S32x16x11.size a := fun i v0 v5 k0_hw1 k0_h1 => k0_hw1.2.2.2.1.2.2.2.2.2.2.2.2.2.2.2.2.2.2.2.2.2.2.2.2.2.2.2.2.2.2.2.2.2.1 k0_h1
theorem k0_off129_inb : ∀ (i : grid0.Coords) (v0 : BitVec 32) (v5 : BitVec 32) (k0_hw1 : k0_chk1 i v0 v5), ∀ (k0_h1 : k0_cond1 i v0 = 1#1), ∀ a, (k0_off129 v5) a + S1x1x1.size a ≤ S32x16x11.size a := fun i v0 v5 k0_hw1 k0_h1 => k0_hw1.2.2.2.1.2.2.2.2.2.2.2.2.2.2.2.2.2.2.2.2.2.2.2.2.2.2.2.2.2.2.2.2.2.2.1 k0_h1
theorem k0_off130_inb : ∀ (i : grid0.Coords) (v0 : BitVec 32) (v5 : BitVec 32) (k0_hw1 : k0_chk1 i v0 v5), ∀ (k0_h1 : k0_cond1 i v0 = 1#1), ∀ a, (k0_off130 v5) a + S1x1x1.size a ≤ S32x16x11.size a := fun i v0 v5 k0_hw1 k0_h1 => k0_hw1.2.2.2.1.2.2.2.2.2.2.2.2.2.2.2.2.2.2.2.2.2.2.2.2.2.2.2.2.2.2.2.2.2.2.2 k0_h1
theorem k0_off131_inb : ∀ (i : grid0.Coords) (v0 : BitVec 32) (v5 : BitVec 32) (k0_hw1 : k0_chk1 i v0 v5), ∀ (k0_h1 : k0_cond1 i v0 = 1#1), ∀ a, (k0_off131 v5) a + S1x1x1.size a ≤ S32x16x11.size a := fun i v0 v5 k0_hw1 k0_h1 => k0_hw1.2.2.2.2.1.1 k0_h1
theorem k0_off132_inb : ∀ (i : grid0.Coords) (v0 : BitVec 32) (v5 : BitVec 32) (k0_hw1 : k0_chk1 i v0 v5), ∀ (k0_h1 : k0_cond1 i v0 = 1#1), ∀ a, (k0_off132 v5) a + S1x1x1.size a ≤ S32x16x11.size a := fun i v0 v5 k0_hw1 k0_h1 => k0_hw1.2.2.2.2.1.2.1 k0_h1
theorem k0_off133_inb : ∀ (i : grid0.Coords) (v0 : BitVec 32) (v5 : BitVec 32) (k0_hw1 : k0_chk1 i v0 v5), ∀ (k0_h1 : k0_cond1 i v0 = 1#1), ∀ a, (k0_off133 v5) a + S1x1x1.size a ≤ S32x16x11.size a := fun i v0 v5 k0_hw1 k0_h1 => k0_hw1.2.2.2.2.1.2.2.1 k0_h1
theorem k0_off134_inb : ∀ (i : grid0.Coords) (v0 : BitVec 32) (v5 : BitVec 32) (k0_hw1 : k0_chk1 i v0 v5), ∀ (k0_h1 : k0_cond1 i v0 = 1#1), ∀ a, (k0_off134 v5) a + S1x1x1.size a ≤ S32x16x11.size a := fun i v0 v5 k0_hw1 k0_h1 => k0_hw1.2.2.2.2.1.2.2.2.1 k0_h1
theorem k0_off135_inb : ∀ (i : grid0.Coords) (v0 : BitVec 32) (v5 : BitVec 32) (k0_hw1 : k0_chk1 i v0 v5), ∀ (k0_h1 : k0_cond1 i v0 = 1#1), ∀ a, (k0_off135 v5) a + S1x1x1.size a ≤ S32x16x11.size a := fun i v0 v5 k0_hw1 k0_h1 => k0_hw1.2.2.2.2.1.2.2.2.2.1 k0_h1
theorem k0_off136_inb : ∀ (i : grid0.Coords) (v0 : BitVec 32) (v5 : BitVec 32) (k0_hw1 : k0_chk1 i v0 v5), ∀ (k0_h1 : k0_cond1 i v0 = 1#1), ∀ a, (k0_off136 v5) a + S1x1x1.size a ≤ S32x16x11.size a := fun i v0 v5 k0_hw1 k0_h1 => k0_hw1.2.2.2.2.1.2.2.2.2.2.1 k0_h1
theorem k0_off137_inb : ∀ (i : grid0.Coords) (v0 : BitVec 32) (v5 : BitVec 32) (k0_hw1 : k0_chk1 i v0 v5), ∀ (k0_h1 : k0_cond1 i v0 = 1#1), ∀ a, (k0_off137 v5) a + S1x1x1.size a ≤ S32x16x11.size a := fun i v0 v5 k0_hw1 k0_h1 => k0_hw1.2.2.2.2.1.2.2.2.2.2.2.1 k0_h1
theorem k0_off138_inb : ∀ (i : grid0.Coords) (v0 : BitVec 32) (v5 : BitVec 32) (k0_hw1 : k0_chk1 i v0 v5), ∀ (k0_h1 : k0_cond1 i v0 = 1#1), ∀ a, (k0_off138 v5) a + S1x1x1.size a ≤ S32x16x11.size a := fun i v0 v5 k0_hw1 k0_h1 => k0_hw1.2.2.2.2.1.2.2.2.2.2.2.2.1 k0_h1
theorem k0_off139_inb : ∀ (i : grid0.Coords) (v0 : BitVec 32) (v5 : BitVec 32) (k0_hw1 : k0_chk1 i v0 v5), ∀ (k0_h1 : k0_cond1 i v0 = 1#1), ∀ a, (k0_off139 v5) a + S1x1x1.size a ≤ S32x16x11.size a := fun i v0 v5 k0_hw1 k0_h1 => k0_hw1.2.2.2.2.1.2.2.2.2.2.2.2.2.1 k0_h1
theorem k0_off140_inb : ∀ (i : grid0.Coords) (v0 : BitVec 32) (v5 : BitVec 32) (k0_hw1 : k0_chk1 i v0 v5), ∀ (k0_h1 : k0_cond1 i v0 = 1#1), ∀ a, (k0_off140 v5) a + S1x1x1.size a ≤ S32x16x11.size a := fun i v0 v5 k0_hw1 k0_h1 => k0_hw1.2.2.2.2.1.2.2.2.2.2.2.2.2.2.1 k0_h1
theorem k0_off141_inb : ∀ (i : grid0.Coords) (v0 : BitVec 32) (v5 : BitVec 32) (k0_hw1 : k0_chk1 i v0 v5), ∀ (k0_h1 : k0_cond1 i v0 = 1#1), ∀ a, (k0_off141 v5) a + S1x1x1.size a ≤ S32x16x11.size a := fun i v0 v5 k0_hw1 k0_h1 => k0_hw1.2.2.2.2.1.2.2.2.2.2.2.2.2.2.2.1 k0_h1
theorem k0_off142_inb : ∀ (i : grid0.Coords) (v0 : BitVec 32) (v5 : BitVec 32) (k0_hw1 : k0_chk1 i v0 v5), ∀ (k0_h1 : k0_cond1 i v0 = 1#1), ∀ a, (k0_off142 v5) a + S1x1x1.size a ≤ S32x16x11.size a := fun i v0 v5 k0_hw1 k0_h1 => k0_hw1.2.2.2.2.1.2.2.2.2.2.2.2.2.2.2.2.1 k0_h1
theorem k0_off143_inb : ∀ (i : grid0.Coords) (v0 : BitVec 32) (v5 : BitVec 32) (k0_hw1 : k0_chk1 i v0 v5), ∀ (k0_h1 : k0_cond1 i v0 = 1#1), ∀ a, (k0_off143 v5) a + S1x1x1.size a ≤ S32x16x11.size a := fun i v0 v5 k0_hw1 k0_h1 => k0_hw1.2.2.2.2.1.2.2.2.2.2.2.2.2.2.2.2.2.1 k0_h1
theorem k0_off144_inb : ∀ (i : grid0.Coords) (v0 : BitVec 32) (v5 : BitVec 32) (k0_hw1 : k0_chk1 i v0 v5), ∀ (k0_h1 : k0_cond1 i v0 = 1#1), ∀ a, (k0_off144 v5) a + S1x1x1.size a ≤ S32x16x11.size a := fun i v0 v5 k0_hw1 k0_h1 => k0_hw1.2.2.2.2.1.2.2.2.2.2.2.2.2.2.2.2.2.2.1 k0_h1
theorem k0_off145_inb : ∀ (i : grid0.Coords) (v0 : BitVec 32) (v5 : BitVec 32) (k0_hw1 : k0_chk1 i v0 v5), ∀ (k0_h1 : k0_cond1 i v0 = 1#1), ∀ a, (k0_off145 v5) a + S1x1x1.size a ≤ S32x16x11.size a := fun i v0 v5 k0_hw1 k0_h1 => k0_hw1.2.2.2.2.1.2.2.2.2.2.2.2.2.2.2.2.2.2.2.1 k0_h1
theorem k0_off146_inb : ∀ (i : grid0.Coords) (v0 : BitVec 32) (v5 : BitVec 32) (k0_hw1 : k0_chk1 i v0 v5), ∀ (k0_h1 : k0_cond1 i v0 = 1#1), ∀ a, (k0_off146 v5) a + S1x1x1.size a ≤ S32x16x11.size a := fun i v0 v5 k0_hw1 k0_h1 => k0_hw1.2.2.2.2.1.2.2.2.2.2.2.2.2.2.2.2.2.2.2.2.1 k0_h1
theorem k0_off147_inb : ∀ (i : grid0.Coords) (v0 : BitVec 32) (v5 : BitVec 32) (k0_hw1 : k0_chk1 i v0 v5), ∀ (k0_h1 : k0_cond1 i v0 = 1#1), ∀ a, (k0_off147 v5) a + S1x1x1.size a ≤ S32x16x11.size a := fun i v0 v5 k0_hw1 k0_h1 => k0_hw1.2.2.2.2.1.2.2.2.2.2.2.2.2.2.2.2.2.2.2.2.2.1 k0_h1
theorem k0_off148_inb : ∀ (i : grid0.Coords) (v0 : BitVec 32) (v5 : BitVec 32) (k0_hw1 : k0_chk1 i v0 v5), ∀ (k0_h1 : k0_cond1 i v0 = 1#1), ∀ a, (k0_off148 v5) a + S1x1x1.size a ≤ S32x16x11.size a := fun i v0 v5 k0_hw1 k0_h1 => k0_hw1.2.2.2.2.1.2.2.2.2.2.2.2.2.2.2.2.2.2.2.2.2.2.1 k0_h1
theorem k0_off149_inb : ∀ (i : grid0.Coords) (v0 : BitVec 32) (v5 : BitVec 32) (k0_hw1 : k0_chk1 i v0 v5), ∀ (k0_h1 : k0_cond1 i v0 = 1#1), ∀ a, (k0_off149 v5) a + S1x1x1.size a ≤ S32x16x11.size a := fun i v0 v5 k0_hw1 k0_h1 => k0_hw1.2.2.2.2.1.2.2.2.2.2.2.2.2.2.2.2.2.2.2.2.2.2.2.1 k0_h1
theorem k0_off150_inb : ∀ (i : grid0.Coords) (v0 : BitVec 32) (v5 : BitVec 32) (k0_hw1 : k0_chk1 i v0 v5), ∀ (k0_h1 : k0_cond1 i v0 = 1#1), ∀ a, (k0_off150 v5) a + S1x1x1.size a ≤ S32x16x11.size a := fun i v0 v5 k0_hw1 k0_h1 => k0_hw1.2.2.2.2.1.2.2.2.2.2.2.2.2.2.2.2.2.2.2.2.2.2.2.2.1 k0_h1
theorem k0_off151_inb : ∀ (i : grid0.Coords) (v0 : BitVec 32) (v5 : BitVec 32) (k0_hw1 : k0_chk1 i v0 v5), ∀ (k0_h1 : k0_cond1 i v0 = 1#1), ∀ a, (k0_off151 v5) a + S1x1x1.size a ≤ S32x16x11.size a := fun i v0 v5 k0_hw1 k0_h1 => k0_hw1.2.2.2.2.1.2.2.2.2.2.2.2.2.2.2.2.2.2.2.2.2.2.2.2.2.1 k0_h1
theorem k0_off152_inb : ∀ (i : grid0.Coords) (v0 : BitVec 32) (v5 : BitVec 32) (k0_hw1 : k0_chk1 i v0 v5), ∀ (k0_h1 : k0_cond1 i v0 = 1#1), ∀ a, (k0_off152 v5) a + S1x1x1.size a ≤ S32x16x11.size a := fun i v0 v5 k0_hw1 k0_h1 => k0_hw1.2.2.2.2.1.2.2.2.2.2.2.2.2.2.2.2.2.2.2.2.2.2.2.2.2.2.1 k0_h1
theorem k0_off153_inb : ∀ (i : grid0.Coords) (v0 : BitVec 32) (v5 : BitVec 32) (k0_hw1 : k0_chk1 i v0 v5), ∀ (k0_h1 : k0_cond1 i v0 = 1#1), ∀ a, (k0_off153 v5) a + S1x1x1.size a ≤ S32x16x11.size a := fun i v0 v5 k0_hw1 k0_h1 => k0_hw1.2.2.2.2.1.2.2.2.2.2.2.2.2.2.2.2.2.2.2.2.2.2.2.2.2.2.2.1 k0_h1
theorem k0_off154_inb : ∀ (i : grid0.Coords) (v0 : BitVec 32) (v5 : BitVec 32) (k0_hw1 : k0_chk1 i v0 v5), ∀ (k0_h1 : k0_cond1 i v0 = 1#1), ∀ a, (k0_off154 v5) a + S1x1x1.size a ≤ S32x16x11.size a := fun i v0 v5 k0_hw1 k0_h1 => k0_hw1.2.2.2.2.1.2.2.2.2.2.2.2.2.2.2.2.2.2.2.2.2.2.2.2.2.2.2.2.1 k0_h1
theorem k0_off155_inb : ∀ (i : grid0.Coords) (v0 : BitVec 32) (v5 : BitVec 32) (k0_hw1 : k0_chk1 i v0 v5), ∀ (k0_h1 : k0_cond1 i v0 = 1#1), ∀ a, (k0_off155 v5) a + S1x1x1.size a ≤ S32x16x11.size a := fun i v0 v5 k0_hw1 k0_h1 => k0_hw1.2.2.2.2.1.2.2.2.2.2.2.2.2.2.2.2.2.2.2.2.2.2.2.2.2.2.2.2.2.1 k0_h1
theorem k0_off156_inb : ∀ (i : grid0.Coords) (v0 : BitVec 32) (v5 : BitVec 32) (k0_hw1 : k0_chk1 i v0 v5), ∀ (k0_h1 : k0_cond1 i v0 = 1#1), ∀ a, (k0_off156 v5) a + S1x1x1.size a ≤ S32x16x11.size a := fun i v0 v5 k0_hw1 k0_h1 => k0_hw1.2.2.2.2.1.2.2.2.2.2.2.2.2.2.2.2.2.2.2.2.2.2.2.2.2.2.2.2.2.2.1 k0_h1
theorem k0_off157_inb : ∀ (i : grid0.Coords) (v0 : BitVec 32) (v5 : BitVec 32) (k0_hw1 : k0_chk1 i v0 v5), ∀ (k0_h1 : k0_cond1 i v0 = 1#1), ∀ a, (k0_off157 v5) a + S1x1x1.size a ≤ S32x16x11.size a := fun i v0 v5 k0_hw1 k0_h1 => k0_hw1.2.2.2.2.1.2.2.2.2.2.2.2.2.2.2.2.2.2.2.2.2.2.2.2.2.2.2.2.2.2.2.1 k0_h1
theorem k0_off158_inb : ∀ (i : grid0.Coords) (v0 : BitVec 32) (v5 : BitVec 32) (k0_hw1 : k0_chk1 i v0 v5), ∀ (k0_h1 : k0_cond1 i v0 = 1#1), ∀ a, (k0_off158 v5) a + S1x1x1.size a ≤ S32x16x11.size a := fun i v0 v5 k0_hw1 k0_h1 => k0_hw1.2.2.2.2.1.2.2.2.2.2.2.2.2.2.2.2.2.2.2.2.2.2.2.2.2.2.2.2.2.2.2.2.1 k0_h1
theorem k0_off159_inb : ∀ (i : grid0.Coords) (v0 : BitVec 32) (v5 : BitVec 32) (k0_hw1 : k0_chk1 i v0 v5), ∀ (k0_h1 : k0_cond1 i v0 = 1#1), ∀ a, (k0_off159 v5) a + S1x1x1.size a ≤ S32x16x11.size a := fun i v0 v5 k0_hw1 k0_h1 => k0_hw1.2.2.2.2.1.2.2.2.2.2.2.2.2.2.2.2.2.2.2.2.2.2.2.2.2.2.2.2.2.2.2.2.2.1 k0_h1
theorem k0_off160_inb : ∀ (i : grid0.Coords) (v0 : BitVec 32) (v5 : BitVec 32) (k0_hw1 : k0_chk1 i v0 v5), ∀ (k0_h1 : k0_cond1 i v0 = 1#1), ∀ a, (k0_off160 v5) a + S1x1x1.size a ≤ S32x16x11.size a := fun i v0 v5 k0_hw1 k0_h1 => k0_hw1.2.2.2.2.1.2.2.2.2.2.2.2.2.2.2.2.2.2.2.2.2.2.2.2.2.2.2.2.2.2.2.2.2.2.1 k0_h1
theorem k0_off161_inb : ∀ (i : grid0.Coords) (v0 : BitVec 32) (v5 : BitVec 32) (k0_hw1 : k0_chk1 i v0 v5), ∀ (k0_h1 : k0_cond1 i v0 = 1#1), ∀ a, (k0_off161 v5) a + S1x1x1.size a ≤ S32x16x11.size a := fun i v0 v5 k0_hw1 k0_h1 => k0_hw1.2.2.2.2.1.2.2.2.2.2.2.2.2.2.2.2.2.2.2.2.2.2.2.2.2.2.2.2.2.2.2.2.2.2.2.1 k0_h1
theorem k0_off162_inb : ∀ (i : grid0.Coords) (v0 : BitVec 32) (v5 : BitVec 32) (k0_hw1 : k0_chk1 i v0 v5), ∀ (k0_h1 : k0_cond1 i v0 = 1#1), ∀ a, (k0_off162 v5) a + S1x1x1.size a ≤ S32x16x11.size a := fun i v0 v5 k0_hw1 k0_h1 => k0_hw1.2.2.2.2.1.2.2.2.2.2.2.2.2.2.2.2.2.2.2.2.2.2.2.2.2.2.2.2.2.2.2.2.2.2.2.2 k0_h1
theorem k0_off163_inb : ∀ (i : grid0.Coords) (v0 : BitVec 32) (v5 : BitVec 32) (k0_hw1 : k0_chk1 i v0 v5), ∀ (k0_h1 : k0_cond1 i v0 = 1#1), ∀ a, (k0_off163 v5) a + S1x1x1.size a ≤ S32x16x11.size a := fun i v0 v5 k0_hw1 k0_h1 => k0_hw1.2.2.2.2.2.1 k0_h1
theorem k0_off164_inb : ∀ (i : grid0.Coords) (v0 : BitVec 32) (v5 : BitVec 32) (k0_hw1 : k0_chk1 i v0 v5), ∀ (k0_h1 : k0_cond1 i v0 = 1#1), ∀ a, (k0_off164 v5) a + S1x1x1.size a ≤ S32x16x11.size a := fun i v0 v5 k0_hw1 k0_h1 => k0_hw1.2.2.2.2.2.2.1 k0_h1
theorem k0_off165_inb : ∀ (i : grid0.Coords) (v0 : BitVec 32) (v5 : BitVec 32) (k0_hw1 : k0_chk1 i v0 v5), ∀ (k0_h1 : k0_cond1 i v0 = 1#1), ∀ a, (k0_off165 v5) a + S1x1x1.size a ≤ S32x16x11.size a := fun i v0 v5 k0_hw1 k0_h1 => k0_hw1.2.2.2.2.2.2.2.1 k0_h1
theorem k0_off166_inb : ∀ (i : grid0.Coords) (v0 : BitVec 32) (v5 : BitVec 32) (k0_hw1 : k0_chk1 i v0 v5), ∀ (k0_h1 : k0_cond1 i v0 = 1#1), ∀ a, (k0_off166 v5) a + S1x1x1.size a ≤ S32x16x11.size a := fun i v0 v5 k0_hw1 k0_h1 => k0_hw1.2.2.2.2.2.2.2.2.1 k0_h1
theorem k0_off167_inb : ∀ (i : grid0.Coords) (v0 : BitVec 32) (v5 : BitVec 32) (k0_hw1 : k0_chk1 i v0 v5), ∀ (k0_h1 : k0_cond1 i v0 = 1#1), ∀ a, (k0_off167 v5) a + S1x1x1.size a ≤ S32x16x11.size a := fun i v0 v5 k0_hw1 k0_h1 => k0_hw1.2.2.2.2.2.2.2.2.2.1 k0_h1
theorem k0_off168_inb : ∀ (i : grid0.Coords) (v0 : BitVec 32) (v5 : BitVec 32) (k0_hw1 : k0_chk1 i v0 v5), ∀ (k0_h1 : k0_cond1 i v0 = 1#1), ∀ a, (k0_off168 v5) a + S1x1x1.size a ≤ S32x16x11.size a := fun i v0 v5 k0_hw1 k0_h1 => k0_hw1.2.2.2.2.2.2.2.2.2.2.1 k0_h1
theorem k0_off169_inb : ∀ (i : grid0.Coords) (v0 : BitVec 32) (v5 : BitVec 32) (k0_hw1 : k0_chk1 i v0 v5), ∀ (k0_h1 : k0_cond1 i v0 = 1#1), ∀ a, (k0_off169 v5) a + S1x1x1.size a ≤ S32x16x11.size a := fun i v0 v5 k0_hw1 k0_h1 => k0_hw1.2.2.2.2.2.2.2.2.2.2.2.1 k0_h1
theorem k0_off170_inb : ∀ (i : grid0.Coords) (v0 : BitVec 32) (v5 : BitVec 32) (k0_hw1 : k0_chk1 i v0 v5), ∀ (k0_h1 : k0_cond1 i v0 = 1#1), ∀ a, (k0_off170 v5) a + S1x1x1.size a ≤ S32x16x11.size a := fun i v0 v5 k0_hw1 k0_h1 => k0_hw1.2.2.2.2.2.2.2.2.2.2.2.2.1 k0_h1
theorem k0_off171_inb : ∀ (i : grid0.Coords) (v0 : BitVec 32) (v5 : BitVec 32) (k0_hw1 : k0_chk1 i v0 v5), ∀ (k0_h1 : k0_cond1 i v0 = 1#1), ∀ a, (k0_off171 v5) a + S1x1x1.size a ≤ S32x16x11.size a := fun i v0 v5 k0_hw1 k0_h1 => k0_hw1.2.2.2.2.2.2.2.2.2.2.2.2.2.1 k0_h1
theorem k0_off172_inb : ∀ (i : grid0.Coords) (v0 : BitVec 32) (v5 : BitVec 32) (k0_hw1 : k0_chk1 i v0 v5), ∀ (k0_h1 : k0_cond1 i v0 = 1#1), ∀ a, (k0_off172 v5) a + S1x1x1.size a ≤ S32x16x11.size a := fun i v0 v5 k0_hw1 k0_h1 => k0_hw1.2.2.2.2.2.2.2.2.2.2.2.2.2.2.1 k0_h1
theorem k0_off173_inb : ∀ (i : grid0.Coords) (v0 : BitVec 32) (v5 : BitVec 32) (k0_hw1 : k0_chk1 i v0 v5), ∀ (k0_h1 : k0_cond1 i v0 = 1#1), ∀ a, (k0_off173 v5) a + S1x1x1.size a ≤ S32x16x11.size a := fun i v0 v5 k0_hw1 k0_h1 => k0_hw1.2.2.2.2.2.2.2.2.2.2.2.2.2.2.2.1 k0_h1
theorem k0_off174_inb : ∀ (i : grid0.Coords) (v0 : BitVec 32) (v5 : BitVec 32) (k0_hw1 : k0_chk1 i v0 v5), ∀ (k0_h1 : k0_cond1 i v0 = 1#1), ∀ a, (k0_off174 v5) a + S1x1x1.size a ≤ S32x16x11.size a := fun i v0 v5 k0_hw1 k0_h1 => k0_hw1.2.2.2.2.2.2.2.2.2.2.2.2.2.2.2.2.1 k0_h1
theorem k0_off175_inb : ∀ (i : grid0.Coords) (v0 : BitVec 32) (v5 : BitVec 32) (k0_hw1 : k0_chk1 i v0 v5), ∀ (k0_h1 : k0_cond1 i v0 = 1#1), ∀ a, (k0_off175 v5) a + S1x1x1.size a ≤ S32x16x11.size a := fun i v0 v5 k0_hw1 k0_h1 => k0_hw1.2.2.2.2.2.2.2.2.2.2.2.2.2.2.2.2.2.1 k0_h1
theorem k0_off176_inb : ∀ (i : grid0.Coords) (v0 : BitVec 32) (v5 : BitVec 32) (k0_hw1 : k0_chk1 i v0 v5), ∀ (k0_h1 : k0_cond1 i v0 = 1#1), ∀ a, (k0_off176 v5) a + S1x1x1.size a ≤ S32x16x11.size a := fun i v0 v5 k0_hw1 k0_h1 => k0_hw1.2.2.2.2.2.2.2.2.2.2.2.2.2.2.2.2.2.2.1 k0_h1
theorem k0_off177_inb : ∀ (i : grid0.Coords) (v0 : BitVec 32) (v5 : BitVec 32) (k0_hw1 : k0_chk1 i v0 v5), ∀ (k0_h1 : k0_cond1 i v0 = 1#1), ∀ a, (k0_off177 v5) a + S1x1x1.size a ≤ S32x16x11.size a := fun i v0 v5 k0_hw1 k0_h1 => k0_hw1.2.2.2.2.2.2.2.2.2.2.2.2.2.2.2.2.2.2.2.1 k0_h1
theorem k0_off178_inb : ∀ (i : grid0.Coords) (v0 : BitVec 32) (v5 : BitVec 32) (k0_hw1 : k0_chk1 i v0 v5), ∀ (k0_h1 : k0_cond1 i v0 = 1#1), ∀ a, (k0_off178 v5) a + S1x1x1.size a ≤ S32x16x11.size a := fun i v0 v5 k0_hw1 k0_h1 => k0_hw1.2.2.2.2.2.2.2.2.2.2.2.2.2.2.2.2.2.2.2.2 k0_h1

def cc0_transform_0 (k0_off1_inb : ∀ i : grid0.Coords, ∀ a, (k0_off1 i) a + S1.size a ≤ S127.size a) (numel1_S1 : S1.numel = 1) (pf : pre0.Contents (Elt F)) (i : grid0.Coords) : Fin 2 → Nat :=
  let arg0 : BitVec 32 := BitVec.ofNat 32 (i 0).val
  let v0 : Index := Scalar.indexCast arg0
  let v1 : BitVec 32 := pf.at 1 (Rect.unit (s := S127) ![v0.toNat] S1.size (k0_off1_inb i)) numel1_S1
  let c0_i32 : BitVec 32 := 0#32
  let c0_i32_0 : BitVec 32 := 0#32
  ![v1.toNat, c0_i32.toNat]

def cc0_transform_1 (k0_off1_inb : ∀ i : grid0.Coords, ∀ a, (k0_off1 i) a + S1.size a ≤ S127.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S127) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_2 (k0_off1_inb : ∀ i : grid0.Coords, ∀ a, (k0_off1 i) a + S1.size a ≤ S127.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S127) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (k0_off1_inb : ∀ i : grid0.Coords, ∀ a, (k0_off1 i) a + S1.size a ≤ S127.size a) (numel1_S1 : S1.numel = 1) (pf : pre0.Contents (Elt F)) (i : grid0.Coords) : Fin 2 → Nat :=
  let arg0 : BitVec 32 := BitVec.ofNat 32 (i 0).val
  let v0 : Index := Scalar.indexCast arg0
  let v1 : BitVec 32 := pf.at 1 (Rect.unit (s := S127) ![v0.toNat] S1.size (k0_off1_inb i)) numel1_S1
  let c0_i32 : BitVec 32 := 0#32
  let c0_i32_0 : BitVec 32 := 0#32
  ![v1.toNat, c0_i32.toNat]

abbrev stage0_0 : Fin 2 → Memref sig .tc .vmem S256x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x2048x1408 .fp8e4m3 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x2048x1408 .fp8e4m3 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .smem S32x16x11 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .smem S32x16x11 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S256x1408 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== ReferenceIdeal.lean ====
abbrev S24576x2048 : Shape := ⟨2, ![24576, 2048]⟩
abbrev S32 : Shape := ⟨1, ![32]⟩
abbrev S32x2048x1408 : Shape := ⟨3, ![32, 2048, 1408]⟩
abbrev S32x16x11 : Shape := ⟨3, ![32, 16, 11]⟩
abbrev S_ : Shape := ⟨0, ![]⟩
abbrev S32x1x1 : Shape := ⟨3, ![32, 1, 1]⟩
abbrev S24576x1408 : Shape := ⟨2, ![24576, 1408]⟩
abbrev S24576x16x128 : Shape := ⟨3, ![24576, 16, 128]⟩
abbrev S24576x16 : Shape := ⟨2, ![24576, 16]⟩
abbrev S24576x16x1 : Shape := ⟨3, ![24576, 16, 1]⟩
abbrev S1x1x247 : Shape := ⟨3, ![1, 1, 247]⟩
abbrev S24576x16x247 : Shape := ⟨3, ![24576, 16, 247]⟩
abbrev S1x24576x2048 : Shape := ⟨3, ![1, 24576, 2048]⟩
abbrev S32x24576x2048 : Shape := ⟨3, ![32, 24576, 2048]⟩
abbrev S32x24576x1408 : Shape := ⟨3, ![32, 24576, 1408]⟩
abbrev S32x16x128x11x128 : Shape := ⟨5, ![32, 16, 128, 11, 128]⟩
abbrev S32x16x1x11x1 : Shape := ⟨5, ![32, 16, 1, 11, 1]⟩

abbrev nBuf : Space → Nat
  | .hbm => 13
  | .vmem => 8
  | .smem => 0
  | _ => 0

abbrev bufTy : (tb : Table) → Fin (tcTables nBuf tb) → BufTy
  | .hbm, ⟨0, _⟩ => ⟨S24576x2048, .bf16⟩
  | .hbm, ⟨1, _⟩ => ⟨S32, .i32⟩
  | .hbm, ⟨2, _⟩ => ⟨S32x2048x1408, .fp8e4m3⟩
  | .hbm, ⟨3, _⟩ => ⟨S32x16x11, .f32⟩
  | .hbm, ⟨4, _⟩ => ⟨S32x2048x1408, .fp8e4m3⟩
  | .hbm, ⟨5, _⟩ => ⟨S32x16x11, .f32⟩
  | .hbm, ⟨6, _⟩ => ⟨S_, .i32⟩
  | .hbm, ⟨7, _⟩ => ⟨S_, .i32⟩
  | .hbm, ⟨8, _⟩ => ⟨S32, .i32⟩
  | .hbm, ⟨9, _⟩ => ⟨S32, .i32⟩
  | .hbm, ⟨10, _⟩ => ⟨S32x1x1, .i32⟩
  | .hbm, ⟨11, _⟩ => ⟨S32x1x1, .i32⟩
  | .hbm, ⟨12, _⟩ => ⟨S24576x1408, .bf16⟩
  | .local _ .vmem, ⟨0, _⟩ => ⟨S24576x2048, .bf16⟩
  | .local _ .vmem, ⟨1, _⟩ => ⟨S32x1x1, .i32⟩
  | .local _ .vmem, ⟨2, _⟩ => ⟨S32x1x1, .i32⟩
  | .local _ .vmem, ⟨3, _⟩ => ⟨S32x2048x1408, .fp8e4m3⟩
  | .local _ .vmem, ⟨4, _⟩ => ⟨S32x16x11, .f32⟩
  | .local _ .vmem, ⟨5, _⟩ => ⟨S32x2048x1408, .fp8e4m3⟩
  | .local _ .vmem, ⟨6, _⟩ => ⟨S32x16x11, .f32⟩
  | .local _ .vmem, ⟨7, _⟩ => ⟨S24576x1408, .bf16⟩
  | _, _ => ⟨S24576x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_call0_call0_c : Ref sig .tc := ⟨.hbm, 6, rfl⟩
abbrev main_call0_call0_v0 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := .none

abbrev stage0_0 : Fin 1 → Memref sig .tc .vmem S24576x2048 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S32x1x1 .i32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S32x1x1 .i32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S32x2048x1408 .fp8e4m3 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S32x16x11 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S32x2048x1408 .fp8e4m3 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S32x16x11 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S24576x1408 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
-- ==== Proof.Visits.lean ====
/- The visit schedule over the naturals. Consecutive groups of rows of sizes `G 0 … G 31`, adding up
   to 24576, are walked tile by tile (a tile is 256 rows): a group is visited once for every tile that
   holds one of its rows. Visit `v` names its group and its tile, and the facts here are what the
   kernel's safety and its result rest on: the numbers stay in range, tiles never go back, and a row
   lies in the tile of a visit of its own group. -/
module

public import Idealize.ShloMosaic.Lib.Routing.Ops

@[expose] public section

namespace Cert.Visits

variable (G : ℕ → ℕ)

/-- The first row of group `e`, and the row after the last of group `e - 1`. -/
def E (e : ℕ) : ℕ := ((List.range e).map G).sum

/-- The number of tiles that group `e` has a row in. -/
def NT (e : ℕ) : ℕ := if 0 < G e then (E G (e + 1) - 1) / 256 - E G e / 256 + 1 else 0

/-- The number of visits before group `e`'s. -/
def C (e : ℕ) : ℕ := ((List.range e).map (NT G)).sum

/-- Visit `v`, or the last one if `v` is past it. -/
def vc (v : ℕ) : ℕ := min v (C G 32 - 1)

/-- The group of visit `v`. -/
def ve (v : ℕ) : ℕ := Nat.count (fun e => C G (e + 1) ≤ vc G v) 32

/-- The tile of visit `v`. -/
def vt (v : ℕ) : ℕ := E G (ve G v) / 256 + vc G v - C G (ve G v)

theorem E_succ (e : ℕ) : E G (e + 1) = E G e + G e := by
  unfold E; rw [List.range_succ]; simp

theorem C_succ (e : ℕ) : C G (e + 1) = C G e + NT G e := by
  unfold C; rw [List.range_succ]; simp

theorem E_mono {a b : ℕ} (h : a ≤ b) : E G a ≤ E G b :=
  monotone_nat_of_le_succ (fun n => by rw [E_succ]; omega) h

theorem C_mono {a b : ℕ} (h : a ≤ b) : C G a ≤ C G b :=
  monotone_nat_of_le_succ (fun n => by rw [C_succ]; omega) h

theorem NT_pos {e : ℕ} (h : 0 < G e) : 0 < NT G e := by
  unfold NT; rw [if_pos h]; omega

theorem NT_eq {e : ℕ} (h : 0 < G e) : E G e / 256 + NT G e = (E G (e + 1) - 1) / 256 + 1 := by
  unfold NT; rw [if_pos h]
  have h1 := E_succ G e
  have : E G e / 256 ≤ (E G (e + 1) - 1) / 256 := Nat.div_le_div_right (by omega)
  omega

theorem NT_zero {e : ℕ} (h : ¬ 0 < G e) : NT G e = 0 := if_neg h

theorem C_le (n : ℕ) : (E G n = 0 → C G n = 0) ∧ (0 < E G n → C G n ≤ (E G n - 1) / 256 + n) := by
  induction n with
  | zero => exact ⟨fun _ => rfl, fun h => absurd h (by simp [E])⟩
  | succ n ih =>
    obtain ⟨h0, h1⟩ := ih
    rw [E_succ, C_succ]
    by_cases hg : 0 < G n
    · have hN := NT_eq G hg
      rw [E_succ] at hN
      refine ⟨fun h => by omega, fun _ => ?_⟩
      rcases Nat.eq_zero_or_pos (E G n) with hE | hE
      · rw [h0 hE]; rw [hE] at hN ⊢; omega
      · have := h1 hE
        have : (E G n - 1) / 256 ≤ E G n / 256 := Nat.div_le_div_right (by omega)
        omega
    · rw [NT_zero G hg, Nat.eq_zero_of_not_pos hg]
      exact ⟨fun h => h0 h, fun h => by have := h1 h; omega⟩

section Total
variable {G} (hT : E G 32 = 24576)
include hT

theorem E_le (e : ℕ) (h : e ≤ 32) : E G e ≤ 24576 := hT ▸ E_mono G h

theorem C_total_le : C G 32 ≤ 127 := by
  have := (C_le G 32).2 (by omega)
  rw [hT] at this
  omega

theorem C_total_pos : 0 < C G 32 := by
  by_contra hc
  have hz : ∀ e, e < 32 → G e = 0 := fun e he => by
    by_contra hg
    have h1 := NT_pos G (Nat.pos_of_ne_zero hg)
    have h2 := C_succ G e
    have h3 := C_mono G (show e + 1 ≤ 32 by omega)
    omega
  have : ∀ n, n ≤ 32 → E G n = 0 := fun n => by
    induction n with
    | zero => intro _; rfl
    | succ n ih => intro h; rw [E_succ, ih (by omega), hz n (by omega)]
  have := this 32 le_rfl
  omega

theorem vc_lt (v : ℕ) : vc G v < C G 32 := by
  have := C_total_pos hT
  unfold vc; omega

end Total

/-- Counting a downward closed set below its first gap. -/
theorem count_threshold (P : ℕ → Prop) [DecidablePred P] (hP : ∀ a b, a ≤ b → P b → P a) (n : ℕ) :
    (∀ i, i < Nat.count P n → P i) ∧ (Nat.count P n < n → ¬ P (Nat.count P n)) ∧ Nat.count P n ≤ n := by
  induction n with
  | zero => simp
  | succ n ih =>
    obtain ⟨h1, h2, h3⟩ := ih
    rw [Nat.count_succ]
    by_cases hp : P n
    · rw [if_pos hp]
      have hn : Nat.count P n = n := by
        by_contra hne
        exact h2 (by omega) (hP _ _ h3 hp)
      rw [hn] at h1 ⊢
      refine ⟨fun i hi => ?_, fun h => absurd h (by omega), le_rfl⟩
      rcases Nat.lt_succ_iff_lt_or_eq.1 hi with h | h
      · exact h1 i h
      · rw [h]; exact hp
    · rw [if_neg hp, Nat.add_zero]
      refine ⟨h1, fun _ => ?_, by omega⟩
      by_cases hl : Nat.count P n < n
      · exact h2 hl
      · rw [show Nat.count P n = n by omega]; exact hp

section Visit
variable {G} (hT : E G 32 = 24576)
include hT

theorem ve_spec (v : ℕ) : ve G v < 32 ∧ C G (ve G v) ≤ vc G v ∧ vc G v < C G (ve G v + 1) := by
  have hv := vc_lt hT v
  obtain ⟨h1, h2, h3⟩ := count_threshold (fun e => C G (e + 1) ≤ vc G v)
    (fun a b hab hb => (C_mono G (by omega)).trans hb) 32
  have hlt : ve G v < 32 := by
    rcases Nat.lt_or_ge (ve G v) 32 with h | h
    · exact h
    · have : C G 32 ≤ vc G v := h1 31 (show 31 < Nat.count _ 32 from by unfold ve at h; omega)
      omega
  refine ⟨hlt, ?_, ?_⟩
  · rcases Nat.eq_zero_or_pos (ve G v) with h | h
    · rw [h]; exact Nat.zero_le _
    · have := h1 (ve G v - 1) (show ve G v - 1 < ve G v by omega)
      rwa [Nat.sub_add_cancel h] at this
  · exact Nat.not_le.1 (h2 hlt)

theorem ve_lt (v : ℕ) : ve G v < 32 := (ve_spec hT v).1

theorem ve_pos (v : ℕ) : 0 < G (ve G v) := by
  obtain ⟨_, h1, h2⟩ := ve_spec hT v
  by_contra h
  rw [C_succ, NT_zero G h] at h2
  omega

/-- A visit's tile lies between its group's first and its last. -/
theorem vt_spec (v : ℕ) : E G (ve G v) / 256 ≤ vt G v ∧ vt G v ≤ (E G (ve G v + 1) - 1) / 256 ∧
    vt G v + C G (ve G v) = E G (ve G v) / 256 + vc G v := by
  obtain ⟨_, h1, h2⟩ := ve_spec hT v
  have hN := NT_eq G (ve_pos hT v)
  rw [C_succ] at h2
  unfold vt
  omega

theorem vt_lt (v : ℕ) : vt G v < 96 := by
  have h1 := (vt_spec hT v).2.1
  have h2 := E_le hT (ve G v + 1) (ve_lt hT v)
  omega

/-- Group `e`'s `j`-th visit is visit `C e + j`. -/
theorem ve_at {e j : ℕ} (he : e < 32) (hj : j < NT G e) :
    C G e + j < C G 32 ∧ ve G (C G e + j) = e ∧ vt G (C G e + j) = E G e / 256 + j := by
  have hc := C_succ G e
  have hm := C_mono G (show e + 1 ≤ 32 by omega)
  have hvc : vc G (C G e + j) = C G e + j := by unfold vc; omega
  obtain ⟨h0, h1, h2⟩ := ve_spec hT (C G e + j)
  rw [hvc] at h1 h2
  have hve : ve G (C G e + j) = e := by
    rcases Nat.lt_trichotomy (ve G (C G e + j)) e with h | h | h
    · have := C_mono G (show ve G (C G e + j) + 1 ≤ e by omega); omega
    · exact h
    · have := C_mono G (show e + 1 ≤ ve G (C G e + j) by omega); omega
  have h3 := (vt_spec hT (C G e + j)).2.2
  rw [hve, hvc] at h3
  exact ⟨by omega, hve, by omega⟩

/-- Tiles never go back, and within the walk groups do not either. -/
theorem ve_mono {v w : ℕ} (h : v ≤ w) : ve G v ≤ ve G w := by
  by_contra hc
  obtain ⟨_, h1, _⟩ := ve_spec hT v
  obtain ⟨_, _, h4⟩ := ve_spec hT w
  have := C_mono G (show ve G w + 1 ≤ ve G v by omega)
  have : vc G v ≤ vc G w := by unfold vc; omega
  omega

theorem vt_mono {v w : ℕ} (h : v ≤ w) : vt G v ≤ vt G w := by
  have hm := ve_mono hT h
  have hv := vt_spec hT v
  have hw := vt_spec hT w
  have hcc : vc G v ≤ vc G w := by unfold vc; omega
  rcases Nat.eq_or_lt_of_le hm with he | he
  · rw [he] at hv; omega
  · have h1 := E_mono G (show ve G v + 1 ≤ ve G w by omega)
    have : (E G (ve G v + 1) - 1) / 256 ≤ E G (ve G w) / 256 := Nat.div_le_div_right (by omega)
    omega

/-- Every row below the total lies in one group. -/
theorem exists_group {r : ℕ} (hr : r < 24576) : ∃ e, e < 32 ∧ E G e ≤ r ∧ r < E G (e + 1) := by
  have : ∀ n, r < E G n → ∃ e, e < n ∧ E G e ≤ r ∧ r < E G (e + 1) := fun n => by
    induction n with
    | zero => intro h; simp [E] at h
    | succ n ih =>
      intro h
      by_cases hn : r < E G n
      · obtain ⟨e, h1, h2⟩ := ih hn; exact ⟨e, by omega, h2⟩
      · exact ⟨n, by omega, by omega, h⟩
  exact this 32 (by omega)

theorem group_unique {r e f : ℕ} (he : E G e ≤ r ∧ r < E G (e + 1)) (hf : E G f ≤ r ∧ r < E G (f + 1)) : e = f := by
  rcases Nat.lt_trichotomy e f with h | h | h
  · have := E_mono G (show e + 1 ≤ f by omega); omega
  · exact h
  · have := E_mono G (show f + 1 ≤ e by omega); omega

/-- A row of group `e` lies in the tile of one of `e`'s visits. -/
theorem exists_visit {r e : ℕ} (he : e < 32) (hr : E G e ≤ r ∧ r < E G (e + 1)) :
    ∃ v, v < C G 32 ∧ ve G v = e ∧ vt G v = r / 256 := by
  have hg : 0 < G e := by have := E_succ G e; omega
  have hN := NT_eq G hg
  have h1 : E G e / 256 ≤ r / 256 := Nat.div_le_div_right hr.1
  have h2 : r / 256 ≤ (E G (e + 1) - 1) / 256 := Nat.div_le_div_right (by omega)
  obtain ⟨a, b, c⟩ := ve_at hT he (show r / 256 - E G e / 256 < NT G e by omega)
  exact ⟨_, a, b, by omega⟩

end Visit

end Cert.Visits
-- ==== Proof.Schedule.lean ====
/- The schedule's tables as the host computes them on words, and the naturals they hold. -/
module

public import proofs.«01_k».proof.Proof.Gen.KernelIdeal
public import proofs.«01_k».proof.Proof.Visits
public import Idealize.ShloMosaic.Lib.Routing.Ops
public import Idealize.ShloMosaic.Lib.Routing.OpsSet
public import Idealize.ShloMosaic.Lib.Routing.Words

@[expose] public section

noncomputable section

namespace Cert.Schedule

open Idealize.ShloMosaic Idealize.ShloMosaic.ValueIdx Idealize.ShloMosaic.Routing Cert.KernelIdeal

/-! ## The tables -/

abbrev c0 (n : BitVec 32) : IVec S_ 32 := constantI S_ 32 n
abbrev c32 (n : BitVec 32) : IVec S32 32 := broadcastInDim S32 ![] Facts₀.bcast_S_S32 (c0 n)
abbrev c127 (n : BitVec 32) : IVec S127 32 := broadcastInDim S127 ![] Facts₀.bcast_S_S127 (c0 n)

/-- The running sums of a vector of 32 words. -/
def running (x : IVec S32 32) : IVec S32 32 :=
  Host.reduceWindow IntOp.addi ![32] ![1] ![31] ![0] x (broadcastInDim S_ ![] Facts₀.bcast_S_S_ (c0 0#32))
    Facts₀.reduceWindows_S32_S32_w32s1p31_0 Facts₀.h_S_

def ends (g : IVec S32 32) : IVec S32 32 := running g
def starts (g : IVec S32 32) : IVec S32 32 := subi (ends g) g

def tiles (g : IVec S32 32) : IVec S32 32 :=
  select (cmpi .sgt g (c32 0#32))
    (addi (subi (pyDiv Facts₀.bcast_S_S32 (subi (ends g) (c32 1#32)) (c0 256#32)) (pyDiv Facts₀.bcast_S_S32 (starts g) (c0 256#32)))
      (c32 1#32))
    (c32 0#32)

def cum (g : IVec S32 32) : IVec S32 32 := running (tiles g)

def total (g : IVec S32 32) : IVec S_ 32 :=
  shapeCast S_ (extractStridedSlice S1 ![31] (cum g) Facts₀.slices_S32_S1_31) Facts₀.shapeCasts_S1_S_

def visit (g : IVec S32 32) : IVec S127 32 :=
  minsi (iotaInDim S127 32 0) (broadcastInDim S127 ![] Facts₀.bcast_S_S127 (subi (total g) (c0 1#32)))

def group (g : IVec S32 32) : IVec S127 32 :=
  Host.reduce IntOp.addi (extui 32 (cmpi .sge
      (broadcastInDim S127x32 ![0, 1] Facts₀.bcast_S127x1_S127x32_0_1 (broadcastInDim S127x1 ![0] Facts₀.bcast_S127_S127x1_0 (visit g)))
      (broadcastInDim S127x32 ![0, 1] Facts₀.bcast_S1x32_S127x32_0_1 (broadcastInDim S1x32 ![1] Facts₀.bcast_S32_S1x32_1 (cum g))))
      Facts₀.natLt_1_32) (c0 0#32) Facts₀.reducesTo_S127x32_S127_d1 Facts₀.h_S_

/-- The entries of a vector at each visit's group, as jax indexes: a negative index counts from the end. -/
def atGroup (g : IVec S32 32) (x : IVec S32 32) : IVec S127 32 :=
  Host.gather gather_S32_S127x1_S127_n_0_n_n_0_1_1 x
    (broadcastInDim S127x1 ![0] Facts₀.bcast_S127_S127x1_0
      (select (cmpi .slt (group g) (c127 0#32)) (addi (group g) (c127 32#32)) (group g)))

def tile (g : IVec S32 32) : IVec S127 32 :=
  subi (addi (pyDiv Facts₀.bcast_S_S127 (atGroup g (starts g)) (c0 256#32)) (visit g))
    (subi (atGroup g (cum g)) (atGroup g (tiles g)))

def first (g : IVec S32 32) : IVec S127 32 := atGroup g (starts g)
def last (g : IVec S32 32) : IVec S127 32 := atGroup g (ends g)
def visits (g : IVec S32 32) : IVec S1 32 := shapeCast S1 (total g) Facts₀.shapeCasts_S_S1

/-! ## What they hold -/

theorem ofNat_sub {a b : ℕ} (h : b ≤ a) : BitVec.ofNat 32 a - BitVec.ofNat 32 b = BitVec.ofNat 32 (a - b) := by
  apply BitVec.eq_of_toNat_eq
  simp only [BitVec.toNat_sub, BitVec.toNat_ofNat]
  omega

theorem ofNat_add (a b : ℕ) : BitVec.ofNat 32 a + BitVec.ofNat 32 b = BitVec.ofNat 32 (a + b) := by
  rw [BitVec.ofNat_add]

theorem toInt_small {a : ℕ} (h : a < 2 ^ 31) : (BitVec.ofNat 32 a).toInt = a :=
  StableHlo.Predicate.toInt_ofNat_small _ h

section
variable {g : IVec S32 32} {G : ℕ → ℕ} (hg : ∀ e : Fin 32, g (ix1 e) = BitVec.ofNat 32 (G e.val)) (hT : Visits.E G 32 = 24576)
include hg

theorem running_eq {x : IVec S32 32} {f : ℕ → ℕ} (hx : ∀ e : Fin 32, x (ix1 e) = BitVec.ofNat 32 (f e.val)) (e : Fin 32) :
    running x (ix1 e) = BitVec.ofNat 32 ((List.range (e.val + 1)).map f).sum :=
  cumsum1 (N := 32) (Nm1 := 31) rfl x f hx _ rfl _ _ e

theorem ends_eq (e : Fin 32) : ends g (ix1 e) = BitVec.ofNat 32 (Visits.E G (e.val + 1)) := running_eq hg hg e

theorem starts_eq (e : Fin 32) : starts g (ix1 e) = BitVec.ofNat 32 (Visits.E G e.val) := by
  unfold starts
  rw [subi_ap, ends_eq hg, hg, Visits.E_succ, ofNat_sub (by omega), Nat.add_sub_cancel]

include hT

theorem G_le (e : Fin 32) : G e.val ≤ 24576 := by
  have h1 := Visits.E_succ G e.val
  have h2 := Visits.E_le hT (e.val + 1) e.isLt
  omega

theorem tiles_eq (e : Fin 32) : tiles g (ix1 e) = BitVec.ofNat 32 (Visits.NT G e.val) := by
  have hG := G_le hg hT e
  have hE := Visits.E_le hT (e.val + 1) e.isLt
  have hs := Visits.E_succ G e.val
  have hN := fun h => Visits.NT_eq G (e := e.val) h
  unfold tiles
  rw [show ∀ (c : IVec S32 1) (a b : IVec S32 32), select c a b (ix1 e) = Scalar.select (c (ix1 e)) (a (ix1 e)) (b (ix1 e)) from fun _ _ _ => rfl]
  rw [show cmpi .sgt g (c32 0#32) (ix1 e) = IntOp.cmpi .sgt (g (ix1 e)) 0#32 from rfl, hg]
  by_cases h : 0 < G e.val
  · have hc : IntOp.cmpi .sgt (BitVec.ofNat 32 (G e.val)) 0#32 = 1#1 := by
      have : (0#32).slt (BitVec.ofNat 32 (G e.val)) = true := by
        rw [BitVec.slt_iff_toInt_lt, toInt_small (a := G e.val) (by omega)]; exact Int.natCast_pos.2 h
      simp [IntOp.cmpi, this]
    rw [hc]
    show (addi (subi _ _) _) (ix1 e) = _
    rw [addi_ap, subi_ap,
      pyDiv_ap _ (subi (ends g) (c32 1#32)) (c0 256#32) (ix1 e) (a := Visits.E G (e.val + 1) - 1) (b := 256)
        (by rw [subi_ap, ends_eq hg]; exact ofNat_sub (by omega)) rfl (by omega) (by omega) (by omega),
      pyDiv_ap _ (starts g) (c0 256#32) (ix1 e) (a := Visits.E G e.val) (b := 256) (starts_eq hg e) rfl (by omega) (by omega) (by omega)]
    have hN := hN h
    have := Visits.NT_pos G h
    rw [ofNat_sub (by omega), show c32 1#32 (ix1 e) = BitVec.ofNat 32 1 from rfl, ofNat_add]
    exact congrArg (BitVec.ofNat 32) (by omega)
  · have hc : IntOp.cmpi .sgt (BitVec.ofNat 32 (G e.val)) 0#32 = 0#1 := by
      rw [show G e.val = 0 by omega]; rfl
    rw [hc, Visits.NT_zero G h]
    rfl

theorem cum_eq (e : Fin 32) : cum g (ix1 e) = BitVec.ofNat 32 (Visits.C G (e.val + 1)) :=
  running_eq hg (tiles_eq hg hT) e

theorem total_eq (i : S_.Idx) : total g i = BitVec.ofNat 32 (Visits.C G 32) := by
  unfold total
  refine (shapeCast_apply _ _ i (ix1 (0 : Fin 1)) ?_).trans ?_
  · have : S_.numel = 1 := rfl
    have h1 : (S_.rowMajor i).val < 1 := (S_.rowMajor i).isLt
    rw [Shape.rowMajor_val_one]
    show 0 = _
    omega
  · rw [slice1 (m := 32) (n := 1) 31 _ _ (0 : Fin 1) (by decide)]
    exact cum_eq hg hT ⟨31, by decide⟩

theorem visits_eq (i : S1.Idx) : visits g i = BitVec.ofNat 32 (Visits.C G 32) := by
  unfold visits shapeCast
  exact total_eq hg hT _

theorem visit_eq (v : Fin 127) : visit g (ix1 v) = BitVec.ofNat 32 (Visits.vc G v.val) := by
  have h1 := Visits.C_total_pos hT
  have h2 := Visits.C_total_le hT
  have hv := v.isLt
  unfold visit
  rw [show ∀ a b : IVec S127 32, minsi a b (ix1 v) = IntOp.minsi (a (ix1 v)) (b (ix1 v)) from fun _ _ => rfl,
    show iotaInDim S127 32 0 (ix1 v) = BitVec.ofNat 32 v.val from rfl, bc0, subi_ap, total_eq hg hT,
    show c0 1#32 ix0 = BitVec.ofNat 32 1 from rfl, ofNat_sub (by omega)]
  unfold IntOp.minsi Visits.vc
  have := toInt_small (show v.val < 2 ^ 31 by omega)
  have := toInt_small (show Visits.C G 32 - 1 < 2 ^ 31 by omega)
  simp only [BitVec.slt_iff_toInt_lt, BitVec.sle_iff_toInt_le, *]
  split
  · exact congrArg (BitVec.ofNat 32) (by omega)
  · exact congrArg (BitVec.ofNat 32) (by omega)

theorem group_eq (v : Fin 127) : group g (ix1 v) = BitVec.ofNat 32 (Visits.ve G v.val) := by
  have hvc := Visits.vc_lt hT v.val
  have h2 := Visits.C_total_le hT
  unfold group Visits.ve
  refine reduce_count (n := 127) (m := 32) (by decide) _ _ _ _ v (fun e => Visits.C G (e + 1) ≤ Visits.vc G v.val) fun q => ?_
  have hC := Visits.C_mono G (show q.val + 1 ≤ 32 from q.isLt)
  rw [show ∀ a b : IVec S127x32 32, cmpi .sge a b (ix2 v q) = IntOp.cmpi .sge (a (ix2 v q)) (b (ix2 v q)) from fun _ _ => rfl,
    bcRows, bcCols, visit_eq hg hT, cum_eq hg hT]
  have e1 := toInt_small (show Visits.vc G v.val < 2 ^ 31 by omega)
  have e2 := toInt_small (show Visits.C G (q.val + 1) < 2 ^ 31 by omega)
  have : (BitVec.ofNat 32 (Visits.C G (q.val + 1))).sle (BitVec.ofNat 32 (Visits.vc G v.val))
      = decide (Visits.C G (q.val + 1) ≤ Visits.vc G v.val) := by
    rw [Bool.eq_iff_iff, BitVec.sle_iff_toInt_le, e1, e2]; simp
  simp only [IntOp.cmpi, this]
  by_cases h : Visits.C G (q.val + 1) ≤ Visits.vc G v.val <;> simp [h]

theorem atGroup_eq (x : IVec S32 32) (v : Fin 127) : atGroup g x (ix1 v) = x (ix1 ⟨Visits.ve G v.val, Visits.ve_lt hT v.val⟩) := by
  have hve := Visits.ve_lt hT v.val
  unfold atGroup
  refine gather_take1 (N := 32) (n := 127) _ rfl rfl rfl rfl x _ v ⟨Visits.ve G v.val, hve⟩ ?_ (by decide)
  rw [bcCol]
  show Scalar.select (IntOp.cmpi .slt (group g (ix1 v)) 0#32) (group g (ix1 v) + 32#32) (group g (ix1 v)) = _
  rw [group_eq hg hT]
  have hc : IntOp.cmpi .slt (BitVec.ofNat 32 (Visits.ve G v.val)) 0#32 = 0#1 := by
    have : (BitVec.ofNat 32 (Visits.ve G v.val)).slt 0#32 = false := by
      rw [Bool.eq_false_iff, Ne, BitVec.slt_iff_toInt_lt, toInt_small (a := Visits.ve G v.val) (by omega)]; simp
    simp [IntOp.cmpi, this]
  rw [hc]
  rfl

theorem first_eq (v : Fin 127) : first g (ix1 v) = BitVec.ofNat 32 (Visits.E G (Visits.ve G v.val)) :=
  (atGroup_eq hg hT _ v).trans (starts_eq hg _)

theorem last_eq (v : Fin 127) : last g (ix1 v) = BitVec.ofNat 32 (Visits.E G (Visits.ve G v.val + 1)) :=
  (atGroup_eq hg hT _ v).trans (ends_eq hg _)

theorem tile_eq (v : Fin 127) : tile g (ix1 v) = BitVec.ofNat 32 (Visits.vt G v.val) := by
  have hve := Visits.ve_lt hT v.val
  have hs := Visits.ve_spec hT v.val
  have hE := Visits.E_le hT _ hve.le
  have hC := Visits.C_succ G (Visits.ve G v.val)
  unfold tile
  rw [subi_ap, addi_ap, subi_ap,
    pyDiv_ap _ (atGroup g (starts g)) (c0 256#32) (ix1 v) (b := 256) (first_eq hg hT v) rfl (by omega) (by omega) (by omega),
    atGroup_eq hg hT, atGroup_eq hg hT, cum_eq hg hT, tiles_eq hg hT, visit_eq hg hT, ofNat_sub (by simp only [hC]; omega), ofNat_add,
    ofNat_sub (by simp only [hC]; omega)]
  simp only [hC, Nat.add_sub_cancel]
  rfl

end

end Cert.Schedule

end
-- ==== Proof.Covers.lean ====
/- What the precondition says of the group sizes: they are natural numbers that add up to the rows. -/
module

public import proofs.«01_k».proof.Proof.Gen.Pre_covers
public import proofs.«01_k».proof.Proof.Schedule
public import Idealize.ShloMosaic.Lib.ReduceAll

@[expose] public section

noncomputable section

namespace Cert.Covers

open Idealize.ShloMosaic Idealize.ShloMosaic.ValueIdx Idealize.ShloMosaic.Routing

/-- The group sizes as naturals. -/
def sizes (g : IVec (shape1 32) 32) (e : ℕ) : ℕ := if h : e < 32 then (g (ix1 ⟨e, h⟩)).toNat else 0

theorem sizes_eq (g : IVec (shape1 32) 32) (e : Fin 32) : g (ix1 e) = BitVec.ofNat 32 (sizes g e.val) := by
  unfold sizes; rw [dif_pos e.isLt]; simp

theorem and_one {a b : BitVec 1} (h : IntOp.andi a b = 1#1) : a = 1#1 ∧ b = 1#1 := by
  revert a b; decide

theorem sum_le (f : ℕ → ℕ) (K : ℕ) (n : ℕ) (h : ∀ i, i < n → f i ≤ K) : ((List.range n).map f).sum ≤ n * K := by
  induction n with
  | zero => simp
  | succ n ih =>
    rw [List.range_succ, List.map_append, List.sum_append]
    have := ih fun i hi => h i (by omega)
    have := h n (by omega)
    simp only [List.map_cons, List.map_nil, List.sum_cons, List.sum_nil, Nat.add_mul]
    omega

variable {F : FTy → Type} [FloatOps F]

theorem sum_eq {a0 g a2 a3 a4 a5} (h : Cert.Pre_covers.fn (F := F) a0 g a2 a3 a4 a5 = fun _ => 1#1) :
    Visits.E (sizes g) 32 = 24576 := by
  have h8 := congrFun h ix0
  obtain ⟨h5, h7⟩ := and_one h8
  have hle : ∀ i, i < 32 → sizes g i ≤ 24576 := fun i hi => by
    have hx := Host.reduce_andi_all (t := Cert.Pre_covers.S_) _ _ _ _ _ h5 (ix1 ⟨i, hi⟩)
    obtain ⟨h1, h3⟩ := and_one hx
    have h1 : IntOp.cmpi .sge (g (ix1 ⟨i, hi⟩)) 0#32 = 1#1 := h1
    have h3 : IntOp.cmpi .sle (g (ix1 ⟨i, hi⟩)) 24576#32 = 1#1 := h3
    have h1 := (StableHlo.Predicate.ofBool_eq_one_iff _).1 h1
    have h3 := (StableHlo.Predicate.ofBool_eq_one_iff _).1 h3
    simp only [BitVec.sle_iff_toInt_le] at h1 h3
    have e1 : (24576#32).toInt = 24576 := by decide
    have e0 : (0#32).toInt = 0 := by decide
    rw [e1] at h3
    rw [e0] at h1
    unfold sizes
    rw [dif_pos hi]
    have := (g (ix1 ⟨i, hi⟩)).isLt
    rw [BitVec.toInt_eq_toNat_cond] at h1 h3
    split at h1 <;> omega
  have hs := StableHlo.Predicate.cmpi_eq_iff.1 h7
  have hr := (reduce_sum (N := 32) g (sizes g) (sizes_eq g) Cert.Pre_covers.Facts.reducesTo_S32_S_d0 Cert.Pre_covers.Facts.h_S_).symm.trans hs
  have hb := sum_le (sizes g) 24576 32 hle
  have := congrArg BitVec.toNat hr
  rw [BitVec.toNat_ofNat, Nat.mod_eq_of_lt (by omega)] at this
  exact this

end Cert.Covers

end
-- ==== Proof.Rolled.lean ====
/- The kernel's body as a program with counted loops. The printed body is one straight run of some
   1800 memory operations; here the same run is written with one program per KIND of tile —
   quantise a group of columns, dequantise a block of the gate or up weights, write a block of the
   result — at a symbolic tile number, and the two are proved equal by unfolding. -/
module

public import proofs.«01_k».proof.Proof.Gen.KernelIdeal
public import proofs.«01_k».proof.Proof.Gen.KernelIdeal.Skeleton

@[expose] public section

noncomputable section

namespace Cert.KernelIdeal.Rolled

open Idealize.ShloMosaic Idealize.SL.Sem Cert.KernelIdeal Cert.KernelIdeal.Gen

variable {F : FTy → Type} [FloatOps F]

/-- The programs of one core's body. -/
abbrev P (F : FTy → Type) := Prog (TpuEff nD τ sig (Elt F) Λ₀ .tc) PUnit

/-! ## Where the tiles lie -/

theorem inbX (k : Fin 16) : ∀ a, (![0, 128 * k.val] : Fin 2 → Nat) a + S256x128.size a ≤ S256x2048.size a := by
  revert k; decide
theorem inbW (k : Fin 16) (j : Fin 2) :
    ∀ a, (![128 * k.val, 128 * j.val] : Fin 2 → Nat) a + S128x128.size a ≤ S2048x256.size a := by
  revert k j; decide
theorem inbO (n : Fin 11) : ∀ a, (![0, 128 * n.val] : Fin 2 → Nat) a + S256x128.size a ≤ S256x1408.size a := by
  revert n; decide
theorem inbQ (n : Fin 11) (k : Fin 16) :
    ∀ a, (![0, 128 * k.val, 128 * n.val] : Fin 3 → Nat) a + S1x128x128.size a ≤ S1x2048x1408.size a := by
  revert n k; decide
theorem inbS (e : Nat) (he : e < 32) (n : Fin 11) (k : Fin 16) :
    ∀ a, (![e, k.val, n.val] : Fin 3 → Nat) a + S1x1x1.size a ≤ S32x16x11.size a := by
  intro a
  match a with
  | 0 => exact he
  | 1 => exact k.isLt
  | 2 => exact n.isLt

abbrev rX (k : Fin 16) : Rect S256x2048 := Rect.unit (s := S256x2048) ![0, 128 * k.val] S256x128.size (inbX k)
abbrev rW (k : Fin 16) (j : Fin 2) : Rect S2048x256 :=
  Rect.unit (s := S2048x256) ![128 * k.val, 128 * j.val] S128x128.size (inbW k j)
abbrev rO (n : Fin 11) : Rect S256x1408 := Rect.unit (s := S256x1408) ![0, 128 * n.val] S256x128.size (inbO n)
abbrev rQ (n : Fin 11) (k : Fin 16) : Rect S1x2048x1408 :=
  Rect.unit (s := S1x2048x1408) ![0, 128 * k.val, 128 * n.val] S1x128x128.size (inbQ n k)
abbrev rS (e : Nat) (he : e < 32) (n : Fin 11) (k : Fin 16) : Rect S32x16x11 :=
  Rect.unit (s := S32x16x11) ![e, k.val, n.val] S1x1x1.size (inbS e he n k)
abbrev rV (i : grid0.Coords) : Rect S127 := Rect.unit (s := S127) (k0_off2 i) S1.size (k0_off2_inb i)

theorem packX (k : Fin 16) : (rX k).PackedRows (EltTy.packing .bf16) := by revert k; decide
theorem packW (k : Fin 16) (j : Fin 2) : (rW k j).PackedRows (EltTy.packing .bf16) := by revert k j; decide
theorem packO (n : Fin 11) : (rO n).PackedRows (EltTy.packing .bf16) := by revert n; decide

/-! ## The values written -/

/-- A group of the tile's columns, quantised: the text the first tile's payload has. -/
abbrev quant (v : Vec F S256x128 .bf16) : FVec F S256x128 .bf16 := k0_pay2 v

/-- A weight block times its scale. -/
abbrev deq (s : Elt F .f32) (w : Vec F S1x128x128 .fp8e4m3) : FVec F S128x128 .bf16 := k0_pay56 s w

/-- The rows of the tile that the visit owns. -/
abbrev mask (vt lo hi : Elt F .i32) : IVec S256x128 1 := k0_pay55 vt lo hi

/-- A block of the result: the product, gated, on the visit's own rows and the block's old contents
    on the others. -/
def outPay (mk : IVec S256x128 1) (l : Vec F S256x2048 .bf16) (w : Vec F S2048x256 .bf16)
    (old : Vec F S256x128 .bf16) : FVec F S256x128 .bf16 :=
  let acc : FVec F S256x256 .f32 :=
    matmul dot_S256x2048_S2048x256_S256x256_1_0_0_1_n_n none l w (constant S256x256 .f32 0x00000000#32)
  let g : FVec F S256x128 .f32 := extractStridedSlice S256x128 ![0, 0] acc slices_S256x256_o0_0_S256x128
  let u : FVec F S256x128 .f32 := extractStridedSlice S256x128 ![0, 128] acc slices_S256x256_o0_128_S256x128
  select mk (truncf .bf16 (mulf (mulf g (logistic g)) u) bitsLt_bf16_f32)
    (shapeCast S256x128 old shapeCasts_S256x128_S256x128)

/-! ## The programs -/

/-- `f` at each member of a list in turn, then `κ`. -/
def each {α : Type} (f : α → P F → P F) : List α → P F → P F
  | [], κ => κ
  | a :: l, κ => f a (each f l κ)

/-- Read one word of a buffer of words. -/
abbrev word {s : Shape} {e : EltTy} (m : Memref sig .tc .smem s e) (r : Rect s) (h1 : r.shape.numel = 1)
    (hp : e.packing = 1) (κ : Elt F e → P F) : P F :=
  smemLoadElt m r (View.loads_smem_one hp h1) (Shape.Idx.first (h1.symm ▸ Nat.one_pos)) κ

abbrev ld {s : Shape} {e : EltTy} (m : Memref sig .tc .vmem s e) (r : Rect s) (hl : (m.access r).Loads)
    (κ : Vec F r.shape e → P F) : P F :=
  .op (.load m r.toLoadRect (View.loadsAt_rect hl)) κ

def quantTile (arg6 : Memref sig .tc .vmem S256x2048 .bf16) (arg12 : Memref sig .tc .vmem S256x2048 .bf16)
    (harg12 : arg12.IsWhole) (k : Fin 16) (κ : P F) : P F :=
  .op (.load arg6 (rX k).toLoadRect (View.loadsAt_vmem h_S256x128)) fun v =>
  .op (.load arg12 (rX k).toLoadRect (View.loadsAt_vmem h_S256x128)) fun _ =>
  .op (.store arg12 (rX k) (quant v) Finset.univ
    (View.stores_vmem h_S256x128 (harg12.storeExact_slice rfl _ (packX k)) (fun _ => rfl)) (.inl rfl)) fun _ => κ

def weightTile (e : Nat) (he : e < 32) (argS : Memref sig .tc .smem S32x16x11 .f32)
    (argQ : Memref sig .tc .vmem S1x2048x1408 .fp8e4m3) (arg13 : Memref sig .tc .vmem S2048x256 .bf16)
    (harg13 : arg13.IsWhole) (j : Fin 2) (n : Fin 11) (k : Fin 16) (κ : P F) : P F :=
  word argS (rS e he n k) numel1_S1x1x1 rfl fun s =>
  .op (.load argQ (rQ n k).toLoadRect (View.loadsAt_vmem h_S1x128x128)) fun w =>
  .op (.load arg13 (rW k j).toLoadRect (View.loadsAt_vmem h_S128x128)) fun _ =>
  .op (.store arg13 (rW k j) (deq s w) Finset.univ
    (View.stores_vmem h_S128x128 (harg13.storeExact_slice rfl _ (packW k j)) (fun _ => rfl)) (.inl rfl)) fun _ => κ

def outTile (mk : IVec S256x128 1) (arg11 : Memref sig .tc .vmem S256x1408 .bf16) (harg11 : arg11.IsWhole)
    (arg12 : Memref sig .tc .vmem S256x2048 .bf16) (arg13 : Memref sig .tc .vmem S2048x256 .bf16)
    (n : Fin 11) (κ : P F) : P F :=
  .op (.load arg12 (Rect.unit (s := S256x2048) ![0, 0] S256x2048.size inb_S256x2048_S256x2048_0_0).toLoadRect
    (View.loadsAt_vmem h_S256x2048)) fun l =>
  .op (.load arg13 (Rect.unit (s := S2048x256) ![0, 0] S2048x256.size inb_S2048x256_S2048x256_0_0).toLoadRect
    (View.loadsAt_vmem h_S2048x256)) fun w =>
  .op (.load arg11 (rO n).toLoadRect (View.loadsAt_vmem h_S256x128)) fun old =>
  .op (.load arg11 (rO n).toLoadRect (View.loadsAt_vmem h_S256x128)) fun _ =>
  .op (.store arg11 (rO n) (outPay mk l w old) Finset.univ
    (View.stores_vmem h_S256x128 (harg11.storeExact_slice rfl _ (packO n)) (fun _ => rfl)) (.inl rfl)) fun _ => κ

abbrev ks : List (Fin 16) := [0, 1, 2, 3, 4, 5, 6, 7, 8, 9, 10, 11, 12, 13, 14, 15]
abbrev ns : List (Fin 11) := [0, 1, 2, 3, 4, 5, 6, 7, 8, 9, 10]

/-- One block column of the result: its weights, then the block. -/
def colTile (e : Nat) (he : e < 32) (mk : IVec S256x128 1) (arg7 arg8 : Memref sig .tc .vmem S1x2048x1408 .fp8e4m3)
    (arg9 arg10 : Memref sig .tc .smem S32x16x11 .f32)
    (arg11 : Memref sig .tc .vmem S256x1408 .bf16) (harg11 : arg11.IsWhole)
    (arg12 : Memref sig .tc .vmem S256x2048 .bf16)
    (arg13 : Memref sig .tc .vmem S2048x256 .bf16) (harg13 : arg13.IsWhole) (n : Fin 11) (κ : P F) : P F :=
  each (fun k κ => weightTile e he arg9 arg7 arg13 harg13 0 n k <|
    weightTile e he arg10 arg8 arg13 harg13 1 n k κ) ks <|
  outTile mk arg11 harg11 arg12 arg13 n κ

/-- The expert a visit names is one of the 32: what the body's check says, in one line. -/
theorem expert_lt (i : grid0.Coords) (v0 v5 : BitVec 32) (hw : k0_chk1 i v0 v5) (h1 : k0_cond1 i v0 = 1#1) :
    (Scalar.indexCast v5).toNat < 32 := hw.1.1 h1 0

/-- The body of an active visit. -/
def visit (i : grid0.Coords) (arg1 arg2 arg3 arg4 : Memref sig .tc .smem S127 .i32)
    (arg6 : Memref sig .tc .vmem S256x2048 .bf16) (arg7 arg8 : Memref sig .tc .vmem S1x2048x1408 .fp8e4m3)
    (arg9 arg10 : Memref sig .tc .smem S32x16x11 .f32)
    (arg11 : Memref sig .tc .vmem S256x1408 .bf16) (harg11 : arg11.IsWhole)
    (arg12 : Memref sig .tc .vmem S256x2048 .bf16) (harg12 : arg12.IsWhole)
    (arg13 : Memref sig .tc .vmem S2048x256 .bf16) (harg13 : arg13.IsWhole)
    (v0 : BitVec 32) (h1 : k0_cond1 i v0 = 1#1) : P F :=
  word arg1 (rV i) numel1_S1 rfl fun v5 =>
  .op (.assume (k0_chk1 i v0 v5) (k0_chk1.dec i v0 v5)) fun hw =>
  each (quantTile arg6 arg12 harg12) ks <|
  word arg2 (rV i) numel1_S1 rfl fun vt =>
  word arg3 (rV i) numel1_S1 rfl fun lo =>
  word arg4 (rV i) numel1_S1 rfl fun hi =>
  each (colTile (Scalar.indexCast v5).toNat (expert_lt i v0 v5 hw.down h1) (mask (F := F) vt lo hi)
    arg7 arg8 arg9 arg10 arg11 harg11 arg12 arg13 harg13) ns <|
  .ret ⟨⟩

/-- The body: nothing past the last visit. -/
def body (i : grid0.Coords) (arg1 arg2 arg3 arg4 : Memref sig .tc .smem S127 .i32)
    (arg5 : Memref sig .tc .smem S1 .i32)
    (arg6 : Memref sig .tc .vmem S256x2048 .bf16) (arg7 arg8 : Memref sig .tc .vmem S1x2048x1408 .fp8e4m3)
    (arg9 arg10 : Memref sig .tc .smem S32x16x11 .f32)
    (arg11 : Memref sig .tc .vmem S256x1408 .bf16) (harg11 : arg11.IsWhole)
    (arg12 : Memref sig .tc .vmem S256x2048 .bf16) (harg12 : arg12.IsWhole)
    (arg13 : Memref sig .tc .vmem S2048x256 .bf16) (harg13 : arg13.IsWhole) : P F :=
  word arg5 (Rect.unit (s := S1) ![0] S1.size inb_S1_S1_0) numel1_S1 rfl fun v0 =>
  if h1 : k0_cond1 i v0 = 1#1 then
    visit i arg1 arg2 arg3 arg4 arg6 arg7 arg8 arg9 arg10 arg11 harg11 arg12 harg12 arg13 harg13 v0 h1
  else .ret ⟨⟩

end Cert.KernelIdeal.Rolled
-- ==== Proof.Steps.lean ====
/- One memory operation on a buffer held by its logical contents (`owns`): a load returns the part it
   reads, a store replaces the rectangle it writes, a word load returns the word. Any signature. -/
module

public import Idealize.ShloMosaic.Adequacy
public import Idealize.ShloMosaic.Init
public import Idealize.ShloMosaic.Lib.Memref
public import Idealize.ShloMosaic.Rules.Step

@[expose] public section

namespace Cert.Steps

open Idealize.ShloMosaic
open Idealize.SL Idealize.SL.RA Idealize.SL.BI
open scoped Idealize.SL.BI
open Idealize.SL.BI.BIBase Idealize.SL.BI.Laws Idealize.SL.ProofMode Idealize.SL.Sem

noncomputable section

variable {nD : Nat} {τ : Topo} {sig : RefSig} {Val : EltTy → Type} {U : Type} [URA U] {Λ : Labels}
local notation "𝕄" => MT nD τ sig Unit Val ℕ U ℕ

variable {defs : Defs nD τ sig Val Λ} (𝒱 : Variants) (c : Thread nD τ) (bd : Option 𝒱.V) (E : Set ℕ)
variable {s : Shape} {e : EltTy} {α : Type} {Q : α → sProp (MT nD τ sig Unit Val ℕ U ℕ)}

/-- A write through a rectangle of a view, read back: the old contents with the rectangle replaced. -/
theorem read_write_slice {κ : Kind} {sp : Space} (v : View sig κ sp s e) (r : Rect s)
    (f : v.ty.Contents Val) (w : r.shape.Idx → Val e) :
    v.read Val ((v.slice r).write Val f w Finset.univ) = r.overlay (v.read Val f) w := by
  funext y
  by_cases h : y ∈ r.set
  · rw [← Rect.map_emb_univ, Finset.mem_map] at h
    obtain ⟨x, -, rfl⟩ := h
    rw [View.read_slice_write_emb _ _ _ (Finset.mem_univ x), Rect.overlay_emb]
  · rw [View.read_slice_write_of_not_mem _ _ _ _ (by rw [Rect.map_emb_univ]; exact h),
      Rect.overlay_of_not_mem _ _ _ h]

theorem own_load {cs : CoreSpace} {m : Memref sig c.2.kind cs s e} {r : LoadRect s} {hl : m.view.LoadsAt r}
    {k : (r.shape.Idx → Val e) → Prog (TpuEff nD τ sig Val Λ c.2) α} {q : PosShare TreeShare} {X : s.Idx → Val e} :
    (owns c m q X : sProp 𝕄)
      ⊢ iprop((owns c m q X -∗ wp frame (wpE defs 𝒱 c bd) E (k fun x => X (r.idx x)) Q)
        -∗ wp frame (wpE defs 𝒱 c bd) E (.op (.load m r hl) k) Q) := by
  unfold owns
  iintro ⟨%f, %hf, H⟩ K
  iapply (wp_load 𝒱 c bd E (hl := hl) (k := k) (S := m.view.set) (f := f) (q := q)
    (by rw [← View.setOn_univ]; exact Finset.map_subset_map.2 (Finset.subset_univ _))) $$ H
  iintro H
  have he : (m.view.readAt Val r f) = fun x => X (r.idx x) := by
    funext x; rw [View.readAt_apply, hf]
  rw [he]
  iapply K
  iexists f
  isplitr; · ipureintro; exact hf
  iexact H

theorem own_store {cs : CoreSpace} {m : Memref sig c.2.kind cs s e} {r : Rect s} {w : r.shape.Idx → Val e}
    {hx : (m.access r).Stores Finset.univ} {hm : (Finset.univ : Finset r.shape.Idx) = Finset.univ ∨ ∀ a, r.stride a = 1}
    {k : PUnit → Prog (TpuEff nD τ sig Val Λ c.2) α} {X : s.Idx → Val e} :
    (owns c m fullShare X : sProp 𝕄)
      ⊢ iprop((owns c m fullShare (r.overlay X w) -∗ wp frame (wpE defs 𝒱 c bd) E (k ⟨⟩) Q)
        -∗ wp frame (wpE defs 𝒱 c bd) E (.op (.store m r w Finset.univ hx hm) k) Q) := by
  unfold owns
  iintro ⟨%f, %hf, H⟩ K
  iapply (wp_store 𝒱 c bd E (hx := hx) (hm := hm) (k := k) (S := m.view.set) (f := f)
    (by
      show (m.view.slice r).set ⊆ _
      rw [View.set_slice, ← View.setOn_univ]; exact Finset.map_subset_map.2 (Finset.subset_univ _))) $$ H
  iintro H
  iapply K
  iexists ((m.access r).write Val f w Finset.univ)
  isplitr; · ipureintro; rw [← hf]; exact read_write_slice m.view r f w
  iexact H

theorem own_word {m : Memref sig c.2.kind .smem s e} {r : Rect s} {hw : (m.access r).Loads} {x : r.shape.Idx}
    {k : Val e → Prog (TpuEff nD τ sig Val Λ c.2) α} {q : PosShare TreeShare} {X : s.Idx → Val e} :
    (owns c m q X : sProp 𝕄)
      ⊢ iprop((owns c m q X -∗ wp frame (wpE defs 𝒱 c bd) E (k (X (r.idx x))) Q)
        -∗ wp frame (wpE defs 𝒱 c bd) E (smemLoadElt m r hw x k) Q) :=
  own_load 𝒱 c bd E (k := fun f => k (f x))

end

end Cert.Steps
-- ==== Proof.Body.lean ====
/- What the rolled body does to the buffers it is handed, exactly: each loop of tiles is a fold of one
   pure step, so the whole visit is a function of the buffers' contents. -/
module

public import proofs.«01_k».proof.Proof.Rolled
public import proofs.«01_k».proof.Proof.Steps

@[expose] public section

noncomputable section

namespace Cert.KernelIdeal.Rolled

open Idealize.ShloMosaic
open Idealize.SL Idealize.SL.RA Idealize.SL.BI
open scoped Idealize.SL.BI
open Idealize.SL.BI.BIBase Idealize.SL.BI.Laws Idealize.SL.ProofMode Idealize.SL.Sem
open Cert.KernelIdeal Cert.KernelIdeal.Gen Cert.Steps

variable {F : FTy → Type} [FloatOps F]

/-! ## The pure steps -/

def quantAt (X A : S256x2048.Idx → Elt F .bf16) (k : Fin 16) : S256x2048.Idx → Elt F .bf16 :=
  (rX k).overlay A (quant fun x => X ((rX k).idx x))

def scaleAt (S : S32x16x11.Idx → Elt F .f32) (e : Nat) (he : e < 32) (n : Fin 11) (k : Fin 16) : Elt F .f32 :=
  S ((rS e he n k).idx (Shape.Idx.first (numel1_S1x1x1.symm ▸ Nat.one_pos)))

def weightAt (S : S32x16x11.Idx → Elt F .f32) (Qw : S1x2048x1408.Idx → Elt F .fp8e4m3) (e : Nat) (he : e < 32)
    (j : Fin 2) (n : Fin 11) (W : S2048x256.Idx → Elt F .bf16) (k : Fin 16) : S2048x256.Idx → Elt F .bf16 :=
  (rW k j).overlay W (deq (scaleAt S e he n k) fun x => Qw ((rQ n k).idx x))

def outAt (mk : IVec S256x128 1) (A : S256x2048.Idx → Elt F .bf16) (W : S2048x256.Idx → Elt F .bf16)
    (O : S256x1408.Idx → Elt F .bf16) (n : Fin 11) : S256x1408.Idx → Elt F .bf16 :=
  (rO n).overlay O (outPay mk
    (fun x => A ((Rect.unit (s := S256x2048) ![0, 0] S256x2048.size inb_S256x2048_S256x2048_0_0).idx x))
    (fun x => W ((Rect.unit (s := S2048x256) ![0, 0] S2048x256.size inb_S2048x256_S2048x256_0_0).idx x))
    fun x => O ((rO n).idx x))

/-- Both weight scratch halves, filled for one block column. -/
def weightsAt (Sg Su : S32x16x11.Idx → Elt F .f32) (Qg Qu : S1x2048x1408.Idx → Elt F .fp8e4m3) (e : Nat) (he : e < 32)
    (n : Fin 11) (W : S2048x256.Idx → Elt F .bf16) : S2048x256.Idx → Elt F .bf16 :=
  ks.foldl (fun W k => weightAt Su Qu e he 1 n (weightAt Sg Qg e he 0 n W k) k) W

/-- One block column of the visit: the weights, then the block of the result. -/
def colAt (mk : IVec S256x128 1) (Sg Su : S32x16x11.Idx → Elt F .f32) (Qg Qu : S1x2048x1408.Idx → Elt F .fp8e4m3)
    (e : Nat) (he : e < 32) (A : S256x2048.Idx → Elt F .bf16)
    (WO : (S2048x256.Idx → Elt F .bf16) × (S256x1408.Idx → Elt F .bf16)) (n : Fin 11) :
    (S2048x256.Idx → Elt F .bf16) × (S256x1408.Idx → Elt F .bf16) :=
  (weightsAt Sg Su Qg Qu e he n WO.1, outAt mk A (weightsAt Sg Su Qg Qu e he n WO.1) WO.2 n)

/-! ## The programs' triples -/

variable {U : Type} [URA U]
local notation "𝕄" => MT nD τ sig Unit (Elt F) ℕ U ℕ

variable {defs : Defs nD τ sig (Elt F) Λ₀} (𝒱 : Variants) (c : Dev nD) (bd : Option 𝒱.V) (E : Set ℕ)
variable {Q : PUnit → sProp (MT nD τ sig Unit (Elt F) ℕ U ℕ)}

theorem each_wp {α S : Type} (R : S → sProp (MT nD τ sig Unit (Elt F) ℕ U ℕ)) (f : α → P F → P F) (st : S → α → S)
    (h : ∀ a s κ, R s ⊢ iprop((R (st s a) -∗ wp frame (wpE defs 𝒱 c.tc bd) E κ Q)
      -∗ wp frame (wpE defs 𝒱 c.tc bd) E (f a κ) Q)) :
    ∀ (l : List α) (s : S) (κ : P F), R s ⊢ iprop((R (l.foldl st s) -∗ wp frame (wpE defs 𝒱 c.tc bd) E κ Q)
      -∗ wp frame (wpE defs 𝒱 c.tc bd) E (each f l κ) Q)
  | [], s, κ => by
    show R s ⊢ iprop((R s -∗ wp frame (wpE defs 𝒱 c.tc bd) E κ Q) -∗ wp frame (wpE defs 𝒱 c.tc bd) E κ Q)
    iintro H K
    iapply K
    iexact H
  | a :: l, s, κ => by
    show R s ⊢ iprop((R (l.foldl st (st s a)) -∗ wp frame (wpE defs 𝒱 c.tc bd) E κ Q)
      -∗ wp frame (wpE defs 𝒱 c.tc bd) E (f a (each f l κ)) Q)
    iintro H K
    iapply (h a s (each f l κ)) $$ H
    iintro H
    iapply (each_wp R f st h l (st s a) κ) $$ H
    iexact K

section

variable (arg1 arg2 arg3 arg4 : Memref sig .tc .smem S127 .i32)
    (arg5 : Memref sig .tc .smem S1 .i32)
    (arg6 : Memref sig .tc .vmem S256x2048 .bf16) (arg7 arg8 : Memref sig .tc .vmem S1x2048x1408 .fp8e4m3)
    (arg9 arg10 : Memref sig .tc .smem S32x16x11 .f32)
    (arg11 : Memref sig .tc .vmem S256x1408 .bf16) (harg11 : arg11.IsWhole)
    (arg12 : Memref sig .tc .vmem S256x2048 .bf16) (harg12 : arg12.IsWhole)
    (arg13 : Memref sig .tc .vmem S2048x256 .bf16) (harg13 : arg13.IsWhole)

theorem quantTile_wp (X A : S256x2048.Idx → Elt F .bf16) (k : Fin 16) (κ : P F) :
    iprop(owns (c.tc : Thread nD τ) arg6 fullShare X ∗ owns (c.tc : Thread nD τ) arg12 fullShare A)
      ⊢ iprop((iprop(owns (c.tc : Thread nD τ) arg6 fullShare X
            ∗ owns (c.tc : Thread nD τ) arg12 fullShare (quantAt X A k)) -∗ wp frame (wpE defs 𝒱 c.tc bd) E κ Q)
        -∗ wp frame (wpE defs 𝒱 c.tc bd) E (quantTile arg6 arg12 harg12 k κ) Q) := by
  unfold quantTile
  iintro ⟨HX, HA⟩ K
  iapply (own_load 𝒱 (c.tc : Thread nD τ) bd E) $$ HX
  iintro HX
  iapply (own_load 𝒱 (c.tc : Thread nD τ) bd E) $$ HA
  iintro HA
  iapply (own_store 𝒱 (c.tc : Thread nD τ) bd E) $$ HA
  iintro HA
  iapply K
  isplitl [HX]; · iexact HX
  iexact HA

theorem weightTile_wp (e : Nat) (he : e < 32) (argS : Memref sig .tc .smem S32x16x11 .f32)
    (argQ : Memref sig .tc .vmem S1x2048x1408 .fp8e4m3)
    (S : S32x16x11.Idx → Elt F .f32) (Qw : S1x2048x1408.Idx → Elt F .fp8e4m3)
    (j : Fin 2) (n : Fin 11) (W : S2048x256.Idx → Elt F .bf16) (k : Fin 16) (κ : P F) :
    iprop(owns (c.tc : Thread nD τ) argS fullShare S ∗ owns (c.tc : Thread nD τ) argQ fullShare Qw
        ∗ owns (c.tc : Thread nD τ) arg13 fullShare W)
      ⊢ iprop((iprop(owns (c.tc : Thread nD τ) argS fullShare S ∗ owns (c.tc : Thread nD τ) argQ fullShare Qw
            ∗ owns (c.tc : Thread nD τ) arg13 fullShare (weightAt S Qw e he j n W k))
            -∗ wp frame (wpE defs 𝒱 c.tc bd) E κ Q)
        -∗ wp frame (wpE defs 𝒱 c.tc bd) E (weightTile e he argS argQ arg13 harg13 j n k κ) Q) := by
  unfold weightTile
  iintro ⟨HS, HQ, HW⟩ K
  iapply (own_word 𝒱 (c.tc : Thread nD τ) bd E) $$ HS
  iintro HS
  iapply (own_load 𝒱 (c.tc : Thread nD τ) bd E) $$ HQ
  iintro HQ
  iapply (own_load 𝒱 (c.tc : Thread nD τ) bd E) $$ HW
  iintro HW
  iapply (own_store 𝒱 (c.tc : Thread nD τ) bd E) $$ HW
  iintro HW
  iapply K
  isplitl [HS]; · iexact HS
  isplitl [HQ]; · iexact HQ
  iexact HW

theorem outTile_wp (mk : IVec S256x128 1) (A : S256x2048.Idx → Elt F .bf16) (W : S2048x256.Idx → Elt F .bf16)
    (O : S256x1408.Idx → Elt F .bf16) (n : Fin 11) (κ : P F) :
    iprop(owns (c.tc : Thread nD τ) arg12 fullShare A ∗ owns (c.tc : Thread nD τ) arg13 fullShare W
        ∗ owns (c.tc : Thread nD τ) arg11 fullShare O)
      ⊢ iprop((iprop(owns (c.tc : Thread nD τ) arg12 fullShare A ∗ owns (c.tc : Thread nD τ) arg13 fullShare W
            ∗ owns (c.tc : Thread nD τ) arg11 fullShare (outAt mk A W O n))
            -∗ wp frame (wpE defs 𝒱 c.tc bd) E κ Q)
        -∗ wp frame (wpE defs 𝒱 c.tc bd) E (outTile mk arg11 harg11 arg12 arg13 n κ) Q) := by
  unfold outTile
  iintro ⟨HA, HW, HO⟩ K
  iapply (own_load 𝒱 (c.tc : Thread nD τ) bd E) $$ HA
  iintro HA
  iapply (own_load 𝒱 (c.tc : Thread nD τ) bd E) $$ HW
  iintro HW
  iapply (own_load 𝒱 (c.tc : Thread nD τ) bd E) $$ HO
  iintro HO
  iapply (own_load 𝒱 (c.tc : Thread nD τ) bd E) $$ HO
  iintro HO
  iapply (own_store 𝒱 (c.tc : Thread nD τ) bd E) $$ HO
  iintro HO
  iapply K
  isplitl [HA]; · iexact HA
  isplitl [HW]; · iexact HW
  iexact HO

/-- One block column. -/
theorem col_wp (e : Nat) (he : e < 32) (mk : IVec S256x128 1) (Sg Su : S32x16x11.Idx → Elt F .f32)
    (Qg Qu : S1x2048x1408.Idx → Elt F .fp8e4m3) (A : S256x2048.Idx → Elt F .bf16)
    (n : Fin 11) (WO : (S2048x256.Idx → Elt F .bf16) × (S256x1408.Idx → Elt F .bf16)) (κ : P F) :
    iprop(owns (c.tc : Thread nD τ) arg9 fullShare Sg ∗ owns (c.tc : Thread nD τ) arg10 fullShare Su
        ∗ owns (c.tc : Thread nD τ) arg7 fullShare Qg ∗ owns (c.tc : Thread nD τ) arg8 fullShare Qu
        ∗ owns (c.tc : Thread nD τ) arg12 fullShare A
        ∗ owns (c.tc : Thread nD τ) arg13 fullShare WO.1 ∗ owns (c.tc : Thread nD τ) arg11 fullShare WO.2)
      ⊢ iprop((iprop(owns (c.tc : Thread nD τ) arg9 fullShare Sg ∗ owns (c.tc : Thread nD τ) arg10 fullShare Su
            ∗ owns (c.tc : Thread nD τ) arg7 fullShare Qg ∗ owns (c.tc : Thread nD τ) arg8 fullShare Qu
            ∗ owns (c.tc : Thread nD τ) arg12 fullShare A
            ∗ owns (c.tc : Thread nD τ) arg13 fullShare (colAt mk Sg Su Qg Qu e he A WO n).1
            ∗ owns (c.tc : Thread nD τ) arg11 fullShare (colAt mk Sg Su Qg Qu e he A WO n).2)
            -∗ wp frame (wpE defs 𝒱 c.tc bd) E κ Q)
        -∗ wp frame (wpE defs 𝒱 c.tc bd) E
          (colTile e he mk arg7 arg8 arg9 arg10 arg11 harg11 arg12 arg13 harg13 n κ) Q) := by
  unfold colTile
  iintro ⟨HSg, HSu, HQg, HQu, HA, HW, HO⟩ K
  iapply (each_wp (Q := Q) 𝒱 c bd E
    (fun W => iprop(owns (c.tc : Thread nD τ) arg9 fullShare Sg ∗ owns (c.tc : Thread nD τ) arg10 fullShare Su
        ∗ owns (c.tc : Thread nD τ) arg7 fullShare Qg ∗ owns (c.tc : Thread nD τ) arg8 fullShare Qu
        ∗ owns (c.tc : Thread nD τ) arg13 fullShare W))
    (fun k κ => weightTile e he arg9 arg7 arg13 harg13 0 n k <| weightTile e he arg10 arg8 arg13 harg13 1 n k κ)
    (fun W k => weightAt Su Qu e he 1 n (weightAt Sg Qg e he 0 n W k) k)
    (by
      intro k W κ
      iintro ⟨HSg, HSu, HQg, HQu, HW⟩ K
      iapply (weightTile_wp 𝒱 c bd E arg13 harg13 e he arg9 arg7 Sg Qg 0 n W k) $$ [HSg HQg HW]
      · isplitl [HSg]; · iexact HSg
        isplitl [HQg]; · iexact HQg
        iexact HW
      iintro ⟨HSg, HQg, HW⟩
      iapply (weightTile_wp 𝒱 c bd E arg13 harg13 e he arg10 arg8 Su Qu 1 n _ k) $$ [HSu HQu HW]
      · isplitl [HSu]; · iexact HSu
        isplitl [HQu]; · iexact HQu
        iexact HW
      iintro ⟨HSu, HQu, HW⟩
      iapply K
      isplitl [HSg]; · iexact HSg
      isplitl [HSu]; · iexact HSu
      isplitl [HQg]; · iexact HQg
      isplitl [HQu]; · iexact HQu
      iexact HW) ks WO.1) $$ [HSg HSu HQg HQu HW]
  · isplitl [HSg]; · iexact HSg
    isplitl [HSu]; · iexact HSu
    isplitl [HQg]; · iexact HQg
    isplitl [HQu]; · iexact HQu
    iexact HW
  iintro ⟨HSg, HSu, HQg, HQu, HW⟩
  iapply (outTile_wp 𝒱 c bd E arg11 harg11 arg12 arg13 mk A _ WO.2 n) $$ [HA HW HO]
  · isplitl [HA]; · iexact HA
    isplitl [HW]; · iexact HW
    iexact HO
  iintro ⟨HA, HW, HO⟩
  iapply K
  isplitl [HSg]; · iexact HSg
  isplitl [HSu]; · iexact HSu
  isplitl [HQg]; · iexact HQg
  isplitl [HQu]; · iexact HQu
  isplitl [HA]; · iexact HA
  isplitl [HW]; · iexact HW
  iexact HO

end

attribute [irreducible] colAt weightsAt quantAt

end Cert.KernelIdeal.Rolled
-- ==== Proof.RolledEq.lean ====
module

public import proofs.«01_k».proof.Proof.Rolled

@[expose] public section

noncomputable section

namespace Cert.KernelIdeal.Rolled

open Idealize.ShloMosaic Idealize.SL.Sem Cert.KernelIdeal Cert.KernelIdeal.Gen

variable {F : FTy → Type} [FloatOps F]

set_option maxRecDepth 1000000 in
set_option maxHeartbeats 0 in
/-- The printed body is the rolled one. -/
theorem body_eq (i : grid0.Coords) (arg1 : Memref sig .tc .smem S127 .i32) (harg1 : arg1.IsWhole) (arg2 : Memref sig .tc .smem S127 .i32) (harg2 : arg2.IsWhole) (arg3 : Memref sig .tc .smem S127 .i32) (harg3 : arg3.IsWhole) (arg4 : Memref sig .tc .smem S127 .i32) (harg4 : arg4.IsWhole) (arg5 : Memref sig .tc .smem S1 .i32) (harg5 : arg5.IsWhole) (arg6 : Memref sig .tc .vmem S256x2048 .bf16) (harg6 : arg6.IsWhole) (arg7 : Memref sig .tc .vmem S1x2048x1408 .fp8e4m3) (harg7 : arg7.IsWhole) (arg8 : Memref sig .tc .vmem S1x2048x1408 .fp8e4m3) (harg8 : arg8.IsWhole) (arg9 : Memref sig .tc .smem S32x16x11 .f32) (harg9 : arg9.IsWhole) (arg10 : Memref sig .tc .smem S32x16x11 .f32) (harg10 : arg10.IsWhole) (arg11 : Memref sig .tc .vmem S256x1408 .bf16) (harg11 : arg11.IsWhole) (arg12 : Memref sig .tc .vmem S256x2048 .bf16) (harg12 : arg12.IsWhole) (arg13 : Memref sig .tc .vmem S2048x256 .bf16) (harg13 : arg13.IsWhole) :
    cc0_moe_gate_up (F := F) i arg1 harg1 arg2 harg2 arg3 harg3 arg4 harg4 arg5 harg5 arg6 harg6 arg7 harg7 arg8 harg8 arg9 harg9 arg10 harg10 arg11 harg11 arg12 harg12 arg13 harg13
      = body i arg1 arg2 arg3 arg4 arg5 arg6 arg7 arg8 arg9 arg10 arg11 harg11 arg12 harg12 arg13 harg13 := rfl

end Cert.KernelIdeal.Rolled
-- ==== Proof.Visit.lean ====
/- The whole body: at an active visit the output block becomes the visit's value on the rows the visit
   owns and keeps its contents elsewhere; past the last visit nothing changes. -/
module

public import proofs.«01_k».proof.Proof.Body
public import proofs.«01_k».proof.Proof.RolledEq

@[expose] public section

noncomputable section

namespace Cert.KernelIdeal.Rolled

open Idealize.ShloMosaic
open Idealize.SL Idealize.SL.RA Idealize.SL.BI
open scoped Idealize.SL.BI
open Idealize.SL.BI.BIBase Idealize.SL.BI.Laws Idealize.SL.ProofMode Idealize.SL.Sem
open Cert.KernelIdeal Cert.KernelIdeal.Gen Cert.Steps

variable {F : FTy → Type} [FloatOps F]

/-- The word a table holds for grid point `i`. -/
abbrev tab (T : S127.Idx → Elt F .i32) (i : grid0.Coords) : BitVec 32 :=
  T ((rV i).idx (Shape.Idx.first (numel1_S1.symm ▸ Nat.one_pos)))

/-- The number of visits, as the body reads it. -/
abbrev count (T : S1.Idx → Elt F .i32) : BitVec 32 :=
  T ((Rect.unit (s := S1) ![0] S1.size inb_S1_S1_0).idx (Shape.Idx.first (numel1_S1.symm ▸ Nat.one_pos)))

/-- The quantised tile. -/
def quantAll (X A : S256x2048.Idx → Elt F .bf16) : S256x2048.Idx → Elt F .bf16 := ks.foldl (quantAt X) A

theorem quantAll_eq (X A : S256x2048.Idx → Elt F .bf16) : quantAll X A = ks.foldl (quantAt X) A := rfl

/-- What an active visit leaves in the weight scratch and the output block. -/
def visitAt (mk : IVec S256x128 1) (Sg Su : S32x16x11.Idx → Elt F .f32) (Qg Qu : S1x2048x1408.Idx → Elt F .fp8e4m3)
    (e : Nat) (he : e < 32) (A : S256x2048.Idx → Elt F .bf16)
    (WO : (S2048x256.Idx → Elt F .bf16) × (S256x1408.Idx → Elt F .bf16)) :
    (S2048x256.Idx → Elt F .bf16) × (S256x1408.Idx → Elt F .bf16) :=
  ns.foldl (colAt mk Sg Su Qg Qu e he A) WO

theorem visitAt_eq (mk : IVec S256x128 1) (Sg Su : S32x16x11.Idx → Elt F .f32) (Qg Qu : S1x2048x1408.Idx → Elt F .fp8e4m3)
    (e : Nat) (he : e < 32) (A : S256x2048.Idx → Elt F .bf16)
    (WO : (S2048x256.Idx → Elt F .bf16) × (S256x1408.Idx → Elt F .bf16)) :
    visitAt mk Sg Su Qg Qu e he A WO = ns.foldl (colAt mk Sg Su Qg Qu e he A) WO := rfl

attribute [irreducible] visitAt quantAll

/-- The expert of the visit at `i`. -/
abbrev expertAt (T1 : S127.Idx → Elt F .i32) (i : grid0.Coords) : Nat := (Scalar.indexCast (tab T1 i) : BitVec 32).toNat

/-- What the body may leave in the output block, given what it found there. -/
def After (i : grid0.Coords) (T1 T2 T3 T4 : S127.Idx → Elt F .i32) (T5 : S1.Idx → Elt F .i32)
    (X : S256x2048.Idx → Elt F .bf16) (Qg Qu : S1x2048x1408.Idx → Elt F .fp8e4m3)
    (Sg Su : S32x16x11.Idx → Elt F .f32) (O O' : S256x1408.Idx → Elt F .bf16) : Prop :=
  (k0_cond1 i (count T5) = 1#1 → ∃ (he : expertAt T1 i < 32) (A : S256x2048.Idx → Elt F .bf16)
      (W : S2048x256.Idx → Elt F .bf16),
    O' = (visitAt (mask (F := F) (tab T2 i) (tab T3 i) (tab T4 i)) Sg Su Qg Qu _ he (quantAll X A) (W, O)).2)
  ∧ (k0_cond1 i (count T5) ≠ 1#1 → O' = O)

variable {U : Type} [URA U]
local notation "𝕄" => MT nD τ sig Unit (Elt F) ℕ U ℕ

variable {defs : Defs nD τ sig (Elt F) Λ₀} (𝒱 : Variants) (c : Dev nD) (bd : Option 𝒱.V) (E : Set ℕ)
variable {Q : PUnit → sProp (MT nD τ sig Unit (Elt F) ℕ U ℕ)}

variable (i : grid0.Coords) (arg1 arg2 arg3 arg4 : Memref sig .tc .smem S127 .i32)
    (arg5 : Memref sig .tc .smem S1 .i32)
    (arg6 : Memref sig .tc .vmem S256x2048 .bf16) (arg7 arg8 : Memref sig .tc .vmem S1x2048x1408 .fp8e4m3)
    (arg9 arg10 : Memref sig .tc .smem S32x16x11 .f32)
    (arg11 : Memref sig .tc .vmem S256x1408 .bf16) (harg11 : arg11.IsWhole)
    (arg12 : Memref sig .tc .vmem S256x2048 .bf16) (harg12 : arg12.IsWhole)
    (arg13 : Memref sig .tc .vmem S2048x256 .bf16) (harg13 : arg13.IsWhole)

/-- Every block column. -/
theorem cols_wp (l : List (Fin 11)) (e : Nat) (he : e < 32) (mk : IVec S256x128 1) (Sg Su : S32x16x11.Idx → Elt F .f32)
    (Qg Qu : S1x2048x1408.Idx → Elt F .fp8e4m3) (A : S256x2048.Idx → Elt F .bf16)
    (WO : (S2048x256.Idx → Elt F .bf16) × (S256x1408.Idx → Elt F .bf16)) (κ : P F) :
    iprop(owns (c.tc : Thread nD τ) arg9 fullShare Sg ∗ owns (c.tc : Thread nD τ) arg10 fullShare Su
        ∗ owns (c.tc : Thread nD τ) arg7 fullShare Qg ∗ owns (c.tc : Thread nD τ) arg8 fullShare Qu
        ∗ owns (c.tc : Thread nD τ) arg12 fullShare A
        ∗ owns (c.tc : Thread nD τ) arg13 fullShare WO.1 ∗ owns (c.tc : Thread nD τ) arg11 fullShare WO.2)
      ⊢ iprop((iprop(owns (c.tc : Thread nD τ) arg9 fullShare Sg ∗ owns (c.tc : Thread nD τ) arg10 fullShare Su
            ∗ owns (c.tc : Thread nD τ) arg7 fullShare Qg ∗ owns (c.tc : Thread nD τ) arg8 fullShare Qu
            ∗ owns (c.tc : Thread nD τ) arg12 fullShare A
            ∗ owns (c.tc : Thread nD τ) arg13 fullShare (l.foldl (colAt mk Sg Su Qg Qu e he A) WO).1
            ∗ owns (c.tc : Thread nD τ) arg11 fullShare (l.foldl (colAt mk Sg Su Qg Qu e he A) WO).2)
            -∗ wp frame (wpE defs 𝒱 c.tc bd) E κ Q)
        -∗ wp frame (wpE defs 𝒱 c.tc bd) E
          (each (colTile e he mk arg7 arg8 arg9 arg10 arg11 harg11 arg12 arg13 harg13) l κ) Q) := by
  have h := each_wp (defs := defs) (Q := Q) 𝒱 c bd E
    (fun WO : (S2048x256.Idx → Elt F .bf16) × (S256x1408.Idx → Elt F .bf16) => iprop(owns (c.tc : Thread nD τ) arg9 fullShare Sg ∗ owns (c.tc : Thread nD τ) arg10 fullShare Su
        ∗ owns (c.tc : Thread nD τ) arg7 fullShare Qg ∗ owns (c.tc : Thread nD τ) arg8 fullShare Qu
        ∗ owns (c.tc : Thread nD τ) arg12 fullShare A
        ∗ owns (c.tc : Thread nD τ) arg13 fullShare WO.1 ∗ owns (c.tc : Thread nD τ) arg11 fullShare WO.2))
    (colTile e he mk arg7 arg8 arg9 arg10 arg11 harg11 arg12 arg13 harg13)
    (colAt mk Sg Su Qg Qu e he A)
    (by
      intro n WO κ
      exact col_wp (defs := defs) (Q := Q) 𝒱 c bd E arg7 arg8 arg9 arg10 arg11 harg11 arg12 arg13 harg13 e he mk Sg Su Qg Qu A n WO κ) l WO κ
  exact h

/-- The buffers the body is handed: the tables at a share, the rest whole. -/
def held (q : PosShare TreeShare) (T1 T2 T3 T4 : S127.Idx → Elt F .i32) (T5 : S1.Idx → Elt F .i32)
    (X : S256x2048.Idx → Elt F .bf16) (Qg Qu : S1x2048x1408.Idx → Elt F .fp8e4m3)
    (Sg Su : S32x16x11.Idx → Elt F .f32) (O : S256x1408.Idx → Elt F .bf16)
    (A : S256x2048.Idx → Elt F .bf16) (W : S2048x256.Idx → Elt F .bf16) : sProp (MT nD τ sig Unit (Elt F) ℕ U ℕ) :=
  iprop(owns (c.tc : Thread nD τ) arg1 q T1 ∗ owns (c.tc : Thread nD τ) arg2 q T2
    ∗ owns (c.tc : Thread nD τ) arg3 q T3 ∗ owns (c.tc : Thread nD τ) arg4 q T4
    ∗ owns (c.tc : Thread nD τ) arg5 q T5
    ∗ owns (c.tc : Thread nD τ) arg6 fullShare X
    ∗ owns (c.tc : Thread nD τ) arg7 fullShare Qg ∗ owns (c.tc : Thread nD τ) arg8 fullShare Qu
    ∗ owns (c.tc : Thread nD τ) arg9 fullShare Sg ∗ owns (c.tc : Thread nD τ) arg10 fullShare Su
    ∗ owns (c.tc : Thread nD τ) arg11 fullShare O
    ∗ owns (c.tc : Thread nD τ) arg12 fullShare A ∗ owns (c.tc : Thread nD τ) arg13 fullShare W)

theorem visit_wp (q : PosShare TreeShare) (T1 T2 T3 T4 : S127.Idx → Elt F .i32) (T5 : S1.Idx → Elt F .i32)
    (X : S256x2048.Idx → Elt F .bf16) (Qg Qu : S1x2048x1408.Idx → Elt F .fp8e4m3)
    (Sg Su : S32x16x11.Idx → Elt F .f32) (O : S256x1408.Idx → Elt F .bf16)
    (A : S256x2048.Idx → Elt F .bf16) (W : S2048x256.Idx → Elt F .bf16) (v0 : BitVec 32)
    (h1 : k0_cond1 i v0 = 1#1) (hw : k0_chk1 i v0 (tab T1 i)) :
    held c arg1 arg2 arg3 arg4 arg5 arg6 arg7 arg8 arg9 arg10 arg11 arg12 arg13 q T1 T2 T3 T4 T5 X Qg Qu Sg Su O A W
      ⊢ iprop((held c arg1 arg2 arg3 arg4 arg5 arg6 arg7 arg8 arg9 arg10 arg11 arg12 arg13 q T1 T2 T3 T4 T5 X Qg Qu Sg Su
            (visitAt (mask (F := F) (tab T2 i) (tab T3 i) (tab T4 i)) Sg Su Qg Qu _ (expert_lt i v0 _ hw h1) (quantAll X A) (W, O)).2
            (quantAll X A)
            (visitAt (mask (F := F) (tab T2 i) (tab T3 i) (tab T4 i)) Sg Su Qg Qu _ (expert_lt i v0 _ hw h1) (quantAll X A) (W, O)).1
          -∗ Q ⟨⟩)
        -∗ wp frame (wpE defs 𝒱 c.tc bd) E
          (visit i arg1 arg2 arg3 arg4 arg6 arg7 arg8 arg9 arg10 arg11 harg11 arg12 harg12 arg13 harg13 v0 h1) Q) := by
  have hcol := cols_wp (defs := defs) (Q := Q) 𝒱 c bd E arg7 arg8 arg9 arg10 arg11 harg11 arg12 arg13 harg13 ns (expertAt T1 i)
    (expert_lt i v0 _ hw h1) (mask (F := F) (tab T2 i) (tab T3 i) (tab T4 i)) Sg Su Qg Qu (quantAll X A) (W, O) (.ret ⟨⟩)
  have hq := each_wp (defs := defs) (Q := Q) 𝒱 c bd E
    (fun A => iprop(owns (c.tc : Thread nD τ) arg6 fullShare X ∗ owns (c.tc : Thread nD τ) arg12 fullShare A))
    (quantTile arg6 arg12 harg12) (quantAt X) (fun k A κ => quantTile_wp (defs := defs) (Q := Q) 𝒱 c bd E arg6 arg12 harg12 X A k κ) ks A
  simp only [← quantAll_eq] at hq
  unfold held visit
  rw [← visitAt_eq] at hcol
  iintro ⟨H1, H2, H3, H4, H5, HX, HQg, HQu, HSg, HSu, HO, HA, HW⟩ K
  iapply (own_word 𝒱 (c.tc : Thread nD τ) bd E) $$ H1
  iintro H1
  iapply (wp_assume 𝒱 (c.tc : Thread nD τ) bd E (h := hw))
  iapply hq $$ [HX HA]
  · isplitl [HX]; · iexact HX
    iexact HA
  iintro ⟨HX, HA⟩
  iapply (own_word 𝒱 (c.tc : Thread nD τ) bd E) $$ H2
  iintro H2
  iapply (own_word 𝒱 (c.tc : Thread nD τ) bd E) $$ H3
  iintro H3
  iapply (own_word 𝒱 (c.tc : Thread nD τ) bd E) $$ H4
  iintro H4
  iapply hcol $$ [HSg HSu HQg HQu HA HW HO]
  · isplitl [HSg]; · iexact HSg
    isplitl [HSu]; · iexact HSu
    isplitl [HQg]; · iexact HQg
    isplitl [HQu]; · iexact HQu
    isplitl [HA]; · iexact HA
    isplitl [HW]; · iexact HW
    iexact HO
  iintro ⟨HSg, HSu, HQg, HQu, HA, HW, HO⟩
  rw [wp_ret]; imodintro
  iapply K
  isplitl [H1]; · iexact H1
  isplitl [H2]; · iexact H2
  isplitl [H3]; · iexact H3
  isplitl [H4]; · iexact H4
  isplitl [H5]; · iexact H5
  isplitl [HX]; · iexact HX
  isplitl [HQg]; · iexact HQg
  isplitl [HQu]; · iexact HQu
  isplitl [HSg]; · iexact HSg
  isplitl [HSu]; · iexact HSu
  isplitl [HO]; · iexact HO
  isplitl [HA]; · iexact HA
  iexact HW

/-- The body, from the buffers it is handed to what it leaves. -/
theorem body_wp (q : PosShare TreeShare) (T1 T2 T3 T4 : S127.Idx → Elt F .i32) (T5 : S1.Idx → Elt F .i32)
    (X : S256x2048.Idx → Elt F .bf16) (Qg Qu : S1x2048x1408.Idx → Elt F .fp8e4m3)
    (Sg Su : S32x16x11.Idx → Elt F .f32) (O : S256x1408.Idx → Elt F .bf16)
    (A : S256x2048.Idx → Elt F .bf16) (W : S2048x256.Idx → Elt F .bf16)
    (hw : k0_cond1 i (count T5) = 1#1 → k0_chk1 i (count T5) (tab T1 i)) :
    held c arg1 arg2 arg3 arg4 arg5 arg6 arg7 arg8 arg9 arg10 arg11 arg12 arg13 q T1 T2 T3 T4 T5 X Qg Qu Sg Su O A W
      ⊢ iprop((∀ O', ∀ A', ∀ W', ⌜After i T1 T2 T3 T4 T5 X Qg Qu Sg Su O O'⌝ -∗
            held c arg1 arg2 arg3 arg4 arg5 arg6 arg7 arg8 arg9 arg10 arg11 arg12 arg13 q T1 T2 T3 T4 T5 X Qg Qu Sg Su O' A' W'
          -∗ Q ⟨⟩)
        -∗ wp frame (wpE defs 𝒱 c.tc bd) E
          (body i arg1 arg2 arg3 arg4 arg5 arg6 arg7 arg8 arg9 arg10 arg11 harg11 arg12 harg12 arg13 harg13) Q) := by
  unfold body
  by_cases h1 : k0_cond1 i (count T5) = 1#1
  · have hv := visit_wp (defs := defs) (Q := Q) 𝒱 c bd E i arg1 arg2 arg3 arg4 arg5 arg6 arg7 arg8 arg9 arg10 arg11 harg11 arg12 harg12
      arg13 harg13 q T1 T2 T3 T4 T5 X Qg Qu Sg Su O A W (count T5) h1 (hw h1)
    have hA : After i T1 T2 T3 T4 T5 X Qg Qu Sg Su O
        (visitAt (mask (F := F) (tab T2 i) (tab T3 i) (tab T4 i)) Sg Su Qg Qu _
          (expert_lt i _ _ (hw h1) h1) (quantAll X A) (W, O)).2 :=
      ⟨fun _ => ⟨expert_lt i _ _ (hw h1) h1, A, W, rfl⟩, fun h => absurd h1 h⟩
    unfold held at hv ⊢
    iintro ⟨H1, H2, H3, H4, H5, HR⟩ K
    iapply (own_word 𝒱 (c.tc : Thread nD τ) bd E) $$ H5
    iintro H5
    rw [show T5 _ = count T5 from rfl, dif_pos h1]
    iapply hv $$ [H1 H2 H3 H4 H5 HR]
    · isplitl [H1]; · iexact H1
      isplitl [H2]; · iexact H2
      isplitl [H3]; · iexact H3
      isplitl [H4]; · iexact H4
      isplitl [H5]; · iexact H5
      iexact HR
    iintro HR
    iapply K
    · ipureintro; exact hA
    iexact HR
  · have hA : After i T1 T2 T3 T4 T5 X Qg Qu Sg Su O O := ⟨fun h => absurd h h1, fun _ => rfl⟩
    unfold held
    iintro ⟨H1, H2, H3, H4, H5, HR⟩ K
    iapply (own_word 𝒱 (c.tc : Thread nD τ) bd E) $$ H5
    iintro H5
    rw [show T5 _ = count T5 from rfl, dif_neg h1]
    rw [wp_ret]; imodintro
    iapply K
    · ipureintro; exact hA
    isplitl [H1]; · iexact H1
    isplitl [H2]; · iexact H2
    isplitl [H3]; · iexact H3
    isplitl [H4]; · iexact H4
    isplitl [H5]; · iexact H5
    iexact HR

end Cert.KernelIdeal.Rolled
-- ==== Proof.Admissible.lean ====
/- What the tables must satisfy: every block the index maps name lies inside its array, and every scale the
   body reads lies inside the scales. Both follow from the tiles being below 96 and the groups below 32. -/
module

public import proofs.«01_k».proof.Proof.Visit
public import Idealize.ShloMosaic.Lib.ValueIdx

@[expose] public section

noncomputable section

namespace Cert.KernelIdeal.Rolled

open Idealize.ShloMosaic Cert.KernelIdeal Cert.KernelIdeal.Gen
open Idealize.ShloMosaic.ValueIdx

variable {F : FTy → Type} [FloatOps F]

theorem point_toNat (i : grid0.Coords) : (Scalar.indexCast (BitVec.ofNat 32 (i 0).val) : BitVec 32).toNat = (i 0).val := by
  have h : (i 0).val < 127 := (i 0).isLt
  show (BitVec.ofNat 32 (i 0).val).toNat = _
  rw [BitVec.toNat_ofNat]; omega

/-- A table's word at a grid point is its entry there. -/
theorem tab_eq (T : S127.Idx → Elt F .i32) (i : grid0.Coords) : tab T i = T (ix1 (i 0)) := by
  refine congrArg T (funext fun a => Fin.ext ?_)
  match a with
  | ⟨0, _⟩ =>
    show (Scalar.indexCast (BitVec.ofNat 32 (i 0).val) : BitVec 32).toNat + 0 * 1 = (i 0).val
    rw [point_toNat]; omega

theorem at_eq1 (pf : pre0.Contents (Elt F)) (i : grid0.Coords) (h : ∀ a, (k0_off1 i) a + S1.size a ≤ S127.size a) (h1 : S1.numel = 1) :
    pf.at 1 (Rect.unit (s := S127) (k0_off1 i) S1.size h) h1 = (pf 1 : S127.Idx → Elt F .i32) (ix1 (i 0)) :=
  tab_eq (pf 1) i

theorem at_eq0 (pf : pre0.Contents (Elt F)) (i : grid0.Coords) (h : ∀ a, (k0_off1 i) a + S1.size a ≤ S127.size a) (h1 : S1.numel = 1) :
    pf.at 0 (Rect.unit (s := S127) (k0_off1 i) S1.size h) h1 = (pf 0 : S127.Idx → Elt F .i32) (ix1 (i 0)) :=
  tab_eq (pf 0) i

/-- The index maps at a grid point. -/
theorem map0 (pf : pre0.Contents (Elt F)) (i : grid0.Coords) :
    cc0_transform_0 k0_off1_inb numel1_S1 pf i = ![((pf 1 : S127.Idx → BitVec 32) (ix1 (i 0))).toNat, 0] := by
  show ![BitVec.toNat (pf.at 1 (Rect.unit (s := S127) (k0_off1 i) S1.size (k0_off1_inb i)) numel1_S1), 0] = _
  rw [at_eq1]

theorem map5 (pf : pre0.Contents (Elt F)) (i : grid0.Coords) :
    cc0_transform_5 k0_off1_inb numel1_S1 pf i = ![((pf 1 : S127.Idx → BitVec 32) (ix1 (i 0))).toNat, 0] := map0 pf i

theorem map1 (pf : pre0.Contents (Elt F)) (i : grid0.Coords) :
    cc0_transform_1 k0_off1_inb numel1_S1 pf i = ![((pf 0 : S127.Idx → BitVec 32) (ix1 (i 0))).toNat, 0, 0] := by
  show ![BitVec.toNat (pf.at 0 (Rect.unit (s := S127) (k0_off1 i) S1.size (k0_off1_inb i)) numel1_S1), 0, 0] = _
  rw [at_eq0]

theorem map2 (pf : pre0.Contents (Elt F)) (i : grid0.Coords) :
    cc0_transform_2 k0_off1_inb numel1_S1 pf i = ![((pf 0 : S127.Idx → BitVec 32) (ix1 (i 0))).toNat, 0, 0] := map1 pf i

/-- Tables whose tiles are below 96 and groups below 32 are admissible. -/
theorem admissible (pf : pre0.Contents (Elt F))
    (hg : ∀ v : Fin 127, ((pf 0 : S127.Idx → BitVec 32) (ix1 v)).toNat < 32)
    (ht : ∀ v : Fin 127, ((pf 1 : S127.Idx → BitVec 32) (ix1 v)).toNat < 96) : ok0 pf := by
  have h0 : ∀ i : grid0.Coords, ∀ a, (cc0_transform_0 k0_off1_inb numel1_S1 pf i a + 1) * S256x2048.size a ≤ S24576x2048.size a := by
    intro i a
    rw [map0]
    have := ht (i 0)
    match a with
    | ⟨0, _⟩ => show (BitVec.toNat _ + 1) * 256 ≤ 24576; omega
    | ⟨1, _⟩ => show (0 + 1) * 2048 ≤ 2048; omega
  have h5 : ∀ i : grid0.Coords, ∀ a, (cc0_transform_5 k0_off1_inb numel1_S1 pf i a + 1) * S256x1408.size a ≤ S24576x1408.size a := by
    intro i a
    rw [map5]
    have := ht (i 0)
    match a with
    | ⟨0, _⟩ => show (BitVec.toNat _ + 1) * 256 ≤ 24576; omega
    | ⟨1, _⟩ => show (0 + 1) * 1408 ≤ 1408; omega
  have h1 : ∀ i : grid0.Coords, ∀ a, (cc0_transform_1 k0_off1_inb numel1_S1 pf i a + 1) * S1x2048x1408.size a ≤ S32x2048x1408.size a := by
    intro i a
    rw [map1]
    have := hg (i 0)
    match a with
    | ⟨0, _⟩ => show (BitVec.toNat _ + 1) * 1 ≤ 32; omega
    | ⟨1, _⟩ => show (0 + 1) * 2048 ≤ 2048; omega
    | ⟨2, _⟩ => show (0 + 1) * 1408 ≤ 1408; omega
  refine ⟨fun i => ⟨h0 i, .inr (.inl (.inr ⟨by decide, rfl, .inl ⟨?_, ⟨128, rfl⟩⟩⟩))⟩,
    fun i => ⟨h1 i, .inr (.inr ⟨by decide, rfl, ?_, rfl⟩)⟩, fun i => ⟨h1 i, .inr (.inr ⟨by decide, rfl, ?_, rfl⟩)⟩,
    fun i => ⟨h5 i, .inr (.inl (.inr ⟨by decide, rfl, .inl ⟨?_, ⟨128, rfl⟩⟩⟩))⟩⟩
  · exact ⟨128 * cc0_transform_0 k0_off1_inb numel1_S1 pf i 0, by
      show cc0_transform_0 k0_off1_inb numel1_S1 pf i 0 * 256 = 2 * _; omega⟩
  · show cc0_transform_1 k0_off1_inb numel1_S1 pf i 1 * 2048 = 0
    rw [map1]; rfl
  · show cc0_transform_2 k0_off1_inb numel1_S1 pf i 1 * 2048 = 0
    rw [map2]; rfl
  · exact ⟨128 * cc0_transform_5 k0_off1_inb numel1_S1 pf i 0, by
      show cc0_transform_5 k0_off1_inb numel1_S1 pf i 0 * 256 = 2 * _; omega⟩

theorem scale_inb (v : BitVec 32) (hv : v.toNat < 32) (k n : Nat) (hk : k < 16) (hn : n < 11) :
    ∀ a, (![(Scalar.indexCast v : BitVec 32).toNat, k, n] : Fin 3 → Nat) a + S1x1x1.size a ≤ S32x16x11.size a := by
  intro a
  match a with
  | ⟨0, _⟩ => show v.toNat + 1 ≤ 32; omega
  | ⟨1, _⟩ => show k + 1 ≤ 16; omega
  | ⟨2, _⟩ => show n + 1 ≤ 11; omega

set_option maxRecDepth 4000 in
/-- Every scale the body reads for a group below 32 is there. -/
theorem scales_inb (i : grid0.Coords) (n v : BitVec 32) (hv : v.toNat < 32) : k0_chk1 i n v := by
  unfold k0_chk1 k0_chk1_0 k0_chk1_1 k0_chk1_2 k0_chk1_3 k0_chk1_4 k0_chk1_5
  repeat' apply And.intro
  all_goals
    intro _
    exact scale_inb v hv _ _ (by decide) (by decide)

end Cert.KernelIdeal.Rolled
-- ==== Proof.Tables.lean ====
/- The tables that the host leaves for the region, read off the host's straight line of operations. -/
module

public import proofs.«01_k».proof.Proof.Gen.KernelIdeal.Launch
public import proofs.«01_k».proof.Proof.Schedule
public import Idealize.ShloMosaic.Lib.StableHlo.RunRead

@[expose] public section

noncomputable section

namespace Cert.KernelIdeal.Tables

open Idealize.ShloMosaic Idealize.ShloMosaic.TcCoe Idealize.SL.Sem Cert.KernelIdeal Cert.KernelIdeal.Gen

variable {F : FTy → Type} [FloatOps F]

/-- The host's lines of operations, in order. -/
def lines : List (List (HloOp τ sig (Elt F))) :=
  [hostOps0, hostOps0_1, hostOps0_2, hostOps0_3, hostOps0_4, hostOps0_5, hostOps0_6, hostOps0_7, hostOps0_8, hostOps0_9, hostOps0_10]

variable (V : Valuation τ sig (Elt F))

/-- After the first sums. -/
def Up1 : Valuation τ sig (Elt F) := StableHlo.after (hostOps0_1 (F := F)) (StableHlo.after hostOps0 V)
/-- After the floor divisions of the ends. -/
def Up2 : Valuation τ sig (Elt F) := StableHlo.after (hostOps0_3 (F := F)) (StableHlo.after hostOps0_2 V)
/-- After the tile counts and their sums. -/
def Up3 : Valuation τ sig (Elt F) :=
  StableHlo.after (hostOps0_7 (F := F)) (StableHlo.after hostOps0_6 (StableHlo.after hostOps0_5 (StableHlo.after hostOps0_4 V)))
/-- After the visits' groups. -/
def Up4 : Valuation τ sig (Elt F) := StableHlo.after (hostOps0_8 (F := F)) V
/-- After the last floor division. -/
def Up5 : Valuation τ sig (Elt F) := StableHlo.after (hostOps0_9 (F := F)) V
/-- After the tables. -/
def Up6 : Valuation τ sig (Elt F) := StableHlo.after (hostOps0_10 (F := F)) V

/-- What the buffers hold after every line. -/
abbrev At : Valuation τ sig (Elt F) := Up6 (Up5 (Up4 (Up3 (Up2 (Up1 V)))))

theorem lines_eq : StableHlo.after (lines (F := F)).flatten V = At V := rfl

/-- A vector's entries at given groups, a negative group counting from the end. -/
def takeAt (grp : IVec S127 32) (x : IVec S32 32) : IVec S127 32 :=
  Host.gather gather_S32_S127x1_S127_n_0_n_n_0_1_1 x
    (broadcastInDim S127x1 ![0] Facts₀.bcast_S127_S127x1_0
      (select (cmpi .slt grp (Schedule.c127 0#32)) (addi grp (Schedule.c127 32#32)) grp))

theorem up1_v0 : Up1 V (Proc.devRef .tc main_v0) = Schedule.ends (V (Proc.devRef .tc main_arg1)) := by
  unfold Up1
  after_reads_simp
  all_goals try simp -implicitDefEqProofs only [StableHlo.TRef.toBuf, StableHlo.TRef.ofBuf, cast_cast, cast_eq]
  all_goals try rfl

theorem up1_v1 : Up1 V (Proc.devRef .tc main_v1) = Schedule.starts (V (Proc.devRef .tc main_arg1)) := by
  unfold Up1
  after_reads_simp
  all_goals try simp -implicitDefEqProofs only [StableHlo.TRef.toBuf, StableHlo.TRef.ofBuf, cast_cast, cast_eq]
  all_goals try rfl

theorem up1_v3 : Up1 V (Proc.devRef .tc main_v3) = cmpi .sgt (V (Proc.devRef .tc main_arg1)) (Schedule.c32 0#32) := by
  unfold Up1
  after_reads_simp
  all_goals try simp -implicitDefEqProofs only [StableHlo.TRef.toBuf, StableHlo.TRef.ofBuf, cast_cast, cast_eq]
  all_goals try rfl

theorem up1_v5 : Up1 V (Proc.devRef .tc main_v5) = subi (Schedule.ends (V (Proc.devRef .tc main_arg1))) (Schedule.c32 1#32) := by
  unfold Up1
  after_reads_simp
  all_goals try simp -implicitDefEqProofs only [StableHlo.TRef.toBuf, StableHlo.TRef.ofBuf, cast_cast, cast_eq]
  all_goals try rfl

theorem up1_c1 : Up1 V (Proc.devRef .tc main_c_1) = Schedule.c0 256#32 := by
  unfold Up1
  after_reads_simp
  all_goals try simp -implicitDefEqProofs only [StableHlo.TRef.toBuf, StableHlo.TRef.ofBuf, cast_cast, cast_eq]
  all_goals try rfl

theorem up2_v0 : Up2 V (Proc.devRef .tc main_v0) = (V (Proc.devRef .tc main_v0)) := by
  unfold Up2
  after_reads_simp
  all_goals try simp -implicitDefEqProofs only [StableHlo.TRef.toBuf, StableHlo.TRef.ofBuf, cast_cast, cast_eq]
  all_goals try rfl

theorem up2_v1 : Up2 V (Proc.devRef .tc main_v1) = (V (Proc.devRef .tc main_v1)) := by
  unfold Up2
  after_reads_simp
  all_goals try simp -implicitDefEqProofs only [StableHlo.TRef.toBuf, StableHlo.TRef.ofBuf, cast_cast, cast_eq]
  all_goals try rfl

theorem up2_v3 : Up2 V (Proc.devRef .tc main_v3) = (V (Proc.devRef .tc main_v3)) := by
  unfold Up2
  after_reads_simp
  all_goals try simp -implicitDefEqProofs only [StableHlo.TRef.toBuf, StableHlo.TRef.ofBuf, cast_cast, cast_eq]
  all_goals try rfl

theorem up2_v6 : Up2 V (Proc.devRef .tc main_v6) = Routing.pyDiv Facts₀.bcast_S_S32 (V (Proc.devRef .tc main_v5)) (V (Proc.devRef .tc main_c_1)) := by
  unfold Up2
  after_reads_simp
  all_goals try simp -implicitDefEqProofs only [StableHlo.TRef.toBuf, StableHlo.TRef.ofBuf, cast_cast, cast_eq]
  all_goals try rfl

theorem up2_c2 : Up2 V (Proc.devRef .tc main_c_2) = Schedule.c0 256#32 := by
  unfold Up2
  after_reads_simp
  all_goals try simp -implicitDefEqProofs only [StableHlo.TRef.toBuf, StableHlo.TRef.ofBuf, cast_cast, cast_eq]
  all_goals try rfl

theorem up3_v0 : Up3 V (Proc.devRef .tc main_v0) = (V (Proc.devRef .tc main_v0)) := by
  unfold Up3
  after_reads_simp
  all_goals try simp -implicitDefEqProofs only [StableHlo.TRef.toBuf, StableHlo.TRef.ofBuf, cast_cast, cast_eq]
  all_goals try rfl

theorem up3_v1 : Up3 V (Proc.devRef .tc main_v1) = (V (Proc.devRef .tc main_v1)) := by
  unfold Up3
  after_reads_simp
  all_goals try simp -implicitDefEqProofs only [StableHlo.TRef.toBuf, StableHlo.TRef.ofBuf, cast_cast, cast_eq]
  all_goals try rfl

theorem up3_v11 : Up3 V (Proc.devRef .tc main_v11) = (select (α := BitVec 32) (V (Proc.devRef .tc main_v3)) (addi (subi (V (Proc.devRef .tc main_v6)) (Routing.pyDiv Facts₀.bcast_S_S32 (V (Proc.devRef .tc main_v1)) (V (Proc.devRef .tc main_c_2)))) (Schedule.c32 1#32)) (Schedule.c32 0#32)) := by
  unfold Up3
  after_reads_simp
  all_goals try simp -implicitDefEqProofs only [StableHlo.TRef.toBuf, StableHlo.TRef.ofBuf, cast_cast, cast_eq]
  all_goals try rfl

theorem up3_v12 : Up3 V (Proc.devRef .tc main_v12) = Schedule.running (select (α := BitVec 32) (V (Proc.devRef .tc main_v3)) (addi (subi (V (Proc.devRef .tc main_v6)) (Routing.pyDiv Facts₀.bcast_S_S32 (V (Proc.devRef .tc main_v1)) (V (Proc.devRef .tc main_c_2)))) (Schedule.c32 1#32)) (Schedule.c32 0#32)) := by
  unfold Up3
  after_reads_simp
  all_goals try simp -implicitDefEqProofs only [StableHlo.TRef.toBuf, StableHlo.TRef.ofBuf, cast_cast, cast_eq]
  all_goals try rfl

theorem up4_v0 : Up4 V (Proc.devRef .tc main_v0) = (V (Proc.devRef .tc main_v0)) := by
  unfold Up4
  after_reads_simp
  all_goals try simp -implicitDefEqProofs only [StableHlo.TRef.toBuf, StableHlo.TRef.ofBuf, cast_cast, cast_eq]
  all_goals try rfl

theorem up4_v1 : Up4 V (Proc.devRef .tc main_v1) = (V (Proc.devRef .tc main_v1)) := by
  unfold Up4
  after_reads_simp
  all_goals try simp -implicitDefEqProofs only [StableHlo.TRef.toBuf, StableHlo.TRef.ofBuf, cast_cast, cast_eq]
  all_goals try rfl

theorem up4_v11 : Up4 V (Proc.devRef .tc main_v11) = (V (Proc.devRef .tc main_v11)) := by
  unfold Up4
  after_reads_simp
  all_goals try simp -implicitDefEqProofs only [StableHlo.TRef.toBuf, StableHlo.TRef.ofBuf, cast_cast, cast_eq]
  all_goals try rfl

theorem up4_v12 : Up4 V (Proc.devRef .tc main_v12) = (V (Proc.devRef .tc main_v12)) := by
  unfold Up4
  after_reads_simp
  all_goals try simp -implicitDefEqProofs only [StableHlo.TRef.toBuf, StableHlo.TRef.ofBuf, cast_cast, cast_eq]
  all_goals try rfl

theorem up4_v14 : Up4 V (Proc.devRef .tc main_v14) = (shapeCast S_ (extractStridedSlice S1 ![31] (V (Proc.devRef .tc main_v12)) Facts₀.slices_S32_S1_31) Facts₀.shapeCasts_S1_S_) := by
  unfold Up4
  after_reads_simp
  all_goals try simp -implicitDefEqProofs only [StableHlo.TRef.toBuf, StableHlo.TRef.ofBuf, cast_cast, cast_eq]
  all_goals try rfl

theorem up4_v18 : Up4 V (Proc.devRef .tc main_v18) = (minsi (iotaInDim S127 32 0) (broadcastInDim S127 ![] Facts₀.bcast_S_S127 (subi (shapeCast S_ (extractStridedSlice S1 ![31] (V (Proc.devRef .tc main_v12)) Facts₀.slices_S32_S1_31) Facts₀.shapeCasts_S1_S_) (Schedule.c0 1#32)))) := by
  unfold Up4
  after_reads_simp
  all_goals try simp -implicitDefEqProofs only [StableHlo.TRef.toBuf, StableHlo.TRef.ofBuf, cast_cast, cast_eq]
  all_goals try rfl

theorem up4_v25 : Up4 V (Proc.devRef .tc main_v25) = (Host.reduce IntOp.addi (extui 32 (cmpi .sge
      (broadcastInDim S127x32 ![0, 1] Facts₀.bcast_S127x1_S127x32_0_1 (broadcastInDim S127x1 ![0] Facts₀.bcast_S127_S127x1_0 (minsi (iotaInDim S127 32 0) (broadcastInDim S127 ![] Facts₀.bcast_S_S127 (subi (shapeCast S_ (extractStridedSlice S1 ![31] (V (Proc.devRef .tc main_v12)) Facts₀.slices_S32_S1_31) Facts₀.shapeCasts_S1_S_) (Schedule.c0 1#32))))))
      (broadcastInDim S127x32 ![0, 1] Facts₀.bcast_S1x32_S127x32_0_1 (broadcastInDim S1x32 ![1] Facts₀.bcast_S32_S1x32_1 (V (Proc.devRef .tc main_v12)))))
      Facts₀.natLt_1_32) (Schedule.c0 0#32) Facts₀.reducesTo_S127x32_S127_d1 Facts₀.h_S_) := by
  unfold Up4
  after_reads_simp
  all_goals try simp -implicitDefEqProofs only [StableHlo.TRef.toBuf, StableHlo.TRef.ofBuf, cast_cast, cast_eq]
  all_goals try rfl

theorem up4_v32 : Up4 V (Proc.devRef .tc main_v32) = takeAt (Host.reduce IntOp.addi (extui 32 (cmpi .sge
      (broadcastInDim S127x32 ![0, 1] Facts₀.bcast_S127x1_S127x32_0_1 (broadcastInDim S127x1 ![0] Facts₀.bcast_S127_S127x1_0 (minsi (iotaInDim S127 32 0) (broadcastInDim S127 ![] Facts₀.bcast_S_S127 (subi (shapeCast S_ (extractStridedSlice S1 ![31] (V (Proc.devRef .tc main_v12)) Facts₀.slices_S32_S1_31) Facts₀.shapeCasts_S1_S_) (Schedule.c0 1#32))))))
      (broadcastInDim S127x32 ![0, 1] Facts₀.bcast_S1x32_S127x32_0_1 (broadcastInDim S1x32 ![1] Facts₀.bcast_S32_S1x32_1 (V (Proc.devRef .tc main_v12)))))
      Facts₀.natLt_1_32) (Schedule.c0 0#32) Facts₀.reducesTo_S127x32_S127_d1 Facts₀.h_S_) (V (Proc.devRef .tc main_v1)) := by
  unfold Up4
  after_reads_simp
  all_goals try simp -implicitDefEqProofs only [StableHlo.TRef.toBuf, StableHlo.TRef.ofBuf, cast_cast, cast_eq]
  all_goals try rfl

theorem up4_c9 : Up4 V (Proc.devRef .tc main_c_9) = Schedule.c0 256#32 := by
  unfold Up4
  after_reads_simp
  all_goals try simp -implicitDefEqProofs only [StableHlo.TRef.toBuf, StableHlo.TRef.ofBuf, cast_cast, cast_eq]
  all_goals try rfl

theorem up5_v0 : Up5 V (Proc.devRef .tc main_v0) = (V (Proc.devRef .tc main_v0)) := by
  unfold Up5
  after_reads_simp
  all_goals try simp -implicitDefEqProofs only [StableHlo.TRef.toBuf, StableHlo.TRef.ofBuf, cast_cast, cast_eq]
  all_goals try rfl

theorem up5_v1 : Up5 V (Proc.devRef .tc main_v1) = (V (Proc.devRef .tc main_v1)) := by
  unfold Up5
  after_reads_simp
  all_goals try simp -implicitDefEqProofs only [StableHlo.TRef.toBuf, StableHlo.TRef.ofBuf, cast_cast, cast_eq]
  all_goals try rfl

theorem up5_v11 : Up5 V (Proc.devRef .tc main_v11) = (V (Proc.devRef .tc main_v11)) := by
  unfold Up5
  after_reads_simp
  all_goals try simp -implicitDefEqProofs only [StableHlo.TRef.toBuf, StableHlo.TRef.ofBuf, cast_cast, cast_eq]
  all_goals try rfl

theorem up5_v12 : Up5 V (Proc.devRef .tc main_v12) = (V (Proc.devRef .tc main_v12)) := by
  unfold Up5
  after_reads_simp
  all_goals try simp -implicitDefEqProofs only [StableHlo.TRef.toBuf, StableHlo.TRef.ofBuf, cast_cast, cast_eq]
  all_goals try rfl

theorem up5_v14 : Up5 V (Proc.devRef .tc main_v14) = (V (Proc.devRef .tc main_v14)) := by
  unfold Up5
  after_reads_simp
  all_goals try simp -implicitDefEqProofs only [StableHlo.TRef.toBuf, StableHlo.TRef.ofBuf, cast_cast, cast_eq]
  all_goals try rfl

theorem up5_v18 : Up5 V (Proc.devRef .tc main_v18) = (V (Proc.devRef .tc main_v18)) := by
  unfold Up5
  after_reads_simp
  all_goals try simp -implicitDefEqProofs only [StableHlo.TRef.toBuf, StableHlo.TRef.ofBuf, cast_cast, cast_eq]
  all_goals try rfl

theorem up5_v25 : Up5 V (Proc.devRef .tc main_v25) = (V (Proc.devRef .tc main_v25)) := by
  unfold Up5
  after_reads_simp
  all_goals try simp -implicitDefEqProofs only [StableHlo.TRef.toBuf, StableHlo.TRef.ofBuf, cast_cast, cast_eq]
  all_goals try rfl

theorem up5_v33 : Up5 V (Proc.devRef .tc main_v33) = Routing.pyDiv Facts₀.bcast_S_S127 (V (Proc.devRef .tc main_v32)) (V (Proc.devRef .tc main_c_9)) := by
  unfold Up5
  after_reads_simp
  all_goals try simp -implicitDefEqProofs only [StableHlo.TRef.toBuf, StableHlo.TRef.ofBuf, cast_cast, cast_eq]
  all_goals try rfl

theorem up6_v25 : Up6 V (Proc.devRef .tc main_v25) = (V (Proc.devRef .tc main_v25)) := by
  unfold Up6
  after_reads_simp
  all_goals try simp -implicitDefEqProofs only [StableHlo.TRef.toBuf, StableHlo.TRef.ofBuf, cast_cast, cast_eq]
  all_goals try rfl

theorem up6_v50 : Up6 V (Proc.devRef .tc main_v50) = subi (addi (V (Proc.devRef .tc main_v33)) (V (Proc.devRef .tc main_v18))) (subi (takeAt (V (Proc.devRef .tc main_v25)) (V (Proc.devRef .tc main_v12))) (takeAt (V (Proc.devRef .tc main_v25)) (V (Proc.devRef .tc main_v11)))) := by
  unfold Up6
  after_reads_simp
  all_goals try simp -implicitDefEqProofs only [StableHlo.TRef.toBuf, StableHlo.TRef.ofBuf, cast_cast, cast_eq]
  all_goals try rfl

theorem up6_v57 : Up6 V (Proc.devRef .tc main_v57) = (takeAt (V (Proc.devRef .tc main_v25)) (V (Proc.devRef .tc main_v1))) := by
  unfold Up6
  after_reads_simp
  all_goals try simp -implicitDefEqProofs only [StableHlo.TRef.toBuf, StableHlo.TRef.ofBuf, cast_cast, cast_eq]
  all_goals try rfl

theorem up6_v64 : Up6 V (Proc.devRef .tc main_v64) = (takeAt (V (Proc.devRef .tc main_v25)) (V (Proc.devRef .tc main_v0))) := by
  unfold Up6
  after_reads_simp
  all_goals try simp -implicitDefEqProofs only [StableHlo.TRef.toBuf, StableHlo.TRef.ofBuf, cast_cast, cast_eq]
  all_goals try rfl

theorem up6_v65 : Up6 V (Proc.devRef .tc main_v65) = shapeCast S1 (V (Proc.devRef .tc main_v14)) Facts₀.shapeCasts_S_S1 := by
  unfold Up6
  after_reads_simp
  all_goals try simp -implicitDefEqProofs only [StableHlo.TRef.toBuf, StableHlo.TRef.ofBuf, cast_cast, cast_eq]
  all_goals try rfl

theorem up3_tiles : Up3 (Up2 (Up1 V)) (Proc.devRef .tc main_v11) = Schedule.tiles (V (Proc.devRef .tc main_arg1)) := by
  rw [up3_v11, up2_v3, up2_v6, up2_v1, up2_c2, up1_v1, up1_v3, up1_v5, up1_c1]; rfl

theorem up3_cum : Up3 (Up2 (Up1 V)) (Proc.devRef .tc main_v12) = Schedule.cum (V (Proc.devRef .tc main_arg1)) := by
  rw [up3_v12, ← up3_v11, up3_tiles]; rfl

theorem up3_ends : Up3 (Up2 (Up1 V)) (Proc.devRef .tc main_v0) = Schedule.ends (V (Proc.devRef .tc main_arg1)) := by
  rw [up3_v0, up2_v0, up1_v0]

theorem up3_starts : Up3 (Up2 (Up1 V)) (Proc.devRef .tc main_v1) = Schedule.starts (V (Proc.devRef .tc main_arg1)) := by
  rw [up3_v1, up2_v1, up1_v1]

theorem up4_total : Up4 (Up3 (Up2 (Up1 V))) (Proc.devRef .tc main_v14) = Schedule.total (V (Proc.devRef .tc main_arg1)) := by
  rw [up4_v14, up3_cum]; rfl

theorem up4_visit : Up4 (Up3 (Up2 (Up1 V))) (Proc.devRef .tc main_v18) = Schedule.visit (V (Proc.devRef .tc main_arg1)) := by
  rw [up4_v18, up3_cum]; rfl

theorem up4_group : Up4 (Up3 (Up2 (Up1 V))) (Proc.devRef .tc main_v25) = Schedule.group (V (Proc.devRef .tc main_arg1)) := by
  rw [up4_v25, up3_cum]; rfl

theorem group_eq : At V (Proc.devRef .tc main_v25) = Schedule.group (V (Proc.devRef .tc main_arg1)) := by
  unfold At; rw [up6_v25, up5_v25, up4_group]

theorem tile_eq : At V (Proc.devRef .tc main_v50) = Schedule.tile (V (Proc.devRef .tc main_arg1)) := by
  unfold At
  rw [up6_v50, up5_v25, up4_group, up5_v33, up5_v18, up4_visit, up5_v12, up4_v12, up3_cum, up5_v11, up4_v11, up3_tiles,
    up4_v32, ← up4_v25, up4_group, up4_c9, up3_starts]
  rfl

theorem first_eq : At V (Proc.devRef .tc main_v57) = Schedule.first (V (Proc.devRef .tc main_arg1)) := by
  unfold At; rw [up6_v57, up5_v25, up4_group, up5_v1, up4_v1, up3_starts]; rfl

theorem last_eq : At V (Proc.devRef .tc main_v64) = Schedule.last (V (Proc.devRef .tc main_arg1)) := by
  unfold At; rw [up6_v64, up5_v25, up4_group, up5_v0, up4_v0, up3_ends]; rfl

theorem visits_eq : At V (Proc.devRef .tc main_v65) = Schedule.visits (V (Proc.devRef .tc main_arg1)) := by
  unfold At; rw [up6_v65, up5_v14, up4_total]; rfl

end Cert.KernelIdeal.Tables

end
-- ==== Proof.Region.lean ====
/- The region's proof data: the windows' arrays at their contents when the region starts, the input blocks
   left as found, and the output block left as `After` says of the blocks fetched at the point. -/
module

public import proofs.«01_k».proof.Proof.Admissible
public import proofs.«01_k».proof.Proof.Tables
public import Idealize.ShloMosaic.Lib.Pipeline.Frame
public import Idealize.ShloMosaic.Lib.Pipeline.FrameBody

@[expose] public section

noncomputable section

namespace Cert.KernelIdeal.Region

open Idealize.ShloMosaic Idealize.ShloMosaic.TcCoe Idealize.ShloMosaic.Pipeline
open Idealize.SL Idealize.SL.RA Idealize.SL.BI
open scoped Idealize.SL.BI
open Idealize.SL.BI.BIBase Idealize.SL.BI.Laws Idealize.SL.ProofMode Idealize.SL.Sem
open Cert.KernelIdeal Cert.KernelIdeal.Gen Cert.KernelIdeal.Rolled

variable {F : FTy → Type} [FloatOps F]

/-- A core's buffers when the region starts. -/
abbrev Held (F : FTy → Type) [FloatOps F] : Type := (c : Dev nD) → (b : Ref sig .tc) → Buf (Elt F) ((c.tc : Thread nD τ).loc b)

/-- The tables among them. -/
abbrev tablesOf (V : Held F) (c : Dev nD) : pre0.Contents (Elt F) := fun k => V c (pre0.ref k)

variable (a : (pcfg0 (F := F)).Adm)

/-- A window's block at a point, in a staging buffer that held `d`. -/
abbrev block (V : Held F) (c : Dev nD) (w : Fin 6) (t : Fin (cfg0 a).N)
    (d : ((cfg0 a).win w).block.Idx → Elt F ((cfg0 a).win w).elt) : ((cfg0 a).win w).block.Idx → Elt F ((cfg0 a).win w).elt :=
  ((cfg0 a).win w).fill ((cfg0 a).grid.coords t) d (((cfg0 a).win w).blk t |>.view.read (Elt F) (V c (arrRef (cfg0 a).spec w)))

/-- What the body may leave in a window's buffer. -/
def left (V : Held F) (c : Dev nD) : (w : Fin 6) → (t : Fin (cfg0 a).N) →
    (Y X : ((cfg0 a).win w).block.Idx → Elt F ((cfg0 a).win w).elt) → Prop
  | ⟨5, _⟩ => fun t Y X => ∃ d0 d1 d2 d3 d4,
      After ((cfg0 a).grid.coords t) (a.1 0) (a.1 1) (a.1 2) (a.1 3) (a.1 4) (block a V c 0 t d0) (block a V c 1 t d1) (block a V c 2 t d2)
        (block a V c 3 t d3) (block a V c 4 t d4) Y X
  | _ => fun _ Y X => X = Y

/-- The region's proof data. -/
def rdat (V : Held F) (c : Dev nD) : RDat τ (Elt F) Unit ℕ (UR sig nD τ) ℕ (cfg0 a) c where
  A w := V c (arrRef (cfg0 a).spec w)
  after := left a V c
  Φ _ := iprop(ΦA (cfg0 a).spec c ∗ ΦT pre0 a.1 c)
  q _ := fullShare
  owed _ := 0

theorem found (V : Held F) (c : Dev nD) (w : Fin 6) (hw : w ≠ 5) (t : Fin (cfg0 a).N)
    (Y : ((cfg0 a).win w).block.Idx → Elt F ((cfg0 a).win w).elt) (h : (rdat a V c).Finds w t Y) : ∃ d, Y = block a V c w t d := by
  refine RDat.finds_in_eq_fetched (rdat a V c) w ?_ ?_ ?_ t Y h
  · match w, hw with
    | 0, _ => rfl
    | 1, _ => rfl
    | 2, _ => rfl
    | 3, _ => rfl
    | 4, _ => rfl
    | 5, h => exact absurd rfl h
  · intro t t' _
    match w, hw with
    | 0, _ => rfl
    | 1, _ => rfl
    | 2, _ => rfl
    | 3, _ => rfl
    | 4, _ => rfl
    | 5, h => exact absurd rfl h
  · intro t Y X hl
    match w, hw with
    | 0, _ => exact hl
    | 1, _ => exact hl
    | 2, _ => exact hl
    | 3, _ => exact hl
    | 4, _ => exact hl
    | 5, h => exact absurd rfl h

/-- The five tables, conjoined one by one. -/
theorem tables_eq {U : Type} [URA U] (v : pre0.Contents (Elt F)) (c : Dev nD) :
    (ΦT (U := U) pre0 v c : sProp (MT nD τ sig Unit (Elt F) ℕ U ℕ))
      = iprop(owns (c.tc : Thread nD τ) (Memref.whole main_v25 : Memref sig .tc .smem S127 .i32) fullShare.right (v 0 : S127.Idx → Elt F .i32)
        ∗ owns (c.tc : Thread nD τ) (Memref.whole main_v50 : Memref sig .tc .smem S127 .i32) fullShare.right (v 1 : S127.Idx → Elt F .i32)
        ∗ owns (c.tc : Thread nD τ) (Memref.whole main_v57 : Memref sig .tc .smem S127 .i32) fullShare.right (v 2 : S127.Idx → Elt F .i32)
        ∗ owns (c.tc : Thread nD τ) (Memref.whole main_v64 : Memref sig .tc .smem S127 .i32) fullShare.right (v 3 : S127.Idx → Elt F .i32)
        ∗ owns (c.tc : Thread nD τ) (Memref.whole main_v65 : Memref sig .tc .smem S1 .i32) fullShare.right (v 4 : S1.Idx → Elt F .i32)) := by
  refine (bigSep_univ_eq_bigSepL [(0 : Fin 5), 1, 2, 3, 4] (by decide) (by decide) _).trans ?_
  have h1 := owns_whole (Val := Elt F) (Ix := Unit) (Name := ℕ) (U := U) (Lvl := ℕ) (c.tc : Thread nD τ) main_v25 fullShare.right (v 0)
  have h2 := owns_whole (Val := Elt F) (Ix := Unit) (Name := ℕ) (U := U) (Lvl := ℕ) (c.tc : Thread nD τ) main_v50 fullShare.right (v 1)
  have h3 := owns_whole (Val := Elt F) (Ix := Unit) (Name := ℕ) (U := U) (Lvl := ℕ) (c.tc : Thread nD τ) main_v57 fullShare.right (v 2)
  have h4 := owns_whole (Val := Elt F) (Ix := Unit) (Name := ℕ) (U := U) (Lvl := ℕ) (c.tc : Thread nD τ) main_v64 fullShare.right (v 3)
  have h5 := owns_whole (Val := Elt F) (Ix := Unit) (Name := ℕ) (U := U) (Lvl := ℕ) (c.tc : Thread nD τ) main_v65 fullShare.right (v 4)
  exact (congr (congrArg _ h1) (congr (congrArg _ h2) (congr (congrArg _ h3) (congr (congrArg _ h4) h5)))).symm

end Cert.KernelIdeal.Region
-- ==== Proof.Obligation.lean ====
/- The region's body obligation, and the region's run from a memory whose tables are admissible. -/
module

public import proofs.«01_k».proof.Proof.Region

@[expose] public section

noncomputable section

namespace Cert.KernelIdeal.Region

open Idealize.ShloMosaic Idealize.ShloMosaic.TcCoe Idealize.ShloMosaic.Pipeline
open Idealize.SL Idealize.SL.RA Idealize.SL.BI
open scoped Idealize.SL.BI
open Idealize.SL.BI.BIBase Idealize.SL.BI.Laws Idealize.SL.ProofMode Idealize.SL.Sem
open Cert.KernelIdeal Cert.KernelIdeal.Gen Cert.KernelIdeal.Rolled

variable {F : FTy → Type} [FloatOps F]

variable (a : (pcfg0 (F := F)).Adm)

/-- The body takes the buffers it is handed to what `left` says. -/
theorem obligation (V : Held F) (c : Dev nD)
    (hg : ∀ i : grid0.Coords, (tab (F := F) (a.1 0) i).toNat < 32) :
    (rdat a V c).BodyObligation (defs₀ (F := F)) Variants.none () Set.univ := by
  intro t Y hY
  obtain ⟨d0, h0⟩ := found a V c 0 (by decide) t (Y 0) (hY 0)
  obtain ⟨d1, h1⟩ := found a V c 1 (by decide) t (Y 1) (hY 1)
  obtain ⟨d2, h2⟩ := found a V c 2 (by decide) t (Y 2) (hY 2)
  obtain ⟨d3, h3⟩ := found a V c 3 (by decide) t (Y 3) (hY 3)
  obtain ⟨d4, h4⟩ := found a V c 4 (by decide) t (Y 4) (hY 4)
  have e : defs₀ (F := F) .tc (cfg0 a).body ((cfg0 a).bodyArgs t ((cfg0 a).slots t))
      = body ((cfg0 a).grid.coords t) (Memref.whole main_v25) (Memref.whole main_v50) (Memref.whole main_v57) (Memref.whole main_v64)
        (Memref.whole main_v65) (((cfg0 a).win 0).stage ((cfg0 a).slots t 0)) (((cfg0 a).win 1).stage ((cfg0 a).slots t 1))
        (((cfg0 a).win 2).stage ((cfg0 a).slots t 2)) (((cfg0 a).win 3).stage ((cfg0 a).slots t 3))
        (((cfg0 a).win 4).stage ((cfg0 a).slots t 4)) (((cfg0 a).win 5).stage ((cfg0 a).slots t 5))
        (hstage0_5 (((cfg0 a).slots t 5).cast nbuf0_5)) (Memref.whole cc0_scratch0) (Memref.isWhole_whole _)
        (Memref.whole cc0_scratch1) (Memref.isWhole_whole _) :=
    body_eq ((cfg0 a).grid.coords t) (Memref.whole main_v25) (Memref.isWhole_whole _) (Memref.whole main_v50) (Memref.isWhole_whole _)
      (Memref.whole main_v57) (Memref.isWhole_whole _) (Memref.whole main_v64) (Memref.isWhole_whole _) (Memref.whole main_v65)
      (Memref.isWhole_whole _) (spec0_0.stage ((cfg0 a).slots t 0)) (hstage0_0 (((cfg0 a).slots t 0).cast nbuf0_0))
      (spec0_1.stage ((cfg0 a).slots t 1)) (hstage0_1 (((cfg0 a).slots t 1).cast nbuf0_1))
      (spec0_2.stage ((cfg0 a).slots t 2)) (hstage0_2 (((cfg0 a).slots t 2).cast nbuf0_2))
      (spec0_3.stage ((cfg0 a).slots t 3)) (hstage0_3 (((cfg0 a).slots t 3).cast nbuf0_3))
      (spec0_4.stage ((cfg0 a).slots t 4)) (hstage0_4 (((cfg0 a).slots t 4).cast nbuf0_4))
      (spec0_5.stage ((cfg0 a).slots t 5)) (hstage0_5 (((cfg0 a).slots t 5).cast nbuf0_5))
      (Memref.whole cc0_scratch0) (Memref.isWhole_whole _) (Memref.whole cc0_scratch1) (Memref.isWhole_whole _)
  rw [e, show (rdat a V c).Φ t.castSucc = iprop(ΦA (cfg0 a).spec c ∗ ΦT pre0 a.1 c) from rfl,
    show (rdat a V c).Φ t.succ = iprop(ΦA (cfg0 a).spec c ∗ ΦT pre0 a.1 c) from rfl]
  unfold RDat.owesAt Pipeline.owesWithin
  rw [show (rdat a V c).owed t.castSucc = 0 from rfl, show (rdat a V c).owed t.succ = 0 from rfl]
  rw [bigSep_W0, bigSep_W0, tables_eq]
  unfold ΦA
  rw [show scopedRest (Ix := Unit) (Name := ℕ) (U := UR sig nD τ) (Lvl := ℕ) (Val := Elt F) (cfg0 a).spec c
    = scopedRest (Ix := Unit) (Name := ℕ) (U := UR sig nD τ) (Lvl := ℕ) (Val := Elt F) spec0 c from rfl, scopedRest0_eq]
  iintro ⟨⟨⟨⟨⟨%A, HA⟩, ⟨%W, HW⟩⟩, HP⟩, ⟨H1, H2, H3, H4, H5⟩⟩, ⟨%w, %hw, HO⟩, ⟨HX, HQg, HQu, HSg, HSu, HOut⟩⟩
  have hchk : k0_cond1 ((cfg0 a).grid.coords t) (count (F := F) (a.1 4)) = 1#1 →
      k0_chk1 ((cfg0 a).grid.coords t) (count (F := F) (a.1 4)) (tab (F := F) (a.1 0) ((cfg0 a).grid.coords t)) :=
    fun _ => scales_inb _ _ _ (hg _)
  iapply (body_wp (defs := defs₀ (F := F)) (U := UR sig nD τ) Variants.none c none Set.univ ((cfg0 a).grid.coords t)
    (Memref.whole main_v25) (Memref.whole main_v50) (Memref.whole main_v57) (Memref.whole main_v64) (Memref.whole main_v65)
    (((cfg0 a).win 0).stage ((cfg0 a).slots t 0)) (((cfg0 a).win 1).stage ((cfg0 a).slots t 1))
    (((cfg0 a).win 2).stage ((cfg0 a).slots t 2)) (((cfg0 a).win 3).stage ((cfg0 a).slots t 3))
    (((cfg0 a).win 4).stage ((cfg0 a).slots t 4)) (((cfg0 a).win 5).stage ((cfg0 a).slots t 5))
    (hstage0_5 (((cfg0 a).slots t 5).cast nbuf0_5)) (Memref.whole cc0_scratch0) (Memref.isWhole_whole _)
    (Memref.whole cc0_scratch1) (Memref.isWhole_whole _)
    fullShare.right (a.1 0) (a.1 1) (a.1 2) (a.1 3) (a.1 4) (Y 0) (Y 1) (Y 2) (Y 3) (Y 4) (Y 5) A W hchk)
    $$ [HA HW H1 H2 H3 H4 H5 HX HQg HQu HSg HSu HOut]
  · unfold held
    simp only [owns_whole]
    isplitl [H1]; · iexact H1
    isplitl [H2]; · iexact H2
    isplitl [H3]; · iexact H3
    isplitl [H4]; · iexact H4
    isplitl [H5]; · iexact H5
    isplitl [HX]; · iexact HX
    isplitl [HQg]; · iexact HQg
    isplitl [HQu]; · iexact HQu
    isplitl [HSg]; · iexact HSg
    isplitl [HSu]; · iexact HSu
    isplitl [HOut]; · iexact HOut
    isplitl [HA]; · iexact HA
    iexact HW
  iintro %O %A' %W' %hAfter
  unfold held
  simp only [owns_whole]
  iintro ⟨H1, H2, H3, H4, H5, HX, HQg, HQu, HSg, HSu, HOut, HA, HW⟩
  isplitl [HA HW HP H1 H2 H3 H4 H5]
  · isplitl [HA HW HP]
    · isplitl [HA HW]
      · isplitl [HA]; · iexists _; iexact HA
        iexists _; iexact HW
      iexact HP
    isplitl [H1]; · iexact H1
    isplitl [H2]; · iexact H2
    isplitl [H3]; · iexact H3
    isplitl [H4]; · iexact H4
    iexact H5
  isplitl [HO]
  · iexists w; isplitr; · ipureintro; exact fun _ _ => Or.inl trivial
    iexact HO
  isplitl [HX]; · iexists _; isplitr; swap; (· iexact HX); ipureintro; rfl
  isplitl [HQg]; · iexists _; isplitr; swap; (· iexact HQg); ipureintro; rfl
  isplitl [HQu]; · iexists _; isplitr; swap; (· iexact HQu); ipureintro; rfl
  isplitl [HSg]; · iexists _; isplitr; swap; (· iexact HSg); ipureintro; rfl
  isplitl [HSu]; · iexists _; isplitr; swap; (· iexact HSu); ipureintro; rfl
  iexists _; isplitr; swap; (· iexact HOut)
  ipureintro
  refine ⟨d0, d1, d2, d3, d4, ?_⟩
  rw [← h0, ← h1, ← h2, ← h3, ← h4]
  exact hAfter

/-- From a memory whose tables are admissible after the host's operations, the program ends with every window's
    array as the region's data say and every other buffer as the host left it. -/
theorem run (m : (ℓ : Loc nD τ sig) → Buf (Elt F) ℓ) (g : Dev nD → PrngReg)
    (V : Held F) (hV : V = fun c (b : Ref sig .tc) => StableHlo.after (Tables.lines (F := F)).flatten (fun b => m (c, b)) b)
    (ha : a.1 = tablesOf V 0)
    (hg : ∀ i : grid0.Coords, (tab (F := F) (a.1 0) i).toNat < 32) :
    θ_run (defs (F := F)) (onTc (main (F := F))) ⟨m, 0, g⟩
      (fun r => RDat.FramePost (cfg0 a) (rdat a V) V r ∧ r.2.sem = fun _ => 0) := by
  have hc : ∀ c : Dev nD, c = 0 := fun c => Subsingleton.elim _ _
  exact RDat.θ_run_frameP (pcfgs (F := F)) (fun _ => a) 0 launch0 (defs₀ (F := F)) Variants.none (rdat a V) m g main
    (fun c => obligation a V c hg)
    (fun c w => by unfold RDat.share; split <;> rfl)
    (fun _ _ => rfl) V
    (by
      rw [hV]
      exact hmainP_prefixes (pcfgs (F := F)) 0 (defs₀ (F := F)) Variants.none m main Tables.lines
        ⟨hostOps0_sub, hostOps0_1_sub, hostOps0_2_sub, hostOps0_3_sub, hostOps0_4_sub, hostOps0_5_sub, hostOps0_6_sub,
          hostOps0_7_sub, hostOps0_8_sub, hostOps0_9_sub, hostOps0_10_sub⟩
        (by unfold Tables.lines; repeat' (first | rfl | apply And.intro)) main_chain)
    (fun _ _ => rfl)
    (fun c k => by rw [hc c]; exact (congrFun ha k).symm)
    (fun _ _ => rfl)
    _ (fun _ h => h)

end Cert.KernelIdeal.Region
-- ==== Proof.Kept.lean ====
/- The host's operations write none of the arguments, and the frame of the program: it ends with its arguments
   as they were and every semaphore at zero, when the group sizes cover the rows. -/
module

public import proofs.«01_k».proof.Proof.Obligation

@[expose] public section

noncomputable section

namespace Cert.KernelIdeal.Region

open Idealize.ShloMosaic Idealize.ShloMosaic.TcCoe Idealize.ShloMosaic.Pipeline Idealize.ShloMosaic.ValueIdx
open Idealize.SL.Sem
open Cert.KernelIdeal Cert.KernelIdeal.Gen Cert.KernelIdeal.Rolled

variable {F : FTy → Type} [FloatOps F]

/-- What the host's operations write, in order. -/
def written : List (Ref sig .tc) :=
  [main_call0_call0_c, main_call0_call0_v0, main_v0, main_v1, main_c, main_v2, main_v3, main_c_0, main_v4, main_v5, main_c_1,
   main_call1_v0, main_call1_v1, main_call1_v2, main_call1_v3, main_call1_v4, main_call1_v5, main_call1_v6, main_call1_v7,
   main_call1_v8, main_call1_c, main_call1_v9, main_call1_v10, main_call1_v11, main_call1_c_0, main_call1_v12, main_call1_v13,
   main_v6, main_c_2, main_call2_v0, main_call2_v1, main_call2_v2, main_call2_v3, main_call2_v4, main_call2_v5, main_call2_v6,
   main_call2_v7, main_call2_v8, main_call2_c, main_call2_v9, main_call2_v10, main_call2_v11, main_call2_c_0, main_call2_v12,
   main_call2_v13, main_v7, main_v8, main_c_3, main_v9, main_v10, main_c_4, main_call3_v0, main_call3_v1, main_v11,
   main_call4_call0_c, main_call4_call0_v0, main_v12, main_v13, main_v14, main_v15, main_c_5, main_v16, main_v17, main_v18,
   main_v19, main_v20, main_v21, main_v22, main_v23, main_v24, main_c_6, main_v25, main_c_7, main_v26, main_v27, main_c_8,
   main_v28, main_v29, main_v30, main_v31, main_v32, main_c_9, main_call5_v0, main_call5_v1, main_call5_v2, main_call5_v3,
   main_call5_v4, main_call5_v5, main_call5_v6, main_call5_v7, main_call5_v8, main_call5_c, main_call5_v9, main_call5_v10,
   main_call5_v11, main_call5_c_0, main_call5_v12, main_call5_v13, main_v33, main_v34, main_c_10, main_v35, main_v36, main_c_11,
   main_v37, main_v38, main_v39, main_v40, main_v41, main_c_12, main_v42, main_v43, main_c_13, main_v44, main_v45, main_v46,
   main_v47, main_v48, main_v49, main_v50, main_c_14, main_v51, main_v52, main_c_15, main_v53, main_v54, main_v55, main_v56,
   main_v57, main_c_16, main_v58, main_v59, main_c_17, main_v60, main_v61, main_v62, main_v63, main_v64, main_v65]

set_option maxRecDepth 4000 in
theorem kept (V : Valuation τ sig (Elt F)) (r : Ref sig .tc) (hr : r ∉ written) :
    StableHlo.after (Tables.lines (F := F)).flatten V (Proc.devRef .tc r) = V (Proc.devRef .tc r) :=
  StableHlo.after_unwritten written rfl hr V

/-- A core's buffers when the region starts, from the memory at the program's start. -/
def heldAt (m : (ℓ : Loc nD τ sig) → Buf (Elt F) ℓ) : Held F := fun c (b : Ref sig .tc) =>
  StableHlo.after (Tables.lines (F := F)).flatten (fun b => m (c, b)) b

theorem heldAt_eq (m : (ℓ : Loc nD τ sig) → Buf (Elt F) ℓ) (c : Dev nD) (r : Ref sig .tc) :
    heldAt m c r = Tables.At (fun b => m (c, b)) (Proc.devRef .tc r) := congrFun (Tables.lines_eq _) _

theorem heldAt_kept (m : (ℓ : Loc nD τ sig) → Buf (Elt F) ℓ) (c : Dev nD) (r : Ref sig .tc) (hr : r ∉ written) :
    heldAt m c r = m ((c.tc : Thread nD τ).loc r) := kept _ r hr

theorem heldAt_def (m : (ℓ : Loc nD τ sig) → Buf (Elt F) ℓ) :
    heldAt m = fun c (b : Ref sig .tc) => StableHlo.after (Tables.lines (F := F)).flatten (fun b => m (c, b)) b := rfl

attribute [irreducible] heldAt

/-- The group sizes in a memory. -/
abbrev groups (m : (ℓ : Loc nD τ sig) → Buf (Elt F) ℓ) (c : Dev nD) : IVec S32 32 := m ((c.tc : Thread nD τ).loc main_arg1)

section
variable (m : (ℓ : Loc nD τ sig) → Buf (Elt F) ℓ) {G : ℕ → ℕ}
    (hg : ∀ e : Fin 32, groups m 0 (ix1 e) = BitVec.ofNat 32 (G e.val)) (hT : Visits.E G 32 = 24576)
include hg hT

theorem table_group (v : Fin 127) :
    (tablesOf (heldAt m) 0 0 : S127.Idx → BitVec 32) (ix1 v) = BitVec.ofNat 32 (Visits.ve G v.val) := by
  have h : (tablesOf (heldAt m) 0 0 : S127.Idx → BitVec 32) = Schedule.group (groups m 0) :=
    (heldAt_eq m 0 main_v25).trans (Tables.group_eq _)
  rw [h]; exact Schedule.group_eq hg hT v

theorem table_tile (v : Fin 127) :
    (tablesOf (heldAt m) 0 1 : S127.Idx → BitVec 32) (ix1 v) = BitVec.ofNat 32 (Visits.vt G v.val) := by
  have h : (tablesOf (heldAt m) 0 1 : S127.Idx → BitVec 32) = Schedule.tile (groups m 0) :=
    (heldAt_eq m 0 main_v50).trans (Tables.tile_eq _)
  rw [h]; exact Schedule.tile_eq hg hT v

theorem table_first (v : Fin 127) :
    (tablesOf (heldAt m) 0 2 : S127.Idx → BitVec 32) (ix1 v) = BitVec.ofNat 32 (Visits.E G (Visits.ve G v.val)) := by
  have h : (tablesOf (heldAt m) 0 2 : S127.Idx → BitVec 32) = Schedule.first (groups m 0) :=
    (heldAt_eq m 0 main_v57).trans (Tables.first_eq _)
  rw [h]; exact Schedule.first_eq hg hT v

theorem table_last (v : Fin 127) :
    (tablesOf (heldAt m) 0 3 : S127.Idx → BitVec 32) (ix1 v) = BitVec.ofNat 32 (Visits.E G (Visits.ve G v.val + 1)) := by
  have h : (tablesOf (heldAt m) 0 3 : S127.Idx → BitVec 32) = Schedule.last (groups m 0) :=
    (heldAt_eq m 0 main_v64).trans (Tables.last_eq _)
  rw [h]; exact Schedule.last_eq hg hT v

theorem table_visits (i : S1.Idx) :
    (tablesOf (heldAt m) 0 4 : S1.Idx → BitVec 32) i = BitVec.ofNat 32 (Visits.C G 32) := by
  have h : (tablesOf (heldAt m) 0 4 : S1.Idx → BitVec 32) = Schedule.visits (groups m 0) :=
    (heldAt_eq m 0 main_v65).trans (Tables.visits_eq _)
  rw [h]; exact Schedule.visits_eq hg hT i

theorem group_lt (v : Fin 127) : ((tablesOf (heldAt m) 0 0 : S127.Idx → BitVec 32) (ix1 v)).toNat < 32 := by
  rw [table_group m hg hT, BitVec.toNat_ofNat]
  exact Nat.lt_of_le_of_lt (Nat.mod_le _ _) (Visits.ve_lt hT v.val)

theorem tile_lt (v : Fin 127) : ((tablesOf (heldAt m) 0 1 : S127.Idx → BitVec 32) (ix1 v)).toNat < 96 := by
  rw [table_tile m hg hT, BitVec.toNat_ofNat]
  exact Nat.lt_of_le_of_lt (Nat.mod_le _ _) (Visits.vt_lt hT v.val)

/-- The tables the host leaves, admissible. -/
def tables : (pcfg0 (F := F)).Adm :=
  ⟨tablesOf (heldAt m) 0, admissible _ (group_lt m hg hT) (tile_lt m hg hT)⟩

/-- The program's run: the region's post, and every semaphore at zero. -/
theorem run_from (g : Dev nD → PrngReg) :
    θ_run (defs (F := F)) (onTc (main (F := F))) ⟨m, 0, g⟩
      (fun r => RDat.FramePost (cfg0 (tables m hg hT)) (rdat (tables m hg hT) (heldAt m)) (heldAt m) r ∧ r.2.sem = fun _ => 0) :=
  run (tables m hg hT) m g (heldAt m) (heldAt_def m) rfl fun i =>
    (congrArg BitVec.toNat (tab_eq (F := F) (tablesOf (heldAt m) 0 0) i)).trans_lt (group_lt m hg hT (i 0))

end

theorem arg1_rest : main_arg1 ∈ restRefs sig spec0 := by decide

/-- The arguments after the region, from its post. -/
theorem arguments (m : (ℓ : Loc nD τ sig) → Buf (Elt F) ℓ) (a : (pcfg0 (F := F)).Adm) (r : PUnit × MemSt nD τ sig (Elt F))
    (h : RDat.FramePost (cfg0 a) (rdat a (heldAt m)) (heldAt m) r) (c : Dev nD) :
    r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  ⟨(h.arr_in c 0 rfl).trans (heldAt_kept m c main_arg0 (by decide)),
    ((h c).2 main_arg1 arg1_rest).trans (heldAt_kept m c main_arg1 (by decide)),
    (h.arr_in c 1 rfl).trans (heldAt_kept m c main_arg2 (by decide)),
    (h.arr_in c 3 rfl).trans (heldAt_kept m c main_arg3 (by decide)),
    (h.arr_in c 2 rfl).trans (heldAt_kept m c main_arg4 (by decide)),
    (h.arr_in c 4 rfl).trans (heldAt_kept m c main_arg5 (by decide))⟩

/-- The frame. -/
theorem frame (m : (ℓ : Loc nD τ sig) → Buf (Elt F) ℓ) (g : Dev nD → PrngReg) {G : ℕ → ℕ}
    (hg : ∀ e : Fin 32, groups m 0 (ix1 e) = BitVec.ofNat 32 (G e.val)) (hT : Visits.E G 32 = 24576) :
    θ_run (defs (F := F)) (onTc (main (F := F))) ⟨m, fun _ => 0, g⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) ∧ r.2.sem = fun _ => 0) :=
  (θ_run _ _ _).mono (fun r h => ⟨arguments m _ r h.1, h.2⟩) (run_from m hg hT g)

end Cert.KernelIdeal.Region
-- ==== Proof.Stored.Rolled.lean ====
/- The kernel's body as a program with counted loops. The printed body is one straight run of some
   1800 memory operations; here the same run is written with one program per KIND of tile —
   quantise a group of columns, dequantise a block of the gate or up weights, write a block of the
   result — at a symbolic tile number, and the two are proved equal by unfolding. -/
module

public import proofs.«01_k».proof.Proof.Gen.Kernel
public import proofs.«01_k».proof.Proof.Gen.Kernel.Skeleton

@[expose] public section

noncomputable section

namespace Cert.Kernel.Rolled

open Idealize.ShloMosaic Idealize.SL.Sem Cert.Kernel Cert.Kernel.Gen

variable {F : FTy → Type} [FloatOps F]

/-- The programs of one core's body. -/
abbrev P (F : FTy → Type) := Prog (TpuEff nD τ sig (Elt F) Λ₀ .tc) PUnit

/-! ## Where the tiles lie -/

theorem inbX (k : Fin 16) : ∀ a, (![0, 128 * k.val] : Fin 2 → Nat) a + S256x128.size a ≤ S256x2048.size a := by
  revert k; decide
theorem inbW (k : Fin 16) (j : Fin 2) :
    ∀ a, (![128 * k.val, 128 * j.val] : Fin 2 → Nat) a + S128x128.size a ≤ S2048x256.size a := by
  revert k j; decide
theorem inbO (n : Fin 11) : ∀ a, (![0, 128 * n.val] : Fin 2 → Nat) a + S256x128.size a ≤ S256x1408.size a := by
  revert n; decide
theorem inbQ (n : Fin 11) (k : Fin 16) :
    ∀ a, (![0, 128 * k.val, 128 * n.val] : Fin 3 → Nat) a + S1x128x128.size a ≤ S1x2048x1408.size a := by
  revert n k; decide
theorem inbS (e : Nat) (he : e < 32) (n : Fin 11) (k : Fin 16) :
    ∀ a, (![e, k.val, n.val] : Fin 3 → Nat) a + S1x1x1.size a ≤ S32x16x11.size a := by
  intro a
  match a with
  | 0 => exact he
  | 1 => exact k.isLt
  | 2 => exact n.isLt

abbrev rX (k : Fin 16) : Rect S256x2048 := Rect.unit (s := S256x2048) ![0, 128 * k.val] S256x128.size (inbX k)
abbrev rW (k : Fin 16) (j : Fin 2) : Rect S2048x256 :=
  Rect.unit (s := S2048x256) ![128 * k.val, 128 * j.val] S128x128.size (inbW k j)
abbrev rO (n : Fin 11) : Rect S256x1408 := Rect.unit (s := S256x1408) ![0, 128 * n.val] S256x128.size (inbO n)
abbrev rQ (n : Fin 11) (k : Fin 16) : Rect S1x2048x1408 :=
  Rect.unit (s := S1x2048x1408) ![0, 128 * k.val, 128 * n.val] S1x128x128.size (inbQ n k)
abbrev rS (e : Nat) (he : e < 32) (n : Fin 11) (k : Fin 16) : Rect S32x16x11 :=
  Rect.unit (s := S32x16x11) ![e, k.val, n.val] S1x1x1.size (inbS e he n k)
abbrev rV (i : grid0.Coords) : Rect S127 := Rect.unit (s := S127) (k0_off2 i) S1.size (k0_off2_inb i)

theorem packX (k : Fin 16) : (rX k).PackedRows (EltTy.packing .bf16) := by revert k; decide
theorem packW (k : Fin 16) (j : Fin 2) : (rW k j).PackedRows (EltTy.packing .bf16) := by revert k j; decide
theorem packO (n : Fin 11) : (rO n).PackedRows (EltTy.packing .bf16) := by revert n; decide

/-! ## The values written -/

/-- A group of the tile's columns, quantised: the text the first tile's payload has. -/
abbrev quant (v : Vec F S256x128 .bf16) : FVec F S256x128 .bf16 := k0_pay2 v

/-- A weight block times its scale. -/
abbrev deq (s : Elt F .f32) (w : Vec F S1x128x128 .fp8e4m3) : FVec F S128x128 .bf16 := k0_pay56 s w

/-- The rows of the tile that the visit owns. -/
abbrev mask (vt lo hi : Elt F .i32) : IVec S256x128 1 := k0_pay55 vt lo hi

/-- A block of the result: the product, gated, on the visit's own rows and the block's old contents
    on the others. -/
def outPay (mk : IVec S256x128 1) (l : Vec F S256x2048 .bf16) (w : Vec F S2048x256 .bf16)
    (old : Vec F S256x128 .bf16) : FVec F S256x128 .bf16 :=
  let acc : FVec F S256x256 .f32 :=
    matmul dot_S256x2048_S2048x256_S256x256_1_0_0_1_n_n none l w (constant S256x256 .f32 0x00000000#32)
  let g : FVec F S256x128 .f32 := extractStridedSlice S256x128 ![0, 0] acc slices_S256x256_o0_0_S256x128
  let u : FVec F S256x128 .f32 := extractStridedSlice S256x128 ![0, 128] acc slices_S256x256_o0_128_S256x128
  select mk (truncf .bf16 (mulf (mulf g (logistic g)) u) bitsLt_bf16_f32)
    (shapeCast S256x128 old shapeCasts_S256x128_S256x128)

/-! ## The programs -/

/-- `f` at each member of a list in turn, then `κ`. -/
def each {α : Type} (f : α → P F → P F) : List α → P F → P F
  | [], κ => κ
  | a :: l, κ => f a (each f l κ)

/-- Read one word of a buffer of words. -/
abbrev word {s : Shape} {e : EltTy} (m : Memref sig .tc .smem s e) (r : Rect s) (h1 : r.shape.numel = 1)
    (hp : e.packing = 1) (κ : Elt F e → P F) : P F :=
  smemLoadElt m r (View.loads_smem_one hp h1) (Shape.Idx.first (h1.symm ▸ Nat.one_pos)) κ

abbrev ld {s : Shape} {e : EltTy} (m : Memref sig .tc .vmem s e) (r : Rect s) (hl : (m.access r).Loads)
    (κ : Vec F r.shape e → P F) : P F :=
  .op (.load m r.toLoadRect (View.loadsAt_rect hl)) κ

def quantTile (arg6 : Memref sig .tc .vmem S256x2048 .bf16) (arg12 : Memref sig .tc .vmem S256x2048 .bf16)
    (harg12 : arg12.IsWhole) (k : Fin 16) (κ : P F) : P F :=
  .op (.load arg6 (rX k).toLoadRect (View.loadsAt_vmem h_S256x128)) fun v =>
  .op (.load arg12 (rX k).toLoadRect (View.loadsAt_vmem h_S256x128)) fun _ =>
  .op (.store arg12 (rX k) (quant v) Finset.univ
    (View.stores_vmem h_S256x128 (harg12.storeExact_slice rfl _ (packX k)) (fun _ => rfl)) (.inl rfl)) fun _ => κ

def weightTile (e : Nat) (he : e < 32) (argS : Memref sig .tc .smem S32x16x11 .f32)
    (argQ : Memref sig .tc .vmem S1x2048x1408 .fp8e4m3) (arg13 : Memref sig .tc .vmem S2048x256 .bf16)
    (harg13 : arg13.IsWhole) (j : Fin 2) (n : Fin 11) (k : Fin 16) (κ : P F) : P F :=
  word argS (rS e he n k) numel1_S1x1x1 rfl fun s =>
  .op (.load argQ (rQ n k).toLoadRect (View.loadsAt_vmem h_S1x128x128)) fun w =>
  .op (.load arg13 (rW k j).toLoadRect (View.loadsAt_vmem h_S128x128)) fun _ =>
  .op (.store arg13 (rW k j) (deq s w) Finset.univ
    (View.stores_vmem h_S128x128 (harg13.storeExact_slice rfl _ (packW k j)) (fun _ => rfl)) (.inl rfl)) fun _ => κ

def outTile (mk : IVec S256x128 1) (arg11 : Memref sig .tc .vmem S256x1408 .bf16) (harg11 : arg11.IsWhole)
    (arg12 : Memref sig .tc .vmem S256x2048 .bf16) (arg13 : Memref sig .tc .vmem S2048x256 .bf16)
    (n : Fin 11) (κ : P F) : P F :=
  .op (.load arg12 (Rect.unit (s := S256x2048) ![0, 0] S256x2048.size inb_S256x2048_S256x2048_0_0).toLoadRect
    (View.loadsAt_vmem h_S256x2048)) fun l =>
  .op (.load arg13 (Rect.unit (s := S2048x256) ![0, 0] S2048x256.size inb_S2048x256_S2048x256_0_0).toLoadRect
    (View.loadsAt_vmem h_S2048x256)) fun w =>
  .op (.load arg11 (rO n).toLoadRect (View.loadsAt_vmem h_S256x128)) fun old =>
  .op (.load arg11 (rO n).toLoadRect (View.loadsAt_vmem h_S256x128)) fun _ =>
  .op (.store arg11 (rO n) (outPay mk l w old) Finset.univ
    (View.stores_vmem h_S256x128 (harg11.storeExact_slice rfl _ (packO n)) (fun _ => rfl)) (.inl rfl)) fun _ => κ

abbrev ks : List (Fin 16) := [0, 1, 2, 3, 4, 5, 6, 7, 8, 9, 10, 11, 12, 13, 14, 15]
abbrev ns : List (Fin 11) := [0, 1, 2, 3, 4, 5, 6, 7, 8, 9, 10]

/-- One block column of the result: its weights, then the block. -/
def colTile (e : Nat) (he : e < 32) (mk : IVec S256x128 1) (arg7 arg8 : Memref sig .tc .vmem S1x2048x1408 .fp8e4m3)
    (arg9 arg10 : Memref sig .tc .smem S32x16x11 .f32)
    (arg11 : Memref sig .tc .vmem S256x1408 .bf16) (harg11 : arg11.IsWhole)
    (arg12 : Memref sig .tc .vmem S256x2048 .bf16)
    (arg13 : Memref sig .tc .vmem S2048x256 .bf16) (harg13 : arg13.IsWhole) (n : Fin 11) (κ : P F) : P F :=
  each (fun k κ => weightTile e he arg9 arg7 arg13 harg13 0 n k <|
    weightTile e he arg10 arg8 arg13 harg13 1 n k κ) ks <|
  outTile mk arg11 harg11 arg12 arg13 n κ

/-- The expert a visit names is one of the 32: what the body's check says, in one line. -/
theorem expert_lt (i : grid0.Coords) (v0 v5 : BitVec 32) (hw : k0_chk1 i v0 v5) (h1 : k0_cond1 i v0 = 1#1) :
    (Scalar.indexCast v5).toNat < 32 := hw.1.1 h1 0

/-- The body of an active visit. -/
def visit (i : grid0.Coords) (arg1 arg2 arg3 arg4 : Memref sig .tc .smem S127 .i32)
    (arg6 : Memref sig .tc .vmem S256x2048 .bf16) (arg7 arg8 : Memref sig .tc .vmem S1x2048x1408 .fp8e4m3)
    (arg9 arg10 : Memref sig .tc .smem S32x16x11 .f32)
    (arg11 : Memref sig .tc .vmem S256x1408 .bf16) (harg11 : arg11.IsWhole)
    (arg12 : Memref sig .tc .vmem S256x2048 .bf16) (harg12 : arg12.IsWhole)
    (arg13 : Memref sig .tc .vmem S2048x256 .bf16) (harg13 : arg13.IsWhole)
    (v0 : BitVec 32) (h1 : k0_cond1 i v0 = 1#1) : P F :=
  word arg1 (rV i) numel1_S1 rfl fun v5 =>
  .op (.assume (k0_chk1 i v0 v5) (k0_chk1.dec i v0 v5)) fun hw =>
  each (quantTile arg6 arg12 harg12) ks <|
  word arg2 (rV i) numel1_S1 rfl fun vt =>
  word arg3 (rV i) numel1_S1 rfl fun lo =>
  word arg4 (rV i) numel1_S1 rfl fun hi =>
  each (colTile (Scalar.indexCast v5).toNat (expert_lt i v0 v5 hw.down h1) (mask (F := F) vt lo hi)
    arg7 arg8 arg9 arg10 arg11 harg11 arg12 arg13 harg13) ns <|
  .ret ⟨⟩

/-- The body: nothing past the last visit. -/
def body (i : grid0.Coords) (arg1 arg2 arg3 arg4 : Memref sig .tc .smem S127 .i32)
    (arg5 : Memref sig .tc .smem S1 .i32)
    (arg6 : Memref sig .tc .vmem S256x2048 .bf16) (arg7 arg8 : Memref sig .tc .vmem S1x2048x1408 .fp8e4m3)
    (arg9 arg10 : Memref sig .tc .smem S32x16x11 .f32)
    (arg11 : Memref sig .tc .vmem S256x1408 .bf16) (harg11 : arg11.IsWhole)
    (arg12 : Memref sig .tc .vmem S256x2048 .bf16) (harg12 : arg12.IsWhole)
    (arg13 : Memref sig .tc .vmem S2048x256 .bf16) (harg13 : arg13.IsWhole) : P F :=
  word arg5 (Rect.unit (s := S1) ![0] S1.size inb_S1_S1_0) numel1_S1 rfl fun v0 =>
  if h1 : k0_cond1 i v0 = 1#1 then
    visit i arg1 arg2 arg3 arg4 arg6 arg7 arg8 arg9 arg10 arg11 harg11 arg12 harg12 arg13 harg13 v0 h1
  else .ret ⟨⟩

end Cert.Kernel.Rolled
-- ==== Proof.Stored.Body.lean ====
/- What the rolled body does to the buffers it is handed, exactly: each loop of tiles is a fold of one
   pure step, so the whole visit is a function of the buffers' contents. -/
module

public import proofs.«01_k».proof.Proof.Stored.Rolled
public import proofs.«01_k».proof.Proof.Steps

@[expose] public section

noncomputable section

namespace Cert.Kernel.Rolled

open Idealize.ShloMosaic
open Idealize.SL Idealize.SL.RA Idealize.SL.BI
open scoped Idealize.SL.BI
open Idealize.SL.BI.BIBase Idealize.SL.BI.Laws Idealize.SL.ProofMode Idealize.SL.Sem
open Cert.Kernel Cert.Kernel.Gen Cert.Steps

variable {F : FTy → Type} [FloatOps F]

/-! ## The pure steps -/

def quantAt (X A : S256x2048.Idx → Elt F .bf16) (k : Fin 16) : S256x2048.Idx → Elt F .bf16 :=
  (rX k).overlay A (quant fun x => X ((rX k).idx x))

def scaleAt (S : S32x16x11.Idx → Elt F .f32) (e : Nat) (he : e < 32) (n : Fin 11) (k : Fin 16) : Elt F .f32 :=
  S ((rS e he n k).idx (Shape.Idx.first (numel1_S1x1x1.symm ▸ Nat.one_pos)))

def weightAt (S : S32x16x11.Idx → Elt F .f32) (Qw : S1x2048x1408.Idx → Elt F .fp8e4m3) (e : Nat) (he : e < 32)
    (j : Fin 2) (n : Fin 11) (W : S2048x256.Idx → Elt F .bf16) (k : Fin 16) : S2048x256.Idx → Elt F .bf16 :=
  (rW k j).overlay W (deq (scaleAt S e he n k) fun x => Qw ((rQ n k).idx x))

def outAt (mk : IVec S256x128 1) (A : S256x2048.Idx → Elt F .bf16) (W : S2048x256.Idx → Elt F .bf16)
    (O : S256x1408.Idx → Elt F .bf16) (n : Fin 11) : S256x1408.Idx → Elt F .bf16 :=
  (rO n).overlay O (outPay mk
    (fun x => A ((Rect.unit (s := S256x2048) ![0, 0] S256x2048.size inb_S256x2048_S256x2048_0_0).idx x))
    (fun x => W ((Rect.unit (s := S2048x256) ![0, 0] S2048x256.size inb_S2048x256_S2048x256_0_0).idx x))
    fun x => O ((rO n).idx x))

/-- Both weight scratch halves, filled for one block column. -/
def weightsAt (Sg Su : S32x16x11.Idx → Elt F .f32) (Qg Qu : S1x2048x1408.Idx → Elt F .fp8e4m3) (e : Nat) (he : e < 32)
    (n : Fin 11) (W : S2048x256.Idx → Elt F .bf16) : S2048x256.Idx → Elt F .bf16 :=
  ks.foldl (fun W k => weightAt Su Qu e he 1 n (weightAt Sg Qg e he 0 n W k) k) W

/-- One block column of the visit: the weights, then the block of the result. -/
def colAt (mk : IVec S256x128 1) (Sg Su : S32x16x11.Idx → Elt F .f32) (Qg Qu : S1x2048x1408.Idx → Elt F .fp8e4m3)
    (e : Nat) (he : e < 32) (A : S256x2048.Idx → Elt F .bf16)
    (WO : (S2048x256.Idx → Elt F .bf16) × (S256x1408.Idx → Elt F .bf16)) (n : Fin 11) :
    (S2048x256.Idx → Elt F .bf16) × (S256x1408.Idx → Elt F .bf16) :=
  (weightsAt Sg Su Qg Qu e he n WO.1, outAt mk A (weightsAt Sg Su Qg Qu e he n WO.1) WO.2 n)

/-! ## The programs' triples -/

variable {U : Type} [URA U]
local notation "𝕄" => MT nD τ sig Unit (Elt F) ℕ U ℕ

variable {defs : Defs nD τ sig (Elt F) Λ₀} (𝒱 : Variants) (c : Dev nD) (bd : Option 𝒱.V) (E : Set ℕ)
variable {Q : PUnit → sProp (MT nD τ sig Unit (Elt F) ℕ U ℕ)}

theorem each_wp {α S : Type} (R : S → sProp (MT nD τ sig Unit (Elt F) ℕ U ℕ)) (f : α → P F → P F) (st : S → α → S)
    (h : ∀ a s κ, R s ⊢ iprop((R (st s a) -∗ wp frame (wpE defs 𝒱 c.tc bd) E κ Q)
      -∗ wp frame (wpE defs 𝒱 c.tc bd) E (f a κ) Q)) :
    ∀ (l : List α) (s : S) (κ : P F), R s ⊢ iprop((R (l.foldl st s) -∗ wp frame (wpE defs 𝒱 c.tc bd) E κ Q)
      -∗ wp frame (wpE defs 𝒱 c.tc bd) E (each f l κ) Q)
  | [], s, κ => by
    show R s ⊢ iprop((R s -∗ wp frame (wpE defs 𝒱 c.tc bd) E κ Q) -∗ wp frame (wpE defs 𝒱 c.tc bd) E κ Q)
    iintro H K
    iapply K
    iexact H
  | a :: l, s, κ => by
    show R s ⊢ iprop((R (l.foldl st (st s a)) -∗ wp frame (wpE defs 𝒱 c.tc bd) E κ Q)
      -∗ wp frame (wpE defs 𝒱 c.tc bd) E (f a (each f l κ)) Q)
    iintro H K
    iapply (h a s (each f l κ)) $$ H
    iintro H
    iapply (each_wp R f st h l (st s a) κ) $$ H
    iexact K

section

variable (arg1 arg2 arg3 arg4 : Memref sig .tc .smem S127 .i32)
    (arg5 : Memref sig .tc .smem S1 .i32)
    (arg6 : Memref sig .tc .vmem S256x2048 .bf16) (arg7 arg8 : Memref sig .tc .vmem S1x2048x1408 .fp8e4m3)
    (arg9 arg10 : Memref sig .tc .smem S32x16x11 .f32)
    (arg11 : Memref sig .tc .vmem S256x1408 .bf16) (harg11 : arg11.IsWhole)
    (arg12 : Memref sig .tc .vmem S256x2048 .bf16) (harg12 : arg12.IsWhole)
    (arg13 : Memref sig .tc .vmem S2048x256 .bf16) (harg13 : arg13.IsWhole)

theorem quantTile_wp (X A : S256x2048.Idx → Elt F .bf16) (k : Fin 16) (κ : P F) :
    iprop(owns (c.tc : Thread nD τ) arg6 fullShare X ∗ owns (c.tc : Thread nD τ) arg12 fullShare A)
      ⊢ iprop((iprop(owns (c.tc : Thread nD τ) arg6 fullShare X
            ∗ owns (c.tc : Thread nD τ) arg12 fullShare (quantAt X A k)) -∗ wp frame (wpE defs 𝒱 c.tc bd) E κ Q)
        -∗ wp frame (wpE defs 𝒱 c.tc bd) E (quantTile arg6 arg12 harg12 k κ) Q) := by
  unfold quantTile
  iintro ⟨HX, HA⟩ K
  iapply (own_load 𝒱 (c.tc : Thread nD τ) bd E) $$ HX
  iintro HX
  iapply (own_load 𝒱 (c.tc : Thread nD τ) bd E) $$ HA
  iintro HA
  iapply (own_store 𝒱 (c.tc : Thread nD τ) bd E) $$ HA
  iintro HA
  iapply K
  isplitl [HX]; · iexact HX
  iexact HA

theorem weightTile_wp (e : Nat) (he : e < 32) (argS : Memref sig .tc .smem S32x16x11 .f32)
    (argQ : Memref sig .tc .vmem S1x2048x1408 .fp8e4m3)
    (S : S32x16x11.Idx → Elt F .f32) (Qw : S1x2048x1408.Idx → Elt F .fp8e4m3)
    (j : Fin 2) (n : Fin 11) (W : S2048x256.Idx → Elt F .bf16) (k : Fin 16) (κ : P F) :
    iprop(owns (c.tc : Thread nD τ) argS fullShare S ∗ owns (c.tc : Thread nD τ) argQ fullShare Qw
        ∗ owns (c.tc : Thread nD τ) arg13 fullShare W)
      ⊢ iprop((iprop(owns (c.tc : Thread nD τ) argS fullShare S ∗ owns (c.tc : Thread nD τ) argQ fullShare Qw
            ∗ owns (c.tc : Thread nD τ) arg13 fullShare (weightAt S Qw e he j n W k))
            -∗ wp frame (wpE defs 𝒱 c.tc bd) E κ Q)
        -∗ wp frame (wpE defs 𝒱 c.tc bd) E (weightTile e he argS argQ arg13 harg13 j n k κ) Q) := by
  unfold weightTile
  iintro ⟨HS, HQ, HW⟩ K
  iapply (own_word 𝒱 (c.tc : Thread nD τ) bd E) $$ HS
  iintro HS
  iapply (own_load 𝒱 (c.tc : Thread nD τ) bd E) $$ HQ
  iintro HQ
  iapply (own_load 𝒱 (c.tc : Thread nD τ) bd E) $$ HW
  iintro HW
  iapply (own_store 𝒱 (c.tc : Thread nD τ) bd E) $$ HW
  iintro HW
  iapply K
  isplitl [HS]; · iexact HS
  isplitl [HQ]; · iexact HQ
  iexact HW

theorem outTile_wp (mk : IVec S256x128 1) (A : S256x2048.Idx → Elt F .bf16) (W : S2048x256.Idx → Elt F .bf16)
    (O : S256x1408.Idx → Elt F .bf16) (n : Fin 11) (κ : P F) :
    iprop(owns (c.tc : Thread nD τ) arg12 fullShare A ∗ owns (c.tc : Thread nD τ) arg13 fullShare W
        ∗ owns (c.tc : Thread nD τ) arg11 fullShare O)
      ⊢ iprop((iprop(owns (c.tc : Thread nD τ) arg12 fullShare A ∗ owns (c.tc : Thread nD τ) arg13 fullShare W
            ∗ owns (c.tc : Thread nD τ) arg11 fullShare (outAt mk A W O n))
            -∗ wp frame (wpE defs 𝒱 c.tc bd) E κ Q)
        -∗ wp frame (wpE defs 𝒱 c.tc bd) E (outTile mk arg11 harg11 arg12 arg13 n κ) Q) := by
  unfold outTile
  iintro ⟨HA, HW, HO⟩ K
  iapply (own_load 𝒱 (c.tc : Thread nD τ) bd E) $$ HA
  iintro HA
  iapply (own_load 𝒱 (c.tc : Thread nD τ) bd E) $$ HW
  iintro HW
  iapply (own_load 𝒱 (c.tc : Thread nD τ) bd E) $$ HO
  iintro HO
  iapply (own_load 𝒱 (c.tc : Thread nD τ) bd E) $$ HO
  iintro HO
  iapply (own_store 𝒱 (c.tc : Thread nD τ) bd E) $$ HO
  iintro HO
  iapply K
  isplitl [HA]; · iexact HA
  isplitl [HW]; · iexact HW
  iexact HO

/-- One block column. -/
theorem col_wp (e : Nat) (he : e < 32) (mk : IVec S256x128 1) (Sg Su : S32x16x11.Idx → Elt F .f32)
    (Qg Qu : S1x2048x1408.Idx → Elt F .fp8e4m3) (A : S256x2048.Idx → Elt F .bf16)
    (n : Fin 11) (WO : (S2048x256.Idx → Elt F .bf16) × (S256x1408.Idx → Elt F .bf16)) (κ : P F) :
    iprop(owns (c.tc : Thread nD τ) arg9 fullShare Sg ∗ owns (c.tc : Thread nD τ) arg10 fullShare Su
        ∗ owns (c.tc : Thread nD τ) arg7 fullShare Qg ∗ owns (c.tc : Thread nD τ) arg8 fullShare Qu
        ∗ owns (c.tc : Thread nD τ) arg12 fullShare A
        ∗ owns (c.tc : Thread nD τ) arg13 fullShare WO.1 ∗ owns (c.tc : Thread nD τ) arg11 fullShare WO.2)
      ⊢ iprop((iprop(owns (c.tc : Thread nD τ) arg9 fullShare Sg ∗ owns (c.tc : Thread nD τ) arg10 fullShare Su
            ∗ owns (c.tc : Thread nD τ) arg7 fullShare Qg ∗ owns (c.tc : Thread nD τ) arg8 fullShare Qu
            ∗ owns (c.tc : Thread nD τ) arg12 fullShare A
            ∗ owns (c.tc : Thread nD τ) arg13 fullShare (colAt mk Sg Su Qg Qu e he A WO n).1
            ∗ owns (c.tc : Thread nD τ) arg11 fullShare (colAt mk Sg Su Qg Qu e he A WO n).2)
            -∗ wp frame (wpE defs 𝒱 c.tc bd) E κ Q)
        -∗ wp frame (wpE defs 𝒱 c.tc bd) E
          (colTile e he mk arg7 arg8 arg9 arg10 arg11 harg11 arg12 arg13 harg13 n κ) Q) := by
  unfold colTile
  iintro ⟨HSg, HSu, HQg, HQu, HA, HW, HO⟩ K
  iapply (each_wp (Q := Q) 𝒱 c bd E
    (fun W => iprop(owns (c.tc : Thread nD τ) arg9 fullShare Sg ∗ owns (c.tc : Thread nD τ) arg10 fullShare Su
        ∗ owns (c.tc : Thread nD τ) arg7 fullShare Qg ∗ owns (c.tc : Thread nD τ) arg8 fullShare Qu
        ∗ owns (c.tc : Thread nD τ) arg13 fullShare W))
    (fun k κ => weightTile e he arg9 arg7 arg13 harg13 0 n k <| weightTile e he arg10 arg8 arg13 harg13 1 n k κ)
    (fun W k => weightAt Su Qu e he 1 n (weightAt Sg Qg e he 0 n W k) k)
    (by
      intro k W κ
      iintro ⟨HSg, HSu, HQg, HQu, HW⟩ K
      iapply (weightTile_wp 𝒱 c bd E arg13 harg13 e he arg9 arg7 Sg Qg 0 n W k) $$ [HSg HQg HW]
      · isplitl [HSg]; · iexact HSg
        isplitl [HQg]; · iexact HQg
        iexact HW
      iintro ⟨HSg, HQg, HW⟩
      iapply (weightTile_wp 𝒱 c bd E arg13 harg13 e he arg10 arg8 Su Qu 1 n _ k) $$ [HSu HQu HW]
      · isplitl [HSu]; · iexact HSu
        isplitl [HQu]; · iexact HQu
        iexact HW
      iintro ⟨HSu, HQu, HW⟩
      iapply K
      isplitl [HSg]; · iexact HSg
      isplitl [HSu]; · iexact HSu
      isplitl [HQg]; · iexact HQg
      isplitl [HQu]; · iexact HQu
      iexact HW) ks WO.1) $$ [HSg HSu HQg HQu HW]
  · isplitl [HSg]; · iexact HSg
    isplitl [HSu]; · iexact HSu
    isplitl [HQg]; · iexact HQg
    isplitl [HQu]; · iexact HQu
    iexact HW
  iintro ⟨HSg, HSu, HQg, HQu, HW⟩
  iapply (outTile_wp 𝒱 c bd E arg11 harg11 arg12 arg13 mk A _ WO.2 n) $$ [HA HW HO]
  · isplitl [HA]; · iexact HA
    isplitl [HW]; · iexact HW
    iexact HO
  iintro ⟨HA, HW, HO⟩
  iapply K
  isplitl [HSg]; · iexact HSg
  isplitl [HSu]; · iexact HSu
  isplitl [HQg]; · iexact HQg
  isplitl [HQu]; · iexact HQu
  isplitl [HA]; · iexact HA
  isplitl [HW]; · iexact HW
  iexact HO

end

attribute [irreducible] colAt weightsAt quantAt

end Cert.Kernel.Rolled
-- ==== Proof.Stored.RolledEq.lean ====
module

public import proofs.«01_k».proof.Proof.Stored.Rolled

@[expose] public section

noncomputable section

namespace Cert.Kernel.Rolled

open Idealize.ShloMosaic Idealize.SL.Sem Cert.Kernel Cert.Kernel.Gen

variable {F : FTy → Type} [FloatOps F]

set_option maxRecDepth 1000000 in
set_option maxHeartbeats 0 in
/-- The printed body is the rolled one. -/
theorem body_eq (i : grid0.Coords) (arg1 : Memref sig .tc .smem S127 .i32) (harg1 : arg1.IsWhole) (arg2 : Memref sig .tc .smem S127 .i32) (harg2 : arg2.IsWhole) (arg3 : Memref sig .tc .smem S127 .i32) (harg3 : arg3.IsWhole) (arg4 : Memref sig .tc .smem S127 .i32) (harg4 : arg4.IsWhole) (arg5 : Memref sig .tc .smem S1 .i32) (harg5 : arg5.IsWhole) (arg6 : Memref sig .tc .vmem S256x2048 .bf16) (harg6 : arg6.IsWhole) (arg7 : Memref sig .tc .vmem S1x2048x1408 .fp8e4m3) (harg7 : arg7.IsWhole) (arg8 : Memref sig .tc .vmem S1x2048x1408 .fp8e4m3) (harg8 : arg8.IsWhole) (arg9 : Memref sig .tc .smem S32x16x11 .f32) (harg9 : arg9.IsWhole) (arg10 : Memref sig .tc .smem S32x16x11 .f32) (harg10 : arg10.IsWhole) (arg11 : Memref sig .tc .vmem S256x1408 .bf16) (harg11 : arg11.IsWhole) (arg12 : Memref sig .tc .vmem S256x2048 .bf16) (harg12 : arg12.IsWhole) (arg13 : Memref sig .tc .vmem S2048x256 .bf16) (harg13 : arg13.IsWhole) :
    cc0_moe_gate_up (F := F) i arg1 harg1 arg2 harg2 arg3 harg3 arg4 harg4 arg5 harg5 arg6 harg6 arg7 harg7 arg8 harg8 arg9 harg9 arg10 harg10 arg11 harg11 arg12 harg12 arg13 harg13
      = body i arg1 arg2 arg3 arg4 arg5 arg6 arg7 arg8 arg9 arg10 arg11 harg11 arg12 harg12 arg13 harg13 := rfl

end Cert.Kernel.Rolled
-- ==== Proof.Stored.Visit.lean ====
/- The whole body: at an active visit the output block becomes the visit's value on the rows the visit
   owns and keeps its contents elsewhere; past the last visit nothing changes. -/
module

public import proofs.«01_k».proof.Proof.Stored.Body
public import proofs.«01_k».proof.Proof.Stored.RolledEq

@[expose] public section

noncomputable section

namespace Cert.Kernel.Rolled

open Idealize.ShloMosaic
open Idealize.SL Idealize.SL.RA Idealize.SL.BI
open scoped Idealize.SL.BI
open Idealize.SL.BI.BIBase Idealize.SL.BI.Laws Idealize.SL.ProofMode Idealize.SL.Sem
open Cert.Kernel Cert.Kernel.Gen Cert.Steps

variable {F : FTy → Type} [FloatOps F]

/-- The word a table holds for grid point `i`. -/
abbrev tab (T : S127.Idx → Elt F .i32) (i : grid0.Coords) : BitVec 32 :=
  T ((rV i).idx (Shape.Idx.first (numel1_S1.symm ▸ Nat.one_pos)))

/-- The number of visits, as the body reads it. -/
abbrev count (T : S1.Idx → Elt F .i32) : BitVec 32 :=
  T ((Rect.unit (s := S1) ![0] S1.size inb_S1_S1_0).idx (Shape.Idx.first (numel1_S1.symm ▸ Nat.one_pos)))

/-- The quantised tile. -/
def quantAll (X A : S256x2048.Idx → Elt F .bf16) : S256x2048.Idx → Elt F .bf16 := ks.foldl (quantAt X) A

theorem quantAll_eq (X A : S256x2048.Idx → Elt F .bf16) : quantAll X A = ks.foldl (quantAt X) A := rfl

/-- What an active visit leaves in the weight scratch and the output block. -/
def visitAt (mk : IVec S256x128 1) (Sg Su : S32x16x11.Idx → Elt F .f32) (Qg Qu : S1x2048x1408.Idx → Elt F .fp8e4m3)
    (e : Nat) (he : e < 32) (A : S256x2048.Idx → Elt F .bf16)
    (WO : (S2048x256.Idx → Elt F .bf16) × (S256x1408.Idx → Elt F .bf16)) :
    (S2048x256.Idx → Elt F .bf16) × (S256x1408.Idx → Elt F .bf16) :=
  ns.foldl (colAt mk Sg Su Qg Qu e he A) WO

theorem visitAt_eq (mk : IVec S256x128 1) (Sg Su : S32x16x11.Idx → Elt F .f32) (Qg Qu : S1x2048x1408.Idx → Elt F .fp8e4m3)
    (e : Nat) (he : e < 32) (A : S256x2048.Idx → Elt F .bf16)
    (WO : (S2048x256.Idx → Elt F .bf16) × (S256x1408.Idx → Elt F .bf16)) :
    visitAt mk Sg Su Qg Qu e he A WO = ns.foldl (colAt mk Sg Su Qg Qu e he A) WO := rfl

attribute [irreducible] visitAt quantAll

/-- The expert of the visit at `i`. -/
abbrev expertAt (T1 : S127.Idx → Elt F .i32) (i : grid0.Coords) : Nat := (Scalar.indexCast (tab T1 i) : BitVec 32).toNat

/-- What the body may leave in the output block, given what it found there. -/
def After (i : grid0.Coords) (T1 T2 T3 T4 : S127.Idx → Elt F .i32) (T5 : S1.Idx → Elt F .i32)
    (X : S256x2048.Idx → Elt F .bf16) (Qg Qu : S1x2048x1408.Idx → Elt F .fp8e4m3)
    (Sg Su : S32x16x11.Idx → Elt F .f32) (O O' : S256x1408.Idx → Elt F .bf16) : Prop :=
  (k0_cond1 i (count T5) = 1#1 → ∃ (he : expertAt T1 i < 32) (A : S256x2048.Idx → Elt F .bf16)
      (W : S2048x256.Idx → Elt F .bf16),
    O' = (visitAt (mask (F := F) (tab T2 i) (tab T3 i) (tab T4 i)) Sg Su Qg Qu _ he (quantAll X A) (W, O)).2)
  ∧ (k0_cond1 i (count T5) ≠ 1#1 → O' = O)

variable {U : Type} [URA U]
local notation "𝕄" => MT nD τ sig Unit (Elt F) ℕ U ℕ

variable {defs : Defs nD τ sig (Elt F) Λ₀} (𝒱 : Variants) (c : Dev nD) (bd : Option 𝒱.V) (E : Set ℕ)
variable {Q : PUnit → sProp (MT nD τ sig Unit (Elt F) ℕ U ℕ)}

variable (i : grid0.Coords) (arg1 arg2 arg3 arg4 : Memref sig .tc .smem S127 .i32)
    (arg5 : Memref sig .tc .smem S1 .i32)
    (arg6 : Memref sig .tc .vmem S256x2048 .bf16) (arg7 arg8 : Memref sig .tc .vmem S1x2048x1408 .fp8e4m3)
    (arg9 arg10 : Memref sig .tc .smem S32x16x11 .f32)
    (arg11 : Memref sig .tc .vmem S256x1408 .bf16) (harg11 : arg11.IsWhole)
    (arg12 : Memref sig .tc .vmem S256x2048 .bf16) (harg12 : arg12.IsWhole)
    (arg13 : Memref sig .tc .vmem S2048x256 .bf16) (harg13 : arg13.IsWhole)

/-- Every block column. -/
theorem cols_wp (l : List (Fin 11)) (e : Nat) (he : e < 32) (mk : IVec S256x128 1) (Sg Su : S32x16x11.Idx → Elt F .f32)
    (Qg Qu : S1x2048x1408.Idx → Elt F .fp8e4m3) (A : S256x2048.Idx → Elt F .bf16)
    (WO : (S2048x256.Idx → Elt F .bf16) × (S256x1408.Idx → Elt F .bf16)) (κ : P F) :
    iprop(owns (c.tc : Thread nD τ) arg9 fullShare Sg ∗ owns (c.tc : Thread nD τ) arg10 fullShare Su
        ∗ owns (c.tc : Thread nD τ) arg7 fullShare Qg ∗ owns (c.tc : Thread nD τ) arg8 fullShare Qu
        ∗ owns (c.tc : Thread nD τ) arg12 fullShare A
        ∗ owns (c.tc : Thread nD τ) arg13 fullShare WO.1 ∗ owns (c.tc : Thread nD τ) arg11 fullShare WO.2)
      ⊢ iprop((iprop(owns (c.tc : Thread nD τ) arg9 fullShare Sg ∗ owns (c.tc : Thread nD τ) arg10 fullShare Su
            ∗ owns (c.tc : Thread nD τ) arg7 fullShare Qg ∗ owns (c.tc : Thread nD τ) arg8 fullShare Qu
            ∗ owns (c.tc : Thread nD τ) arg12 fullShare A
            ∗ owns (c.tc : Thread nD τ) arg13 fullShare (l.foldl (colAt mk Sg Su Qg Qu e he A) WO).1
            ∗ owns (c.tc : Thread nD τ) arg11 fullShare (l.foldl (colAt mk Sg Su Qg Qu e he A) WO).2)
            -∗ wp frame (wpE defs 𝒱 c.tc bd) E κ Q)
        -∗ wp frame (wpE defs 𝒱 c.tc bd) E
          (each (colTile e he mk arg7 arg8 arg9 arg10 arg11 harg11 arg12 arg13 harg13) l κ) Q) := by
  have h := each_wp (defs := defs) (Q := Q) 𝒱 c bd E
    (fun WO : (S2048x256.Idx → Elt F .bf16) × (S256x1408.Idx → Elt F .bf16) => iprop(owns (c.tc : Thread nD τ) arg9 fullShare Sg ∗ owns (c.tc : Thread nD τ) arg10 fullShare Su
        ∗ owns (c.tc : Thread nD τ) arg7 fullShare Qg ∗ owns (c.tc : Thread nD τ) arg8 fullShare Qu
        ∗ owns (c.tc : Thread nD τ) arg12 fullShare A
        ∗ owns (c.tc : Thread nD τ) arg13 fullShare WO.1 ∗ owns (c.tc : Thread nD τ) arg11 fullShare WO.2))
    (colTile e he mk arg7 arg8 arg9 arg10 arg11 harg11 arg12 arg13 harg13)
    (colAt mk Sg Su Qg Qu e he A)
    (by
      intro n WO κ
      exact col_wp (defs := defs) (Q := Q) 𝒱 c bd E arg7 arg8 arg9 arg10 arg11 harg11 arg12 arg13 harg13 e he mk Sg Su Qg Qu A n WO κ) l WO κ
  exact h

/-- The buffers the body is handed: the tables at a share, the rest whole. -/
def held (q : PosShare TreeShare) (T1 T2 T3 T4 : S127.Idx → Elt F .i32) (T5 : S1.Idx → Elt F .i32)
    (X : S256x2048.Idx → Elt F .bf16) (Qg Qu : S1x2048x1408.Idx → Elt F .fp8e4m3)
    (Sg Su : S32x16x11.Idx → Elt F .f32) (O : S256x1408.Idx → Elt F .bf16)
    (A : S256x2048.Idx → Elt F .bf16) (W : S2048x256.Idx → Elt F .bf16) : sProp (MT nD τ sig Unit (Elt F) ℕ U ℕ) :=
  iprop(owns (c.tc : Thread nD τ) arg1 q T1 ∗ owns (c.tc : Thread nD τ) arg2 q T2
    ∗ owns (c.tc : Thread nD τ) arg3 q T3 ∗ owns (c.tc : Thread nD τ) arg4 q T4
    ∗ owns (c.tc : Thread nD τ) arg5 q T5
    ∗ owns (c.tc : Thread nD τ) arg6 fullShare X
    ∗ owns (c.tc : Thread nD τ) arg7 fullShare Qg ∗ owns (c.tc : Thread nD τ) arg8 fullShare Qu
    ∗ owns (c.tc : Thread nD τ) arg9 fullShare Sg ∗ owns (c.tc : Thread nD τ) arg10 fullShare Su
    ∗ owns (c.tc : Thread nD τ) arg11 fullShare O
    ∗ owns (c.tc : Thread nD τ) arg12 fullShare A ∗ owns (c.tc : Thread nD τ) arg13 fullShare W)

theorem visit_wp (q : PosShare TreeShare) (T1 T2 T3 T4 : S127.Idx → Elt F .i32) (T5 : S1.Idx → Elt F .i32)
    (X : S256x2048.Idx → Elt F .bf16) (Qg Qu : S1x2048x1408.Idx → Elt F .fp8e4m3)
    (Sg Su : S32x16x11.Idx → Elt F .f32) (O : S256x1408.Idx → Elt F .bf16)
    (A : S256x2048.Idx → Elt F .bf16) (W : S2048x256.Idx → Elt F .bf16) (v0 : BitVec 32)
    (h1 : k0_cond1 i v0 = 1#1) (hw : k0_chk1 i v0 (tab T1 i)) :
    held c arg1 arg2 arg3 arg4 arg5 arg6 arg7 arg8 arg9 arg10 arg11 arg12 arg13 q T1 T2 T3 T4 T5 X Qg Qu Sg Su O A W
      ⊢ iprop((held c arg1 arg2 arg3 arg4 arg5 arg6 arg7 arg8 arg9 arg10 arg11 arg12 arg13 q T1 T2 T3 T4 T5 X Qg Qu Sg Su
            (visitAt (mask (F := F) (tab T2 i) (tab T3 i) (tab T4 i)) Sg Su Qg Qu _ (expert_lt i v0 _ hw h1) (quantAll X A) (W, O)).2
            (quantAll X A)
            (visitAt (mask (F := F) (tab T2 i) (tab T3 i) (tab T4 i)) Sg Su Qg Qu _ (expert_lt i v0 _ hw h1) (quantAll X A) (W, O)).1
          -∗ Q ⟨⟩)
        -∗ wp frame (wpE defs 𝒱 c.tc bd) E
          (visit i arg1 arg2 arg3 arg4 arg6 arg7 arg8 arg9 arg10 arg11 harg11 arg12 harg12 arg13 harg13 v0 h1) Q) := by
  have hcol := cols_wp (defs := defs) (Q := Q) 𝒱 c bd E arg7 arg8 arg9 arg10 arg11 harg11 arg12 arg13 harg13 ns (expertAt T1 i)
    (expert_lt i v0 _ hw h1) (mask (F := F) (tab T2 i) (tab T3 i) (tab T4 i)) Sg Su Qg Qu (quantAll X A) (W, O) (.ret ⟨⟩)
  have hq := each_wp (defs := defs) (Q := Q) 𝒱 c bd E
    (fun A => iprop(owns (c.tc : Thread nD τ) arg6 fullShare X ∗ owns (c.tc : Thread nD τ) arg12 fullShare A))
    (quantTile arg6 arg12 harg12) (quantAt X) (fun k A κ => quantTile_wp (defs := defs) (Q := Q) 𝒱 c bd E arg6 arg12 harg12 X A k κ) ks A
  simp only [← quantAll_eq] at hq
  unfold held visit
  rw [← visitAt_eq] at hcol
  iintro ⟨H1, H2, H3, H4, H5, HX, HQg, HQu, HSg, HSu, HO, HA, HW⟩ K
  iapply (own_word 𝒱 (c.tc : Thread nD τ) bd E) $$ H1
  iintro H1
  iapply (wp_assume 𝒱 (c.tc : Thread nD τ) bd E (h := hw))
  iapply hq $$ [HX HA]
  · isplitl [HX]; · iexact HX
    iexact HA
  iintro ⟨HX, HA⟩
  iapply (own_word 𝒱 (c.tc : Thread nD τ) bd E) $$ H2
  iintro H2
  iapply (own_word 𝒱 (c.tc : Thread nD τ) bd E) $$ H3
  iintro H3
  iapply (own_word 𝒱 (c.tc : Thread nD τ) bd E) $$ H4
  iintro H4
  iapply hcol $$ [HSg HSu HQg HQu HA HW HO]
  · isplitl [HSg]; · iexact HSg
    isplitl [HSu]; · iexact HSu
    isplitl [HQg]; · iexact HQg
    isplitl [HQu]; · iexact HQu
    isplitl [HA]; · iexact HA
    isplitl [HW]; · iexact HW
    iexact HO
  iintro ⟨HSg, HSu, HQg, HQu, HA, HW, HO⟩
  rw [wp_ret]; imodintro
  iapply K
  isplitl [H1]; · iexact H1
  isplitl [H2]; · iexact H2
  isplitl [H3]; · iexact H3
  isplitl [H4]; · iexact H4
  isplitl [H5]; · iexact H5
  isplitl [HX]; · iexact HX
  isplitl [HQg]; · iexact HQg
  isplitl [HQu]; · iexact HQu
  isplitl [HSg]; · iexact HSg
  isplitl [HSu]; · iexact HSu
  isplitl [HO]; · iexact HO
  isplitl [HA]; · iexact HA
  iexact HW

/-- The body, from the buffers it is handed to what it leaves. -/
theorem body_wp (q : PosShare TreeShare) (T1 T2 T3 T4 : S127.Idx → Elt F .i32) (T5 : S1.Idx → Elt F .i32)
    (X : S256x2048.Idx → Elt F .bf16) (Qg Qu : S1x2048x1408.Idx → Elt F .fp8e4m3)
    (Sg Su : S32x16x11.Idx → Elt F .f32) (O : S256x1408.Idx → Elt F .bf16)
    (A : S256x2048.Idx → Elt F .bf16) (W : S2048x256.Idx → Elt F .bf16)
    (hw : k0_cond1 i (count T5) = 1#1 → k0_chk1 i (count T5) (tab T1 i)) :
    held c arg1 arg2 arg3 arg4 arg5 arg6 arg7 arg8 arg9 arg10 arg11 arg12 arg13 q T1 T2 T3 T4 T5 X Qg Qu Sg Su O A W
      ⊢ iprop((∀ O', ∀ A', ∀ W', ⌜After i T1 T2 T3 T4 T5 X Qg Qu Sg Su O O'⌝ -∗
            held c arg1 arg2 arg3 arg4 arg5 arg6 arg7 arg8 arg9 arg10 arg11 arg12 arg13 q T1 T2 T3 T4 T5 X Qg Qu Sg Su O' A' W'
          -∗ Q ⟨⟩)
        -∗ wp frame (wpE defs 𝒱 c.tc bd) E
          (body i arg1 arg2 arg3 arg4 arg5 arg6 arg7 arg8 arg9 arg10 arg11 harg11 arg12 harg12 arg13 harg13) Q) := by
  unfold body
  by_cases h1 : k0_cond1 i (count T5) = 1#1
  · have hv := visit_wp (defs := defs) (Q := Q) 𝒱 c bd E i arg1 arg2 arg3 arg4 arg5 arg6 arg7 arg8 arg9 arg10 arg11 harg11 arg12 harg12
      arg13 harg13 q T1 T2 T3 T4 T5 X Qg Qu Sg Su O A W (count T5) h1 (hw h1)
    have hA : After i T1 T2 T3 T4 T5 X Qg Qu Sg Su O
        (visitAt (mask (F := F) (tab T2 i) (tab T3 i) (tab T4 i)) Sg Su Qg Qu _
          (expert_lt i _ _ (hw h1) h1) (quantAll X A) (W, O)).2 :=
      ⟨fun _ => ⟨expert_lt i _ _ (hw h1) h1, A, W, rfl⟩, fun h => absurd h1 h⟩
    unfold held at hv ⊢
    iintro ⟨H1, H2, H3, H4, H5, HR⟩ K
    iapply (own_word 𝒱 (c.tc : Thread nD τ) bd E) $$ H5
    iintro H5
    rw [show T5 _ = count T5 from rfl, dif_pos h1]
    iapply hv $$ [H1 H2 H3 H4 H5 HR]
    · isplitl [H1]; · iexact H1
      isplitl [H2]; · iexact H2
      isplitl [H3]; · iexact H3
      isplitl [H4]; · iexact H4
      isplitl [H5]; · iexact H5
      iexact HR
    iintro HR
    iapply K
    · ipureintro; exact hA
    iexact HR
  · have hA : After i T1 T2 T3 T4 T5 X Qg Qu Sg Su O O := ⟨fun h => absurd h h1, fun _ => rfl⟩
    unfold held
    iintro ⟨H1, H2, H3, H4, H5, HR⟩ K
    iapply (own_word 𝒱 (c.tc : Thread nD τ) bd E) $$ H5
    iintro H5
    rw [show T5 _ = count T5 from rfl, dif_neg h1]
    rw [wp_ret]; imodintro
    iapply K
    · ipureintro; exact hA
    isplitl [H1]; · iexact H1
    isplitl [H2]; · iexact H2
    isplitl [H3]; · iexact H3
    isplitl [H4]; · iexact H4
    isplitl [H5]; · iexact H5
    iexact HR

end Cert.Kernel.Rolled
-- ==== Proof.Stored.Admissible.lean ====
/- What the tables must satisfy: every block the index maps name lies inside its array, and every scale the
   body reads lies inside the scales. Both follow from the tiles being below 96 and the groups below 32. -/
module

public import proofs.«01_k».proof.Proof.Stored.Visit
public import Idealize.ShloMosaic.Lib.ValueIdx

@[expose] public section

noncomputable section

namespace Cert.Kernel.Rolled

open Idealize.ShloMosaic Cert.Kernel Cert.Kernel.Gen
open Idealize.ShloMosaic.ValueIdx

variable {F : FTy → Type} [FloatOps F]

theorem point_toNat (i : grid0.Coords) : (Scalar.indexCast (BitVec.ofNat 32 (i 0).val) : BitVec 32).toNat = (i 0).val := by
  have h : (i 0).val < 127 := (i 0).isLt
  show (BitVec.ofNat 32 (i 0).val).toNat = _
  rw [BitVec.toNat_ofNat]; omega

/-- A table's word at a grid point is its entry there. -/
theorem tab_eq (T : S127.Idx → Elt F .i32) (i : grid0.Coords) : tab T i = T (ix1 (i 0)) := by
  refine congrArg T (funext fun a => Fin.ext ?_)
  match a with
  | ⟨0, _⟩ =>
    show (Scalar.indexCast (BitVec.ofNat 32 (i 0).val) : BitVec 32).toNat + 0 * 1 = (i 0).val
    rw [point_toNat]; omega

theorem at_eq1 (pf : pre0.Contents (Elt F)) (i : grid0.Coords) (h : ∀ a, (k0_off1 i) a + S1.size a ≤ S127.size a) (h1 : S1.numel = 1) :
    pf.at 1 (Rect.unit (s := S127) (k0_off1 i) S1.size h) h1 = (pf 1 : S127.Idx → Elt F .i32) (ix1 (i 0)) :=
  tab_eq (pf 1) i

theorem at_eq0 (pf : pre0.Contents (Elt F)) (i : grid0.Coords) (h : ∀ a, (k0_off1 i) a + S1.size a ≤ S127.size a) (h1 : S1.numel = 1) :
    pf.at 0 (Rect.unit (s := S127) (k0_off1 i) S1.size h) h1 = (pf 0 : S127.Idx → Elt F .i32) (ix1 (i 0)) :=
  tab_eq (pf 0) i

/-- The index maps at a grid point. -/
theorem map0 (pf : pre0.Contents (Elt F)) (i : grid0.Coords) :
    cc0_transform_0 k0_off1_inb numel1_S1 pf i = ![((pf 1 : S127.Idx → BitVec 32) (ix1 (i 0))).toNat, 0] := by
  show ![BitVec.toNat (pf.at 1 (Rect.unit (s := S127) (k0_off1 i) S1.size (k0_off1_inb i)) numel1_S1), 0] = _
  rw [at_eq1]

theorem map5 (pf : pre0.Contents (Elt F)) (i : grid0.Coords) :
    cc0_transform_5 k0_off1_inb numel1_S1 pf i = ![((pf 1 : S127.Idx → BitVec 32) (ix1 (i 0))).toNat, 0] := map0 pf i

theorem map1 (pf : pre0.Contents (Elt F)) (i : grid0.Coords) :
    cc0_transform_1 k0_off1_inb numel1_S1 pf i = ![((pf 0 : S127.Idx → BitVec 32) (ix1 (i 0))).toNat, 0, 0] := by
  show ![BitVec.toNat (pf.at 0 (Rect.unit (s := S127) (k0_off1 i) S1.size (k0_off1_inb i)) numel1_S1), 0, 0] = _
  rw [at_eq0]

theorem map2 (pf : pre0.Contents (Elt F)) (i : grid0.Coords) :
    cc0_transform_2 k0_off1_inb numel1_S1 pf i = ![((pf 0 : S127.Idx → BitVec 32) (ix1 (i 0))).toNat, 0, 0] := map1 pf i

/-- Tables whose tiles are below 96 and groups below 32 are admissible. -/
theorem admissible (pf : pre0.Contents (Elt F))
    (hg : ∀ v : Fin 127, ((pf 0 : S127.Idx → BitVec 32) (ix1 v)).toNat < 32)
    (ht : ∀ v : Fin 127, ((pf 1 : S127.Idx → BitVec 32) (ix1 v)).toNat < 96) : ok0 pf := by
  have h0 : ∀ i : grid0.Coords, ∀ a, (cc0_transform_0 k0_off1_inb numel1_S1 pf i a + 1) * S256x2048.size a ≤ S24576x2048.size a := by
    intro i a
    rw [map0]
    have := ht (i 0)
    match a with
    | ⟨0, _⟩ => show (BitVec.toNat _ + 1) * 256 ≤ 24576; omega
    | ⟨1, _⟩ => show (0 + 1) * 2048 ≤ 2048; omega
  have h5 : ∀ i : grid0.Coords, ∀ a, (cc0_transform_5 k0_off1_inb numel1_S1 pf i a + 1) * S256x1408.size a ≤ S24576x1408.size a := by
    intro i a
    rw [map5]
    have := ht (i 0)
    match a with
    | ⟨0, _⟩ => show (BitVec.toNat _ + 1) * 256 ≤ 24576; omega
    | ⟨1, _⟩ => show (0 + 1) * 1408 ≤ 1408; omega
  have h1 : ∀ i : grid0.Coords, ∀ a, (cc0_transform_1 k0_off1_inb numel1_S1 pf i a + 1) * S1x2048x1408.size a ≤ S32x2048x1408.size a := by
    intro i a
    rw [map1]
    have := hg (i 0)
    match a with
    | ⟨0, _⟩ => show (BitVec.toNat _ + 1) * 1 ≤ 32; omega
    | ⟨1, _⟩ => show (0 + 1) * 2048 ≤ 2048; omega
    | ⟨2, _⟩ => show (0 + 1) * 1408 ≤ 1408; omega
  refine ⟨fun i => ⟨h0 i, .inr (.inl (.inr ⟨by decide, rfl, .inl ⟨?_, ⟨128, rfl⟩⟩⟩))⟩,
    fun i => ⟨h1 i, .inr (.inr ⟨by decide, rfl, ?_, rfl⟩)⟩, fun i => ⟨h1 i, .inr (.inr ⟨by decide, rfl, ?_, rfl⟩)⟩,
    fun i => ⟨h5 i, .inr (.inl (.inr ⟨by decide, rfl, .inl ⟨?_, ⟨128, rfl⟩⟩⟩))⟩⟩
  · exact ⟨128 * cc0_transform_0 k0_off1_inb numel1_S1 pf i 0, by
      show cc0_transform_0 k0_off1_inb numel1_S1 pf i 0 * 256 = 2 * _; omega⟩
  · show cc0_transform_1 k0_off1_inb numel1_S1 pf i 1 * 2048 = 0
    rw [map1]; rfl
  · show cc0_transform_2 k0_off1_inb numel1_S1 pf i 1 * 2048 = 0
    rw [map2]; rfl
  · exact ⟨128 * cc0_transform_5 k0_off1_inb numel1_S1 pf i 0, by
      show cc0_transform_5 k0_off1_inb numel1_S1 pf i 0 * 256 = 2 * _; omega⟩

theorem scale_inb (v : BitVec 32) (hv : v.toNat < 32) (k n : Nat) (hk : k < 16) (hn : n < 11) :
    ∀ a, (![(Scalar.indexCast v : BitVec 32).toNat, k, n] : Fin 3 → Nat) a + S1x1x1.size a ≤ S32x16x11.size a := by
  intro a
  match a with
  | ⟨0, _⟩ => show v.toNat + 1 ≤ 32; omega
  | ⟨1, _⟩ => show k + 1 ≤ 16; omega
  | ⟨2, _⟩ => show n + 1 ≤ 11; omega

set_option maxRecDepth 4000 in
/-- Every scale the body reads for a group below 32 is there. -/
theorem scales_inb (i : grid0.Coords) (n v : BitVec 32) (hv : v.toNat < 32) : k0_chk1 i n v := by
  unfold k0_chk1 k0_chk1_0 k0_chk1_1 k0_chk1_2 k0_chk1_3 k0_chk1_4 k0_chk1_5
  repeat' apply And.intro
  all_goals
    intro _
    exact scale_inb v hv _ _ (by decide) (by decide)

end Cert.Kernel.Rolled
-- ==== Proof.Stored.Tables.lean ====
/- The tables that the host leaves for the region, read off the host's straight line of operations. -/
module

public import proofs.«01_k».proof.Proof.Gen.Kernel.Launch
public import proofs.«01_k».proof.Proof.Schedule
public import Idealize.ShloMosaic.Lib.StableHlo.RunRead

@[expose] public section

noncomputable section

namespace Cert.Kernel.Tables

open Idealize.ShloMosaic Idealize.ShloMosaic.TcCoe Idealize.SL.Sem Cert.Kernel Cert.Kernel.Gen

variable {F : FTy → Type} [FloatOps F]

/-- The host's lines of operations, in order. -/
def lines : List (List (HloOp τ sig (Elt F))) :=
  [hostOps0, hostOps0_1, hostOps0_2, hostOps0_3, hostOps0_4, hostOps0_5, hostOps0_6, hostOps0_7, hostOps0_8, hostOps0_9, hostOps0_10]

variable (V : Valuation τ sig (Elt F))

/-- After the first sums. -/
def Up1 : Valuation τ sig (Elt F) := StableHlo.after (hostOps0_1 (F := F)) (StableHlo.after hostOps0 V)
/-- After the floor divisions of the ends. -/
def Up2 : Valuation τ sig (Elt F) := StableHlo.after (hostOps0_3 (F := F)) (StableHlo.after hostOps0_2 V)
/-- After the tile counts and their sums. -/
def Up3 : Valuation τ sig (Elt F) :=
  StableHlo.after (hostOps0_7 (F := F)) (StableHlo.after hostOps0_6 (StableHlo.after hostOps0_5 (StableHlo.after hostOps0_4 V)))
/-- After the visits' groups. -/
def Up4 : Valuation τ sig (Elt F) := StableHlo.after (hostOps0_8 (F := F)) V
/-- After the last floor division. -/
def Up5 : Valuation τ sig (Elt F) := StableHlo.after (hostOps0_9 (F := F)) V
/-- After the tables. -/
def Up6 : Valuation τ sig (Elt F) := StableHlo.after (hostOps0_10 (F := F)) V

/-- What the buffers hold after every line. -/
abbrev At : Valuation τ sig (Elt F) := Up6 (Up5 (Up4 (Up3 (Up2 (Up1 V)))))

theorem lines_eq : StableHlo.after (lines (F := F)).flatten V = At V := rfl

/-- A vector's entries at given groups, a negative group counting from the end. -/
def takeAt (grp : IVec S127 32) (x : IVec S32 32) : IVec S127 32 :=
  Host.gather gather_S32_S127x1_S127_n_0_n_n_0_1_1 x
    (broadcastInDim S127x1 ![0] Facts₀.bcast_S127_S127x1_0
      (select (cmpi .slt grp (Schedule.c127 0#32)) (addi grp (Schedule.c127 32#32)) grp))

theorem up1_v0 : Up1 V (Proc.devRef .tc main_v0) = Schedule.ends (V (Proc.devRef .tc main_arg1)) := by
  unfold Up1
  after_reads_simp
  all_goals try simp -implicitDefEqProofs only [StableHlo.TRef.toBuf, StableHlo.TRef.ofBuf, cast_cast, cast_eq]
  all_goals try rfl

theorem up1_v1 : Up1 V (Proc.devRef .tc main_v1) = Schedule.starts (V (Proc.devRef .tc main_arg1)) := by
  unfold Up1
  after_reads_simp
  all_goals try simp -implicitDefEqProofs only [StableHlo.TRef.toBuf, StableHlo.TRef.ofBuf, cast_cast, cast_eq]
  all_goals try rfl

theorem up1_v3 : Up1 V (Proc.devRef .tc main_v3) = cmpi .sgt (V (Proc.devRef .tc main_arg1)) (Schedule.c32 0#32) := by
  unfold Up1
  after_reads_simp
  all_goals try simp -implicitDefEqProofs only [StableHlo.TRef.toBuf, StableHlo.TRef.ofBuf, cast_cast, cast_eq]
  all_goals try rfl

theorem up1_v5 : Up1 V (Proc.devRef .tc main_v5) = subi (Schedule.ends (V (Proc.devRef .tc main_arg1))) (Schedule.c32 1#32) := by
  unfold Up1
  after_reads_simp
  all_goals try simp -implicitDefEqProofs only [StableHlo.TRef.toBuf, StableHlo.TRef.ofBuf, cast_cast, cast_eq]
  all_goals try rfl

theorem up1_c1 : Up1 V (Proc.devRef .tc main_c_1) = Schedule.c0 256#32 := by
  unfold Up1
  after_reads_simp
  all_goals try simp -implicitDefEqProofs only [StableHlo.TRef.toBuf, StableHlo.TRef.ofBuf, cast_cast, cast_eq]
  all_goals try rfl

theorem up2_v0 : Up2 V (Proc.devRef .tc main_v0) = (V (Proc.devRef .tc main_v0)) := by
  unfold Up2
  after_reads_simp
  all_goals try simp -implicitDefEqProofs only [StableHlo.TRef.toBuf, StableHlo.TRef.ofBuf, cast_cast, cast_eq]
  all_goals try rfl

theorem up2_v1 : Up2 V (Proc.devRef .tc main_v1) = (V (Proc.devRef .tc main_v1)) := by
  unfold Up2
  after_reads_simp
  all_goals try simp -implicitDefEqProofs only [StableHlo.TRef.toBuf, StableHlo.TRef.ofBuf, cast_cast, cast_eq]
  all_goals try rfl

theorem up2_v3 : Up2 V (Proc.devRef .tc main_v3) = (V (Proc.devRef .tc main_v3)) := by
  unfold Up2
  after_reads_simp
  all_goals try simp -implicitDefEqProofs only [StableHlo.TRef.toBuf, StableHlo.TRef.ofBuf, cast_cast, cast_eq]
  all_goals try rfl

theorem up2_v6 : Up2 V (Proc.devRef .tc main_v6) = Routing.pyDiv Facts₀.bcast_S_S32 (V (Proc.devRef .tc main_v5)) (V (Proc.devRef .tc main_c_1)) := by
  unfold Up2
  after_reads_simp
  all_goals try simp -implicitDefEqProofs only [StableHlo.TRef.toBuf, StableHlo.TRef.ofBuf, cast_cast, cast_eq]
  all_goals try rfl

theorem up2_c2 : Up2 V (Proc.devRef .tc main_c_2) = Schedule.c0 256#32 := by
  unfold Up2
  after_reads_simp
  all_goals try simp -implicitDefEqProofs only [StableHlo.TRef.toBuf, StableHlo.TRef.ofBuf, cast_cast, cast_eq]
  all_goals try rfl

theorem up3_v0 : Up3 V (Proc.devRef .tc main_v0) = (V (Proc.devRef .tc main_v0)) := by
  unfold Up3
  after_reads_simp
  all_goals try simp -implicitDefEqProofs only [StableHlo.TRef.toBuf, StableHlo.TRef.ofBuf, cast_cast, cast_eq]
  all_goals try rfl

theorem up3_v1 : Up3 V (Proc.devRef .tc main_v1) = (V (Proc.devRef .tc main_v1)) := by
  unfold Up3
  after_reads_simp
  all_goals try simp -implicitDefEqProofs only [StableHlo.TRef.toBuf, StableHlo.TRef.ofBuf, cast_cast, cast_eq]
  all_goals try rfl

theorem up3_v11 : Up3 V (Proc.devRef .tc main_v11) = (select (α := BitVec 32) (V (Proc.devRef .tc main_v3)) (addi (subi (V (Proc.devRef .tc main_v6)) (Routing.pyDiv Facts₀.bcast_S_S32 (V (Proc.devRef .tc main_v1)) (V (Proc.devRef .tc main_c_2)))) (Schedule.c32 1#32)) (Schedule.c32 0#32)) := by
  unfold Up3
  after_reads_simp
  all_goals try simp -implicitDefEqProofs only [StableHlo.TRef.toBuf, StableHlo.TRef.ofBuf, cast_cast, cast_eq]
  all_goals try rfl

theorem up3_v12 : Up3 V (Proc.devRef .tc main_v12) = Schedule.running (select (α := BitVec 32) (V (Proc.devRef .tc main_v3)) (addi (subi (V (Proc.devRef .tc main_v6)) (Routing.pyDiv Facts₀.bcast_S_S32 (V (Proc.devRef .tc main_v1)) (V (Proc.devRef .tc main_c_2)))) (Schedule.c32 1#32)) (Schedule.c32 0#32)) := by
  unfold Up3
  after_reads_simp
  all_goals try simp -implicitDefEqProofs only [StableHlo.TRef.toBuf, StableHlo.TRef.ofBuf, cast_cast, cast_eq]
  all_goals try rfl

theorem up4_v0 : Up4 V (Proc.devRef .tc main_v0) = (V (Proc.devRef .tc main_v0)) := by
  unfold Up4
  after_reads_simp
  all_goals try simp -implicitDefEqProofs only [StableHlo.TRef.toBuf, StableHlo.TRef.ofBuf, cast_cast, cast_eq]
  all_goals try rfl

theorem up4_v1 : Up4 V (Proc.devRef .tc main_v1) = (V (Proc.devRef .tc main_v1)) := by
  unfold Up4
  after_reads_simp
  all_goals try simp -implicitDefEqProofs only [StableHlo.TRef.toBuf, StableHlo.TRef.ofBuf, cast_cast, cast_eq]
  all_goals try rfl

theorem up4_v11 : Up4 V (Proc.devRef .tc main_v11) = (V (Proc.devRef .tc main_v11)) := by
  unfold Up4
  after_reads_simp
  all_goals try simp -implicitDefEqProofs only [StableHlo.TRef.toBuf, StableHlo.TRef.ofBuf, cast_cast, cast_eq]
  all_goals try rfl

theorem up4_v12 : Up4 V (Proc.devRef .tc main_v12) = (V (Proc.devRef .tc main_v12)) := by
  unfold Up4
  after_reads_simp
  all_goals try simp -implicitDefEqProofs only [StableHlo.TRef.toBuf, StableHlo.TRef.ofBuf, cast_cast, cast_eq]
  all_goals try rfl

theorem up4_v14 : Up4 V (Proc.devRef .tc main_v14) = (shapeCast S_ (extractStridedSlice S1 ![31] (V (Proc.devRef .tc main_v12)) Facts₀.slices_S32_S1_31) Facts₀.shapeCasts_S1_S_) := by
  unfold Up4
  after_reads_simp
  all_goals try simp -implicitDefEqProofs only [StableHlo.TRef.toBuf, StableHlo.TRef.ofBuf, cast_cast, cast_eq]
  all_goals try rfl

theorem up4_v18 : Up4 V (Proc.devRef .tc main_v18) = (minsi (iotaInDim S127 32 0) (broadcastInDim S127 ![] Facts₀.bcast_S_S127 (subi (shapeCast S_ (extractStridedSlice S1 ![31] (V (Proc.devRef .tc main_v12)) Facts₀.slices_S32_S1_31) Facts₀.shapeCasts_S1_S_) (Schedule.c0 1#32)))) := by
  unfold Up4
  after_reads_simp
  all_goals try simp -implicitDefEqProofs only [StableHlo.TRef.toBuf, StableHlo.TRef.ofBuf, cast_cast, cast_eq]
  all_goals try rfl

theorem up4_v25 : Up4 V (Proc.devRef .tc main_v25) = (Host.reduce IntOp.addi (extui 32 (cmpi .sge
      (broadcastInDim S127x32 ![0, 1] Facts₀.bcast_S127x1_S127x32_0_1 (broadcastInDim S127x1 ![0] Facts₀.bcast_S127_S127x1_0 (minsi (iotaInDim S127 32 0) (broadcastInDim S127 ![] Facts₀.bcast_S_S127 (subi (shapeCast S_ (extractStridedSlice S1 ![31] (V (Proc.devRef .tc main_v12)) Facts₀.slices_S32_S1_31) Facts₀.shapeCasts_S1_S_) (Schedule.c0 1#32))))))
      (broadcastInDim S127x32 ![0, 1] Facts₀.bcast_S1x32_S127x32_0_1 (broadcastInDim S1x32 ![1] Facts₀.bcast_S32_S1x32_1 (V (Proc.devRef .tc main_v12)))))
      Facts₀.natLt_1_32) (Schedule.c0 0#32) Facts₀.reducesTo_S127x32_S127_d1 Facts₀.h_S_) := by
  unfold Up4
  after_reads_simp
  all_goals try simp -implicitDefEqProofs only [StableHlo.TRef.toBuf, StableHlo.TRef.ofBuf, cast_cast, cast_eq]
  all_goals try rfl

theorem up4_v32 : Up4 V (Proc.devRef .tc main_v32) = takeAt (Host.reduce IntOp.addi (extui 32 (cmpi .sge
      (broadcastInDim S127x32 ![0, 1] Facts₀.bcast_S127x1_S127x32_0_1 (broadcastInDim S127x1 ![0] Facts₀.bcast_S127_S127x1_0 (minsi (iotaInDim S127 32 0) (broadcastInDim S127 ![] Facts₀.bcast_S_S127 (subi (shapeCast S_ (extractStridedSlice S1 ![31] (V (Proc.devRef .tc main_v12)) Facts₀.slices_S32_S1_31) Facts₀.shapeCasts_S1_S_) (Schedule.c0 1#32))))))
      (broadcastInDim S127x32 ![0, 1] Facts₀.bcast_S1x32_S127x32_0_1 (broadcastInDim S1x32 ![1] Facts₀.bcast_S32_S1x32_1 (V (Proc.devRef .tc main_v12)))))
      Facts₀.natLt_1_32) (Schedule.c0 0#32) Facts₀.reducesTo_S127x32_S127_d1 Facts₀.h_S_) (V (Proc.devRef .tc main_v1)) := by
  unfold Up4
  after_reads_simp
  all_goals try simp -implicitDefEqProofs only [StableHlo.TRef.toBuf, StableHlo.TRef.ofBuf, cast_cast, cast_eq]
  all_goals try rfl

theorem up4_c9 : Up4 V (Proc.devRef .tc main_c_9) = Schedule.c0 256#32 := by
  unfold Up4
  after_reads_simp
  all_goals try simp -implicitDefEqProofs only [StableHlo.TRef.toBuf, StableHlo.TRef.ofBuf, cast_cast, cast_eq]
  all_goals try rfl

theorem up5_v0 : Up5 V (Proc.devRef .tc main_v0) = (V (Proc.devRef .tc main_v0)) := by
  unfold Up5
  after_reads_simp
  all_goals try simp -implicitDefEqProofs only [StableHlo.TRef.toBuf, StableHlo.TRef.ofBuf, cast_cast, cast_eq]
  all_goals try rfl

theorem up5_v1 : Up5 V (Proc.devRef .tc main_v1) = (V (Proc.devRef .tc main_v1)) := by
  unfold Up5
  after_reads_simp
  all_goals try simp -implicitDefEqProofs only [StableHlo.TRef.toBuf, StableHlo.TRef.ofBuf, cast_cast, cast_eq]
  all_goals try rfl

theorem up5_v11 : Up5 V (Proc.devRef .tc main_v11) = (V (Proc.devRef .tc main_v11)) := by
  unfold Up5
  after_reads_simp
  all_goals try simp -implicitDefEqProofs only [StableHlo.TRef.toBuf, StableHlo.TRef.ofBuf, cast_cast, cast_eq]
  all_goals try rfl

theorem up5_v12 : Up5 V (Proc.devRef .tc main_v12) = (V (Proc.devRef .tc main_v12)) := by
  unfold Up5
  after_reads_simp
  all_goals try simp -implicitDefEqProofs only [StableHlo.TRef.toBuf, StableHlo.TRef.ofBuf, cast_cast, cast_eq]
  all_goals try rfl

theorem up5_v14 : Up5 V (Proc.devRef .tc main_v14) = (V (Proc.devRef .tc main_v14)) := by
  unfold Up5
  after_reads_simp
  all_goals try simp -implicitDefEqProofs only [StableHlo.TRef.toBuf, StableHlo.TRef.ofBuf, cast_cast, cast_eq]
  all_goals try rfl

theorem up5_v18 : Up5 V (Proc.devRef .tc main_v18) = (V (Proc.devRef .tc main_v18)) := by
  unfold Up5
  after_reads_simp
  all_goals try simp -implicitDefEqProofs only [StableHlo.TRef.toBuf, StableHlo.TRef.ofBuf, cast_cast, cast_eq]
  all_goals try rfl

theorem up5_v25 : Up5 V (Proc.devRef .tc main_v25) = (V (Proc.devRef .tc main_v25)) := by
  unfold Up5
  after_reads_simp
  all_goals try simp -implicitDefEqProofs only [StableHlo.TRef.toBuf, StableHlo.TRef.ofBuf, cast_cast, cast_eq]
  all_goals try rfl

theorem up5_v33 : Up5 V (Proc.devRef .tc main_v33) = Routing.pyDiv Facts₀.bcast_S_S127 (V (Proc.devRef .tc main_v32)) (V (Proc.devRef .tc main_c_9)) := by
  unfold Up5
  after_reads_simp
  all_goals try simp -implicitDefEqProofs only [StableHlo.TRef.toBuf, StableHlo.TRef.ofBuf, cast_cast, cast_eq]
  all_goals try rfl

theorem up6_v25 : Up6 V (Proc.devRef .tc main_v25) = (V (Proc.devRef .tc main_v25)) := by
  unfold Up6
  after_reads_simp
  all_goals try simp -implicitDefEqProofs only [StableHlo.TRef.toBuf, StableHlo.TRef.ofBuf, cast_cast, cast_eq]
  all_goals try rfl

theorem up6_v50 : Up6 V (Proc.devRef .tc main_v50) = subi (addi (V (Proc.devRef .tc main_v33)) (V (Proc.devRef .tc main_v18))) (subi (takeAt (V (Proc.devRef .tc main_v25)) (V (Proc.devRef .tc main_v12))) (takeAt (V (Proc.devRef .tc main_v25)) (V (Proc.devRef .tc main_v11)))) := by
  unfold Up6
  after_reads_simp
  all_goals try simp -implicitDefEqProofs only [StableHlo.TRef.toBuf, StableHlo.TRef.ofBuf, cast_cast, cast_eq]
  all_goals try rfl

theorem up6_v57 : Up6 V (Proc.devRef .tc main_v57) = (takeAt (V (Proc.devRef .tc main_v25)) (V (Proc.devRef .tc main_v1))) := by
  unfold Up6
  after_reads_simp
  all_goals try simp -implicitDefEqProofs only [StableHlo.TRef.toBuf, StableHlo.TRef.ofBuf, cast_cast, cast_eq]
  all_goals try rfl

theorem up6_v64 : Up6 V (Proc.devRef .tc main_v64) = (takeAt (V (Proc.devRef .tc main_v25)) (V (Proc.devRef .tc main_v0))) := by
  unfold Up6
  after_reads_simp
  all_goals try simp -implicitDefEqProofs only [StableHlo.TRef.toBuf, StableHlo.TRef.ofBuf, cast_cast, cast_eq]
  all_goals try rfl

theorem up6_v65 : Up6 V (Proc.devRef .tc main_v65) = shapeCast S1 (V (Proc.devRef .tc main_v14)) Facts₀.shapeCasts_S_S1 := by
  unfold Up6
  after_reads_simp
  all_goals try simp -implicitDefEqProofs only [StableHlo.TRef.toBuf, StableHlo.TRef.ofBuf, cast_cast, cast_eq]
  all_goals try rfl

theorem up3_tiles : Up3 (Up2 (Up1 V)) (Proc.devRef .tc main_v11) = Schedule.tiles (V (Proc.devRef .tc main_arg1)) := by
  rw [up3_v11, up2_v3, up2_v6, up2_v1, up2_c2, up1_v1, up1_v3, up1_v5, up1_c1]; rfl

theorem up3_cum : Up3 (Up2 (Up1 V)) (Proc.devRef .tc main_v12) = Schedule.cum (V (Proc.devRef .tc main_arg1)) := by
  rw [up3_v12, ← up3_v11, up3_tiles]; rfl

theorem up3_ends : Up3 (Up2 (Up1 V)) (Proc.devRef .tc main_v0) = Schedule.ends (V (Proc.devRef .tc main_arg1)) := by
  rw [up3_v0, up2_v0, up1_v0]

theorem up3_starts : Up3 (Up2 (Up1 V)) (Proc.devRef .tc main_v1) = Schedule.starts (V (Proc.devRef .tc main_arg1)) := by
  rw [up3_v1, up2_v1, up1_v1]

theorem up4_total : Up4 (Up3 (Up2 (Up1 V))) (Proc.devRef .tc main_v14) = Schedule.total (V (Proc.devRef .tc main_arg1)) := by
  rw [up4_v14, up3_cum]; rfl

theorem up4_visit : Up4 (Up3 (Up2 (Up1 V))) (Proc.devRef .tc main_v18) = Schedule.visit (V (Proc.devRef .tc main_arg1)) := by
  rw [up4_v18, up3_cum]; rfl

theorem up4_group : Up4 (Up3 (Up2 (Up1 V))) (Proc.devRef .tc main_v25) = Schedule.group (V (Proc.devRef .tc main_arg1)) := by
  rw [up4_v25, up3_cum]; rfl

theorem group_eq : At V (Proc.devRef .tc main_v25) = Schedule.group (V (Proc.devRef .tc main_arg1)) := by
  unfold At; rw [up6_v25, up5_v25, up4_group]

theorem tile_eq : At V (Proc.devRef .tc main_v50) = Schedule.tile (V (Proc.devRef .tc main_arg1)) := by
  unfold At
  rw [up6_v50, up5_v25, up4_group, up5_v33, up5_v18, up4_visit, up5_v12, up4_v12, up3_cum, up5_v11, up4_v11, up3_tiles,
    up4_v32, ← up4_v25, up4_group, up4_c9, up3_starts]
  rfl

theorem first_eq : At V (Proc.devRef .tc main_v57) = Schedule.first (V (Proc.devRef .tc main_arg1)) := by
  unfold At; rw [up6_v57, up5_v25, up4_group, up5_v1, up4_v1, up3_starts]; rfl

theorem last_eq : At V (Proc.devRef .tc main_v64) = Schedule.last (V (Proc.devRef .tc main_arg1)) := by
  unfold At; rw [up6_v64, up5_v25, up4_group, up5_v0, up4_v0, up3_ends]; rfl

theorem visits_eq : At V (Proc.devRef .tc main_v65) = Schedule.visits (V (Proc.devRef .tc main_arg1)) := by
  unfold At; rw [up6_v65, up5_v14, up4_total]; rfl

end Cert.Kernel.Tables

end
-- ==== Proof.Stored.Region.lean ====
/- The region's proof data: the windows' arrays at their contents when the region starts, the input blocks
   left as found, and the output block left as `After` says of the blocks fetched at the point. -/
module

public import proofs.«01_k».proof.Proof.Stored.Admissible
public import proofs.«01_k».proof.Proof.Stored.Tables
public import Idealize.ShloMosaic.Lib.Pipeline.Frame
public import Idealize.ShloMosaic.Lib.Pipeline.FrameBody

@[expose] public section

noncomputable section

namespace Cert.Kernel.Region

open Idealize.ShloMosaic Idealize.ShloMosaic.TcCoe Idealize.ShloMosaic.Pipeline
open Idealize.SL Idealize.SL.RA Idealize.SL.BI
open scoped Idealize.SL.BI
open Idealize.SL.BI.BIBase Idealize.SL.BI.Laws Idealize.SL.ProofMode Idealize.SL.Sem
open Cert.Kernel Cert.Kernel.Gen Cert.Kernel.Rolled

variable {F : FTy → Type} [FloatOps F]

/-- A core's buffers when the region starts. -/
abbrev Held (F : FTy → Type) [FloatOps F] : Type := (c : Dev nD) → (b : Ref sig .tc) → Buf (Elt F) ((c.tc : Thread nD τ).loc b)

/-- The tables among them. -/
abbrev tablesOf (V : Held F) (c : Dev nD) : pre0.Contents (Elt F) := fun k => V c (pre0.ref k)

variable (a : (pcfg0 (F := F)).Adm)

/-- A window's block at a point, in a staging buffer that held `d`. -/
abbrev block (V : Held F) (c : Dev nD) (w : Fin 6) (t : Fin (cfg0 a).N)
    (d : ((cfg0 a).win w).block.Idx → Elt F ((cfg0 a).win w).elt) : ((cfg0 a).win w).block.Idx → Elt F ((cfg0 a).win w).elt :=
  ((cfg0 a).win w).fill ((cfg0 a).grid.coords t) d (((cfg0 a).win w).blk t |>.view.read (Elt F) (V c (arrRef (cfg0 a).spec w)))

/-- What the body may leave in a window's buffer. -/
def left (V : Held F) (c : Dev nD) : (w : Fin 6) → (t : Fin (cfg0 a).N) →
    (Y X : ((cfg0 a).win w).block.Idx → Elt F ((cfg0 a).win w).elt) → Prop
  | ⟨5, _⟩ => fun t Y X => ∃ d0 d1 d2 d3 d4,
      After ((cfg0 a).grid.coords t) (a.1 0) (a.1 1) (a.1 2) (a.1 3) (a.1 4) (block a V c 0 t d0) (block a V c 1 t d1) (block a V c 2 t d2)
        (block a V c 3 t d3) (block a V c 4 t d4) Y X
  | _ => fun _ Y X => X = Y

/-- The region's proof data. -/
def rdat (V : Held F) (c : Dev nD) : RDat τ (Elt F) Unit ℕ (UR sig nD τ) ℕ (cfg0 a) c where
  A w := V c (arrRef (cfg0 a).spec w)
  after := left a V c
  Φ _ := iprop(ΦA (cfg0 a).spec c ∗ ΦT pre0 a.1 c)
  q _ := fullShare
  owed _ := 0

theorem found (V : Held F) (c : Dev nD) (w : Fin 6) (hw : w ≠ 5) (t : Fin (cfg0 a).N)
    (Y : ((cfg0 a).win w).block.Idx → Elt F ((cfg0 a).win w).elt) (h : (rdat a V c).Finds w t Y) : ∃ d, Y = block a V c w t d := by
  refine RDat.finds_in_eq_fetched (rdat a V c) w ?_ ?_ ?_ t Y h
  · match w, hw with
    | 0, _ => rfl
    | 1, _ => rfl
    | 2, _ => rfl
    | 3, _ => rfl
    | 4, _ => rfl
    | 5, h => exact absurd rfl h
  · intro t t' _
    match w, hw with
    | 0, _ => rfl
    | 1, _ => rfl
    | 2, _ => rfl
    | 3, _ => rfl
    | 4, _ => rfl
    | 5, h => exact absurd rfl h
  · intro t Y X hl
    match w, hw with
    | 0, _ => exact hl
    | 1, _ => exact hl
    | 2, _ => exact hl
    | 3, _ => exact hl
    | 4, _ => exact hl
    | 5, h => exact absurd rfl h

/-- The five tables, conjoined one by one. -/
theorem tables_eq {U : Type} [URA U] (v : pre0.Contents (Elt F)) (c : Dev nD) :
    (ΦT (U := U) pre0 v c : sProp (MT nD τ sig Unit (Elt F) ℕ U ℕ))
      = iprop(owns (c.tc : Thread nD τ) (Memref.whole main_v25 : Memref sig .tc .smem S127 .i32) fullShare.right (v 0 : S127.Idx → Elt F .i32)
        ∗ owns (c.tc : Thread nD τ) (Memref.whole main_v50 : Memref sig .tc .smem S127 .i32) fullShare.right (v 1 : S127.Idx → Elt F .i32)
        ∗ owns (c.tc : Thread nD τ) (Memref.whole main_v57 : Memref sig .tc .smem S127 .i32) fullShare.right (v 2 : S127.Idx → Elt F .i32)
        ∗ owns (c.tc : Thread nD τ) (Memref.whole main_v64 : Memref sig .tc .smem S127 .i32) fullShare.right (v 3 : S127.Idx → Elt F .i32)
        ∗ owns (c.tc : Thread nD τ) (Memref.whole main_v65 : Memref sig .tc .smem S1 .i32) fullShare.right (v 4 : S1.Idx → Elt F .i32)) := by
  refine (bigSep_univ_eq_bigSepL [(0 : Fin 5), 1, 2, 3, 4] (by decide) (by decide) _).trans ?_
  have h1 := owns_whole (Val := Elt F) (Ix := Unit) (Name := ℕ) (U := U) (Lvl := ℕ) (c.tc : Thread nD τ) main_v25 fullShare.right (v 0)
  have h2 := owns_whole (Val := Elt F) (Ix := Unit) (Name := ℕ) (U := U) (Lvl := ℕ) (c.tc : Thread nD τ) main_v50 fullShare.right (v 1)
  have h3 := owns_whole (Val := Elt F) (Ix := Unit) (Name := ℕ) (U := U) (Lvl := ℕ) (c.tc : Thread nD τ) main_v57 fullShare.right (v 2)
  have h4 := owns_whole (Val := Elt F) (Ix := Unit) (Name := ℕ) (U := U) (Lvl := ℕ) (c.tc : Thread nD τ) main_v64 fullShare.right (v 3)
  have h5 := owns_whole (Val := Elt F) (Ix := Unit) (Name := ℕ) (U := U) (Lvl := ℕ) (c.tc : Thread nD τ) main_v65 fullShare.right (v 4)
  exact (congr (congrArg _ h1) (congr (congrArg _ h2) (congr (congrArg _ h3) (congr (congrArg _ h4) h5)))).symm

end Cert.Kernel.Region
-- ==== Proof.Stored.Obligation.lean ====
/- The region's body obligation, and the region's run from a memory whose tables are admissible. -/
module

public import proofs.«01_k».proof.Proof.Stored.Region

@[expose] public section

noncomputable section

namespace Cert.Kernel.Region

open Idealize.ShloMosaic Idealize.ShloMosaic.TcCoe Idealize.ShloMosaic.Pipeline
open Idealize.SL Idealize.SL.RA Idealize.SL.BI
open scoped Idealize.SL.BI
open Idealize.SL.BI.BIBase Idealize.SL.BI.Laws Idealize.SL.ProofMode Idealize.SL.Sem
open Cert.Kernel Cert.Kernel.Gen Cert.Kernel.Rolled

variable {F : FTy → Type} [FloatOps F]

variable (a : (pcfg0 (F := F)).Adm)

/-- The body takes the buffers it is handed to what `left` says. -/
theorem obligation (V : Held F) (c : Dev nD)
    (hg : ∀ i : grid0.Coords, (tab (F := F) (a.1 0) i).toNat < 32) :
    (rdat a V c).BodyObligation (defs₀ (F := F)) Variants.none () Set.univ := by
  intro t Y hY
  obtain ⟨d0, h0⟩ := found a V c 0 (by decide) t (Y 0) (hY 0)
  obtain ⟨d1, h1⟩ := found a V c 1 (by decide) t (Y 1) (hY 1)
  obtain ⟨d2, h2⟩ := found a V c 2 (by decide) t (Y 2) (hY 2)
  obtain ⟨d3, h3⟩ := found a V c 3 (by decide) t (Y 3) (hY 3)
  obtain ⟨d4, h4⟩ := found a V c 4 (by decide) t (Y 4) (hY 4)
  have e : defs₀ (F := F) .tc (cfg0 a).body ((cfg0 a).bodyArgs t ((cfg0 a).slots t))
      = body ((cfg0 a).grid.coords t) (Memref.whole main_v25) (Memref.whole main_v50) (Memref.whole main_v57) (Memref.whole main_v64)
        (Memref.whole main_v65) (((cfg0 a).win 0).stage ((cfg0 a).slots t 0)) (((cfg0 a).win 1).stage ((cfg0 a).slots t 1))
        (((cfg0 a).win 2).stage ((cfg0 a).slots t 2)) (((cfg0 a).win 3).stage ((cfg0 a).slots t 3))
        (((cfg0 a).win 4).stage ((cfg0 a).slots t 4)) (((cfg0 a).win 5).stage ((cfg0 a).slots t 5))
        (hstage0_5 (((cfg0 a).slots t 5).cast nbuf0_5)) (Memref.whole cc0_scratch0) (Memref.isWhole_whole _)
        (Memref.whole cc0_scratch1) (Memref.isWhole_whole _) :=
    body_eq ((cfg0 a).grid.coords t) (Memref.whole main_v25) (Memref.isWhole_whole _) (Memref.whole main_v50) (Memref.isWhole_whole _)
      (Memref.whole main_v57) (Memref.isWhole_whole _) (Memref.whole main_v64) (Memref.isWhole_whole _) (Memref.whole main_v65)
      (Memref.isWhole_whole _) (spec0_0.stage ((cfg0 a).slots t 0)) (hstage0_0 (((cfg0 a).slots t 0).cast nbuf0_0))
      (spec0_1.stage ((cfg0 a).slots t 1)) (hstage0_1 (((cfg0 a).slots t 1).cast nbuf0_1))
      (spec0_2.stage ((cfg0 a).slots t 2)) (hstage0_2 (((cfg0 a).slots t 2).cast nbuf0_2))
      (spec0_3.stage ((cfg0 a).slots t 3)) (hstage0_3 (((cfg0 a).slots t 3).cast nbuf0_3))
      (spec0_4.stage ((cfg0 a).slots t 4)) (hstage0_4 (((cfg0 a).slots t 4).cast nbuf0_4))
      (spec0_5.stage ((cfg0 a).slots t 5)) (hstage0_5 (((cfg0 a).slots t 5).cast nbuf0_5))
      (Memref.whole cc0_scratch0) (Memref.isWhole_whole _) (Memref.whole cc0_scratch1) (Memref.isWhole_whole _)
  rw [e, show (rdat a V c).Φ t.castSucc = iprop(ΦA (cfg0 a).spec c ∗ ΦT pre0 a.1 c) from rfl,
    show (rdat a V c).Φ t.succ = iprop(ΦA (cfg0 a).spec c ∗ ΦT pre0 a.1 c) from rfl]
  unfold RDat.owesAt Pipeline.owesWithin
  rw [show (rdat a V c).owed t.castSucc = 0 from rfl, show (rdat a V c).owed t.succ = 0 from rfl]
  rw [bigSep_W0, bigSep_W0, tables_eq]
  unfold ΦA
  rw [show scopedRest (Ix := Unit) (Name := ℕ) (U := UR sig nD τ) (Lvl := ℕ) (Val := Elt F) (cfg0 a).spec c
    = scopedRest (Ix := Unit) (Name := ℕ) (U := UR sig nD τ) (Lvl := ℕ) (Val := Elt F) spec0 c from rfl, scopedRest0_eq]
  iintro ⟨⟨⟨⟨⟨%A, HA⟩, ⟨%W, HW⟩⟩, HP⟩, ⟨H1, H2, H3, H4, H5⟩⟩, ⟨%w, %hw, HO⟩, ⟨HX, HQg, HQu, HSg, HSu, HOut⟩⟩
  have hchk : k0_cond1 ((cfg0 a).grid.coords t) (count (F := F) (a.1 4)) = 1#1 →
      k0_chk1 ((cfg0 a).grid.coords t) (count (F := F) (a.1 4)) (tab (F := F) (a.1 0) ((cfg0 a).grid.coords t)) :=
    fun _ => scales_inb _ _ _ (hg _)
  iapply (body_wp (defs := defs₀ (F := F)) (U := UR sig nD τ) Variants.none c none Set.univ ((cfg0 a).grid.coords t)
    (Memref.whole main_v25) (Memref.whole main_v50) (Memref.whole main_v57) (Memref.whole main_v64) (Memref.whole main_v65)
    (((cfg0 a).win 0).stage ((cfg0 a).slots t 0)) (((cfg0 a).win 1).stage ((cfg0 a).slots t 1))
    (((cfg0 a).win 2).stage ((cfg0 a).slots t 2)) (((cfg0 a).win 3).stage ((cfg0 a).slots t 3))
    (((cfg0 a).win 4).stage ((cfg0 a).slots t 4)) (((cfg0 a).win 5).stage ((cfg0 a).slots t 5))
    (hstage0_5 (((cfg0 a).slots t 5).cast nbuf0_5)) (Memref.whole cc0_scratch0) (Memref.isWhole_whole _)
    (Memref.whole cc0_scratch1) (Memref.isWhole_whole _)
    fullShare.right (a.1 0) (a.1 1) (a.1 2) (a.1 3) (a.1 4) (Y 0) (Y 1) (Y 2) (Y 3) (Y 4) (Y 5) A W hchk)
    $$ [HA HW H1 H2 H3 H4 H5 HX HQg HQu HSg HSu HOut]
  · unfold held
    simp only [owns_whole]
    isplitl [H1]; · iexact H1
    isplitl [H2]; · iexact H2
    isplitl [H3]; · iexact H3
    isplitl [H4]; · iexact H4
    isplitl [H5]; · iexact H5
    isplitl [HX]; · iexact HX
    isplitl [HQg]; · iexact HQg
    isplitl [HQu]; · iexact HQu
    isplitl [HSg]; · iexact HSg
    isplitl [HSu]; · iexact HSu
    isplitl [HOut]; · iexact HOut
    isplitl [HA]; · iexact HA
    iexact HW
  iintro %O %A' %W' %hAfter
  unfold held
  simp only [owns_whole]
  iintro ⟨H1, H2, H3, H4, H5, HX, HQg, HQu, HSg, HSu, HOut, HA, HW⟩
  isplitl [HA HW HP H1 H2 H3 H4 H5]
  · isplitl [HA HW HP]
    · isplitl [HA HW]
      · isplitl [HA]; · iexists _; iexact HA
        iexists _; iexact HW
      iexact HP
    isplitl [H1]; · iexact H1
    isplitl [H2]; · iexact H2
    isplitl [H3]; · iexact H3
    isplitl [H4]; · iexact H4
    iexact H5
  isplitl [HO]
  · iexists w; isplitr; · ipureintro; exact fun _ _ => Or.inl trivial
    iexact HO
  isplitl [HX]; · iexists _; isplitr; swap; (· iexact HX); ipureintro; rfl
  isplitl [HQg]; · iexists _; isplitr; swap; (· iexact HQg); ipureintro; rfl
  isplitl [HQu]; · iexists _; isplitr; swap; (· iexact HQu); ipureintro; rfl
  isplitl [HSg]; · iexists _; isplitr; swap; (· iexact HSg); ipureintro; rfl
  isplitl [HSu]; · iexists _; isplitr; swap; (· iexact HSu); ipureintro; rfl
  iexists _; isplitr; swap; (· iexact HOut)
  ipureintro
  refine ⟨d0, d1, d2, d3, d4, ?_⟩
  rw [← h0, ← h1, ← h2, ← h3, ← h4]
  exact hAfter

/-- From a memory whose tables are admissible after the host's operations, the program ends with every window's
    array as the region's data say and every other buffer as the host left it. -/
theorem run (m : (ℓ : Loc nD τ sig) → Buf (Elt F) ℓ) (g : Dev nD → PrngReg)
    (V : Held F) (hV : V = fun c (b : Ref sig .tc) => StableHlo.after (Tables.lines (F := F)).flatten (fun b => m (c, b)) b)
    (ha : a.1 = tablesOf V 0)
    (hg : ∀ i : grid0.Coords, (tab (F := F) (a.1 0) i).toNat < 32) :
    θ_run (defs (F := F)) (onTc (main (F := F))) ⟨m, 0, g⟩
      (fun r => RDat.FramePost (cfg0 a) (rdat a V) V r ∧ r.2.sem = fun _ => 0) := by
  have hc : ∀ c : Dev nD, c = 0 := fun c => Subsingleton.elim _ _
  exact RDat.θ_run_frameP (pcfgs (F := F)) (fun _ => a) 0 launch0 (defs₀ (F := F)) Variants.none (rdat a V) m g main
    (fun c => obligation a V c hg)
    (fun c w => by unfold RDat.share; split <;> rfl)
    (fun _ _ => rfl) V
    (by
      rw [hV]
      exact hmainP_prefixes (pcfgs (F := F)) 0 (defs₀ (F := F)) Variants.none m main Tables.lines
        ⟨hostOps0_sub, hostOps0_1_sub, hostOps0_2_sub, hostOps0_3_sub, hostOps0_4_sub, hostOps0_5_sub, hostOps0_6_sub,
          hostOps0_7_sub, hostOps0_8_sub, hostOps0_9_sub, hostOps0_10_sub⟩
        (by unfold Tables.lines; repeat' (first | rfl | apply And.intro)) main_chain)
    (fun _ _ => rfl)
    (fun c k => by rw [hc c]; exact (congrFun ha k).symm)
    (fun _ _ => rfl)
    _ (fun _ h => h)

end Cert.Kernel.Region
-- ==== Proof.Stored.Kept.lean ====
/- The host's operations write none of the arguments, and the frame of the program: it ends with its arguments
   as they were and every semaphore at zero, when the group sizes cover the rows. -/
module

public import proofs.«01_k».proof.Proof.Stored.Obligation

@[expose] public section

noncomputable section

namespace Cert.Kernel.Region

open Idealize.ShloMosaic Idealize.ShloMosaic.TcCoe Idealize.ShloMosaic.Pipeline Idealize.ShloMosaic.ValueIdx
open Idealize.SL.Sem
open Cert.Kernel Cert.Kernel.Gen Cert.Kernel.Rolled

variable {F : FTy → Type} [FloatOps F]

/-- What the host's operations write, in order. -/
def written : List (Ref sig .tc) :=
  [main_call0_call0_c, main_call0_call0_v0, main_v0, main_v1, main_c, main_v2, main_v3, main_c_0, main_v4, main_v5, main_c_1,
   main_call1_v0, main_call1_v1, main_call1_v2, main_call1_v3, main_call1_v4, main_call1_v5, main_call1_v6, main_call1_v7,
   main_call1_v8, main_call1_c, main_call1_v9, main_call1_v10, main_call1_v11, main_call1_c_0, main_call1_v12, main_call1_v13,
   main_v6, main_c_2, main_call2_v0, main_call2_v1, main_call2_v2, main_call2_v3, main_call2_v4, main_call2_v5, main_call2_v6,
   main_call2_v7, main_call2_v8, main_call2_c, main_call2_v9, main_call2_v10, main_call2_v11, main_call2_c_0, main_call2_v12,
   main_call2_v13, main_v7, main_v8, main_c_3, main_v9, main_v10, main_c_4, main_call3_v0, main_call3_v1, main_v11,
   main_call4_call0_c, main_call4_call0_v0, main_v12, main_v13, main_v14, main_v15, main_c_5, main_v16, main_v17, main_v18,
   main_v19, main_v20, main_v21, main_v22, main_v23, main_v24, main_c_6, main_v25, main_c_7, main_v26, main_v27, main_c_8,
   main_v28, main_v29, main_v30, main_v31, main_v32, main_c_9, main_call5_v0, main_call5_v1, main_call5_v2, main_call5_v3,
   main_call5_v4, main_call5_v5, main_call5_v6, main_call5_v7, main_call5_v8, main_call5_c, main_call5_v9, main_call5_v10,
   main_call5_v11, main_call5_c_0, main_call5_v12, main_call5_v13, main_v33, main_v34, main_c_10, main_v35, main_v36, main_c_11,
   main_v37, main_v38, main_v39, main_v40, main_v41, main_c_12, main_v42, main_v43, main_c_13, main_v44, main_v45, main_v46,
   main_v47, main_v48, main_v49, main_v50, main_c_14, main_v51, main_v52, main_c_15, main_v53, main_v54, main_v55, main_v56,
   main_v57, main_c_16, main_v58, main_v59, main_c_17, main_v60, main_v61, main_v62, main_v63, main_v64, main_v65]

set_option maxRecDepth 4000 in
theorem kept (V : Valuation τ sig (Elt F)) (r : Ref sig .tc) (hr : r ∉ written) :
    StableHlo.after (Tables.lines (F := F)).flatten V (Proc.devRef .tc r) = V (Proc.devRef .tc r) :=
  StableHlo.after_unwritten written rfl hr V

/-- A core's buffers when the region starts, from the memory at the program's start. -/
def heldAt (m : (ℓ : Loc nD τ sig) → Buf (Elt F) ℓ) : Held F := fun c (b : Ref sig .tc) =>
  StableHlo.after (Tables.lines (F := F)).flatten (fun b => m (c, b)) b

theorem heldAt_eq (m : (ℓ : Loc nD τ sig) → Buf (Elt F) ℓ) (c : Dev nD) (r : Ref sig .tc) :
    heldAt m c r = Tables.At (fun b => m (c, b)) (Proc.devRef .tc r) := congrFun (Tables.lines_eq _) _

theorem heldAt_kept (m : (ℓ : Loc nD τ sig) → Buf (Elt F) ℓ) (c : Dev nD) (r : Ref sig .tc) (hr : r ∉ written) :
    heldAt m c r = m ((c.tc : Thread nD τ).loc r) := kept _ r hr

theorem heldAt_def (m : (ℓ : Loc nD τ sig) → Buf (Elt F) ℓ) :
    heldAt m = fun c (b : Ref sig .tc) => StableHlo.after (Tables.lines (F := F)).flatten (fun b => m (c, b)) b := rfl

attribute [irreducible] heldAt

/-- The group sizes in a memory. -/
abbrev groups (m : (ℓ : Loc nD τ sig) → Buf (Elt F) ℓ) (c : Dev nD) : IVec S32 32 := m ((c.tc : Thread nD τ).loc main_arg1)

section
variable (m : (ℓ : Loc nD τ sig) → Buf (Elt F) ℓ) {G : ℕ → ℕ}
    (hg : ∀ e : Fin 32, groups m 0 (ix1 e) = BitVec.ofNat 32 (G e.val)) (hT : Visits.E G 32 = 24576)
include hg hT

theorem table_group (v : Fin 127) :
    (tablesOf (heldAt m) 0 0 : S127.Idx → BitVec 32) (ix1 v) = BitVec.ofNat 32 (Visits.ve G v.val) := by
  have h : (tablesOf (heldAt m) 0 0 : S127.Idx → BitVec 32) = Schedule.group (groups m 0) :=
    (heldAt_eq m 0 main_v25).trans (Tables.group_eq _)
  rw [h]; exact Schedule.group_eq hg hT v

theorem table_tile (v : Fin 127) :
    (tablesOf (heldAt m) 0 1 : S127.Idx → BitVec 32) (ix1 v) = BitVec.ofNat 32 (Visits.vt G v.val) := by
  have h : (tablesOf (heldAt m) 0 1 : S127.Idx → BitVec 32) = Schedule.tile (groups m 0) :=
    (heldAt_eq m 0 main_v50).trans (Tables.tile_eq _)
  rw [h]; exact Schedule.tile_eq hg hT v

theorem table_first (v : Fin 127) :
    (tablesOf (heldAt m) 0 2 : S127.Idx → BitVec 32) (ix1 v) = BitVec.ofNat 32 (Visits.E G (Visits.ve G v.val)) := by
  have h : (tablesOf (heldAt m) 0 2 : S127.Idx → BitVec 32) = Schedule.first (groups m 0) :=
    (heldAt_eq m 0 main_v57).trans (Tables.first_eq _)
  rw [h]; exact Schedule.first_eq hg hT v

theorem table_last (v : Fin 127) :
    (tablesOf (heldAt m) 0 3 : S127.Idx → BitVec 32) (ix1 v) = BitVec.ofNat 32 (Visits.E G (Visits.ve G v.val + 1)) := by
  have h : (tablesOf (heldAt m) 0 3 : S127.Idx → BitVec 32) = Schedule.last (groups m 0) :=
    (heldAt_eq m 0 main_v64).trans (Tables.last_eq _)
  rw [h]; exact Schedule.last_eq hg hT v

theorem table_visits (i : S1.Idx) :
    (tablesOf (heldAt m) 0 4 : S1.Idx → BitVec 32) i = BitVec.ofNat 32 (Visits.C G 32) := by
  have h : (tablesOf (heldAt m) 0 4 : S1.Idx → BitVec 32) = Schedule.visits (groups m 0) :=
    (heldAt_eq m 0 main_v65).trans (Tables.visits_eq _)
  rw [h]; exact Schedule.visits_eq hg hT i

theorem group_lt (v : Fin 127) : ((tablesOf (heldAt m) 0 0 : S127.Idx → BitVec 32) (ix1 v)).toNat < 32 := by
  rw [table_group m hg hT, BitVec.toNat_ofNat]
  exact Nat.lt_of_le_of_lt (Nat.mod_le _ _) (Visits.ve_lt hT v.val)

theorem tile_lt (v : Fin 127) : ((tablesOf (heldAt m) 0 1 : S127.Idx → BitVec 32) (ix1 v)).toNat < 96 := by
  rw [table_tile m hg hT, BitVec.toNat_ofNat]
  exact Nat.lt_of_le_of_lt (Nat.mod_le _ _) (Visits.vt_lt hT v.val)

/-- The tables the host leaves, admissible. -/
def tables : (pcfg0 (F := F)).Adm :=
  ⟨tablesOf (heldAt m) 0, admissible _ (group_lt m hg hT) (tile_lt m hg hT)⟩

/-- The program's run: the region's post, and every semaphore at zero. -/
theorem run_from (g : Dev nD → PrngReg) :
    θ_run (defs (F := F)) (onTc (main (F := F))) ⟨m, 0, g⟩
      (fun r => RDat.FramePost (cfg0 (tables m hg hT)) (rdat (tables m hg hT) (heldAt m)) (heldAt m) r ∧ r.2.sem = fun _ => 0) :=
  run (tables m hg hT) m g (heldAt m) (heldAt_def m) rfl fun i =>
    (congrArg BitVec.toNat (tab_eq (F := F) (tablesOf (heldAt m) 0 0) i)).trans_lt (group_lt m hg hT (i 0))

end

theorem arg1_rest : main_arg1 ∈ restRefs sig spec0 := by decide

/-- The arguments after the region, from its post. -/
theorem arguments (m : (ℓ : Loc nD τ sig) → Buf (Elt F) ℓ) (a : (pcfg0 (F := F)).Adm) (r : PUnit × MemSt nD τ sig (Elt F))
    (h : RDat.FramePost (cfg0 a) (rdat a (heldAt m)) (heldAt m) r) (c : Dev nD) :
    r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  ⟨(h.arr_in c 0 rfl).trans (heldAt_kept m c main_arg0 (by decide)),
    ((h c).2 main_arg1 arg1_rest).trans (heldAt_kept m c main_arg1 (by decide)),
    (h.arr_in c 1 rfl).trans (heldAt_kept m c main_arg2 (by decide)),
    (h.arr_in c 3 rfl).trans (heldAt_kept m c main_arg3 (by decide)),
    (h.arr_in c 2 rfl).trans (heldAt_kept m c main_arg4 (by decide)),
    (h.arr_in c 4 rfl).trans (heldAt_kept m c main_arg5 (by decide))⟩

/-- The frame. -/
theorem frame (m : (ℓ : Loc nD τ sig) → Buf (Elt F) ℓ) (g : Dev nD → PrngReg) {G : ℕ → ℕ}
    (hg : ∀ e : Fin 32, groups m 0 (ix1 e) = BitVec.ofNat 32 (G e.val)) (hT : Visits.E G 32 = 24576) :
    θ_run (defs (F := F)) (onTc (main (F := F))) ⟨m, fun _ => 0, g⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) ∧ r.2.sem = fun _ => 0) :=
  (θ_run _ _ _).mono (fun r h => ⟨arguments m _ r h.1, h.2⟩) (run_from m hg hT g)

end Cert.Kernel.Region
-- ==== Proof.Frames.lean ====
/- The frame claims: each program, started with every semaphore at zero, ends with its arguments as they were
   and every semaphore at zero. -/
module

public import proofs.«01_k».proof.Defs
public import proofs.«01_k».proof.Proof.Covers
public import proofs.«01_k».proof.Proof.Kept
public import proofs.«01_k».proof.Proof.Stored.Kept
public import proofs.«01_k».proof.Proof.Gen.Pre_covers
public import proofs.«01_k».proof.Proof.Gen.ReferenceIdeal
public import proofs.«01_k».proof.Proof.Gen.ReferenceIdeal.Frame

@[expose] public section

noncomputable section

namespace Cert.Proof

open Idealize.ShloMosaic Idealize.SL.Sem

/-- The kernel on stored bits. -/
theorem frame_stored : Cert.quiescent_Kernel (hKernel := Cert.Kernel.Gen.facts) (hPre_covers := Cert.Pre_covers.Gen.facts) :=
  fun m g h => Cert.Kernel.Region.frame m g (Cert.Covers.sizes_eq _) (Cert.Covers.sum_eq (h 0))

/-- The kernel on extended reals. -/
theorem frame_ideal : Cert.quiescent_KernelIdeal (hKernelIdeal := Cert.KernelIdeal.Gen.facts) (hPre_covers := Cert.Pre_covers.Gen.facts) :=
  fun m g h => Cert.KernelIdeal.Region.frame m g (Cert.Covers.sizes_eq _) (Cert.Covers.sum_eq (h 0))

/-- The reference, with no precondition. -/
theorem frame_reference : Cert.quiescent_ReferenceIdeal (hReferenceIdeal := Cert.ReferenceIdeal.Gen.facts) :=
  fun m g _ => Cert.ReferenceIdeal.Gen.frame m g

/-- The reference, under the value claim's precondition. -/
theorem frame_reference_covers : Cert.quiescent_ReferenceIdeal_pre_covers (hReferenceIdeal := Cert.ReferenceIdeal.Gen.facts)
    (hPre_covers := Cert.Pre_covers.Gen.facts) :=
  fun m g _ => Cert.ReferenceIdeal.Gen.frame m g

end Cert.Proof

end
-- ==== Proof.Blocks.lean ====
/- The input blocks at a visit, entry by entry: the activations' block is the visit's tile of rows, the weights' blocks
   are the visit's group's, and the scales' blocks are the whole arrays. -/
module

public import proofs.«01_k».proof.Proof.Kept

@[expose] public section

set_option maxRecDepth 16384

noncomputable section

namespace Cert.KernelIdeal.Region

open Idealize.ShloMosaic Idealize.ShloMosaic.TcCoe Idealize.ShloMosaic.Pipeline Idealize.ShloMosaic.ValueIdx
open Cert.KernelIdeal Cert.KernelIdeal.Gen Cert.KernelIdeal.Rolled

variable {F : FTy → Type} [FloatOps F] (a : (pcfg0 (F := F)).Adm)

theorem coords_val (t : Fin (cfg0 a).N) : ((cfg0 a).grid.coords t 0).val = t.val := by
  have ht : t.val < 127 := t.isLt
  show t.val / 1 % 127 = t.val
  omega

theorem index0 (t : Fin (cfg0 a).N) :
    ((cfg0 a).win 0).index t = ![((a.1 1 : S127.Idx → BitVec 32) (ix1 ((cfg0 a).grid.coords t 0))).toNat, 0] :=
  map0 a.1 ((cfg0 a).grid.coords t)

theorem block0 (V : Held F) (c : Dev nD) (t : Fin (cfg0 a).N) (d) (p : Fin 256) (x : Fin 2048) (T : ℕ) (hT : T < 96)
    (h : ((a.1 1 : S127.Idx → BitVec 32) (ix1 ((cfg0 a).grid.coords t 0))).toNat = T) :
    block a V c 0 t d (ix2 p x) = (V c main_arg0 : S24576x2048.Idx → Elt F .bf16) (ix2 ⟨256 * T + p.val, by omega⟩ x) := by
  show (V c main_arg0 : S24576x2048.Idx → Elt F .bf16) ((((cfg0 a).win 0).rect t).emb (ix2 p x)) = _
  refine congrArg (V c main_arg0) (funext fun k => Fin.ext ?_)
  refine (((cfg0 a).win 0).rect_emb_val t (ix2 p x) k rfl).trans ?_
  rw [index0, h]
  match k with
  | ⟨0, _⟩ => show T * 256 + p.val = 256 * T + p.val; omega
  | ⟨1, _⟩ => show 0 * 2048 + x.val = x.val; omega

theorem index1 (t : Fin (cfg0 a).N) :
    ((cfg0 a).win 1).index t = ![((a.1 0 : S127.Idx → BitVec 32) (ix1 ((cfg0 a).grid.coords t 0))).toNat, 0, 0] :=
  map1 a.1 ((cfg0 a).grid.coords t)

theorem block1 (V : Held F) (c : Dev nD) (t : Fin (cfg0 a).N) (d) (x : Fin 2048) (n : Fin 1408) (e : Fin 32)
    (h : ((a.1 0 : S127.Idx → BitVec 32) (ix1 ((cfg0 a).grid.coords t 0))).toNat = e.val) :
    block a V c 1 t d (ix3 0 x n) = (V c main_arg2 : S32x2048x1408.Idx → Elt F .fp8e4m3) (ix3 e x n) := by
  show (V c main_arg2 : S32x2048x1408.Idx → Elt F .fp8e4m3) ((((cfg0 a).win 1).rect t).emb (ix3 0 x n)) = _
  refine congrArg (V c main_arg2) (funext fun k => Fin.ext ?_)
  refine (((cfg0 a).win 1).rect_emb_val t (ix3 0 x n) k rfl).trans ?_
  rw [index1, h]
  match k with
  | ⟨0, _⟩ => show e.val * 1 + 0 = e.val; omega
  | ⟨1, _⟩ => show 0 * 2048 + x.val = x.val; omega
  | ⟨2, _⟩ => show 0 * 1408 + n.val = n.val; omega

theorem index2 (t : Fin (cfg0 a).N) :
    ((cfg0 a).win 2).index t = ![((a.1 0 : S127.Idx → BitVec 32) (ix1 ((cfg0 a).grid.coords t 0))).toNat, 0, 0] :=
  map2 a.1 ((cfg0 a).grid.coords t)

theorem block2 (V : Held F) (c : Dev nD) (t : Fin (cfg0 a).N) (d) (x : Fin 2048) (n : Fin 1408) (e : Fin 32)
    (h : ((a.1 0 : S127.Idx → BitVec 32) (ix1 ((cfg0 a).grid.coords t 0))).toNat = e.val) :
    block a V c 2 t d (ix3 0 x n) = (V c main_arg4 : S32x2048x1408.Idx → Elt F .fp8e4m3) (ix3 e x n) := by
  show (V c main_arg4 : S32x2048x1408.Idx → Elt F .fp8e4m3) ((((cfg0 a).win 2).rect t).emb (ix3 0 x n)) = _
  refine congrArg (V c main_arg4) (funext fun k => Fin.ext ?_)
  refine (((cfg0 a).win 2).rect_emb_val t (ix3 0 x n) k rfl).trans ?_
  rw [index2, h]
  match k with
  | ⟨0, _⟩ => show e.val * 1 + 0 = e.val; omega
  | ⟨1, _⟩ => show 0 * 2048 + x.val = x.val; omega
  | ⟨2, _⟩ => show 0 * 1408 + n.val = n.val; omega

theorem block3 (V : Held F) (c : Dev nD) (t : Fin (cfg0 a).N) (d) :
    block a V c 3 t d = (V c main_arg3 : S32x16x11.Idx → Elt F .f32) := by
  funext j
  show (V c main_arg3 : S32x16x11.Idx → Elt F .f32) ((((cfg0 a).win 3).rect t).emb j) = _
  exact congrArg (V c main_arg3) (funext fun k => Fin.ext (((cfg0 a).win 3).rect_emb_val_of_index_zero t k
    (by match k with | ⟨0, _⟩ => rfl | ⟨1, _⟩ => rfl | ⟨2, _⟩ => rfl) j))

theorem block4 (V : Held F) (c : Dev nD) (t : Fin (cfg0 a).N) (d) :
    block a V c 4 t d = (V c main_arg5 : S32x16x11.Idx → Elt F .f32) := by
  funext j
  show (V c main_arg5 : S32x16x11.Idx → Elt F .f32) ((((cfg0 a).win 4).rect t).emb j) = _
  exact congrArg (V c main_arg5) (funext fun k => Fin.ext (((cfg0 a).win 4).rect_emb_val_of_index_zero t k
    (by match k with | ⟨0, _⟩ => rfl | ⟨1, _⟩ => rfl | ⟨2, _⟩ => rfl) j))

theorem index5 (t : Fin (cfg0 a).N) :
    ((cfg0 a).win 5).index t = ![((a.1 1 : S127.Idx → BitVec 32) (ix1 ((cfg0 a).grid.coords t 0))).toNat, 0] :=
  map5 a.1 ((cfg0 a).grid.coords t)

/-- An entry of the output's block lies in the array at the visit's tile. -/
theorem emb5 (t : Fin (cfg0 a).N) (p : Fin 256) (n : Fin 1408) (T : ℕ) (hT : T < 96)
    (h : ((a.1 1 : S127.Idx → BitVec 32) (ix1 ((cfg0 a).grid.coords t 0))).toNat = T) :
    (((cfg0 a).win 5).blk t).view.emb (ix2 p n) = (ix2 ⟨256 * T + p.val, by omega⟩ n : S24576x1408.Idx) := by
  show (((cfg0 a).win 5).rect t).emb (ix2 p n) = _
  refine funext fun k => Fin.ext ?_
  refine (((cfg0 a).win 5).rect_emb_val t (ix2 p n) k rfl).trans ?_
  rw [index5, h]
  match k with
  | ⟨0, _⟩ => show T * 256 + p.val = 256 * T + p.val; omega
  | ⟨1, _⟩ => show 0 * 1408 + n.val = n.val; omega

end Cert.KernelIdeal.Region
-- ==== Proof.Quant.lean ====
module

public import Idealize.ShloMosaic.Lib.Pointwise
public import Idealize.ShloMosaic.PureOps.Ideal.Laws

@[expose] public section

/-! # One quantised number, two ways

The kernel finds the scale of a run of 128 numbers from their largest magnitude `M` by counting how
many thresholds `M` reaches and placing that count in the exponent field of a word.  The reference
finds it by comparing `M / 448` with every power of two.  Here the two are shown to give the same
quantised number. -/

set_option maxRecDepth 16384

noncomputable section

namespace Cert.Quant

open Idealize.ShloMosaic

/-- The `k`-th threshold, as the word the kernel builds. -/
def thr (k : Fin 255) : EReal :=
  Ideal.ofBits .f32 (IntOp.ori (IntOp.shli ArithUnit.vector (BitVec.ofNat 32 k) 23#32) 6291456#32)

/-- The word of the kernel's scale. -/
def word (M : EReal) : BitVec 32 :=
  IntOp.maxsi (IntOp.subi (IntOp.shli ArithUnit.vector
    (Finset.fold IntOp.addi (0#32) (fun x : Fin 255 => BitVec.setWidth 32 (BitVec.ofBool (decide (thr x ≤ M)))) Finset.univ)
    23#32) 67108864#32) 0#32

/-- The kernel's quantised number. -/
def kernelVal (M x : EReal) : EReal :=
  min (Ideal.ofBits FTy.f32 1138753536#32) (max (Ideal.ofBits FTy.f32 3286237184#32)
    (x * Ideal.ofBits FTy.f32 (IntOp.subi (2130706432#32) (word M)))) * Ideal.ofBits FTy.f32 (word M)

/-- The `j`-th candidate power of two of the reference. -/
def cand (j : Fin 247) : EReal :=
  FloatOps.exp2 (F := Ideal) (φ := .f32) (FloatOps.sitofp (F := Ideal) FTy.f32 (BitVec.ofNat 32 j) - Ideal.ofBits FTy.f32 1123811328#32)

/-- The reference's scale. -/
def refScale (M : EReal) : EReal :=
  if M = 0 then 1 else Finset.fold max (Ideal.ofBits FTy.f32 4286578688#32) (fun j : Fin 247 =>
    if Ideal.ofBits FTy.f32 1056964608#32 * cand j ≤ Ideal.div M (Ideal.ofBits FTy.f32 1138753536#32) then cand j else 0)
    Finset.univ

/-- The reference's quantised number. -/
def refVal (M x : EReal) : EReal :=
  min (Ideal.ofBits FTy.f32 1138753536#32) (max (Ideal.ofBits FTy.f32 3286237184#32)
    (x * Ideal.div 1 (refScale M))) * refScale M

/-- The largest magnitude of a run of numbers. -/
def amax (f : Fin 128 → EReal) : EReal :=
  Finset.fold max (Ideal.ofBits FTy.f32 4286578688#32) (fun x => FloatOps.absf (F := Ideal) (φ := .f32) (f x)) Finset.univ

/-! ### What the words mean -/

theorem half : Ideal.ofBits FTy.f32 1056964608#32 = ((1 / 2 : ℝ) : EReal) := by
  simp [Ideal.ofBits, Ideal.ieee]; norm_num [← EReal.coe_mul]

theorem c126 : Ideal.ofBits FTy.f32 1123811328#32 = ((126 : ℝ) : EReal) := by
  simp [Ideal.ofBits, Ideal.ieee]; norm_num [← EReal.coe_mul]

theorem c448 : Ideal.ofBits FTy.f32 1138753536#32 = ((448 : ℝ) : EReal) := by
  simp [Ideal.ofBits, Ideal.ieee]; norm_num [← EReal.coe_mul]

theorem n448 : Ideal.ofBits FTy.f32 3286237184#32 = ((-448 : ℝ) : EReal) := by
  simp [Ideal.ofBits, Ideal.ieee]; norm_num [← EReal.coe_mul]

theorem neginf : Ideal.ofBits FTy.f32 4286578688#32 = ⊥ := by
  simp [Ideal.ofBits, Ideal.ieee]

theorem field_exp (E fr : Nat) (h2 : E ≤ 254) (hf : fr < 8388608) :
    ((BitVec.ofNat 32 (E * 8388608 + fr)).extractLsb' 23 8).toNat = E := by
  rw [BitVec.extractLsb'_toNat, BitVec.toNat_ofNat, Nat.shiftRight_eq_div_pow]
  norm_num
  omega

theorem field_frac (E fr : Nat) (h2 : E ≤ 254) (hf : fr < 8388608) :
    ((BitVec.ofNat 32 (E * 8388608 + fr)).extractLsb' 0 23).toNat = fr := by
  rw [BitVec.extractLsb'_toNat, BitVec.toNat_ofNat, Nat.shiftRight_eq_div_pow]
  norm_num
  omega

theorem field_sign (E fr : Nat) (h2 : E ≤ 254) (hf : fr < 8388608) :
    ((BitVec.ofNat 32 (E * 8388608 + fr)).extractLsb' 31 1 == 1#1) = false := by
  rw [beq_eq_false_iff_ne]
  intro h
  have := congrArg BitVec.toNat h
  rw [BitVec.extractLsb'_toNat, BitVec.toNat_ofNat, Nat.shiftRight_eq_div_pow] at this
  norm_num at this
  omega

/-- An f32 pattern with its fields named: a normal number that is not negative. -/
theorem ieee_normal (b : BitVec 32) (E fr : Nat) (h1 : 1 ≤ E) (h2 : E ≤ 254)
    (e1 : (b.extractLsb' 23 8).toNat = E) (e2 : (b.extractLsb' 0 23).toNat = fr)
    (e3 : (b.extractLsb' 31 1 == 1#1) = false) :
    Ideal.ofBits .f32 b = (((8388608 + (fr : ℝ)) * (2 : ℝ) ^ ((E : ℤ) - 127 - 23) : ℝ) : EReal) := by
  simp only [Ideal.ofBits, Ideal.ieee, Nat.reduceAdd]
  rw [e1, e2, e3, if_neg (by norm_num; omega), if_neg (by omega)]
  norm_num

/-- A word with a fraction field and an exponent field `E` strictly between the extremes. -/
theorem normal (E fr : Nat) (h1 : 1 ≤ E) (h2 : E ≤ 254) (hf : fr < 8388608) :
    Ideal.ofBits .f32 (BitVec.ofNat 32 (E * 8388608 + fr)) = (((8388608 + (fr : ℝ)) * (2 : ℝ) ^ ((E : ℤ) - 127 - 23) : ℝ) : EReal) :=
  ieee_normal _ E fr h1 h2 (field_exp E fr h2 hf) (field_frac E fr h2 hf) (field_sign E fr h2 hf)

/-- A power of two as a word. -/
theorem powWord (E : Nat) (h1 : 1 ≤ E) (h2 : E ≤ 254) :
    Ideal.ofBits .f32 (BitVec.ofNat 32 (E * 8388608)) = (((2 : ℝ) ^ ((E : ℤ) - 127) : ℝ) : EReal) := by
  have := normal E 0 h1 h2 (by norm_num)
  rw [Nat.add_zero] at this
  rw [this]
  congr 1
  rw [Nat.cast_zero, add_zero, show (8388608 : ℝ) = (2 : ℝ) ^ (23 : ℤ) by norm_num, ← zpow_add₀ (by norm_num)]
  congr 1
  ring

theorem thr_word : ∀ k : Fin 255, IntOp.ori (IntOp.shli ArithUnit.vector (BitVec.ofNat 32 k) 23#32) 6291456#32
    = BitVec.ofNat 32 (k.val * 8388608 + 6291456) := by decide

/-- The real number of a threshold. -/
def thrR (k : Nat) : ℝ := if k = 0 then 6291456 * (2 : ℝ) ^ (-149 : ℤ) else 14680064 * (2 : ℝ) ^ ((k : ℤ) - 150)

theorem thr_eq (k : Fin 255) : thr k = (thrR k : EReal) := by
  unfold thr thrR
  rw [thr_word]
  by_cases h : k.val = 0
  · rw [h, if_pos rfl]
    simp [Ideal.ofBits, Ideal.ieee]
  · rw [if_neg h, normal k.val 6291456 (by omega) (by omega) (by norm_num)]
    congr 1
    rw [show ((k.val : ℤ) - 127 - 23) = (k.val : ℤ) - 150 by ring]
    norm_num

theorem thrR_pos (k : Nat) : 0 < thrR k := by
  unfold thrR; split <;> positivity

theorem thrR_mono {a b : Nat} (h : a ≤ b) : thrR a ≤ thrR b := by
  unfold thrR
  by_cases ha : a = 0
  · by_cases hb : b = 0
    · rw [if_pos ha, if_pos hb]
    · rw [if_pos ha, if_neg hb]
      have : (2 : ℝ) ^ (-149 : ℤ) ≤ (2 : ℝ) ^ ((b : ℤ) - 150) := zpow_le_zpow_right₀ (by norm_num) (by omega)
      nlinarith [zpow_pos (show (0 : ℝ) < 2 by norm_num) (-149)]
  · rw [if_neg ha, if_neg (by omega)]
    have : (2 : ℝ) ^ ((a : ℤ) - 150) ≤ (2 : ℝ) ^ ((b : ℤ) - 150) := zpow_le_zpow_right₀ (by norm_num) (by omega)
    linarith

theorem cand_eq (j : Fin 247) : cand j = (((2 : ℝ) ^ ((j.val : ℤ) - 126) : ℝ) : EReal) := by
  have hj : (BitVec.ofNat 32 j.val).toInt = (j.val : ℤ) := by
    revert j; decide
  unfold cand
  rw [c126]
  show Ideal.exp2 ((((BitVec.ofNat 32 j.val).toInt : ℝ) : EReal) - ((126 : ℝ) : EReal)) = _
  rw [hj, ← EReal.coe_sub]
  show ((Real.rpow 2 _ : ℝ) : EReal) = _
  congr 1
  rw [← Real.rpow_intCast]
  push_cast
  rfl

end Cert.Quant
-- ==== Proof.QuantEq.lean ====
module

public import proofs.«01_k».proof.Proof.Quant
public import Mathlib.Data.BitVec

@[expose] public section

/-! # The two quantised numbers agree -/

set_option maxRecDepth 16384

noncomputable section

namespace Cert.Quant

open Idealize.ShloMosaic

/-- How many thresholds a magnitude reaches. -/
def count (M : EReal) : Nat := (Finset.univ.filter fun k : Fin 255 => thr k ≤ M).card

theorem count_le (M : EReal) : count M ≤ 255 := by
  have := Finset.card_le_univ (Finset.univ.filter fun k : Fin 255 => thr k ≤ M)
  rwa [Fintype.card_fin] at this

/-- The thresholds reached are the first `count` ones. -/
theorem reaches_iff (M : EReal) (k : Fin 255) : thr k ≤ M ↔ k.val < count M := by
  have mono : ∀ a b : Fin 255, a ≤ b → thr a ≤ thr b := fun a b h => by
    rw [thr_eq, thr_eq]; exact EReal.coe_le_coe_iff.2 (thrR_mono h)
  constructor
  · intro h
    have hs : Finset.Iic k ⊆ Finset.univ.filter fun k : Fin 255 => thr k ≤ M := fun a ha =>
      Finset.mem_filter.2 ⟨Finset.mem_univ _, (mono a k (Finset.mem_Iic.1 ha)).trans h⟩
    have := Finset.card_le_card hs
    rw [Fin.card_Iic] at this
    unfold count; omega
  · intro h
    by_contra hn
    have hs : (Finset.univ.filter fun k : Fin 255 => thr k ≤ M) ⊆ Finset.Iio k := fun a ha => by
      rw [Finset.mem_Iio]
      by_contra hak
      exact hn ((mono k a (not_lt.1 hak)).trans (Finset.mem_filter.1 ha).2)
    have := Finset.card_le_card hs
    rw [Fin.card_Iio] at this
    unfold count at h; omega

/-- The word sum of the bits is the count. -/
theorem fold_count {n : Nat} (P : Fin n → Prop) [DecidablePred P] :
    Finset.fold IntOp.addi (0#32) (fun x : Fin n => BitVec.setWidth 32 (BitVec.ofBool (decide (P x)))) Finset.univ
      = BitVec.ofNat 32 (Finset.univ.filter P).card := by
  suffices h : ∀ S : Finset (Fin n), Finset.fold IntOp.addi (0#32)
      (fun x : Fin n => BitVec.setWidth 32 (BitVec.ofBool (decide (P x)))) S = BitVec.ofNat 32 (S.filter P).card from h _
  intro S
  induction S using Finset.cons_induction with
  | empty => simp
  | cons a S ha ih =>
    rw [Finset.fold_cons, ih]
    by_cases hp : P a
    · rw [Finset.filter_cons_of_pos _ _ _ _ hp, Finset.card_cons, decide_eq_true hp, Nat.add_comm, BitVec.ofNat_add]
      rfl
    · rw [Finset.filter_cons_of_neg _ _ _ _ hp, decide_eq_false hp]
      show 0#32 + _ = _
      rw [BitVec.zero_add]

theorem word_table : ∀ c : Fin 256, IntOp.maxsi (IntOp.subi (IntOp.shli ArithUnit.vector (BitVec.ofNat 32 c) 23#32) 67108864#32) 0#32
    = BitVec.ofNat 32 ((c.val - 8) * 8388608) := by decide

theorem inv_table : ∀ e : Fin 248, IntOp.subi 2130706432#32 (BitVec.ofNat 32 (e.val * 8388608))
    = BitVec.ofNat 32 ((254 - e.val) * 8388608) := by decide

theorem word_eq (M : EReal) : word M = BitVec.ofNat 32 ((count M - 8) * 8388608) := by
  unfold word
  rw [fold_count fun x : Fin 255 => thr x ≤ M]
  exact word_table ⟨count M, by have := count_le M; omega⟩

/-- A candidate fits iff the threshold eight places on is reached. -/
theorem fits_iff (M : EReal) (h0 : 0 ≤ M) (j : Fin 247) :
    Ideal.ofBits FTy.f32 1056964608#32 * cand j ≤ Ideal.div M (Ideal.ofBits FTy.f32 1138753536#32) ↔ j.val + 9 ≤ count M := by
  have hr := reaches_iff M ⟨j.val + 8, by omega⟩
  rw [show j.val + 9 ≤ count M ↔ (⟨j.val + 8, by omega⟩ : Fin 255).val < count M from Iff.rfl, ← hr, half, c448, cand_eq, thr_eq]
  have ht : thrR (j.val + 8) = 448 * ((1 / 2 : ℝ) * (2 : ℝ) ^ ((j.val : ℤ) - 126)) := by
    unfold thrR
    rw [if_neg (by omega), show (((j.val + 8 : ℕ) : ℤ) - 150) = ((j.val : ℤ) - 126) + (-16) by push_cast; ring,
      zpow_add₀ (by norm_num)]
    norm_num; ring
  show _ ↔ ((thrR (j.val + 8) : ℝ) : EReal) ≤ M
  rw [ht]
  have hd : Ideal.div M ((448 : ℝ) : EReal) = M * ((448⁻¹ : ℝ) : EReal) := by
    unfold Ideal.div
    rw [if_neg (by exact_mod_cast (by norm_num : (448 : ℝ) ≠ 0)), EReal.coe_inv]
  rw [hd, ← EReal.coe_mul]
  induction M with
  | bot => exact absurd h0 (by simp)
  | top =>
    rw [EReal.top_mul_coe_of_pos (by norm_num)]
    exact ⟨fun _ => le_top, fun _ => le_top⟩
  | coe r =>
    rw [← EReal.coe_mul, EReal.coe_le_coe_iff, EReal.coe_le_coe_iff]
    constructor <;> intro h <;> linarith

theorem cand_nonneg (j : Fin 247) : 0 ≤ cand j := by
  rw [cand_eq]; exact_mod_cast (zpow_pos (by norm_num : (0 : ℝ) < 2) _).le

theorem cand_mono {i j : Fin 247} (h : i ≤ j) : cand i ≤ cand j := by
  rw [cand_eq, cand_eq, EReal.coe_le_coe_iff]
  exact zpow_le_zpow_right₀ (by norm_num) (by have : i.val ≤ j.val := h; omega)

/-- The reference's scale where the largest magnitude is not zero. -/
theorem refScale_eq (M : EReal) (h0 : 0 ≤ M) (hM : M ≠ 0) :
    refScale M = if h : 9 ≤ count M then cand ⟨count M - 9, by have := count_le M; omega⟩ else 0 := by
  unfold refScale
  rw [if_neg hM, neginf]
  apply le_antisymm
  · rw [Finset.fold_max_le]
    refine ⟨bot_le, fun j _ => ?_⟩
    split <;> rename_i hf
    · rw [fits_iff M h0] at hf
      rw [dif_pos (by omega)]
      exact cand_mono (show j.val ≤ count M - 9 by omega)
    · split
      · exact cand_nonneg _
      · exact le_rfl
  · rw [Finset.le_fold_max]
    right
    split <;> rename_i hc
    · refine ⟨⟨count M - 9, by have := count_le M; omega⟩, Finset.mem_univ _, ?_⟩
      rw [if_pos ((fits_iff M h0 _).2 (by show count M - 9 + 9 ≤ _; omega))]
    · refine ⟨0, Finset.mem_univ _, ?_⟩
      split
      · exact cand_nonneg _
      · exact le_rfl

/-- The kernel's quantised number is the reference's. -/
theorem kernelVal_eq (M x : EReal) (h0 : 0 ≤ M) (hx : max x (-x) ≤ M) : kernelVal M x = refVal M x := by
  have hc := count_le M
  unfold kernelVal refVal
  rw [word_eq]
  by_cases h9 : 9 ≤ count M
  · have hM : M ≠ 0 := by
      intro h
      have := (reaches_iff M ⟨8, by omega⟩).2 (show 8 < count M by omega)
      rw [h, thr_eq] at this
      have h' : thrR 8 ≤ 0 := by exact_mod_cast this
      exact absurd (thrR_pos 8) (not_lt.2 h')
    rw [refScale_eq M h0 hM, dif_pos h9, cand_eq, powWord _ (by omega) (by omega),
      show IntOp.subi 2130706432#32 (BitVec.ofNat 32 ((count M - 8) * 8388608)) = BitVec.ofNat 32 ((254 - (count M - 8)) * 8388608) from
        inv_table ⟨count M - 8, by omega⟩]
    rw [powWord (254 - (count M - 8)) (by omega) (by omega)]
    have e1 : ((count M - 8 : ℕ) : ℤ) - 127 = ((count M - 9 : ℕ) : ℤ) - 126 := by omega
    have e2 : ((254 - (count M - 8) : ℕ) : ℤ) - 127 = -(((count M - 9 : ℕ) : ℤ) - 126) := by omega
    rw [e1, e2]
    have hd : ∀ z : ℤ, Ideal.div 1 (((2 : ℝ) ^ z : ℝ) : EReal) = (((2 : ℝ) ^ (-z) : ℝ) : EReal) := fun z => by
      unfold Ideal.div
      rw [if_neg (by exact_mod_cast (zpow_pos (by norm_num : (0 : ℝ) < 2) z).ne'), one_mul, ← EReal.coe_inv, zpow_neg]
    rw [hd]
  · have hz : Ideal.ofBits FTy.f32 (BitVec.ofNat 32 ((count M - 8) * 8388608)) = 0 := by
      rw [show count M - 8 = 0 by omega]
      exact Ideal.ofBits_zero_f32
    rw [hz, mul_zero]
    by_cases hM : M = 0
    · have hx0 : x = 0 := by
        rw [hM] at hx
        have h1 := (le_max_left _ _).trans hx
        have h2 := (le_max_right _ _).trans hx
        apply le_antisymm h1
        rw [EReal.neg_le] at h2
        simpa using h2
      unfold refScale
      rw [if_pos hM, hx0, zero_mul, mul_one, n448, c448]
      rw [max_eq_right (by exact_mod_cast (by norm_num : (-448 : ℝ) ≤ 0)), min_eq_right (by exact_mod_cast (by norm_num : (0 : ℝ) ≤ 448))]
    · rw [refScale_eq M h0 hM, dif_neg h9, mul_zero]

theorem le_amax (f : Fin 128 → EReal) (j : Fin 128) : max (f j) (-f j) ≤ amax f := by
  unfold amax
  rw [Finset.le_fold_max]
  exact .inr ⟨j, Finset.mem_univ _, le_rfl⟩

theorem amax_nonneg (f : Fin 128 → EReal) : 0 ≤ amax f := by
  refine le_trans ?_ (le_amax f 0)
  rcases le_total 0 (f 0) with h | h
  · exact h.trans (le_max_left _ _)
  · refine le_trans ?_ (le_max_right _ _)
    rw [EReal.le_neg]; simpa using h

/-- A run of 128 numbers is quantised alike by the two. -/
theorem run_eq (f : Fin 128 → EReal) (j : Fin 128) : kernelVal (amax f) (f j) = refVal (amax f) (f j) :=
  kernelVal_eq _ _ (amax_nonneg f) (le_amax f j)

end Cert.Quant
-- ==== Proof.Target.lean ====
module

public import proofs.«01_k».proof.Proof.QuantEq

@[expose] public section

/-! # The value both programs compute

One entry of the result: the row's quantised numbers against the expert's scaled gate and up columns,
the gate's product gated by its logistic and multiplied by the up product. -/

noncomputable section

namespace Cert.Target

open Idealize.ShloMosaic Cert.Quant

/-- A gated product: the first sum, times its logistic, times the second sum. -/
def gated (l g u : Fin 2048 → EReal) : EReal :=
  (∑ x, l x * g x) * Ideal.logistic (∑ x, l x * g x) * ∑ x, l x * u x

/-- A row's number at a column, quantised with the other 127 of its group of columns. -/
def lhs (row : Fin 2048 → EReal) (c : Fin 2048) : EReal :=
  kernelVal (amax fun x => row ⟨128 * (c.val / 128) + x.val, by omega⟩) (row c)

/-- The reference quantises the same way. -/
theorem lhs_eq_ref (row : Fin 2048 → EReal) (c : Fin 2048) :
    refVal (amax fun x => row ⟨128 * (c.val / 128) + x.val, by omega⟩) (row c) = lhs row c := by
  unfold lhs
  have h := run_eq (fun x : Fin 128 => row ⟨128 * (c.val / 128) + x.val, by omega⟩) ⟨c.val % 128, by omega⟩
  have hc : (⟨128 * (c.val / 128) + c.val % 128, by omega⟩ : Fin 2048) = c :=
    Fin.ext (by show 128 * (c.val / 128) + c.val % 128 = c.val; omega)
  dsimp only at h
  rw [hc] at h
  exact h.symm

/-- A scaled weight of an expert. -/
def rhs (Q : (⟨3, ![32, 2048, 1408]⟩ : Shape).Idx → EReal) (S : (⟨3, ![32, 16, 11]⟩ : Shape).Idx → EReal) (e : Fin 32)
    (c : Fin 1408) (x : Fin 2048) : EReal :=
  Q (ix3 e x c) * S (ix3 e ⟨x.val / 128, by omega⟩ ⟨c.val / 128, by omega⟩)

/-- One entry of the result, its row belonging to expert `e`. -/
def target (X : (⟨2, ![24576, 2048]⟩ : Shape).Idx → EReal) (Qg : (⟨3, ![32, 2048, 1408]⟩ : Shape).Idx → EReal)
    (Sg : (⟨3, ![32, 16, 11]⟩ : Shape).Idx → EReal) (Qu : (⟨3, ![32, 2048, 1408]⟩ : Shape).Idx → EReal)
    (Su : (⟨3, ![32, 16, 11]⟩ : Shape).Idx → EReal) (e : Fin 32) (r : Fin 24576) (c : Fin 1408) : EReal :=
  gated (lhs fun x => X (ix2 r x)) (rhs Qg Sg e c) (rhs Qu Su e c)

theorem toInt_small {a : ℕ} (h : a < 2 ^ 31) : (BitVec.ofNat 32 a).toInt = a := by
  rw [BitVec.toInt_eq_toNat_cond, BitVec.toNat_ofNat]
  have : a % 2 ^ 32 = a := Nat.mod_eq_of_lt (by omega)
  rw [this, if_pos (by omega)]

/-- Two bounds on a row, as bits. -/
theorem between (r lo hi : ℕ) (hr : r < 2 ^ 31) (hlo : lo < 2 ^ 31) (hhi : hi < 2 ^ 31) :
    IntOp.andi (IntOp.cmpi .sge (BitVec.ofNat 32 r) (BitVec.ofNat 32 lo)) (IntOp.cmpi .slt (BitVec.ofNat 32 r) (BitVec.ofNat 32 hi))
      = if lo ≤ r ∧ r < hi then 1#1 else 0#1 := by
  have h1 : IntOp.cmpi .sge (BitVec.ofNat 32 r) (BitVec.ofNat 32 lo) = BitVec.ofBool (decide (lo ≤ r)) := by
    show BitVec.ofBool ((BitVec.ofNat 32 lo).sle (BitVec.ofNat 32 r)) = _
    congr 1
    rw [Bool.eq_iff_iff, BitVec.sle_iff_toInt_le, toInt_small hr, toInt_small hlo]
    simp
  have h2 : IntOp.cmpi .slt (BitVec.ofNat 32 r) (BitVec.ofNat 32 hi) = BitVec.ofBool (decide (r < hi)) := by
    show BitVec.ofBool ((BitVec.ofNat 32 r).slt (BitVec.ofNat 32 hi)) = _
    congr 1
    rw [Bool.eq_iff_iff, BitVec.slt_iff_toInt_lt, toInt_small hr, toInt_small hhi]
    simp
  rw [h1, h2]
  by_cases a : lo ≤ r <;> by_cases b : r < hi <;> simp [a, b] <;> rfl

end Cert.Target
-- ==== Proof.Closed.lean ====
module

public import proofs.«01_k».proof.Proof.Visit
public import proofs.«01_k».proof.Proof.Target

@[expose] public section

/-! # What one visit computes, entry by entry

The visit's steps overwrite one tile after another.  Read at an entry, only one tile of each pass
matters: the quantised entry of the input, the weight times its block's scale, and the gated product. -/

set_option maxRecDepth 16384

noncomputable section

namespace Cert.KernelIdeal.Rolled

open Idealize.ShloMosaic Cert.KernelIdeal Cert.KernelIdeal.Gen Cert.Quant Cert.Target

/-- Reading a component that one step of a pass changes and the others leave alone. -/
theorem foldl_once {α β γ : Type} (f : α → β → α) (get : α → γ) (h : γ → γ) (b : β)
    (hb : ∀ a, get (f a b) = h (get a)) (ho : ∀ b', b' ≠ b → ∀ a, get (f a b') = get a) :
    ∀ (l : List β), l.Nodup → b ∈ l → ∀ a, get (l.foldl f a) = h (get a) := by
  have miss : ∀ (l : List β), b ∉ l → ∀ a, get (l.foldl f a) = get a := by
    intro l
    induction l with
    | nil => intro _ a; rfl
    | cons x l ih =>
      intro hx a
      rw [List.foldl_cons, ih (fun h => hx (List.mem_cons_of_mem _ h)), ho x fun h => hx (h ▸ List.mem_cons_self)]
  intro l
  induction l with
  | nil => intro _ h; exact absurd h List.not_mem_nil
  | cons x l ih =>
    intro hn hm a
    rw [List.nodup_cons] at hn
    rw [List.foldl_cons]
    by_cases hx : x = b
    · subst hx; rw [miss l hn.1, hb]
    · rw [ih hn.2 ((List.mem_cons.1 hm).resolve_left fun h => hx h.symm), ho x hx]

theorem ks_nodup : ks.Nodup := by decide
theorem ks_mem (k : Fin 16) : k ∈ ks := by revert k; decide
theorem ns_nodup : ns.Nodup := by decide
theorem ns_mem (n : Fin 11) : n ∈ ns := by revert n; decide

/-! ## Tiles at an entry -/

theorem rX_idx (k : Fin 16) (p : Fin 256) (j : Fin 128) :
    (rX k).idx (ix2 p j) = ix2 p ⟨128 * k.val + j.val, by omega⟩ := by
  funext a
  match a with
  | 0 => exact Fin.ext (show 0 + 1 * p.val = p.val by omega)
  | 1 => exact Fin.ext (show 128 * k.val + 1 * j.val = 128 * k.val + j.val by omega)

theorem rW_idx (k : Fin 16) (j : Fin 2) (r c : Fin 128) :
    (rW k j).idx (ix2 r c) = ix2 ⟨128 * k.val + r.val, by omega⟩ ⟨128 * j.val + c.val, by omega⟩ := by
  funext a
  match a with
  | 0 => exact Fin.ext (show 128 * k.val + 1 * r.val = 128 * k.val + r.val by omega)
  | 1 => exact Fin.ext (show 128 * j.val + 1 * c.val = 128 * j.val + c.val by omega)

theorem rO_idx (n : Fin 11) (p : Fin 256) (j : Fin 128) :
    (rO n).idx (ix2 p j) = ix2 p ⟨128 * n.val + j.val, by omega⟩ := by
  funext a
  match a with
  | 0 => exact Fin.ext (show 0 + 1 * p.val = p.val by omega)
  | 1 => exact Fin.ext (show 128 * n.val + 1 * j.val = 128 * n.val + j.val by omega)

theorem rQ_idx (n : Fin 11) (k : Fin 16) (r c : Fin 128) :
    (rQ n k).idx (ix3 0 r c) = ix3 0 ⟨128 * k.val + r.val, by omega⟩ ⟨128 * n.val + c.val, by omega⟩ := by
  funext a
  match a with
  | 0 => exact Fin.ext (show 0 + 1 * 0 = 0 by omega)
  | 1 => exact Fin.ext (show 128 * k.val + 1 * r.val = 128 * k.val + r.val by omega)
  | 2 => exact Fin.ext (show 128 * n.val + 1 * c.val = 128 * n.val + c.val by omega)

theorem rX_not_mem (k : Fin 16) (p : Fin 256) (c : Fin 2048) (h : c.val / 128 ≠ k.val) : (ix2 p c : S256x2048.Idx) ∉ (rX k).set := by
  intro hm
  have := Rect.mem_set_unit.1 hm 1
  have h1 : 128 * k.val ≤ c.val := this.1
  have h2 : c.val < 128 * k.val + 128 := this.2
  omega

theorem rW_not_mem (k : Fin 16) (j : Fin 2) (r : Fin 2048) (c : Fin 256) (h : r.val / 128 ≠ k.val ∨ c.val / 128 ≠ j.val) :
    (ix2 r c : S2048x256.Idx) ∉ (rW k j).set := by
  intro hm
  have := Rect.mem_set_unit.1 hm
  have h1 : 128 * k.val ≤ r.val := (this 0).1
  have h2 : r.val < 128 * k.val + 128 := (this 0).2
  have h3 : 128 * j.val ≤ c.val := (this 1).1
  have h4 : c.val < 128 * j.val + 128 := (this 1).2
  omega

theorem rO_not_mem (n : Fin 11) (p : Fin 256) (c : Fin 1408) (h : c.val / 128 ≠ n.val) : (ix2 p c : S256x1408.Idx) ∉ (rO n).set := by
  intro hm
  have := Rect.mem_set_unit.1 hm 1
  have h1 : 128 * n.val ≤ c.val := this.1
  have h2 : c.val < 128 * n.val + 128 := this.2
  omega

/-! ## The payloads at an entry -/

theorem quant_apply (v : Vec Ideal S256x128 .bf16) (p : Fin 256) (j : Fin 128) :
    quant (F := Ideal) v (ix2 p j) = kernelVal (amax fun x => v (ix2 p x)) (v (ix2 p j)) := by
  pointwise [quant, Cert.KernelIdeal.Gen.k0_pay2]
  unfold kernelVal Quant.word thr amax
  rfl

theorem deq_apply (s : Elt Ideal .f32) (v : Vec Ideal S1x128x128 .fp8e4m3) (r c : Fin 128) :
    deq (F := Ideal) s v (ix2 r c) = v (ix3 0 r c) * s := by
  pointwise [deq, Cert.KernelIdeal.Gen.k0_pay56]

theorem outPay_apply (mk : IVec S256x128 1) (l : Vec Ideal S256x2048 .bf16) (w : Vec Ideal S2048x256 .bf16)
    (old : Vec Ideal S256x128 .bf16) (p : Fin 256) (j : Fin 128) :
    outPay (F := Ideal) mk l w old (ix2 p j) = Scalar.select (mk (ix2 p j))
      (gated (fun x => l (ix2 p x)) (fun x => w (ix2 x ⟨j.val, by omega⟩)) fun x => w (ix2 x ⟨128 + j.val, by omega⟩))
      (old (ix2 p j)) := by
  pointwise [outPay]
  rfl

/-! ## The passes at an entry -/

/-- The input's entry, quantised with the other 127 of its group of columns. -/
def lhsAt (X : S256x2048.Idx → EReal) (p : Fin 256) (c : Fin 2048) : EReal :=
  kernelVal (amax fun x => X (ix2 p ⟨128 * (c.val / 128) + x.val, by omega⟩)) (X (ix2 p c))

theorem quantAll_apply (X A : S256x2048.Idx → EReal) (p : Fin 256) (c : Fin 2048) :
    quantAll (F := Ideal) X A (ix2 p c) = lhsAt X p c := by
  rw [quantAll_eq]
  refine foldl_once (quantAt (F := Ideal) X) (fun Y => Y (ix2 p c)) (fun _ => lhsAt X p c) ⟨c.val / 128, by omega⟩
    (fun A => ?_) (fun k hk A => ?_) ks ks_nodup (ks_mem _) A
  · unfold quantAt
    have e : (ix2 p c : S256x2048.Idx) = (rX ⟨c.val / 128, by omega⟩).emb (ix2 p (⟨c.val % 128, by omega⟩ : Fin 128)) :=
      (by
        refine Eq.trans ?_ (rX_idx _ _ _).symm
        rw [show (⟨128 * (c.val / 128) + c.val % 128, by omega⟩ : Fin 2048) = c from
          Fin.ext (by show 128 * (c.val / 128) + c.val % 128 = c.val; omega)])
    show Rect.overlay _ _ _ (ix2 p c) = _
    conv_lhs => rw [e]
    rw [Rect.overlay_emb, quant_apply]
    unfold lhsAt
    have e2 : (rX ⟨c.val / 128, by omega⟩).idx (ix2 p (⟨c.val % 128, by omega⟩ : Fin 128)) = ix2 p c := e.symm
    rw [e2]
    congr 2
    funext x
    rw [rX_idx]
  · unfold quantAt
    exact Rect.overlay_of_not_mem _ _ _ (rX_not_mem k p c fun h => hk (Fin.ext h.symm))

/-- The weight's entry times its block's scale. -/
def rhsAt (S : S32x16x11.Idx → EReal) (Q : S1x2048x1408.Idx → EReal) (e : Fin 32) (x : Fin 2048) (c : Fin 1408) : EReal :=
  Q (ix3 0 x c) * S (ix3 e ⟨x.val / 128, by omega⟩ ⟨c.val / 128, by omega⟩)

theorem scaleAt_apply (S : S32x16x11.Idx → EReal) (e : Nat) (he : e < 32) (n : Fin 11) (k : Fin 16) :
    scaleAt (F := Ideal) S e he n k = S (ix3 ⟨e, he⟩ k n) := by
  unfold scaleAt
  congr 1
  funext a
  match a with
  | 0 => exact Fin.ext (show e + 1 * 0 = e by omega)
  | 1 => exact Fin.ext (show k.val + 1 * 0 = k.val by omega)
  | 2 => exact Fin.ext (show n.val + 1 * 0 = n.val by omega)

theorem weightAt_hit (S : S32x16x11.Idx → EReal) (Q : S1x2048x1408.Idx → EReal) (e : Nat) (he : e < 32) (j : Fin 2) (n : Fin 11)
    (W : S2048x256.Idx → EReal) (x : Fin 2048) (b : Fin 128) :
    weightAt (F := Ideal) S Q e he j n W ⟨x.val / 128, by omega⟩ (ix2 x ⟨128 * j.val + b.val, by omega⟩)
      = rhsAt S Q ⟨e, he⟩ x ⟨128 * n.val + b.val, by omega⟩ := by
  unfold weightAt
  have hx : (⟨128 * (x.val / 128) + x.val % 128, by omega⟩ : Fin 2048) = x :=
    Fin.ext (by show 128 * (x.val / 128) + x.val % 128 = x.val; omega)
  have e1 : (ix2 x ⟨128 * j.val + b.val, by omega⟩ : S2048x256.Idx)
      = (rW ⟨x.val / 128, by omega⟩ j).emb (ix2 (⟨x.val % 128, by omega⟩ : Fin 128) b) := by
    refine Eq.trans ?_ (rW_idx _ _ _ _).symm
    rw [hx]
  rw [e1, Rect.overlay_emb, deq_apply, rQ_idx, scaleAt_apply]
  unfold rhsAt
  rw [hx]
  congr 3
  exact Fin.ext (by show n.val = (128 * n.val + b.val) / 128; omega)

theorem weightAt_miss (S : S32x16x11.Idx → EReal) (Q : S1x2048x1408.Idx → EReal) (e : Nat) (he : e < 32) (j : Fin 2) (n : Fin 11)
    (W : S2048x256.Idx → EReal) (k : Fin 16) (x : Fin 2048) (c : Fin 256) (h : x.val / 128 ≠ k.val ∨ c.val / 128 ≠ j.val) :
    weightAt (F := Ideal) S Q e he j n W k (ix2 x c) = W (ix2 x c) := by
  unfold weightAt
  exact Rect.overlay_of_not_mem _ _ _ (rW_not_mem k j x c h)

theorem weightsAt_gate (Sg Su : S32x16x11.Idx → EReal) (Qg Qu : S1x2048x1408.Idx → EReal) (e : Nat) (he : e < 32) (n : Fin 11)
    (W : S2048x256.Idx → EReal) (x : Fin 2048) (b : Fin 128) :
    weightsAt (F := Ideal) Sg Su Qg Qu e he n W (ix2 x ⟨b.val, by omega⟩) = rhsAt Sg Qg ⟨e, he⟩ x ⟨128 * n.val + b.val, by omega⟩ := by
  unfold weightsAt
  refine foldl_once (fun W k => weightAt (F := Ideal) Su Qu e he 1 n (weightAt (F := Ideal) Sg Qg e he 0 n W k) k)
    (fun Y => Y (ix2 x ⟨b.val, by omega⟩)) (fun _ => rhsAt Sg Qg ⟨e, he⟩ x ⟨128 * n.val + b.val, by omega⟩) ⟨x.val / 128, by omega⟩
    (fun A => ?_) (fun k hk A => ?_) ks ks_nodup (ks_mem _) W
  · show weightAt _ _ _ _ _ _ _ _ _ = _
    rw [weightAt_miss _ _ _ _ _ _ _ _ _ _ (.inr (by show b.val / 128 ≠ 1; omega)),
      ← weightAt_hit Sg Qg e he 0 n A x b]
    congr 2
    exact Fin.ext (by show b.val = 128 * 0 + b.val; omega)
  · have hk' : x.val / 128 ≠ k.val := fun h => hk (Fin.ext h.symm)
    show weightAt _ _ _ _ _ _ _ _ _ = _
    rw [weightAt_miss _ _ _ _ _ _ _ _ _ _ (.inl hk'), weightAt_miss _ _ _ _ _ _ _ _ _ _ (.inl hk')]

theorem weightsAt_up (Sg Su : S32x16x11.Idx → EReal) (Qg Qu : S1x2048x1408.Idx → EReal) (e : Nat) (he : e < 32) (n : Fin 11)
    (W : S2048x256.Idx → EReal) (x : Fin 2048) (b : Fin 128) :
    weightsAt (F := Ideal) Sg Su Qg Qu e he n W (ix2 x ⟨128 + b.val, by omega⟩) = rhsAt Su Qu ⟨e, he⟩ x ⟨128 * n.val + b.val, by omega⟩ := by
  unfold weightsAt
  refine foldl_once (fun W k => weightAt (F := Ideal) Su Qu e he 1 n (weightAt (F := Ideal) Sg Qg e he 0 n W k) k)
    (fun Y => Y (ix2 x ⟨128 + b.val, by omega⟩)) (fun _ => rhsAt Su Qu ⟨e, he⟩ x ⟨128 * n.val + b.val, by omega⟩) ⟨x.val / 128, by omega⟩
    (fun A => ?_) (fun k hk A => ?_) ks ks_nodup (ks_mem _) W
  · exact weightAt_hit Su Qu e he 1 n _ x b
  · have hk' : x.val / 128 ≠ k.val := fun h => hk (Fin.ext h.symm)
    show weightAt _ _ _ _ _ _ _ _ _ = _
    rw [weightAt_miss _ _ _ _ _ _ _ _ _ _ (.inl hk'), weightAt_miss _ _ _ _ _ _ _ _ _ _ (.inl hk')]

/-- What the visit computes for an entry of the result. -/
def valAt (Sg Su : S32x16x11.Idx → EReal) (Qg Qu : S1x2048x1408.Idx → EReal) (e : Fin 32) (X : S256x2048.Idx → EReal)
    (p : Fin 256) (c : Fin 1408) : EReal :=
  gated (lhsAt X p) (fun x => rhsAt Sg Qg e x c) fun x => rhsAt Su Qu e x c

/-- The result's block after the visit: the visit's own rows computed, the others as they were. -/
theorem visitAt_apply (mk : IVec S256x128 1) (Sg Su : S32x16x11.Idx → EReal) (Qg Qu : S1x2048x1408.Idx → EReal) (e : Nat) (he : e < 32)
    (X A : S256x2048.Idx → EReal) (W : S2048x256.Idx → EReal) (O : S256x1408.Idx → EReal) (p : Fin 256) (c : Fin 1408) :
    (visitAt (F := Ideal) mk Sg Su Qg Qu e he (quantAll (F := Ideal) X A) (W, O)).2 (ix2 p c)
      = Scalar.select (mk (ix2 p ⟨c.val % 128, by omega⟩)) (valAt Sg Su Qg Qu ⟨e, he⟩ X p c) (O (ix2 p c)) := by
  rw [visitAt_eq]
  have hc : (⟨128 * (c.val / 128) + c.val % 128, by omega⟩ : Fin 1408) = c :=
    Fin.ext (by show 128 * (c.val / 128) + c.val % 128 = c.val; omega)
  refine foldl_once (colAt (F := Ideal) mk Sg Su Qg Qu e he (quantAll (F := Ideal) X A)) (fun Y => Y.2 (ix2 p c))
    (fun o => Scalar.select (mk (ix2 p ⟨c.val % 128, by omega⟩)) (valAt Sg Su Qg Qu ⟨e, he⟩ X p c) o) ⟨c.val / 128, by omega⟩
    (fun WO => ?_) (fun n hn WO => ?_) ns ns_nodup (ns_mem _) (W, O)
  · unfold colAt
    show outAt _ _ _ _ _ (ix2 p c) = _
    have e1 : (ix2 p c : S256x1408.Idx) = (rO ⟨c.val / 128, by omega⟩).emb (ix2 p (⟨c.val % 128, by omega⟩ : Fin 128)) := by
      refine Eq.trans ?_ (rO_idx _ _ _).symm
      rw [hc]
    have e2 : (rO ⟨c.val / 128, by omega⟩).idx (ix2 p (⟨c.val % 128, by omega⟩ : Fin 128)) = ix2 p c := e1.symm
    have hX : ∀ x, (Rect.unit (s := S256x2048) ![0, 0] S256x2048.size inb_S256x2048_S256x2048_0_0).idx (ix2 p x) = ix2 p x := fun x => by
      funext a
      match a with
      | 0 => exact Fin.ext (show 0 + 1 * p.val = p.val by omega)
      | 1 => exact Fin.ext (show 0 + 1 * x.val = x.val by omega)
    have hW : ∀ (x : Fin 2048) (y : Fin 256), (Rect.unit (s := S2048x256) ![0, 0] S2048x256.size inb_S2048x256_S2048x256_0_0).idx (ix2 x y) = ix2 x y := fun x y => by
      funext a
      match a with
      | 0 => exact Fin.ext (show 0 + 1 * x.val = x.val by omega)
      | 1 => exact Fin.ext (show 0 + 1 * y.val = y.val by omega)
    unfold outAt
    conv_lhs => rw [e1]
    rw [Rect.overlay_emb, outPay_apply, e2]
    unfold valAt
    congr 1
    congr 1
    · funext x
      rw [hX, quantAll_apply]
    · funext x
      rw [hW, weightsAt_gate Sg Su Qg Qu e he ⟨c.val / 128, by omega⟩ WO.1 x ⟨c.val % 128, by omega⟩]
      rw [hc]
    · funext x
      rw [hW, weightsAt_up Sg Su Qg Qu e he ⟨c.val / 128, by omega⟩ WO.1 x ⟨c.val % 128, by omega⟩]
      rw [hc]
  · unfold colAt
    show outAt _ _ _ _ _ (ix2 p c) = _
    unfold outAt
    exact Rect.overlay_of_not_mem _ _ _ (rO_not_mem n p c fun h => hn (Fin.ext h.symm))

end Cert.KernelIdeal.Rolled
-- ==== Proof.VisitValue.lean ====
/- What a visit leaves in the output's block, entry by entry: the target in the rows of the visit's group, the block
   as it was in the others. -/
module

public import proofs.«01_k».proof.Proof.Blocks
public import proofs.«01_k».proof.Proof.Closed

@[expose] public section

set_option maxRecDepth 16384

noncomputable section

namespace Cert.KernelIdeal.Region

open Idealize.ShloMosaic Idealize.ShloMosaic.TcCoe Idealize.ShloMosaic.Pipeline
open Cert.KernelIdeal Cert.KernelIdeal.Gen Cert.KernelIdeal.Rolled

/-- The mask of a visit: the rows from the group's first to before its last. -/
theorem mask_apply (T lo hi : ℕ) (hT : T < 96) (hlo : lo < 2 ^ 31) (hhi : hi < 2 ^ 31) (p : Fin 256) (j : Fin 128) :
    mask (F := Ideal) (BitVec.ofNat 32 T) (BitVec.ofNat 32 lo) (BitVec.ofNat 32 hi) (ix2 p j)
      = if lo ≤ 256 * T + p.val ∧ 256 * T + p.val < hi then 1#1 else 0#1 := by
  have h : mask (F := Ideal) (BitVec.ofNat 32 T) (BitVec.ofNat 32 lo) (BitVec.ofNat 32 hi) (ix2 p j)
      = IntOp.andi (IntOp.cmpi .sge (IntOp.addi (Scalar.muli (BitVec.ofNat 32 T) 256#32) (BitVec.ofNat 32 p.val)) (BitVec.ofNat 32 lo))
          (IntOp.cmpi .slt (IntOp.addi (Scalar.muli (BitVec.ofNat 32 T) 256#32) (BitVec.ofNat 32 p.val)) (BitVec.ofNat 32 hi)) := by
    pointwise [mask, Cert.KernelIdeal.Gen.k0_pay55]
  have hr : IntOp.addi (Scalar.muli (BitVec.ofNat 32 T) 256#32) (BitVec.ofNat 32 p.val) = BitVec.ofNat 32 (256 * T + p.val) := by
    show BitVec.ofNat 32 T * BitVec.ofNat 32 256 + BitVec.ofNat 32 p.val = _
    rw [← BitVec.ofNat_mul, ← BitVec.ofNat_add, Nat.mul_comm]
  rw [h, hr, Target.between _ _ _ (by omega) hlo hhi]

variable (m : (ℓ : Loc nD τ sig) → Buf (Elt Ideal) ℓ) {G : ℕ → ℕ}
    (hg : ∀ e : Fin 32, groups m 0 (ValueIdx.ix1 e) = BitVec.ofNat 32 (G e.val)) (hT : Visits.E G 32 = 24576)

/-- The target at a memory's arguments. -/
def wanted (c : Dev nD) (e : Fin 32) (r : Fin 24576) (n : Fin 1408) : EReal :=
  Target.target (m ((c.tc : Thread nD τ).loc main_arg0)) (m ((c.tc : Thread nD τ).loc main_arg2)) (m ((c.tc : Thread nD τ).loc main_arg3))
    (m ((c.tc : Thread nD τ).loc main_arg4)) (m ((c.tc : Thread nD τ).loc main_arg5)) e r n

theorem tile_at (t : Fin (cfg0 (tables m hg hT)).N) :
    (((tables m hg hT).1 1 : S127.Idx → BitVec 32) (ValueIdx.ix1 ((cfg0 (tables m hg hT)).grid.coords t 0)))
      = BitVec.ofNat 32 (Visits.vt G t.val) := by
  rw [← coords_val]; exact table_tile m hg hT ((cfg0 (tables m hg hT)).grid.coords t 0)

theorem group_at (t : Fin (cfg0 (tables m hg hT)).N) :
    (((tables m hg hT).1 0 : S127.Idx → BitVec 32) (ValueIdx.ix1 ((cfg0 (tables m hg hT)).grid.coords t 0)))
      = BitVec.ofNat 32 (Visits.ve G t.val) := by
  rw [← coords_val]; exact table_group m hg hT ((cfg0 (tables m hg hT)).grid.coords t 0)

theorem first_at (t : Fin (cfg0 (tables m hg hT)).N) :
    (((tables m hg hT).1 2 : S127.Idx → BitVec 32) (ValueIdx.ix1 ((cfg0 (tables m hg hT)).grid.coords t 0)))
      = BitVec.ofNat 32 (Visits.E G (Visits.ve G t.val)) := by
  rw [← coords_val]; exact table_first m hg hT ((cfg0 (tables m hg hT)).grid.coords t 0)

theorem last_at (t : Fin (cfg0 (tables m hg hT)).N) :
    (((tables m hg hT).1 3 : S127.Idx → BitVec 32) (ValueIdx.ix1 ((cfg0 (tables m hg hT)).grid.coords t 0)))
      = BitVec.ofNat 32 (Visits.E G (Visits.ve G t.val + 1)) := by
  rw [← coords_val]; exact table_last m hg hT ((cfg0 (tables m hg hT)).grid.coords t 0)

theorem small {v w : ℕ} (h : v < w) (hw : w ≤ 2 ^ 32) : (BitVec.ofNat 32 v).toNat = v := by
  rw [BitVec.toNat_ofNat]; exact Nat.mod_eq_of_lt (by omega)

/-- A visit's number at an entry of its block is the target. -/
theorem value_at (c : Dev nD) (t : Fin (cfg0 (tables m hg hT)).N) (d0 d1 d2 d3 d4) (p : Fin 256) (n : Fin 1408)
    (hr : 256 * Visits.vt G t.val + p.val < 24576) :
    valAt (block (tables m hg hT) (heldAt m) c 3 t d3) (block (tables m hg hT) (heldAt m) c 4 t d4)
        (block (tables m hg hT) (heldAt m) c 1 t d1) (block (tables m hg hT) (heldAt m) c 2 t d2)
        ⟨Visits.ve G t.val, Visits.ve_lt hT t.val⟩ (block (tables m hg hT) (heldAt m) c 0 t d0) p n
      = wanted m c ⟨Visits.ve G t.val, Visits.ve_lt hT t.val⟩ ⟨256 * Visits.vt G t.val + p.val, hr⟩ n := by
  have hv := Visits.vt_lt hT t.val
  have he := Visits.ve_lt hT t.val
  have ht : (((tables m hg hT).1 1 : S127.Idx → BitVec 32) (ValueIdx.ix1 ((cfg0 (tables m hg hT)).grid.coords t 0))).toNat
      = Visits.vt G t.val := by rw [tile_at]; exact small hv (by decide)
  have hge : (((tables m hg hT).1 0 : S127.Idx → BitVec 32) (ValueIdx.ix1 ((cfg0 (tables m hg hT)).grid.coords t 0))).toNat
      = (⟨Visits.ve G t.val, he⟩ : Fin 32).val := by rw [group_at]; exact small he (by decide)
  have hl : lhsAt (block (tables m hg hT) (heldAt m) c 0 t d0) p
      = Target.lhs fun x => (m ((c.tc : Thread nD τ).loc main_arg0) : S24576x2048.Idx → EReal)
          (ix2 ⟨256 * Visits.vt G t.val + p.val, hr⟩ x) := by
    refine Eq.trans (b := Target.lhs fun x => (block (tables m hg hT) (heldAt m) c 0 t d0 : S256x2048.Idx → EReal) (ix2 p x)) rfl ?_
    refine congrArg Target.lhs (funext fun x => ?_)
    rw [ix2_eq_valueIdx]
    refine (block0 (tables m hg hT) (heldAt m) c t d0 p x _ hv ht).trans ?_
    rw [heldAt_kept m c main_arg0 (by decide)]
    rw [ix2_eq_valueIdx]
  have hrg : (fun x => rhsAt (block (tables m hg hT) (heldAt m) c 3 t d3) (block (tables m hg hT) (heldAt m) c 1 t d1)
        ⟨Visits.ve G t.val, he⟩ x n)
      = Target.rhs (m ((c.tc : Thread nD τ).loc main_arg2)) (m ((c.tc : Thread nD τ).loc main_arg3)) ⟨Visits.ve G t.val, he⟩ n := by
    funext x
    unfold rhsAt Target.rhs
    rw [block3, heldAt_kept m c main_arg3 (by decide), ix3_eq_valueIdx 0 x n, ix3_eq_valueIdx _ x n]
    refine congrArg (· * _) ((block1 (tables m hg hT) (heldAt m) c t d1 x n _ hge).trans ?_)
    rw [heldAt_kept m c main_arg2 (by decide)]
  have hru : (fun x => rhsAt (block (tables m hg hT) (heldAt m) c 4 t d4) (block (tables m hg hT) (heldAt m) c 2 t d2)
        ⟨Visits.ve G t.val, he⟩ x n)
      = Target.rhs (m ((c.tc : Thread nD τ).loc main_arg4)) (m ((c.tc : Thread nD τ).loc main_arg5)) ⟨Visits.ve G t.val, he⟩ n := by
    funext x
    unfold rhsAt Target.rhs
    rw [block4, heldAt_kept m c main_arg5 (by decide), ix3_eq_valueIdx 0 x n, ix3_eq_valueIdx _ x n]
    refine congrArg (· * _) ((block2 (tables m hg hT) (heldAt m) c t d2 x n _ hge).trans ?_)
    rw [heldAt_kept m c main_arg4 (by decide)]
  unfold valAt wanted Target.target
  rw [hl, hrg, hru]

/-- The visits' points are those before the count of visits. -/
theorem cond_at (i : grid0.Coords) (v t : ℕ) (hi : (i 0).val = t) (ht : t < 127) (hv : v ≤ 127) :
    k0_cond1 i (BitVec.ofNat 32 v) = if t < v then 1#1 else 0#1 := by
  subst hi
  have h1 : IntOp.cmpi .slt (BitVec.ofNat 32 (i 0).val) (BitVec.ofNat 32 v) = BitVec.ofBool (decide ((i 0).val < v)) := by
    show BitVec.ofBool ((BitVec.ofNat 32 (i 0).val).slt (BitVec.ofNat 32 v)) = _
    congr 1
    rw [Bool.eq_iff_iff, BitVec.slt_iff_toInt_lt, Target.toInt_small (by omega), Target.toInt_small (by omega)]
    simp
  show IntOp.cmpi .ne (BitVec.zeroExtend 32 (IntOp.cmpi .slt (BitVec.ofNat 32 (i 0).val) (BitVec.ofNat 32 v))) 0#32 = _
  rw [h1]
  by_cases h : (i 0).val < v <;> simp only [h, decide_true, decide_false, if_true, if_false] <;> decide

/-- The block after a point. -/
theorem left_apply (c : Dev nD) (t : Fin (cfg0 (tables m hg hT)).N) (Y X : S256x1408.Idx → EReal)
    (h : left (tables m hg hT) (heldAt m) c 5 t Y X) (p : Fin 256) (n : Fin 1408) (hr : 256 * Visits.vt G t.val + p.val < 24576) :
    X (ix2 p n) = if t.val < Visits.C G 32 ∧ Visits.E G (Visits.ve G t.val) ≤ 256 * Visits.vt G t.val + p.val
        ∧ 256 * Visits.vt G t.val + p.val < Visits.E G (Visits.ve G t.val + 1)
      then wanted m c ⟨Visits.ve G t.val, Visits.ve_lt hT t.val⟩ ⟨256 * Visits.vt G t.val + p.val, hr⟩ n else Y (ix2 p n) := by
  obtain ⟨d0, d1, d2, d3, d4, h1, h2⟩ := h
  have hcount : count (F := Ideal) ((tables m hg hT).1 4) = BitVec.ofNat 32 (Visits.C G 32) := table_visits m hg hT _
  have hcond := cond_at ((cfg0 (tables m hg hT)).grid.coords t) (Visits.C G 32) t.val (coords_val _ t) t.isLt (Visits.C_total_le hT)
  rw [hcount, hcond] at h1 h2
  by_cases hlt : t.val < Visits.C G 32
  · rw [if_pos hlt] at h1
    obtain ⟨he, A, W, hX⟩ := h1 rfl
    have hmask : mask (F := Ideal) (tab ((tables m hg hT).1 1) ((cfg0 (tables m hg hT)).grid.coords t))
        (tab ((tables m hg hT).1 2) ((cfg0 (tables m hg hT)).grid.coords t)) (tab ((tables m hg hT).1 3) ((cfg0 (tables m hg hT)).grid.coords t))
        = mask (F := Ideal) (BitVec.ofNat 32 (Visits.vt G t.val)) (BitVec.ofNat 32 (Visits.E G (Visits.ve G t.val)))
          (BitVec.ofNat 32 (Visits.E G (Visits.ve G t.val + 1))) := by
      exact congr (congr (congrArg (mask (F := Ideal)) ((tab_eq (F := Ideal) ((tables m hg hT).1 1) _).trans (tile_at m hg hT t)))
        ((tab_eq (F := Ideal) ((tables m hg hT).1 2) _).trans (first_at m hg hT t)))
        ((tab_eq (F := Ideal) ((tables m hg hT).1 3) _).trans (last_at m hg hT t))
    have hexp : expertAt (F := Ideal) ((tables m hg hT).1 0) ((cfg0 (tables m hg hT)).grid.coords t) = Visits.ve G t.val := by
      exact (congrArg BitVec.toNat ((tab_eq (F := Ideal) ((tables m hg hT).1 0) _).trans (group_at m hg hT t))).trans
        (small (Visits.ve_lt hT t.val) (by decide))
    have hfin : (⟨expertAt (F := Ideal) ((tables m hg hT).1 0) ((cfg0 (tables m hg hT)).grid.coords t), he⟩ : Fin 32)
        = ⟨Visits.ve G t.val, Visits.ve_lt hT t.val⟩ := Fin.ext hexp
    rw [hX, visitAt_apply, hmask, hfin, value_at m hg hT c t d0 d1 d2 d3 d4 p n hr,
      mask_apply _ _ _ (Visits.vt_lt hT t.val) (by have := Visits.E_le hT (Visits.ve G t.val) (Visits.ve_lt hT t.val).le; omega)
        (by have := Visits.E_le hT (Visits.ve G t.val + 1) (Visits.ve_lt hT t.val); omega)]
    by_cases hin : Visits.E G (Visits.ve G t.val) ≤ 256 * Visits.vt G t.val + p.val
        ∧ 256 * Visits.vt G t.val + p.val < Visits.E G (Visits.ve G t.val + 1)
    · rw [if_pos hin, if_pos ⟨hlt, hin⟩]; rfl
    · rw [if_neg hin, if_neg fun h => hin h.2]; rfl
  · rw [if_neg hlt] at h2
    rw [h2 (by decide), if_neg fun h => hlt h.1]

end Cert.KernelIdeal.Region
-- ==== Proof.Tiles.lean ====
/- Which rows of a tile consecutive visits have dealt with: visits go through the groups in order, a tile's first
   visit starts no later than the tile, and its last visit reaches the tile's end. -/
module

public import proofs.«01_k».proof.Proof.Visits

@[expose] public section

namespace Cert.Visits

variable {G : ℕ → ℕ}

/-- Groups between which no visit happens have no rows. -/
theorem E_eq_of_C_eq {a b : ℕ} (h : a ≤ b) (hC : C G a = C G b) : E G a = E G b := by
  induction b, h using Nat.le_induction with
  | base => rfl
  | succ b hab ih =>
    have h1 := C_mono G hab
    have h2 := C_succ G b
    have hz : NT G b = 0 := by omega
    have hg : G b = 0 := by
      by_contra hg
      have := NT_pos G (Nat.pos_of_ne_zero hg)
      omega
    rw [E_succ, hg, ih (by omega)]
    rfl

theorem vc_step (v : ℕ) : vc G v ≤ vc G (v + 1) ∧ vc G (v + 1) ≤ vc G v + 1 := by unfold vc; omega

theorem ve_congr {v w : ℕ} (h : vc G v = vc G w) : ve G v = ve G w := by unfold ve; rw [h]

variable (hT : E G 32 = 24576)
include hT

theorem vt_congr {v w : ℕ} (h : vc G v = vc G w) : vt G v = vt G w := by
  have h1 := (vt_spec hT v).2.2
  have h2 := (vt_spec hT w).2.2
  rw [ve_congr h, h] at h1
  omega

/-- The next visit's group starts where the visit's group ends, or is the same group. -/
theorem next_start (v : ℕ) : ve G (v + 1) = ve G v ∨ (E G (ve G (v + 1)) = E G (ve G v + 1)
    ∧ vt G (v + 1) = E G (ve G v + 1) / 256 ∧ vt G v = (E G (ve G v + 1) - 1) / 256) := by
  rcases Nat.eq_or_lt_of_le (ve_mono hT (show v ≤ v + 1 by omega)) with h | h
  · exact .inl h.symm
  · obtain ⟨_, a1, a2⟩ := ve_spec hT v
    obtain ⟨_, b1, b2⟩ := ve_spec hT (v + 1)
    have hs := vc_step (G := G) v
    have hc := C_mono G (show ve G v + 1 ≤ ve G (v + 1) by omega)
    have hE : E G (ve G v + 1) = E G (ve G (v + 1)) := E_eq_of_C_eq (show ve G v + 1 ≤ ve G (v + 1) by omega) (by omega)
    have ht := (vt_spec hT v).2.2
    have ht' := (vt_spec hT (v + 1)).2.2
    have hN := NT_eq G (ve_pos hT v)
    have hc' := C_succ G (ve G v)
    rw [← hE] at ht'
    exact .inr ⟨hE.symm, by omega, by omega⟩

theorem next_le (v : ℕ) : E G (ve G (v + 1)) ≤ E G (ve G v + 1) := by
  rcases next_start hT v with h | h
  · rw [h]; exact E_mono G (Nat.le_succ _)
  · omega

/-- The first visit starts at row zero. -/
theorem start_zero : E G (ve G 0) = 0 := by
  obtain ⟨_, h1, _⟩ := ve_spec hT 0
  have h0 : C G (ve G 0) = C G 0 := by
    have := C_mono G (Nat.zero_le (ve G 0))
    have : vc G 0 = 0 := by unfold vc; omega
    omega
  rw [← E_eq_of_C_eq (Nat.zero_le (ve G 0)) h0.symm]
  simp [E]

/-- A visit that opens a tile starts no later than the tile. -/
theorem start_tile (v : ℕ) (h : vt G (v + 1) ≠ vt G v) : E G (ve G (v + 1)) ≤ 256 * vt G (v + 1) := by
  have hm := vt_mono hT (show v ≤ v + 1 by omega)
  rcases next_start hT v with h' | h'
  · have := (vt_spec hT v).1
    rw [h']; omega
  · omega

/-- A visit that closes a tile reaches the tile's end. -/
theorem end_tile (v : ℕ) (h : vt G (v + 1) ≠ vt G v) : 256 * vt G v + 256 ≤ E G (ve G v + 1) := by
  have hm := vt_mono hT (show v ≤ v + 1 by omega)
  have hp := E_succ G (ve G v)
  have hg := ve_pos hT v
  rcases next_start hT v with h' | h'
  · have := (vt_spec hT (v + 1)).2.1
    rw [h'] at this; omega
  · omega

/-- The last visit reaches the last row. -/
theorem end_last (v : ℕ) (h : C G 32 ≤ v + 1) : E G (ve G v + 1) = 24576 := by
  obtain ⟨h0, _, h2⟩ := ve_spec hT v
  have hm := C_mono G (show ve G v + 1 ≤ 32 by omega)
  have hv : vc G v = C G 32 - 1 := by unfold vc; omega
  rw [E_eq_of_C_eq (show ve G v + 1 ≤ 32 by omega) (by omega), hT]

theorem vc_past (v : ℕ) (h : C G 32 ≤ v + 1) : vc G (v + 1) = vc G v := by
  have := C_total_pos hT
  unfold vc; omega

/-- Every tile is visited, and closed by some visit. -/
theorem exists_close {τ : ℕ} (h : τ < 96) : ∃ v, v < 127 ∧ vt G v = τ ∧ (v + 1 = 127 ∨ vt G (v + 1) ≠ vt G v) := by
  obtain ⟨e, he, hr⟩ := exists_group hT (show 256 * τ < 24576 by omega)
  obtain ⟨v, hv, _, hvt⟩ := exists_visit hT he hr
  have hC := C_total_le hT
  have : ∀ k v, v + k = 126 → vt G v = τ → ∃ v, v < 127 ∧ vt G v = τ ∧ (v + 1 = 127 ∨ vt G (v + 1) ≠ vt G v) := fun k => by
    induction k with
    | zero => intro v hv ht; exact ⟨v, by omega, ht, .inl (by omega)⟩
    | succ k ih =>
      intro v hv ht
      by_cases hn : vt G (v + 1) = vt G v
      · exact ih (v + 1) (by omega) (hn.trans ht)
      · exact ⟨v, by omega, ht, .inr hn⟩
  exact this (126 - v) v (by omega) (by omega)

end Cert.Visits
-- ==== Proof.Staged.lean ====
/- The output's staging buffer after a point: every row of the point's tile below the end of the point's group is at
   the target. -/
module

public import proofs.«01_k».proof.Proof.VisitValue
public import proofs.«01_k».proof.Proof.Tiles

@[expose] public section

set_option maxRecDepth 16384

noncomputable section

namespace Cert.KernelIdeal.Region

open Idealize.ShloMosaic Idealize.ShloMosaic.TcCoe Idealize.ShloMosaic.Pipeline
open Cert.KernelIdeal Cert.KernelIdeal.Gen Cert.KernelIdeal.Rolled

variable (m : (ℓ : Loc nD τ sig) → Buf (Elt Ideal) ℓ) {G : ℕ → ℕ}
    (hg : ∀ e : Fin 32, groups m 0 (ValueIdx.ix1 e) = BitVec.ofNat 32 (G e.val)) (hT : Visits.E G 32 = 24576)

/-- The output's block index at a point is the point's tile. -/
theorem tile_index (t : Fin (cfg0 (tables m hg hT)).N) :
    ((cfg0 (tables m hg hT)).win 5).index t = ![Visits.vt G t.val, 0] := by
  rw [index5, tile_at, small (Visits.vt_lt hT t.val) (by decide)]

theorem index_ne_iff (t u : Fin (cfg0 (tables m hg hT)).N) :
    ((cfg0 (tables m hg hT)).win 5).index t ≠ ((cfg0 (tables m hg hT)).win 5).index u ↔ Visits.vt G t.val ≠ Visits.vt G u.val := by
  rw [tile_index, tile_index]
  refine not_congr ⟨fun h => congrFun h (0 : Fin 2), fun h => by rw [h]⟩

/-- The output is written back at the last point and where the next point's tile is another. -/
theorem flush_iff (t : Fin (cfg0 (tables m hg hT)).N) : ((cfg0 (tables m hg hT)).win 5).flush t = true
    ↔ (t.val + 1 = 127 ∨ Visits.vt G (t.val + 1) ≠ Visits.vt G t.val) := by
  have hout : ((cfg0 (tables m hg hT)).win 5).isOut = true := rfl
  unfold Window.flush
  rw [hout, Bool.true_and, Bool.or_eq_true, decide_eq_true_iff, decide_eq_true_iff]
  constructor
  · rintro (h | ⟨h, hne⟩)
    · exact .inl h
    · exact .inr ((index_ne_iff m hg hT ⟨t.val + 1, h⟩ t).mp hne)
  · rintro (h | hne)
    · exact .inl h
    · by_cases hl : t.val + 1 = 127
      · exact .inl hl
      · have ht : t.val < 127 := t.isLt
        exact .inr ⟨by show t.val + 1 < 127; omega, (index_ne_iff m hg hT ⟨t.val + 1, by show t.val + 1 < 127; omega⟩ t).mpr hne⟩

theorem no_fetch (t : Fin (cfg0 (tables m hg hT)).N) : ((cfg0 (tables m hg hT)).win 5).fetch t = false := by
  have hout : ((cfg0 (tables m hg hT)).win 5).isOut = true := rfl
  unfold Window.fetch
  rw [hout]; rfl

/-- What the buffer holds after a point. -/
theorem staged (c : Dev nD) : ∀ (k : ℕ) (t : Fin (cfg0 (tables m hg hT)).N), t.val = k → ∀ X : S256x1408.Idx → EReal,
    (rdat (tables m hg hT) (heldAt m) c).Leaves 5 t X → ∀ (p : Fin 256) (n : Fin 1408) (hr : 256 * Visits.vt G t.val + p.val < 24576),
    256 * Visits.vt G t.val + p.val < Visits.E G (Visits.ve G t.val + 1) →
    ∀ e : Fin 32, Visits.E G e.val ≤ 256 * Visits.vt G t.val + p.val ∧ 256 * Visits.vt G t.val + p.val < Visits.E G (e.val + 1) →
    X (ix2 p n) = wanted m c e ⟨256 * Visits.vt G t.val + p.val, hr⟩ n
  | k, t, hk, X, ⟨Y, hY, hX⟩, p, n, hr, hlast, e, he => by
    have hx := left_apply m hg hT c t Y X hX p n hr
    by_cases hin : t.val < Visits.C G 32 ∧ Visits.E G (Visits.ve G t.val) ≤ 256 * Visits.vt G t.val + p.val
        ∧ 256 * Visits.vt G t.val + p.val < Visits.E G (Visits.ve G t.val + 1)
    · refine (hx.trans (if_pos hin)).trans ?_
      have hee : (⟨Visits.ve G t.val, Visits.ve_lt hT t.val⟩ : Fin 32) = e := Fin.ext (Visits.group_unique hT hin.2 he)
      rw [hee]
    · refine (hx.trans (if_neg hin)).trans ?_
      -- the row is an earlier visit's, so this is not the tile's first visit
      have hpos : t.val ≠ 0 := by
        intro h0
        refine hin ⟨?_, ?_, hlast⟩
        · rw [h0]; exact Visits.C_total_pos hT
        · rw [h0, Visits.start_zero hT]; exact Nat.zero_le _
      obtain ⟨v, hv⟩ : ∃ v, t.val = v + 1 := ⟨t.val - 1, by omega⟩
      have hsame : Visits.vt G (v + 1) = Visits.vt G v := by
        by_contra hne
        refine hin ⟨?_, ?_, hlast⟩
        · by_contra hpast
          exact hne (Visits.vt_congr hT (Visits.vc_past hT v (by omega)))
        · have := Visits.start_tile hT v hne
          rw [hv]; omega
      have hearly : 256 * Visits.vt G v + p.val < Visits.E G (Visits.ve G v + 1) := by
        rw [← hsame, ← hv]
        by_cases hlt : t.val < Visits.C G 32
        · have h1 := Visits.next_le hT v
          rw [← hv] at h1
          have h2 : ¬ Visits.E G (Visits.ve G t.val) ≤ 256 * Visits.vt G t.val + p.val := fun h => hin ⟨hlt, h, hlast⟩
          omega
        · have h1 := Visits.ve_congr (Visits.vc_past hT v (by omega))
          rw [← hv] at h1
          rw [← h1]; exact hlast
      have ht : t.val < 127 := t.isLt
      have hu : t.val - 1 = v := by omega
      rcases ((rdat (tables m hg hT) (heldAt m) c).finds_of_pos (no_fetch m hg hT t) hpos Y).mp hY with hf | hl
      · exfalso
        rcases (flush_iff m hg hT _).mp hf with h | h
        · have : t.val - 1 + 1 = 127 := h
          omega
        · refine h ?_
          show Visits.vt G (t.val - 1 + 1) = Visits.vt G (t.val - 1)
          rw [hu]; exact hsame
      · have hvt : Visits.vt G (t.val - 1) = Visits.vt G t.val := by rw [hu, hv]; exact hsame.symm
        have hrow : 256 * Visits.vt G (t.val - 1) + p.val = 256 * Visits.vt G t.val + p.val := by rw [hvt]
        have := staged c (k - 1) ⟨t.val - 1, Nat.lt_of_le_of_lt (Nat.sub_le _ _) t.isLt⟩ (by show t.val - 1 = k - 1; omega) Y hl p n
          (by show 256 * Visits.vt G (t.val - 1) + p.val < 24576; omega)
          (by show 256 * Visits.vt G (t.val - 1) + p.val < Visits.E G (Visits.ve G (t.val - 1) + 1); rw [hu]; exact hearly) e
          (by show Visits.E G e.val ≤ 256 * Visits.vt G (t.val - 1) + p.val ∧ 256 * Visits.vt G (t.val - 1) + p.val < Visits.E G (e.val + 1)
              rw [hrow]; exact he)
        refine this.trans ?_
        exact congrArg (fun r => wanted m c e r n) (Fin.ext hrow)
  termination_by k => k
  decreasing_by omega

end Cert.KernelIdeal.Region
-- ==== Proof.Written.lean ====
/- The output array after the region: every tile's last write-back leaves its rows at the target, and every row is
   in such a tile. -/
module

public import proofs.«01_k».proof.Proof.Staged

@[expose] public section

set_option maxRecDepth 16384

noncomputable section

namespace Cert.KernelIdeal.Region

open Idealize.ShloMosaic Idealize.ShloMosaic.TcCoe Idealize.ShloMosaic.Pipeline
open Cert.KernelIdeal Cert.KernelIdeal.Gen Cert.KernelIdeal.Rolled

variable (m : (ℓ : Loc nD τ sig) → Buf (Elt Ideal) ℓ) {G : ℕ → ℕ}
    (hg : ∀ e : Fin 32, groups m 0 (ValueIdx.ix1 e) = BitVec.ofNat 32 (G e.val)) (hT : Visits.E G 32 = 24576)

/-- A row of a point's tile, as the point's block embeds it. -/
theorem emb_row (t : Fin (cfg0 (tables m hg hT)).N) (r : Fin 24576) (n : Fin 1408) (h : Visits.vt G t.val = r.val / 256) :
    (((cfg0 (tables m hg hT)).win 5).blk t).view.emb (ix2 (⟨r.val % 256, by omega⟩ : Fin 256) n) = (ix2 r n : S24576x1408.Idx) := by
  have ht : (((tables m hg hT).1 1 : S127.Idx → BitVec 32) (ValueIdx.ix1 ((cfg0 (tables m hg hT)).grid.coords t 0))).toNat
      = r.val / 256 := by rw [tile_at, ← h]; exact small (Visits.vt_lt hT t.val) (by decide)
  rw [ix2_eq_valueIdx, ix2_eq_valueIdx r n]
  refine (emb5 (tables m hg hT) t ⟨r.val % 256, by omega⟩ n (r.val / 256) (by omega) ht).trans ?_
  exact congrArg (fun q : Fin 24576 => ValueIdx.ix2 q n) (Fin.ext (by show 256 * (r.val / 256) + r.val % 256 = r.val; omega))

/-- A row of another tile is not in the point's block. -/
theorem not_in (t : Fin (cfg0 (tables m hg hT)).N) (r : Fin 24576) (n : Fin 1408) (h : Visits.vt G t.val ≠ r.val / 256) :
    (ix2 r n : S24576x1408.Idx) ∉ (((cfg0 (tables m hg hT)).win 5).blk t).view.set := by
  intro hm
  obtain ⟨j, _, hj⟩ := Finset.mem_map.mp hm
  have h1 := ((cfg0 (tables m hg hT)).win 5).rect_emb_val t j (0 : Fin 2) rfl
  rw [tile_index] at h1
  have h2 : ((((cfg0 (tables m hg hT)).win 5).rect t).emb j (0 : Fin 2)).val = r.val := congrArg Fin.val (congrFun hj (0 : Fin 2))
  have h3 : (j (0 : Fin 2)).val < 256 := (j (0 : Fin 2)).isLt
  have h4 : r.val = Visits.vt G t.val * 256 + (j (0 : Fin 2)).val := h2.symm.trans h1
  omega

/-- The array after the write-backs below a point. -/
theorem rows_written (c : Dev nD) : ∀ k : ℕ, k ≤ 127 → ∀ A : S24576x1408.Idx → EReal, (rdat (tables m hg hT) (heldAt m) c).ArrAt 5 k A →
    ∀ (r : Fin 24576) (n : Fin 1408),
    (∃ v, v < k ∧ Visits.vt G v = r.val / 256 ∧ (v + 1 = 127 ∨ Visits.vt G (v + 1) ≠ Visits.vt G v)) →
    ∀ e : Fin 32, Visits.E G e.val ≤ r.val ∧ r.val < Visits.E G (e.val + 1) → A (ix2 r n) = wanted m c e r n
  | 0, _, _, _, _, _, ⟨_, hv, _⟩, _, _ => absurd hv (Nat.not_lt_zero _)
  | k + 1, hk, A, hA, r, n, ⟨v, hv, hvt, hclose⟩, e, he => by
    have hN : k < (cfg0 (tables m hg hT)).N := by show k < 127; omega
    have hA' : if ((cfg0 (tables m hg hT)).win 5).flush ⟨k, hN⟩ = true
        then (rdat (tables m hg hT) (heldAt m) c).ArrStep 5 ⟨k, hN⟩ ((rdat (tables m hg hT) (heldAt m) c).ArrAt 5 k) A
        else (rdat (tables m hg hT) (heldAt m) c).ArrAt 5 k A := by
      have h := hA
      unfold RDat.ArrAt at h
      dsimp only at h
      rw [dif_pos hN] at h
      split at h
      · next hf => rw [if_pos hf]; exact h
      · next hf => rw [if_neg hf]; exact h
    by_cases hf : ((cfg0 (tables m hg hT)).win 5).flush ⟨k, hN⟩ = true
    · rw [if_pos hf] at hA'
      obtain ⟨A₀, X, hA₀, hX, rfl⟩ := hA'
      by_cases hin : Visits.vt G k = r.val / 256
      · have hrow : 256 * Visits.vt G k + r.val % 256 = r.val := by rw [hin]; omega
        have hend : r.val < Visits.E G (Visits.ve G k + 1) := by
          rcases (flush_iff m hg hT ⟨k, hN⟩).mp hf with h | h
          · have h' : k + 1 = 127 := h
            rw [Visits.end_last hT k (by rw [h']; exact Visits.C_total_le hT)]
            exact r.isLt
          · have := Visits.end_tile hT k h
            omega
        have hs := staged m hg hT c k ⟨k, hN⟩ rfl X hX ⟨r.val % 256, by omega⟩ n
          (by show 256 * Visits.vt G k + r.val % 256 < 24576; omega)
          (by show 256 * Visits.vt G k + r.val % 256 < _; rw [hrow]; exact hend) e
          (by show _ ≤ 256 * Visits.vt G k + r.val % 256 ∧ 256 * Visits.vt G k + r.val % 256 < _; rw [hrow]; exact he)
        have hw := View.write_emb_of_mem (Val := Elt Ideal) (v := (((cfg0 (tables m hg hT)).win 5).blk ⟨k, hN⟩).view) A₀
          (((cfg0 (tables m hg hT)).win 5).cut ((cfg0 (tables m hg hT)).grid.coords ⟨k, hN⟩) X)
          (Finset.mem_univ (ix2 (⟨r.val % 256, by omega⟩ : Fin 256) n))
        rw [emb_row m hg hT ⟨k, hN⟩ r n hin] at hw
        refine hw.trans (Eq.trans ?_ (hs.trans (congrArg (fun q => wanted m c e q n) (Fin.ext hrow))))
        rfl
      · refine (View.write_of_not_mem (Val := Elt Ideal) _ _ _ (by rw [View.setOn_univ]; exact not_in m hg hT ⟨k, hN⟩ r n hin)).trans ?_
        refine rows_written c k (by omega) A₀ hA₀ r n ⟨v, ?_, hvt, hclose⟩ e he
        have : v ≠ k := fun h => hin (h ▸ hvt)
        omega
    · rw [if_neg hf] at hA'
      refine rows_written c k (by omega) A hA' r n ⟨v, ?_, hvt, hclose⟩ e he
      have : v ≠ k := fun h => hf ((flush_iff m hg hT ⟨k, hN⟩).mpr (by subst h; exact hclose))
      omega

/-- Every entry of the array after the region. -/
theorem final (c : Dev nD) (A : S24576x1408.Idx → EReal) (hA : (rdat (tables m hg hT) (heldAt m) c).ArrAt 5 (cfg0 (tables m hg hT)).N A)
    (r : Fin 24576) (n : Fin 1408) (e : Fin 32) (he : Visits.E G e.val ≤ r.val ∧ r.val < Visits.E G (e.val + 1)) :
    A (ix2 r n) = wanted m c e r n :=
  rows_written m hg hT c 127 (le_refl _) A hA r n (Visits.exists_close hT (show r.val / 256 < 96 by omega)) e he

end Cert.KernelIdeal.Region
-- ==== Proof.RefQuant.lean ====
module

public import proofs.«01_k».proof.Proof.Gen.ReferenceIdeal.Skeleton
public import proofs.«01_k».proof.Proof.Quant

@[expose] public section

/-! # The reference's quantised input, entry by entry -/

set_option maxRecDepth 16384

noncomputable section

namespace Cert.ReferenceIdeal.Read

open Idealize.ShloMosaic Cert.ReferenceIdeal Cert.ReferenceIdeal.Gen Cert.Quant

/-- The input in groups of 128 columns. -/
def grouped (v0 : Vec Ideal S24576x2048 .bf16) : FVec Ideal S24576x16x128 .f32 :=
  shapeCast S24576x16x128 (extf .f32 v0 bitsLt_bf16_f32) shapeCasts_S24576x2048_S24576x16x128

/-- Each group's largest magnitude. -/
def largest (v2 : FVec Ideal S24576x16x128 .f32) : FVec Ideal S24576x16x1 .f32 :=
  shapeCast S24576x16x1 (multiReduction .maximumf [2] S24576x16 (absf v2) 0xFF800000#32 reduces_S24576x16x128_S24576x16 (.inl rfl) rfl)
    shapeCasts_S24576x16_S24576x16x1

/-- The candidate powers of two. -/
def powers : FVec Ideal S1x1x247 .f32 :=
  exp2 (subf (sitofp .f32 (iota .tc S1x1x247 32 [2] iota_S1x1x247_d2_w32)) (broadcast S1x1x247 (Scalar.ofBits .f32 0x42FC0000#32)))

/-- Each group's scale. -/
def scales (v5 : FVec Ideal S24576x16x1 .f32) (v10 : FVec Ideal S1x1x247 .f32) : FVec Ideal S24576x16x1 .f32 :=
  select (cmpf .oeq v5 (broadcast S24576x16x1 (Scalar.ofBits .f32 0x00000000#32)))
    (broadcast S24576x16x1 (Scalar.ofBits .f32 0x3F800000#32))
    (shapeCast S24576x16x1 (multiReduction .maximumf [2] S24576x16
      (select (cmpf .ole
          (broadcastTo S24576x16x247 (mulf (broadcast S1x1x247 (Scalar.ofBits .f32 0x3F000000#32)) v10) broadcasts_S1x1x247_S24576x16x247)
          (broadcastTo S24576x16x247 (divf v5 (broadcast S24576x16x1 (Scalar.ofBits .f32 0x43E00000#32))) broadcasts_S24576x16x1_S24576x16x247))
        (broadcastTo S24576x16x247 (shapeCast S1x1x247 v10 shapeCasts_S1x1x247_S1x1x247) broadcasts_S1x1x247_S24576x16x247)
        (broadcast S24576x16x247 (Scalar.ofBits .f32 0x00000000#32)))
      0xFF800000#32 reduces_S24576x16x247_S24576x16 (.inl rfl) rfl) shapeCasts_S24576x16_S24576x16x1)

/-- The quantised groups. -/
def quantised (v2 : FVec Ideal S24576x16x128 .f32) (v27 : FVec Ideal S24576x16x1 .f32) : FVec Ideal S24576x16x128 .bf16 :=
  mulf (extf .bf16 (truncf .fp8e4m3
      (minimumf (broadcast S24576x16x128 (Scalar.ofBits .f32 0x43E00000#32))
        (maximumf (broadcast S24576x16x128 (Scalar.ofBits .f32 0xC3E00000#32))
          (mulf v2 (broadcastTo S24576x16x128 (divf (broadcast S24576x16x1 (Scalar.ofBits .f32 0x3F800000#32)) v27)
            broadcasts_S24576x16x1_S24576x16x128)))) bitsLt_fp8e4m3_f32) bitsLt_fp8e4m3_bf16)
    (broadcastTo S24576x16x128 (truncf .bf16 v27 bitsLt_bf16_f32) broadcasts_S24576x16x1_S24576x16x128)

/-- One copy of the quantised input for each expert. -/
def copies (v40 : FVec Ideal S24576x16x128 .bf16) : FVec Ideal S32x24576x2048 .bf16 :=
  broadcastTo S32x24576x2048
    (shapeCast S1x24576x2048
      (shapeCast S1x24576x2048 (shapeCast S24576x2048 v40 shapeCasts_S24576x16x128_S24576x2048) shapeCasts_S24576x2048_S1x24576x2048)
      shapeCasts_S1x24576x2048_S1x24576x2048) broadcasts_S1x24576x2048_S32x24576x2048

theorem pay2_eq (v0 : Vec Ideal S24576x2048 .bf16) :
    k0_pay2 (F := Ideal) v0 = copies (quantised (grouped v0) (scales (largest (grouped v0)) powers)) := rfl

theorem grouped_apply (v0 : Vec Ideal S24576x2048 .bf16) (r : Fin 24576) (b : Fin 16) (x : Fin 128) :
    grouped v0 (ix3 r b x) = v0 (ix2 r ⟨128 * b.val + x.val, by omega⟩) := by
  pointwise [grouped]
  congr 2
  exact Fin.ext (by show b.val * 128 + x.val = 128 * b.val + x.val; omega)

theorem largest_apply (v2 : FVec Ideal S24576x16x128 .f32) (r : Fin 24576) (b : Fin 16) :
    largest v2 (ix3 r b 0) = amax fun x => v2 (ix3 r b x) := by
  pointwise [largest]
  rfl

theorem powers_apply (j : Fin 247) : powers (ix3 0 0 j) = cand j := by
  pointwise [powers]
  rfl

theorem scales_apply (v5 : FVec Ideal S24576x16x1 .f32) (r : Fin 24576) (b : Fin 16) :
    scales v5 powers (ix3 r b 0) = refScale (v5 (ix3 r b 0)) := by
  pointwise [scales]
  simp only [powers_apply]
  unfold refScale
  rfl

theorem quantised_apply (v2 : FVec Ideal S24576x16x128 .f32) (v27 : FVec Ideal S24576x16x1 .f32) (r : Fin 24576) (b : Fin 16) (x : Fin 128) :
    quantised v2 v27 (ix3 r b x) = min (Ideal.ofBits FTy.f32 1138753536#32) (max (Ideal.ofBits FTy.f32 3286237184#32)
      (v2 (ix3 r b x) * Ideal.div 1 (v27 (ix3 r b 0)))) * v27 (ix3 r b 0) := by
  pointwise [quantised]

theorem copies_apply (v40 : FVec Ideal S24576x16x128 .bf16) (e : Fin 32) (r : Fin 24576) (c : Fin 2048) :
    copies v40 (ix3 e r c) = v40 (ix3 r ⟨c.val / 128, by omega⟩ ⟨c.val % 128, by omega⟩) := by
  pointwise [copies]

/-- The reference's quantised entry. -/
theorem pay2_apply (v0 : Vec Ideal S24576x2048 .bf16) (e : Fin 32) (r : Fin 24576) (c : Fin 2048) :
    k0_pay2 (F := Ideal) v0 (ix3 e r c)
      = refVal (amax fun x => v0 (ix2 r ⟨128 * (c.val / 128) + x.val, by omega⟩)) (v0 (ix2 r c)) := by
  rw [pay2_eq, copies_apply, quantised_apply, scales_apply, largest_apply, grouped_apply]
  simp only [grouped_apply]
  unfold refVal
  have hc : (⟨128 * (c.val / 128) + c.val % 128, by omega⟩ : Fin 2048) = c :=
    Fin.ext (by show 128 * (c.val / 128) + c.val % 128 = c.val; omega)
  rw [hc]

end Cert.ReferenceIdeal.Read
-- ==== Proof.RefValue.lean ====
module

public import proofs.«01_k».proof.Proof.RefQuant
public import proofs.«01_k».proof.Proof.Target

@[expose] public section

/-! # The reference's result, entry by entry -/

set_option maxRecDepth 16384

noncomputable section

namespace Cert.ReferenceIdeal.Read

open Idealize.ShloMosaic Cert.ReferenceIdeal Cert.ReferenceIdeal.Gen Cert.Quant Cert.Target

/-- The row numbers. -/
def rows : IVec S32x24576x1408 32 := iota .tc S32x24576x1408 32 [1] iota_S32x24576x1408_d1_w32

theorem rows_apply (e : Fin 32) (r : Fin 24576) (c : Fin 1408) : rows (ix3 e r c) = BitVec.ofNat 32 r.val := by
  pointwise [rows]

theorem pay4_apply (l : FVec Ideal S32x24576x2048 .bf16) (tok : IVec S32x24576x1408 32) (s0 s1 : Vec Ideal S32x1x1 .i32)
    (q : Vec Ideal S32x2048x1408 .fp8e4m3) (s : Vec Ideal S32x16x11 .f32) (r : Fin 24576) (c : Fin 1408) :
    k0_pay4 (F := Ideal) l tok s0 s1 q s (ix2 r c) = ∑ e : Fin 32, Scalar.select
      (IntOp.andi (IntOp.cmpi CmpIPredicate.sge (tok (ix3 e r c)) (s0 (ix3 e 0 0)))
          (IntOp.cmpi CmpIPredicate.slt (tok (ix3 e r c)) (s1 (ix3 e 0 0))))
      (∑ x : Fin 2048, l (ix3 e r x) * rhs q s e c x) 0 := by
  pointwise [Cert.ReferenceIdeal.Gen.k0_pay4, Cert.ReferenceIdeal.Gen.k0_pay3]
  rfl

theorem pay5_apply (l : FVec Ideal S32x24576x2048 .bf16) (tok : IVec S32x24576x1408 32) (s0 s1 : Vec Ideal S32x1x1 .i32)
    (q : Vec Ideal S32x2048x1408 .fp8e4m3) (s : Vec Ideal S32x16x11 .f32) (r : Fin 24576) (c : Fin 1408) :
    k0_pay5 (F := Ideal) l tok s0 s1 q s (ix2 r c)
      = k0_pay4 (F := Ideal) l tok s0 s1 q s (ix2 r c) * Ideal.logistic (k0_pay4 (F := Ideal) l tok s0 s1 q s (ix2 r c)) := by
  rw [pay4_apply]
  pointwise [Cert.ReferenceIdeal.Gen.k0_pay5, Cert.ReferenceIdeal.Gen.k0_pay3]
  rfl

theorem sel_one (a b : EReal) : Scalar.select (1#1) a b = a := rfl
theorem sel_zero (a b : EReal) : Scalar.select (0#1) a b = b := rfl

/-- Of the 32 masked products, only the row's own expert's counts. -/
theorem pay4_own (v : Vec Ideal S24576x2048 .bf16) (s0 s1 : Vec Ideal S32x1x1 .i32)
    (q : Vec Ideal S32x2048x1408 .fp8e4m3) (s : Vec Ideal S32x16x11 .f32) (A B : ℕ → ℕ)
    (h0 : ∀ e : Fin 32, s0 (ix3 e 0 0) = BitVec.ofNat 32 (A e.val)) (h1 : ∀ e : Fin 32, s1 (ix3 e 0 0) = BitVec.ofNat 32 (B e.val))
    (hA : ∀ e : Fin 32, A e.val < 2 ^ 31) (hB : ∀ e : Fin 32, B e.val < 2 ^ 31)
    (r : Fin 24576) (c : Fin 1408) (e : Fin 32) (hin : A e.val ≤ r.val ∧ r.val < B e.val)
    (hun : ∀ e' : Fin 32, A e'.val ≤ r.val ∧ r.val < B e'.val → e' = e) :
    k0_pay4 (F := Ideal) (k0_pay2 (F := Ideal) v) rows s0 s1 q s (ix2 r c)
      = ∑ x : Fin 2048, lhs (fun x => v (ix2 r x)) x * rhs q s e c x := by
  rw [pay4_apply, Finset.sum_eq_single e]
  · rw [rows_apply, h0, h1, between _ _ _ (by omega) (hA e) (hB e), if_pos hin]
    rw [sel_one]
    refine Finset.sum_congr rfl fun x _ => ?_
    rw [pay2_apply]
    exact congrArg (· * _) (lhs_eq_ref (fun x => v (ix2 r x)) x)
  · intro e' _ hne
    rw [rows_apply, h0, h1, between _ _ _ (by omega) (hA e') (hB e'), if_neg fun h => hne (hun e' h), sel_zero]
  · intro h; exact absurd (Finset.mem_univ _) h

/-- The reference's entry is the target. -/
theorem pay1_apply (v : Vec Ideal S24576x2048 .bf16) (s0 s1 : Vec Ideal S32x1x1 .i32)
    (qg : Vec Ideal S32x2048x1408 .fp8e4m3) (sg : Vec Ideal S32x16x11 .f32)
    (qu : Vec Ideal S32x2048x1408 .fp8e4m3) (su : Vec Ideal S32x16x11 .f32) (A B : ℕ → ℕ)
    (h0 : ∀ e : Fin 32, s0 (ix3 e 0 0) = BitVec.ofNat 32 (A e.val)) (h1 : ∀ e : Fin 32, s1 (ix3 e 0 0) = BitVec.ofNat 32 (B e.val))
    (hA : ∀ e : Fin 32, A e.val < 2 ^ 31) (hB : ∀ e : Fin 32, B e.val < 2 ^ 31)
    (r : Fin 24576) (c : Fin 1408) (e : Fin 32) (hin : A e.val ≤ r.val ∧ r.val < B e.val)
    (hun : ∀ e' : Fin 32, A e'.val ≤ r.val ∧ r.val < B e'.val → e' = e) :
    k0_pay1 (F := Ideal) (k0_pay4 (F := Ideal) (k0_pay2 (F := Ideal) v) rows s0 s1 qu su)
        (k0_pay5 (F := Ideal) (k0_pay2 (F := Ideal) v) rows s0 s1 qg sg) (ix2 r c)
      = target v qg sg qu su e r c := by
  show k0_pay5 (F := Ideal) (k0_pay2 (F := Ideal) v) rows s0 s1 qg sg (ix2 r c)
    * k0_pay4 (F := Ideal) (k0_pay2 (F := Ideal) v) rows s0 s1 qu su (ix2 r c) = _
  rw [pay5_apply, pay4_own v s0 s1 qg sg A B h0 h1 hA hB r c e hin hun, pay4_own v s0 s1 qu su A B h0 h1 hA hB r c e hin hun]
  rfl

end Cert.ReferenceIdeal.Read
-- ==== Proof.RefRun.lean ====
/- The reference's run: its one region has one point, whose blocks are the whole arrays, so the result array is the
   body's value at the arguments and the groups' first and last rows — which is the target, entry by entry. -/
module

public import proofs.«01_k».proof.Proof.RefValue
public import proofs.«01_k».proof.Proof.Gen.ReferenceIdeal.Frame
public import proofs.«01_k».proof.Proof.Schedule
public import Idealize.ShloMosaic.Lib.Pipeline.Value
public import Idealize.ShloMosaic.Lib.StableHlo.RunRead

@[expose] public section

set_option maxRecDepth 16384

noncomputable section

namespace Cert.ReferenceIdeal.Run

open Idealize.ShloMosaic Idealize.ShloMosaic.TcCoe Idealize.SL.Sem
open Idealize.ShloMosaic.Pipeline (Dat)
open Cert.ReferenceIdeal Cert.ReferenceIdeal.Gen

variable {F : FTy → Type} [FloatOps F]

theorem hz2 : (![0, 0] : Fin 2 → Nat) = fun _ => 0 := funext fun a => by fin_cases a <;> rfl
theorem hz3 : (![0, 0, 0] : Fin 3 → Nat) = fun _ => 0 := funext fun a => by fin_cases a <;> rfl

/-- The result array as one function of the region's input arrays. -/
def G (x : Vec F S24576x2048 .bf16) (s0 s1 : Vec F S32x1x1 .i32) (qg : Vec F S32x2048x1408 .fp8e4m3) (sg : Vec F S32x16x11 .f32)
    (qu : Vec F S32x2048x1408 .fp8e4m3) (su : Vec F S32x16x11 .f32) : Vec F S24576x1408 .bf16 :=
  k0_pay1 (k0_pay4 (k0_pay2 x) (iota .tc S32x24576x1408 32 [1] iota_S32x24576x1408_d1_w32) s0 s1 qu su)
    (k0_pay5 (k0_pay2 x) (iota .tc S32x24576x1408 32 [1] iota_S32x24576x1408_d1_w32) s0 s1 qg sg)

theorem out_eq (x : Vec F S24576x2048 .bf16) (s0 s1 : Vec F S32x1x1 .i32) (qg : Vec F S32x2048x1408 .fp8e4m3) (sg : Vec F S32x16x11 .f32)
    (qu : Vec F S32x2048x1408 .fp8e4m3) (su : Vec F S32x16x11 .f32) : out0_7 x s0 s1 qg sg qu su = G x s0 s1 qg sg qu su := by
  unfold out0_7 k0_pay6 k0_pay7 G r0_0 r0_1 r0_2 r0_3 r0_4
  rw [View.canon_unit_zero hz2, View.ld_unit_zero hz2, View.ld_unit_zero hz3, View.ld_unit_zero hz3, View.ld_unit_zero hz3,
    View.ld_unit_zero hz3, View.ld_unit_zero hz3, View.ld_unit_zero hz3]

variable (m : (ℓ : Loc nD τ sig) → Buf (Elt F) ℓ) (ρ : Dev nD → PrngReg)

/-! Every window's block is its whole array. -/

theorem emb0 (t : Fin cfg0.N) (j : S24576x2048.Idx) : ((cfg0.win 0).blk t).view.emb j = j :=
  funext fun a => Fin.ext ((cfg0.win 0).rect_emb_val_of_index_zero t a rfl j)
theorem emb1 (t : Fin cfg0.N) (j : S32x1x1.Idx) : ((cfg0.win 1).blk t).view.emb j = j :=
  funext fun a => Fin.ext ((cfg0.win 1).rect_emb_val_of_index_zero t a rfl j)
theorem emb2 (t : Fin cfg0.N) (j : S32x1x1.Idx) : ((cfg0.win 2).blk t).view.emb j = j :=
  funext fun a => Fin.ext ((cfg0.win 2).rect_emb_val_of_index_zero t a rfl j)
theorem emb3 (t : Fin cfg0.N) (j : S32x2048x1408.Idx) : ((cfg0.win 3).blk t).view.emb j = j :=
  funext fun a => Fin.ext ((cfg0.win 3).rect_emb_val_of_index_zero t a rfl j)
theorem emb4 (t : Fin cfg0.N) (j : S32x16x11.Idx) : ((cfg0.win 4).blk t).view.emb j = j :=
  funext fun a => Fin.ext ((cfg0.win 4).rect_emb_val_of_index_zero t a rfl j)
theorem emb5 (t : Fin cfg0.N) (j : S32x2048x1408.Idx) : ((cfg0.win 5).blk t).view.emb j = j :=
  funext fun a => Fin.ext ((cfg0.win 5).rect_emb_val_of_index_zero t a rfl j)
theorem emb6 (t : Fin cfg0.N) (j : S32x16x11.Idx) : ((cfg0.win 6).blk t).view.emb j = j :=
  funext fun a => Fin.ext ((cfg0.win 6).rect_emb_val_of_index_zero t a rfl j)
theorem emb7 (t : Fin cfg0.N) (j : S24576x1408.Idx) : ((cfg0.win 7).blk t).view.emb j = j :=
  funext fun a => Fin.ext ((cfg0.win 7).rect_emb_val_of_index_zero t a rfl j)

theorem iblk0_eq (c : Dev nD) (t : Fin cfg0.N) : iblk m c 0 t = V m c main_arg0 := by
  funext j; show V m c main_arg0 (((cfg0.win 0).blk t).view.emb j) = V m c main_arg0 j; rw [emb0]
theorem iblk1_eq (c : Dev nD) (t : Fin cfg0.N) : iblk m c 1 t = V m c main_v2 := by
  funext j; show V m c main_v2 (((cfg0.win 1).blk t).view.emb j) = V m c main_v2 j; rw [emb1]
theorem iblk2_eq (c : Dev nD) (t : Fin cfg0.N) : iblk m c 2 t = V m c main_v3 := by
  funext j; show V m c main_v3 (((cfg0.win 2).blk t).view.emb j) = V m c main_v3 j; rw [emb2]
theorem iblk3_eq (c : Dev nD) (t : Fin cfg0.N) : iblk m c 3 t = V m c main_arg2 := by
  funext j; show V m c main_arg2 (((cfg0.win 3).blk t).view.emb j) = V m c main_arg2 j; rw [emb3]
theorem iblk4_eq (c : Dev nD) (t : Fin cfg0.N) : iblk m c 4 t = V m c main_arg3 := by
  funext j; show V m c main_arg3 (((cfg0.win 4).blk t).view.emb j) = V m c main_arg3 j; rw [emb4]
theorem iblk5_eq (c : Dev nD) (t : Fin cfg0.N) : iblk m c 5 t = V m c main_arg4 := by
  funext j; show V m c main_arg4 (((cfg0.win 5).blk t).view.emb j) = V m c main_arg4 j; rw [emb5]
theorem iblk6_eq (c : Dev nD) (t : Fin cfg0.N) : iblk m c 6 t = V m c main_arg5 := by
  funext j; show V m c main_arg5 (((cfg0.win 6).blk t).view.emb j) = V m c main_arg5 j; rw [emb6]

theorem cut7_eq (t : Fin cfg0.N) (X : Vec F S24576x1408 .bf16) :
    (cfg0.win 7).cut (grid0.coords t) X = ((cfg0.win 7).blk t).view.read (Elt F) X := by
  funext j
  show X j = X (((cfg0.win 7).blk t).view.emb j)
  rw [emb7]

/-- The body's value at the arrays as the region finds them. -/
def result (c : Dev nD) : Vec F S24576x1408 .bf16 :=
  G (V m c main_arg0) (V m c main_v2) (V m c main_v3) (V m c main_arg2) (V m c main_arg3) (V m c main_arg4) (V m c main_arg5)

theorem flushed7_eq (c : Dev nD) (t : Fin cfg0.N) :
    (dats m 0 c).flushed 7 t = ((cfg0.win 7).blk t).view.read (Elt F) (result m c) := by
  show (cfg0.win 7).cut (grid0.coords t) ((dats m 0 c).after 7 t) = _
  rw [after0_7, out_eq, iblk0_eq, iblk1_eq, iblk2_eq, iblk3_eq, iblk4_eq, iblk5_eq, iblk6_eq]
  exact cut7_eq t _

theorem covered7 (i : S24576x1408.Idx) :
    ∃ t : Fin cfg0.N, (cfg0.win 7).flush t = true ∧ i ∈ ((cfg0.win 7).blk t).view.set :=
  ⟨(⟨0, by decide⟩ : Fin cfg0.N), flush0_7 _, by
    have h := ((cfg0.win 7).blk (⟨0, by decide⟩ : Fin cfg0.N)).view.emb_mem_set i; rwa [emb7] at h⟩

theorem final7 (c : Dev nD) : (dats m 0 c).arrAt 7 cfg0.N = result m c :=
  (dats m 0 c).arrAt_eq_of_cover 7 (result m c) (fun t _ => flushed7_eq m c t) covered7

/-- The run: the result array, and the arguments kept. -/
theorem run : θ_run defs (onTc (τ := τ) (main (F := F))) ⟨m, fun _ => 0, ρ⟩ fun r => ∀ c : Dev nD,
      r.2.mem ((c.tc : Thread nD τ).loc main_v4) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun r h c => ⟨((h c).1 7).trans (final7 m c),
      ((h c).1 0).trans (((dats m 0 c).arrAt_in 0 rfl _).trans ((A_eq m c 0).trans (V_main_arg0 m c))),
      ((h c).2 main_arg1 (Pipeline.mem_restRefs_of main_arg1 (by decide) (by decide))).trans (V_main_arg1 m c),
      ((h c).1 3).trans (((dats m 0 c).arrAt_in 3 rfl _).trans ((A_eq m c 3).trans (V_main_arg2 m c))),
      ((h c).1 4).trans (((dats m 0 c).arrAt_in 4 rfl _).trans ((A_eq m c 4).trans (V_main_arg3 m c))),
      ((h c).1 5).trans (((dats m 0 c).arrAt_in 5 rfl _).trans ((A_eq m c 5).trans (V_main_arg4 m c))),
      ((h c).1 6).trans (((dats m 0 c).arrAt_in 6 rfl _).trans ((A_eq m c 6).trans (V_main_arg5 m c)))⟩) (run_main m ρ)

/-- The groups' ends and starts as the region finds them. -/
theorem V_v3 (c : Dev nD) : V m c main_v3
    = shapeCast S32x1x1 (Cert.Schedule.ends (m ((c.tc : Thread nD τ).loc main_arg1))) shapeCasts_S32_S32x1x1 := by
  unfold V
  after_reads_simp
  all_goals try simp -implicitDefEqProofs only [StableHlo.TRef.toBuf, StableHlo.TRef.ofBuf, cast_cast, cast_eq]
  all_goals try rfl

theorem V_v2 (c : Dev nD) : V m c main_v2
    = shapeCast S32x1x1 (Cert.Schedule.starts (m ((c.tc : Thread nD τ).loc main_arg1))) shapeCasts_S32_S32x1x1 := by
  unfold V
  after_reads_simp
  all_goals try simp -implicitDefEqProofs only [StableHlo.TRef.toBuf, StableHlo.TRef.ofBuf, cast_cast, cast_eq]
  all_goals try rfl

end Cert.ReferenceIdeal.Run
-- ==== Proof.RefTarget.lean ====
/- The reference's result array at a row and a column is the target there, at the row's own group. -/
module

public import proofs.«01_k».proof.Proof.RefRun

@[expose] public section

set_option maxRecDepth 16384

noncomputable section

namespace Cert.ReferenceIdeal.Run

open Idealize.ShloMosaic Idealize.ShloMosaic.TcCoe Idealize.SL.Sem
open Cert.ReferenceIdeal Cert.ReferenceIdeal.Gen

/-- Reshaped to three axes, a vector's entry is where it was. -/
theorem tall_apply (x : IVec S32 32) (e : Fin 32) :
    (shapeCast S32x1x1 x shapeCasts_S32_S32x1x1 : IVec S32x1x1 32) (ix3 e 0 0) = x (ix1 e) := by
  pointwise []

variable (m : (ℓ : Loc nD τ sig) → Buf (Elt Ideal) ℓ)

theorem result_apply (d : Dev nD) {Gs : ℕ → ℕ}
    (hg : ∀ e : Fin 32, (m ((d.tc : Thread nD τ).loc main_arg1) : IVec S32 32) (ValueIdx.ix1 e) = BitVec.ofNat 32 (Gs e.val))
    (hT : Visits.E Gs 32 = 24576) (r : Fin 24576) (c : Fin 1408) (e : Fin 32)
    (hin : Visits.E Gs e.val ≤ r.val ∧ r.val < Visits.E Gs (e.val + 1)) :
    result m d (ix2 r c) = Target.target (m ((d.tc : Thread nD τ).loc main_arg0)) (m ((d.tc : Thread nD τ).loc main_arg2))
      (m ((d.tc : Thread nD τ).loc main_arg3)) (m ((d.tc : Thread nD τ).loc main_arg4)) (m ((d.tc : Thread nD τ).loc main_arg5)) e r c := by
  have hle : ∀ k : ℕ, k ≤ 32 → Visits.E Gs k < 2 ^ 31 := fun k hk => by
    have := Visits.E_mono (G := Gs) hk
    omega
  unfold result G
  rw [V_main_arg0, V_main_arg2, V_main_arg3, V_main_arg4, V_main_arg5, V_v2, V_v3]
  refine Read.pay1_apply _ _ _ _ _ _ _ (Visits.E Gs) (fun k => Visits.E Gs (k + 1)) (fun e => ?_) (fun e => ?_)
    (fun e => hle _ (by omega)) (fun e => hle _ (by omega)) r c e hin (fun e' h' => ?_)
  · rw [tall_apply]; exact Schedule.starts_eq hg e
  · rw [tall_apply]; exact Schedule.ends_eq hg e
  · exact Fin.ext (Visits.group_unique hT h' hin)

end Cert.ReferenceIdeal.Run
-- ==== Proof.Algebraic.lean ====
/- The value claim: on the extended reals the kernel and the reference end with the same result array, the target at
   every row and column, when the group sizes cover the rows. -/
module

public import proofs.«01_k».proof.Defs
public import proofs.«01_k».proof.Proof.Covers
public import proofs.«01_k».proof.Proof.Written
public import proofs.«01_k».proof.Proof.RefTarget
public import proofs.«01_k».proof.Proof.Gen.Pre_covers
public import proofs.«01_k».proof.Proof.Gen.ReferenceIdeal

@[expose] public section

set_option maxRecDepth 16384

noncomputable section

namespace Cert.Proof

open Idealize.ShloMosaic Idealize.ShloMosaic.TcCoe Idealize.SL.Sem

/-- An entry's index is that of its row and its column. -/
theorem index_eq (i : (⟨2, ![24576, 1408]⟩ : Shape).Idx) : i = ix2 (i 0 : Fin 24576) (i 1 : Fin 1408) := by
  funext a
  match a with
  | ⟨0, _⟩ => rfl
  | ⟨1, _⟩ => rfl

theorem algebraic : Cert.algebraic_KernelIdeal_ReferenceIdeal (hKernelIdeal := Cert.KernelIdeal.Gen.facts)
    (hReferenceIdeal := Cert.ReferenceIdeal.Gen.facts) (hPre_covers := Cert.Pre_covers.Gen.facts) := by
  intro m g m' g' hpre hm
  have hg := Cert.Covers.sizes_eq (m (((0 : Dev Cert.KernelIdeal.nD).tc : Thread Cert.KernelIdeal.nD Cert.KernelIdeal.τ).loc Cert.KernelIdeal.main_arg1))
  have hT := Cert.Covers.sum_eq (hpre 0)
  refine ⟨fun c => Cert.ReferenceIdeal.Run.result m' c, ?_, Cert.ReferenceIdeal.Run.run m' g'⟩
  refine (θ_run _ _ _).mono (fun r h c => ⟨?_, Cert.KernelIdeal.Region.arguments m _ r h.1 c⟩)
    (Cert.KernelIdeal.Region.run_from m hg hT g)
  obtain rfl : c = 0 := Subsingleton.elim _ _
  obtain ⟨h0, h1, h2, h3, h4, h5⟩ := hm 0
  funext i
  rw [index_eq i]
  obtain ⟨e, he, hr⟩ := Visits.exists_group hT (i 0).isLt
  refine (Cert.KernelIdeal.Region.final m hg hT 0 _ ((h.1 0).1 5) (i 0) (i 1) ⟨e, he⟩ hr).trans ?_
  refine Eq.trans ?_ (Cert.ReferenceIdeal.Run.result_apply m' 0 (fun e => (congrFun h1 _).trans (hg e)) hT (i 0) (i 1) ⟨e, he⟩ hr).symm
  unfold Cert.KernelIdeal.Region.wanted
  rw [h0, h2, h3, h4, h5]

end Cert.Proof

end
-- ==== Proof.lean ====
/- The proof of the certificate's claims. -/
module

public import proofs.«01_k».proof.Defs
public import proofs.«01_k».proof.Proof.Frames
public import proofs.«01_k».proof.Proof.Algebraic
public import Idealize.ShloMosaic.Adequacy
public import Idealize.ShloMosaic.Init

@[expose] public section

noncomputable section

namespace Cert.Proof

open Idealize.ShloMosaic Idealize.SL.Sem

theorem claim : Cert.Claim :=
  ⟨Cert.Kernel.Gen.facts, Cert.KernelIdeal.Gen.facts, Cert.ReferenceIdeal.Gen.facts, Cert.Pre_covers.Gen.facts,
    frame_stored, frame_ideal, frame_reference, frame_reference_covers, trivial, algebraic⟩

end Cert.Proof

end
